-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7))).1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7))).2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7))).2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7))).1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7))).2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_v47) = v4 c
          ∧ r.2.mem ((c.tc : Thread Cert.ReferenceIdeal.nD Cert.ReferenceIdeal.τ).loc Cert.ReferenceIdeal.main_v40) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v0_4)) (v5 : (c : Dev Cert.Kernel10Ideal.nD) → Buf (Elt Ideal) ((c.tc : Thread Cert.Kernel10Ideal.nD Cert.Kernel10Ideal.τ).loc Cert.Kernel10Ideal.main_v0_5)) (v6 : (c : Dev Cert.Kernel10Ideal.nD) → Buf (Elt Ideal) ((c.tc : Thread Cert.Kernel10Ideal.nD Cert.Kernel10Ideal.τ).loc Cert.Kernel10Ideal.main_v0_6)) (v7 : (c : Dev Cert.Kernel10Ideal.nD) → Buf (Elt Ideal) ((c.tc : Thread Cert.Kernel10Ideal.nD Cert.Kernel10Ideal.τ).loc Cert.Kernel10Ideal.main_v0_7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v0_4) = v4 c
          ∧ r.2.mem ((c.tc : Thread Cert.Kernel10Ideal.nD Cert.Kernel10Ideal.τ).loc Cert.Kernel10Ideal.main_v0_5) = v5 c
          ∧ r.2.mem ((c.tc : Thread Cert.Kernel10Ideal.nD Cert.Kernel10Ideal.τ).loc Cert.Kernel10Ideal.main_v0_6) = v6 c
          ∧ r.2.mem ((c.tc : Thread Cert.Kernel10Ideal.nD Cert.Kernel10Ideal.τ).loc Cert.Kernel10Ideal.main_v0_7) = v7 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v10) = v0 c
          ∧ r.2.mem ((c.tc : Thread Cert.Reference10Ideal.nD Cert.Reference10Ideal.τ).loc Cert.Reference10Ideal.main_v3) = v1 c
          ∧ r.2.mem ((c.tc : Thread Cert.Reference10Ideal.nD Cert.Reference10Ideal.τ).loc Cert.Reference10Ideal.main_v4) = v2 c
          ∧ r.2.mem ((c.tc : Thread Cert.Reference10Ideal.nD Cert.Reference10Ideal.τ).loc Cert.Reference10Ideal.main_v11) = v3 c
          ∧ r.2.mem ((c.tc : Thread Cert.Reference10Ideal.nD Cert.Reference10Ideal.τ).loc Cert.Reference10Ideal.main_v12) = v4 c
          ∧ r.2.mem ((c.tc : Thread Cert.Reference10Ideal.nD Cert.Reference10Ideal.τ).loc Cert.Reference10Ideal.main_v13) = v5 c
          ∧ r.2.mem ((c.tc : Thread Cert.Reference10Ideal.nD Cert.Reference10Ideal.τ).loc Cert.Reference10Ideal.main_v14) = v6 c
          ∧ r.2.mem ((c.tc : Thread Cert.Reference10Ideal.nD Cert.Reference10Ideal.τ).loc Cert.Reference10Ideal.main_v9) = v7 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v31_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v31_2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v35) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v22) = v0 c
          ∧ r.2.mem ((c.tc : Thread Cert.Reference12Ideal.nD Cert.Reference12Ideal.τ).loc Cert.Reference12Ideal.main_v28) = v1 c
          ∧ r.2.mem ((c.tc : Thread Cert.Reference12Ideal.nD Cert.Reference12Ideal.τ).loc Cert.Reference12Ideal.main_v49) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v76) = v0 c
          ∧ r.2.mem ((c.tc : Thread Cert.Reference13Ideal.nD Cert.Reference13Ideal.τ).loc Cert.Reference13Ideal.main_v77) = v1 c
          ∧ r.2.mem ((c.tc : Thread Cert.Reference13Ideal.nD Cert.Reference13Ideal.τ).loc Cert.Reference13Ideal.main_v52) = v2 c
          ∧ r.2.mem ((c.tc : Thread Cert.Reference13Ideal.nD Cert.Reference13Ideal.τ).loc Cert.Reference13Ideal.main_v49) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v92) = v0 c
          ∧ r.2.mem ((c.tc : Thread Cert.Reference14Ideal.nD Cert.Reference14Ideal.τ).loc Cert.Reference14Ideal.main_v93) = v1 c
          ∧ r.2.mem ((c.tc : Thread Cert.Reference14Ideal.nD Cert.Reference14Ideal.τ).loc Cert.Reference14Ideal.main_v68) = v2 c
          ∧ r.2.mem ((c.tc : Thread Cert.Reference14Ideal.nD Cert.Reference14Ideal.τ).loc Cert.Reference14Ideal.main_v65) = v3 c
          ∧ r.2.mem ((c.tc : Thread Cert.Reference14Ideal.nD Cert.Reference14Ideal.τ).loc Cert.Reference14Ideal.main_v94) = v4 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite13 : Cert.Pre_finite13.Facts) (hPre_finite14 : Cert.Pre_finite14.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal_pre_finite14 (hKernel14Ideal := hKernel14Ideal) (hReference14Ideal := hReference14Ideal) (hPre_finite14 := hPre_finite14)
-- ==== Pre_finite13.lean ====
abbrev S2x4096x2816 : Shape := ⟨3, ![2, 4096, 2816]⟩
abbrev S5632x1024 : Shape := ⟨2, ![5632, 1024]⟩
abbrev S4096x1024 : Shape := ⟨2, ![4096, 1024]⟩
abbrev S1x1024 : Shape := ⟨2, ![1, 1024]⟩
abbrev S_ : Shape := ⟨0, ![]⟩

class Facts : Prop where
  bcast_S_S2x4096x2816 : S_.BroadcastsInDim S2x4096x2816 (![] : Fin 0 → Fin S2x4096x2816.rank)
  bcast_S_S5632x1024 : S_.BroadcastsInDim S5632x1024 (![] : Fin 0 → Fin S5632x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S2x4096x2816 .bf16) (main_arg1 : FVec F S5632x1024 .bf16) (main_arg2 : FVec F S4096x1024 .f32) (main_arg3 : FVec F S4096x1024 .f32) (main_arg4 : FVec F S1x1024 .f32) : IVec S2x4096x2816 1 × IVec S5632x1024 1 × IVec S4096x1024 1 × IVec S1x1024 1 :=
  let main_v0 : FVec F S2x4096x2816 .bf16 := Host.absf main_arg0
  let main_cst : FVec F S_ .bf16 := constant S_ .bf16 0x7F80#16
  let main_v1 : FVec F S2x4096x2816 .bf16 := broadcastInDim S2x4096x2816 ![] bcast_S_S2x4096x2816 main_cst
  let main_v2 : IVec S2x4096x2816 1 := cmpf .olt main_v0 main_v1
  let main_v3 : FVec F S5632x1024 .bf16 := Host.absf main_arg1
  let main_cst_0 : FVec F S_ .bf16 := constant S_ .bf16 0x7F80#16
  let main_v4 : FVec F S5632x1024 .bf16 := broadcastInDim S5632x1024 ![] bcast_S_S5632x1024 main_cst_0
  let main_v5 : IVec S5632x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_finite14.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  bcast_S_S4096x1024 : S_.BroadcastsInDim S4096x1024 (![] : Fin 0 → Fin S4096x1024.rank)

variable [Facts]

def fn {F : FTy → Type} [FloatOps F] (main_arg0 : FVec F S4096x2816 .bf16) (main_arg1 : FVec F S2816x1024 .bf16) (main_arg2 : FVec F S4096x1024 .f32) (main_arg3 : FVec F S1x1024 .f32) (main_arg4 : FVec F S1x1024 .f32) (main_arg5 : FVec F S1x1024 .f32) (main_arg6 : FVec F S1x1024 .f32) (main_arg7 : FVec F S4096x1024 .f32) : IVec S1x1024 1 × IVec S1x1024 1 × IVec S4096x1024 1 :=
  let main_v0 : FVec F S1x1024 .f32 := Host.absf main_arg5
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024 .f32 := Host.absf main_arg6
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S4096x1024 .f32 := Host.absf main_arg7
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Kernel.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S1x2048 : Shape := ⟨2, ![1, 2048]⟩
abbrev S512x512 : Shape := ⟨2, ![512, 512]⟩
abbrev S512x2048 : Shape := ⟨2, ![512, 2048]⟩
abbrev S1x1024 : Shape := ⟨2, ![1, 1024]⟩
abbrev S1024 : Shape := ⟨1, ![1024]⟩

abbrev nBuf : Space → Nat
  | .hbm => 14
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x2048, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x2048, .f32⟩
  | .hbm, ⟨8, _⟩ => ⟨S4096x512, .bf16⟩
  | .hbm, ⟨9, _⟩ => ⟨S4096x512, .bf16⟩
  | .hbm, ⟨10, _⟩ => ⟨S4096x2048, .bf16⟩
  | .hbm, ⟨11, _⟩ => ⟨S4096x1024, .bf16⟩
  | .hbm, ⟨12, _⟩ => ⟨S4096x1024, .bf16⟩
  | .hbm, ⟨13, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x2048, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x2048, .bf16⟩
  | .local _ .vmem, ⟨17, _⟩ => ⟨S512x2048, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S1x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S1x2048 : Shape := ⟨2, ![1, 2048]⟩
abbrev S_ : Shape := ⟨0, ![]⟩
abbrev S4096x2x1024 : Shape := ⟨3, ![4096, 2, 1024]⟩
abbrev S4096x1x1024 : Shape := ⟨3, ![4096, 1, 1024]⟩
abbrev S2048 : Shape := ⟨1, ![2048]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x2048, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x2048, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S4096x512, .f32⟩
  | .hbm, ⟨12, _⟩ => ⟨S4096x1024, .f32⟩
  | .hbm, ⟨13, _⟩ => ⟨S4096x512, .f32⟩
  | .hbm, ⟨14, _⟩ => ⟨S4096x1024, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2x1024, .f32⟩
  | .hbm, ⟨30, _⟩ => ⟨S4096x1x1024, .f32⟩
  | .hbm, ⟨31, _⟩ => ⟨S4096x1024, .f32⟩
  | .hbm, ⟨32, _⟩ => ⟨S4096x1024, .f32⟩
  | .hbm, ⟨33, _⟩ => ⟨S4096x1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1x1024, .f32⟩
  | .hbm, ⟨42, _⟩ => ⟨S_, .f32⟩
  | .hbm, ⟨43, _⟩ => ⟨S4096x2x1024, .f32⟩
  | .hbm, ⟨44, _⟩ => ⟨S4096x1024, .f32⟩
  | .hbm, ⟨45, _⟩ => ⟨S4096x1024, .f32⟩
  | .hbm, ⟨46, _⟩ => ⟨S4096x1x1024, .f32⟩
  | .hbm, ⟨47, _⟩ => ⟨S_, .f32⟩
  | .hbm, ⟨48, _⟩ => ⟨S4096x2x1024, .f32⟩
  | .hbm, ⟨49, _⟩ => ⟨S4096x2x1024, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S4096x512, .f32⟩
  | .hbm, ⟨56, _⟩ => ⟨S4096x512, .f32⟩
  | .hbm, ⟨57, _⟩ => ⟨S4096x512, .bf16⟩
  | .hbm, ⟨58, _⟩ => ⟨S4096x512, .bf16⟩
  | .hbm, ⟨59, _⟩ => ⟨S4096x2048, .bf16⟩
  | .hbm, ⟨60, _⟩ => ⟨S4096x1024, .bf16⟩
  | .hbm, ⟨61, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2x4096x2816 : Shape := ⟨3, ![2, 4096, 2816]⟩
abbrev S4096x1024 : Shape := ⟨2, ![4096, 1024]⟩
abbrev S5632x1024 : Shape := ⟨2, ![5632, 1024]⟩
abbrev S1x4096x1408 : Shape := ⟨3, ![1, 4096, 1408]⟩
abbrev S1408x1024 : Shape := ⟨2, ![1408, 1024]⟩
abbrev S4096x1408 : Shape := ⟨2, ![4096, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S5632x1024, .bf16⟩
  | .local _ .vmem, ⟨0, _⟩ => ⟨S1x4096x1408, .bf16⟩
  | .local _ .vmem, ⟨1, _⟩ => ⟨S1x4096x1408, .bf16⟩
  | .local _ .vmem, ⟨2, _⟩ => ⟨S4096x1024, .bf16⟩
  | .local _ .vmem, ⟨3, _⟩ => ⟨S1408x1024, .bf16⟩
  | .local _ .vmem, ⟨4, _⟩ => ⟨S1408x1024, .bf16⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S2x4096x2816 : Shape := ⟨3, ![2, 4096, 2816]⟩
abbrev S4096x1024 : Shape := ⟨2, ![4096, 1024]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S1x4096x2816, .bf16⟩
  | .hbm, ⟨3, _⟩ => ⟨S4096x2816, .bf16⟩
  | .hbm, ⟨4, _⟩ => ⟨S4096x2816, .f32⟩
  | .hbm, ⟨5, _⟩ => ⟨S1x4096x2816, .bf16⟩
  | .hbm, ⟨6, _⟩ => ⟨S4096x2816, .bf16⟩
  | .hbm, ⟨7, _⟩ => ⟨S4096x2816, .f32⟩
  | .hbm, ⟨8, _⟩ => ⟨S4096x5632, .f32⟩
  | .hbm, ⟨9, _⟩ => ⟨S_, .f32⟩
  | .hbm, ⟨10, _⟩ => ⟨S1024x5632, .f32⟩
  | .hbm, ⟨11, _⟩ => ⟨S4096x1024, .f32⟩
  | .hbm, ⟨12, _⟩ => ⟨S4096x5632, .f32⟩
  | .hbm, ⟨13, _⟩ => ⟨S5632x1024, .f32⟩
  | .hbm, ⟨14, _⟩ => ⟨S1024x5632, .f32⟩
  | .hbm, ⟨15, _⟩ => ⟨S5632x1024, .f32⟩
  | .hbm, ⟨16, _⟩ => ⟨S5632x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel5.lean ====
abbrev S4096x512 : Shape := ⟨2, ![4096, 512]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x1024 : Shape := ⟨2, ![4096, 1024]⟩
abbrev S4096x512 : Shape := ⟨2, ![4096, 512]⟩
abbrev S4096x128 : Shape := ⟨2, ![4096, 128]⟩
abbrev S4096x2048 : Shape := ⟨2, ![4096, 2048]⟩
abbrev S4352x1024 : Shape := ⟨2, ![4352, 1024]⟩
abbrev S4096x256 : Shape := ⟨2, ![4096, 256]⟩
abbrev S256x1024 : Shape := ⟨2, ![256, 1024]⟩
abbrev S128x1024 : Shape := ⟨2, ![128, 1024]⟩

abbrev nBuf : Space → Nat
  | .hbm => 9
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x128, .bf16⟩
  | .hbm, ⟨3, _⟩ => ⟨S4096x128, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x2048, .bf16⟩
  | .hbm, ⟨8, _⟩ => ⟨S4352x1024, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S256x1024, .bf16⟩
  | .local _ .vmem, ⟨16, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c2_i32_1 : BitVec 32 := 2#32
  let v5 : BitVec 1 := Scalar.cmpi .sge arg0 c2_i32_1
  let c3_i32 : BitVec 32 := 3#32
  let v6 : BitVec 1 := Scalar.cmpi .slt arg0 c3_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c3_i32_3 : BitVec 32 := 3#32
  let v10 : BitVec 1 := Scalar.cmpi .sge arg0 c3_i32_3
  let c5_i32 : BitVec 32 := 5#32
  let v11 : BitVec 1 := Scalar.cmpi .slt arg0 c5_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c5_i32_5 : BitVec 32 := 5#32
  let v15 : BitVec 1 := Scalar.cmpi .sge arg0 c5_i32_5
  let c7_i32 : BitVec 32 := 7#32
  let v16 : BitVec 1 := Scalar.cmpi .slt arg0 c7_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg0 : BitVec 32 := BitVec.ofNat 32 (i 0).val
  let c7_i32_7 : BitVec 32 := 7#32
  let v20 : BitVec 1 := Scalar.cmpi .sge arg0 c7_i32_7
  let c9_i32 : BitVec 32 := 9#32
  let v21 : BitVec 1 := Scalar.cmpi .slt arg0 c9_i32
  let v22 : BitVec 1 := Scalar.andi v20 v21
  let v23 : BitVec 32 := Scalar.extui v22
  let c0_i32_8 : BitVec 32 := 0#32
  let v24 : BitVec 1 := Scalar.cmpi .ne v23 c0_i32_8
  v24

def k0_cond6 (i : grid0.Coords) : BitVec 1 :=
  let arg0 : BitVec 32 := BitVec.ofNat 32 (i 0).val
  let c9_i32_9 : BitVec 32 := 9#32
  let v25 : BitVec 1 := Scalar.cmpi .sge arg0 c9_i32_9
  let c17_i32 : BitVec 32 := 17#32
  let v26 : BitVec 1 := Scalar.cmpi .slt arg0 c17_i32
  let v27 : BitVec 1 := Scalar.andi v25 v26
  let v28 : BitVec 32 := Scalar.extui v27
  let c0_i32_10 : BitVec 32 := 0#32
  let v29 : BitVec 1 := Scalar.cmpi .ne v28 c0_i32_10
  v29

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_3 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_4 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S4096x1024 : Shape := ⟨2, ![4096, 1024]⟩
abbrev S4096x512 : Shape := ⟨2, ![4096, 512]⟩
abbrev S4096x128 : Shape := ⟨2, ![4096, 128]⟩
abbrev S4096x2048 : Shape := ⟨2, ![4096, 2048]⟩
abbrev S_ : Shape := ⟨0, ![]⟩
abbrev S1024x4352 : Shape := ⟨2, ![1024, 4352]⟩
abbrev S4096x4352 : Shape := ⟨2, ![4096, 4352]⟩
abbrev S4352x1024 : Shape := ⟨2, ![4352, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x128, .bf16⟩
  | .hbm, ⟨3, _⟩ => ⟨S4096x128, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x2048, .bf16⟩
  | .hbm, ⟨8, _⟩ => ⟨S4096x512, .f32⟩
  | .hbm, ⟨9, _⟩ => ⟨S4096x128, .f32⟩
  | .hbm, ⟨10, _⟩ => ⟨S4096x128, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x2048, .f32⟩
  | .hbm, ⟨15, _⟩ => ⟨S_, .f32⟩
  | .hbm, ⟨16, _⟩ => ⟨S1024x4352, .f32⟩
  | .hbm, ⟨17, _⟩ => ⟨S4096x1024, .f32⟩
  | .hbm, ⟨18, _⟩ => ⟨S4096x4352, .f32⟩
  | .hbm, ⟨19, _⟩ => ⟨S4096x512, .f32⟩
  | .hbm, ⟨20, _⟩ => ⟨S4096x128, .f32⟩
  | .hbm, ⟨21, _⟩ => ⟨S4096x128, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x2048, .f32⟩
  | .hbm, ⟨26, _⟩ => ⟨S4096x4352, .f32⟩
  | .hbm, ⟨27, _⟩ => ⟨S4352x1024, .f32⟩
  | .hbm, ⟨28, _⟩ => ⟨S1024x4352, .f32⟩
  | .hbm, ⟨29, _⟩ => ⟨S4352x1024, .f32⟩
  | .hbm, ⟨30, _⟩ => ⟨S4352x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel8.lean ====
abbrev S4096x512 : Shape := ⟨2, ![4096, 512]⟩
abbrev S4096x128 : Shape := ⟨2, ![4096, 128]⟩
abbrev S4096x2048 : Shape := ⟨2, ![4096, 2048]⟩
abbrev S4352x1024 : Shape := ⟨2, ![4352, 1024]⟩
abbrev S4096x1024 : Shape := ⟨2, ![4096, 1024]⟩
abbrev S512x512 : Shape := ⟨2, ![512, 512]⟩
abbrev S512x128 : Shape := ⟨2, ![512, 128]⟩
abbrev S512x2048 : Shape := ⟨2, ![512, 2048]⟩
abbrev S512x1024 : Shape := ⟨2, ![512, 1024]⟩
abbrev S128x1024 : Shape := ⟨2, ![128, 1024]⟩
abbrev S2048x1024 : Shape := ⟨2, ![2048, 1024]⟩

abbrev nBuf : Space → Nat
  | .hbm => 10
  | .vmem => 19
  | .smem => 0
  | _ => 0

abbrev bufTy : (tb : Table) → Fin (tcTables nBuf tb) → BufTy
  | .hbm, ⟨0, _⟩ => ⟨S4096x512, .bf16⟩
  | .hbm, ⟨1, _⟩ => ⟨S4096x128, .bf16⟩
  | .hbm, ⟨2, _⟩ => ⟨S4096x128, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x2048, .bf16⟩
  | .hbm, ⟨7, _⟩ => ⟨S4352x1024, .bf16⟩
  | .hbm, ⟨8, _⟩ => ⟨S4096x1024, .f32⟩
  | .hbm, ⟨9, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x2048, .bf16⟩
  | .local _ .vmem, ⟨13, _⟩ => ⟨S512x2048, .bf16⟩
  | .local _ .vmem, ⟨14, _⟩ => ⟨S4352x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4352x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S4096x512 : Shape := ⟨2, ![4096, 512]⟩
abbrev S4096x128 : Shape := ⟨2, ![4096, 128]⟩
abbrev S4096x2048 : Shape := ⟨2, ![4096, 2048]⟩
abbrev S4352x1024 : Shape := ⟨2, ![4352, 1024]⟩
abbrev S4096x1024 : Shape := ⟨2, ![4096, 1024]⟩
abbrev S_ : Shape := ⟨0, ![]⟩
abbrev S1024x4352 : Shape := ⟨2, ![1024, 4352]⟩
abbrev S4096x4352 : Shape := ⟨2, ![4096, 4352]⟩

abbrev nBuf : Space → Nat
  | .hbm => 37
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x128, .bf16⟩
  | .hbm, ⟨2, _⟩ => ⟨S4096x128, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x2048, .bf16⟩
  | .hbm, ⟨7, _⟩ => ⟨S4352x1024, .bf16⟩
  | .hbm, ⟨8, _⟩ => ⟨S4096x1024, .f32⟩
  | .hbm, ⟨9, _⟩ => ⟨S4096x512, .f32⟩
  | .hbm, ⟨10, _⟩ => ⟨S4096x128, .f32⟩
  | .hbm, ⟨11, _⟩ => ⟨S4096x128, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x2048, .f32⟩
  | .hbm, ⟨16, _⟩ => ⟨S_, .f32⟩
  | .hbm, ⟨17, _⟩ => ⟨S4096x1024, .f32⟩
  | .hbm, ⟨18, _⟩ => ⟨S4352x1024, .f32⟩
  | .hbm, ⟨19, _⟩ => ⟨S1024x4352, .f32⟩
  | .hbm, ⟨20, _⟩ => ⟨S4096x4352, .f32⟩
  | .hbm, ⟨21, _⟩ => ⟨S4096x512, .f32⟩
  | .hbm, ⟨22, _⟩ => ⟨S4096x128, .f32⟩
  | .hbm, ⟨23, _⟩ => ⟨S4096x128, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x2048, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x4352, .f32⟩
  | .hbm, ⟨35, _⟩ => ⟨S4096x1024, .f32⟩
  | .hbm, ⟨36, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Kernel9.lean ====
abbrev S4096x1024 : Shape := ⟨2, ![4096, 1024]⟩
abbrev S5632x1024 : Shape := ⟨2, ![5632, 1024]⟩
abbrev S2x4096x2816 : Shape := ⟨3, ![2, 4096, 2816]⟩
abbrev S1024x1024 : Shape := ⟨2, ![1024, 1024]⟩
abbrev S1408x1024 : Shape := ⟨2, ![1408, 1024]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1x1024x1408, .bf16⟩
  | .local _ .vmem, ⟨5, _⟩ => ⟨S1x1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S5632x1024 : Shape := ⟨2, ![5632, 1024]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x1024, .f32⟩
  | .hbm, ⟨3, _⟩ => ⟨S5632x1024, .f32⟩
  | .hbm, ⟨4, _⟩ => ⟨S1024x5632, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S1x4096x2816, .f32⟩
  | .hbm, ⟨9, _⟩ => ⟨S1x4096x2816, .f32⟩
  | .hbm, ⟨10, _⟩ => ⟨S2x4096x2816, .f32⟩
  | .hbm, ⟨11, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel10.lean ====
abbrev S4096x1024 : Shape := ⟨2, ![4096, 1024]⟩
abbrev S4352x1024 : Shape := ⟨2, ![4352, 1024]⟩
abbrev S4096x512 : Shape := ⟨2, ![4096, 512]⟩
abbrev S4096x128 : Shape := ⟨2, ![4096, 128]⟩
abbrev S4096x2048 : Shape := ⟨2, ![4096, 2048]⟩
abbrev S512x1024 : Shape := ⟨2, ![512, 1024]⟩
abbrev S512x512 : Shape := ⟨2, ![512, 512]⟩
abbrev S512x128 : Shape := ⟨2, ![512, 128]⟩
abbrev S512x2048 : Shape := ⟨2, ![512, 2048]⟩
abbrev S128x1024 : Shape := ⟨2, ![128, 1024]⟩
abbrev S2048x1024 : Shape := ⟨2, ![2048, 1024]⟩

abbrev nBuf : Space → Nat
  | .hbm => 10
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4352x1024, .bf16⟩
  | .hbm, ⟨2, _⟩ => ⟨S4096x1024, .bf16⟩
  | .hbm, ⟨3, _⟩ => ⟨S4096x512, .f32⟩
  | .hbm, ⟨4, _⟩ => ⟨S4096x128, .f32⟩
  | .hbm, ⟨5, _⟩ => ⟨S4096x128, .bf16⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S4096x2048, .f32⟩
  | .local _ .vmem, ⟨0, _⟩ => ⟨S512x1024, .f32⟩
  | .local _ .vmem, ⟨1, _⟩ => ⟨S512x1024, .f32⟩
  | .local _ .vmem, ⟨2, _⟩ => ⟨S4352x1024, .bf16⟩
  | .local _ .vmem, ⟨3, _⟩ => ⟨S512x1024, .bf16⟩
  | .local _ .vmem, ⟨4, _⟩ => ⟨S512x1024, .bf16⟩
  | .local _ .vmem, ⟨5, _⟩ => ⟨S512x512, .f32⟩
  | .local _ .vmem, ⟨6, _⟩ => ⟨S512x512, .f32⟩
  | .local _ .vmem, ⟨7, _⟩ => ⟨S512x128, .f32⟩
  | .local _ .vmem, ⟨8, _⟩ => ⟨S512x128, .f32⟩
  | .local _ .vmem, ⟨9, _⟩ => ⟨S512x128, .bf16⟩
  | .local _ .vmem, ⟨10, _⟩ => ⟨S512x128, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x2048, .f32⟩
  | .local _ .vmem, ⟨18, _⟩ => ⟨S512x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev main_v0_6 : Ref sig .tc := ⟨.hbm, 8, rfl⟩
abbrev main_v0_7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S4096x1024 : Shape := ⟨2, ![4096, 1024]⟩
abbrev S4352x1024 : Shape := ⟨2, ![4352, 1024]⟩
abbrev S1024x4352 : Shape := ⟨2, ![1024, 4352]⟩
abbrev S4096x4352 : Shape := ⟨2, ![4096, 4352]⟩
abbrev S4096x512 : Shape := ⟨2, ![4096, 512]⟩
abbrev S4096x128 : Shape := ⟨2, ![4096, 128]⟩
abbrev S4096x2048 : Shape := ⟨2, ![4096, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4352x1024, .bf16⟩
  | .hbm, ⟨2, _⟩ => ⟨S4352x1024, .f32⟩
  | .hbm, ⟨3, _⟩ => ⟨S1024x4352, .f32⟩
  | .hbm, ⟨4, _⟩ => ⟨S4096x4352, .f32⟩
  | .hbm, ⟨5, _⟩ => ⟨S4096x512, .f32⟩
  | .hbm, ⟨6, _⟩ => ⟨S4096x128, .f32⟩
  | .hbm, ⟨7, _⟩ => ⟨S4096x128, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x2048, .f32⟩
  | .hbm, ⟨12, _⟩ => ⟨S4096x1024, .bf16⟩
  | .hbm, ⟨13, _⟩ => ⟨S4096x128, .bf16⟩
  | .hbm, ⟨14, _⟩ => ⟨S4096x512, .bf16⟩
  | .hbm, ⟨15, _⟩ => ⟨S4096x512, .bf16⟩
  | .hbm, ⟨16, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== Kernel11.lean ====
abbrev S4096x512 : Shape := ⟨2, ![4096, 512]⟩
abbrev S136 : Shape := ⟨1, ![136]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x16x256x16x256 : Shape := ⟨5, ![8, 16, 256, 16, 256]⟩
abbrev S16x16x8x256x256 : Shape := ⟨5, ![16, 16, 8, 256, 256]⟩
abbrev S256x512 : Shape := ⟨2, ![256, 512]⟩
abbrev S1 : Shape := ⟨1, ![1]⟩
abbrev S1x1x8x256x256 : Shape := ⟨5, ![1, 1, 8, 256, 256]⟩
abbrev S8x256x1 : Shape := ⟨3, ![8, 256, 1]⟩
abbrev S16x512x256 : Shape := ⟨3, ![16, 512, 256]⟩
abbrev S256x256 : Shape := ⟨2, ![256, 256]⟩
abbrev S4x128x512 : Shape := ⟨3, ![4, 128, 512]⟩
abbrev S512x256 : Shape := ⟨2, ![512, 256]⟩
abbrev S256x128 : Shape := ⟨2, ![256, 128]⟩
abbrev S128x256 : Shape := ⟨2, ![128, 256]⟩
abbrev S128x512 : Shape := ⟨2, ![128, 512]⟩
abbrev S1x128x512 : Shape := ⟨3, ![1, 128, 512]⟩
abbrev S1x1x1x256x256 : Shape := ⟨5, ![1, 1, 1, 256, 256]⟩
abbrev S1x256x1 : Shape := ⟨3, ![1, 256, 1]⟩
abbrev S256x1 : Shape := ⟨2, ![256, 1]⟩
abbrev S256 : Shape := ⟨1, ![256]⟩
abbrev S512x128 : Shape := ⟨2, ![512, 128]⟩
abbrev S1x128x256 : Shape := ⟨3, ![1, 128, 256]⟩
abbrev S1x512x256 : Shape := ⟨3, ![1, 512, 256]⟩

abbrev nBuf : Space → Nat
  | .hbm => 83
  | .vmem => 23
  | .smem => 2
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .f32⟩
  | .hbm, ⟨5, _⟩ => ⟨S4096x8x64, .f32⟩
  | .hbm, ⟨6, _⟩ => ⟨S4096x512, .f32⟩
  | .hbm, ⟨7, _⟩ => ⟨S4096x8x64, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x4096, .i1⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S8x4096x4096, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S8x4096x4096, .i1⟩
  | .hbm, ⟨43, _⟩ => ⟨S8x4096x4096, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S_, .f32⟩
  | .hbm, ⟨53, _⟩ => ⟨S_, .f32⟩
  | .hbm, ⟨54, _⟩ => ⟨S8x4096x4096, .i1⟩
  | .hbm, ⟨55, _⟩ => ⟨S8x4096x4096, .f32⟩
  | .hbm, ⟨56, _⟩ => ⟨S8x4096x4096, .f32⟩
  | .hbm, ⟨57, _⟩ => ⟨S_, .f32⟩
  | .hbm, ⟨58, _⟩ => ⟨S_, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S_, .f32⟩
  | .hbm, ⟨64, _⟩ => ⟨S_, .f32⟩
  | .hbm, ⟨65, _⟩ => ⟨S8x4096x4096, .i1⟩
  | .hbm, ⟨66, _⟩ => ⟨S8x4096x4096, .f32⟩
  | .hbm, ⟨67, _⟩ => ⟨S8x4096x4096, .f32⟩
  | .hbm, ⟨68, _⟩ => ⟨S8x4096x4096, .f32⟩
  | .hbm, ⟨69, _⟩ => ⟨S_, .f32⟩
  | .hbm, ⟨70, _⟩ => ⟨S_, .f32⟩
  | .hbm, ⟨71, _⟩ => ⟨S8x4096x4096, .i1⟩
  | .hbm, ⟨72, _⟩ => ⟨S8x4096x4096, .f32⟩
  | .hbm, ⟨73, _⟩ => ⟨S8x4096x4096, .f32⟩
  | .hbm, ⟨74, _⟩ => ⟨S8x16x256x16x256, .f32⟩
  | .hbm, ⟨75, _⟩ => ⟨S16x16x8x256x256, .f32⟩
  | .hbm, ⟨76, _⟩ => ⟨S16x16x8x256x256, .bf16⟩
  | .hbm, ⟨77, _⟩ => ⟨S8x16x256x16x256, .f32⟩
  | .hbm, ⟨78, _⟩ => ⟨S16x16x8x256x256, .f32⟩
  | .hbm, ⟨79, _⟩ => ⟨S16x16x8x256x256, .bf16⟩
  | .hbm, ⟨80, _⟩ => ⟨S4096x512, .bf16⟩
  | .hbm, ⟨81, _⟩ => ⟨S4096x512, .bf16⟩
  | .hbm, ⟨82, _⟩ => ⟨S4096x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1x1x8x256x256, .bf16⟩
  | .local _ .vmem, ⟨7, _⟩ => ⟨S1x1x8x256x256, .bf16⟩
  | .local _ .vmem, ⟨8, _⟩ => ⟨S1x1x8x256x256, .bf16⟩
  | .local _ .vmem, ⟨9, _⟩ => ⟨S1x1x8x256x256, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S4096x512, .bf16⟩
  | .local _ .vmem, ⟨15, _⟩ => ⟨S4096x512, .bf16⟩
  | .local _ .vmem, ⟨16, _⟩ => ⟨S256x512, .f32⟩
  | .local _ .vmem, ⟨17, _⟩ => ⟨S8x256x1, .f32⟩
  | .local _ .vmem, ⟨18, _⟩ => ⟨S16x512x256, .f32⟩
  | .local _ .vmem, ⟨19, _⟩ => ⟨S16x512x256, .f32⟩
  | .local _ .vmem, ⟨20, _⟩ => ⟨S256x256, .bf16⟩
  | .local _ .vmem, ⟨21, _⟩ => ⟨S4x128x512, .bf16⟩
  | .local _ .vmem, ⟨22, _⟩ => ⟨S4x128x512, .bf16⟩
  | .local _ .smem, ⟨0, _⟩ => ⟨S136, .i32⟩
  | .local _ .smem, ⟨1, _⟩ => ⟨S136, .i32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_call1_v0 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_v2 : Ref sig .tc := ⟨.hbm, 40, rfl⟩
abbrev main_call1_call0_v3 : Ref sig .tc := ⟨.hbm, 41, rfl⟩
abbrev main_call1_call0_v4 : Ref sig .tc := ⟨.hbm, 42, rfl⟩
abbrev main_call1_call0_v5 : Ref sig .tc := ⟨.hbm, 43, rfl⟩
abbrev main_call1_call0_v6 : Ref sig .tc := ⟨.hbm, 44, rfl⟩
abbrev main_call1_call0_v7 : Ref sig .tc := ⟨.hbm, 45, rfl⟩
abbrev main_call1_call0_v8 : Ref sig .tc := ⟨.hbm, 46, rfl⟩
abbrev main_call1_call0_v9 : Ref sig .tc := ⟨.hbm, 47, rfl⟩
abbrev main_call1_call0_v10 : Ref sig .tc := ⟨.hbm, 48, rfl⟩
abbrev main_call1_call0_v11 : Ref sig .tc := ⟨.hbm, 49, rfl⟩
abbrev main_call1_v1 : Ref sig .tc := ⟨.hbm, 50, rfl⟩
abbrev main_v16 : Ref sig .tc := ⟨.hbm, 51, rfl⟩
abbrev main_cst_1 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v17 : Ref sig .tc := ⟨.hbm, 56, rfl⟩
abbrev main_call3_cst : Ref sig .tc := ⟨.hbm, 57, rfl⟩
abbrev main_call3_v0 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_cst_2 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v22 : Ref sig .tc := ⟨.hbm, 67, rfl⟩
abbrev main_v23 : Ref sig .tc := ⟨.hbm, 68, rfl⟩
abbrev main_cst_3 : Ref sig .tc := ⟨.hbm, 69, rfl⟩
abbrev main_call5_v0 : Ref sig .tc := ⟨.hbm, 70, rfl⟩
abbrev main_call5_v1 : Ref sig .tc := ⟨.hbm, 71, rfl⟩
abbrev main_call5_v2 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31_0 : Ref sig .tc := ⟨.hbm, 80, rfl⟩
abbrev main_v31_1 : Ref sig .tc := ⟨.hbm, 81, rfl⟩
abbrev main_v31_2 : Ref sig .tc := ⟨.hbm, 82, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v3 : BitVec 32) : Fin 3 → Nat :=
  let v85 : Index := Scalar.indexCast v3
  let c0_58 : Index := 0#32
  let c0_59 : Index := 0#32
  ![v85.toNat, 0, 0]

def k0_off3 (v3 : BitVec 32) : Fin 3 → Nat :=
  let v188 : Index := Scalar.indexCast v3
  let c128_140 : Index := 128#32
  let c0_141 : Index := 0#32
  ![v188.toNat, 128, 0]
def k0_off4 (v3 : BitVec 32) : Fin 3 → Nat :=
  let v291 : Index := Scalar.indexCast v3
  let c256_222 : Index := 256#32
  let c0_223 : Index := 0#32
  ![v291.toNat, 256, 0]
def k0_off5 (v3 : BitVec 32) : Fin 3 → Nat :=
  let v394 : Index := Scalar.indexCast v3
  let c384_304 : Index := 384#32
  let c0_305 : Index := 0#32
  ![v394.toNat, 384, 0]

def k0_chk1 (v3 : BitVec 32) : Prop :=
  (∀ a, (k0_off2 v3) a + S1x128x256.size a ≤ S16x512x256.size a) ∧
  (∀ a, (k0_off3 v3) a + S1x128x256.size a ≤ S16x512x256.size a) ∧
  (∀ a, (k0_off4 v3) a + S1x128x256.size a ≤ S16x512x256.size a) ∧
  (∀ a, (k0_off5 v3) a + S1x128x256.size a ≤ S16x512x256.size a)
theorem k0_off2_inb : ∀ (v3 : BitVec 32) (k0_hw1 : k0_chk1 v3), ∀ a, (k0_off2 v3) a + S1x128x256.size a ≤ S16x512x256.size a := fun v3 k0_hw1 => k0_hw1.1
theorem k0_off3_inb : ∀ (v3 : BitVec 32) (k0_hw1 : k0_chk1 v3), ∀ a, (k0_off3 v3) a + S1x128x256.size a ≤ S16x512x256.size a := fun v3 k0_hw1 => k0_hw1.2.1
theorem k0_off4_inb : ∀ (v3 : BitVec 32) (k0_hw1 : k0_chk1 v3), ∀ a, (k0_off4 v3) a + S1x128x256.size a ≤ S16x512x256.size a := fun v3 k0_hw1 => k0_hw1.2.2.1
theorem k0_off5_inb : ∀ (v3 : BitVec 32) (k0_hw1 : k0_chk1 v3), ∀ a, (k0_off5 v3) a + S1x128x256.size a ≤ S16x512x256.size a := fun v3 k0_hw1 => k0_hw1.2.2.2

def k0_cond3 (v1 : BitVec 32) (v3 : BitVec 32) : BitVec 1 :=
  let v422 : BitVec 1 := Scalar.cmpi .eq v3 v1
  let v423 : BitVec 32 := Scalar.extui v422
  let c0_i32_330 : BitVec 32 := 0#32
  let v424 : BitVec 1 := Scalar.cmpi .ne v423 c0_i32_330
  v424

def k0_cond4 (i : grid0.Coords) : BitVec 1 :=
  let arg0 : BitVec 32 := BitVec.ofNat 32 (i 0).val
  let c135_i32 : BitVec 32 := 135#32
  let v425 : BitVec 1 := Scalar.cmpi .eq arg0 c135_i32
  let v426 : BitVec 32 := Scalar.extui v425
  let c0_i32_331 : BitVec 32 := 0#32
  let v427 : BitVec 1 := Scalar.cmpi .ne v426 c0_i32_331
  v427

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S136.size a) (numel1_S1 : S1.numel = 1) (pf : pre0.Contents (Elt F)) (i : grid0.Coords) : Fin 5 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let v2 : Index := Scalar.indexCast arg0
  let v3 : BitVec 32 := pf.at 1 (Rect.unit (s := S136) ![v2.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, v3.toNat, c0_i32.toNat, c0_i32_0.toNat, c0_i32_1.toNat]

def cc0_transform_4 (k0_off1_inb : ∀ i : grid0.Coords, ∀ a, (k0_off1 i) a + S1.size a ≤ S136.size a) (numel1_S1 : S1.numel = 1) (pf : pre0.Contents (Elt F)) (i : grid0.Coords) : Fin 5 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let v2 : Index := Scalar.indexCast arg0
  let v3 : BitVec 32 := pf.at 1 (Rect.unit (s := S136) ![v2.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, v3.toNat, c0_i32.toNat, c0_i32_0.toNat, c0_i32_1.toNat]

def cc0_transform_5 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat]

def cc0_transform_6 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x8x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4096x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference11Ideal.lean ====
abbrev S4096x512 : Shape := ⟨2, ![4096, 512]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩

abbrev nBuf : Space → Nat
  | .hbm => 85
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .f32⟩
  | .hbm, ⟨5, _⟩ => ⟨S4096x8x64, .f32⟩
  | .hbm, ⟨6, _⟩ => ⟨S4096x512, .f32⟩
  | .hbm, ⟨7, _⟩ => ⟨S4096x8x64, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x4096, .i1⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S8x4096x4096, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S8x4096x4096, .i1⟩
  | .hbm, ⟨43, _⟩ => ⟨S8x4096x4096, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S_, .f32⟩
  | .hbm, ⟨53, _⟩ => ⟨S_, .f32⟩
  | .hbm, ⟨54, _⟩ => ⟨S8x4096x4096, .i1⟩
  | .hbm, ⟨55, _⟩ => ⟨S8x4096x4096, .f32⟩
  | .hbm, ⟨56, _⟩ => ⟨S8x4096x4096, .f32⟩
  | .hbm, ⟨57, _⟩ => ⟨S_, .f32⟩
  | .hbm, ⟨58, _⟩ => ⟨S_, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S_, .f32⟩
  | .hbm, ⟨64, _⟩ => ⟨S_, .f32⟩
  | .hbm, ⟨65, _⟩ => ⟨S8x4096x4096, .i1⟩
  | .hbm, ⟨66, _⟩ => ⟨S8x4096x4096, .f32⟩
  | .hbm, ⟨67, _⟩ => ⟨S8x4096x4096, .f32⟩
  | .hbm, ⟨68, _⟩ => ⟨S8x4096x4096, .f32⟩
  | .hbm, ⟨69, _⟩ => ⟨S_, .f32⟩
  | .hbm, ⟨70, _⟩ => ⟨S_, .f32⟩
  | .hbm, ⟨71, _⟩ => ⟨S8x4096x4096, .i1⟩
  | .hbm, ⟨72, _⟩ => ⟨S8x4096x4096, .f32⟩
  | .hbm, ⟨73, _⟩ => ⟨S8x4096x4096, .f32⟩
  | .hbm, ⟨74, _⟩ => ⟨S4096x512, .f32⟩
  | .hbm, ⟨75, _⟩ => ⟨S4096x8x64, .f32⟩
  | .hbm, ⟨76, _⟩ => ⟨S8x64x4096, .f32⟩
  | .hbm, ⟨77, _⟩ => ⟨S4096x8x64, .f32⟩
  | .hbm, ⟨78, _⟩ => ⟨S4096x512, .f32⟩
  | .hbm, ⟨79, _⟩ => ⟨S4096x8x64, .f32⟩
  | .hbm, ⟨80, _⟩ => ⟨S8x64x4096, .f32⟩
  | .hbm, ⟨81, _⟩ => ⟨S8x64x4096, .f32⟩
  | .hbm, ⟨82, _⟩ => ⟨S4096x8x64, .f32⟩
  | .hbm, ⟨83, _⟩ => ⟨S4096x512, .f32⟩
  | .hbm, ⟨84, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_call1_v0 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_v2 : Ref sig .tc := ⟨.hbm, 40, rfl⟩
abbrev main_call1_call0_v3 : Ref sig .tc := ⟨.hbm, 41, rfl⟩
abbrev main_call1_call0_v4 : Ref sig .tc := ⟨.hbm, 42, rfl⟩
abbrev main_call1_call0_v5 : Ref sig .tc := ⟨.hbm, 43, rfl⟩
abbrev main_call1_call0_v6 : Ref sig .tc := ⟨.hbm, 44, rfl⟩
abbrev main_call1_call0_v7 : Ref sig .tc := ⟨.hbm, 45, rfl⟩
abbrev main_call1_call0_v8 : Ref sig .tc := ⟨.hbm, 46, rfl⟩
abbrev main_call1_call0_v9 : Ref sig .tc := ⟨.hbm, 47, rfl⟩
abbrev main_call1_call0_v10 : Ref sig .tc := ⟨.hbm, 48, rfl⟩
abbrev main_call1_call0_v11 : Ref sig .tc := ⟨.hbm, 49, rfl⟩
abbrev main_call1_v1 : Ref sig .tc := ⟨.hbm, 50, rfl⟩
abbrev main_v16 : Ref sig .tc := ⟨.hbm, 51, rfl⟩
abbrev main_cst_0 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v17 : Ref sig .tc := ⟨.hbm, 56, rfl⟩
abbrev main_call3_cst : Ref sig .tc := ⟨.hbm, 57, rfl⟩
abbrev main_call3_v0 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v22 : Ref sig .tc := ⟨.hbm, 67, rfl⟩
abbrev main_v23 : Ref sig .tc := ⟨.hbm, 68, rfl⟩
abbrev main_cst_2 : Ref sig .tc := ⟨.hbm, 69, rfl⟩
abbrev main_call5_v0 : Ref sig .tc := ⟨.hbm, 70, rfl⟩
abbrev main_call5_v1 : Ref sig .tc := ⟨.hbm, 71, rfl⟩
abbrev main_call5_v2 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩

abbrev nD : Nat := 1
abbrev τ : Topo := Topo.v7x

variable {F : FTy → Type} [FloatOps F]
-- ==== Kernel12.lean ====
abbrev S4096x512 : Shape := ⟨2, ![4096, 512]⟩
abbrev S4096x2048 : Shape := ⟨2, ![4096, 2048]⟩
abbrev S4096x1024 : Shape := ⟨2, ![4096, 1024]⟩
abbrev S512x1024 : Shape := ⟨2, ![512, 1024]⟩
abbrev S1024x1024 : Shape := ⟨2, ![1024, 1024]⟩
abbrev S1x2048 : Shape := ⟨2, ![1, 2048]⟩
abbrev S1x1024 : Shape := ⟨2, ![1, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 20
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x2048, .f32⟩
  | .hbm, ⟨3, _⟩ => ⟨S4096x1024, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x2048, .f32⟩
  | .hbm, ⟨8, _⟩ => ⟨S1x1024, .f32⟩
  | .hbm, ⟨9, _⟩ => ⟨S1x1024, .f32⟩
  | .hbm, ⟨10, _⟩ => ⟨S4096x1024, .bf16⟩
  | .hbm, ⟨11, _⟩ => ⟨S4096x1024, .f32⟩
  | .hbm, ⟨12, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .f32⟩
  | .local _ .vmem, ⟨5, _⟩ => ⟨S512x2048, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x2048, .f32⟩
  | .local _ .vmem, ⟨12, _⟩ => ⟨S1x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference12Ideal.lean ====
abbrev S4096x512 : Shape := ⟨2, ![4096, 512]⟩
abbrev S4096x2048 : Shape := ⟨2, ![4096, 2048]⟩
abbrev S4096x1024 : Shape := ⟨2, ![4096, 1024]⟩
abbrev S512x1024 : Shape := ⟨2, ![512, 1024]⟩
abbrev S1024x1024 : Shape := ⟨2, ![1024, 1024]⟩
abbrev S1x2048 : Shape := ⟨2, ![1, 2048]⟩
abbrev S1x1024 : Shape := ⟨2, ![1, 1024]⟩
abbrev S_ : Shape := ⟨0, ![]⟩
abbrev S4096x2x1024 : Shape := ⟨3, ![4096, 2, 1024]⟩
abbrev S4096x1x1024 : Shape := ⟨3, ![4096, 1, 1024]⟩
abbrev S4096 : Shape := ⟨1, ![4096]⟩
abbrev S4096x1 : Shape := ⟨2, ![4096, 1]⟩

abbrev nBuf : Space → Nat
  | .hbm => 68
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x2048, .f32⟩
  | .hbm, ⟨3, _⟩ => ⟨S4096x1024, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x2048, .f32⟩
  | .hbm, ⟨8, _⟩ => ⟨S1x1024, .f32⟩
  | .hbm, ⟨9, _⟩ => ⟨S1x1024, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2x1024, .f32⟩
  | .hbm, ⟨21, _⟩ => ⟨S4096x1x1024, .f32⟩
  | .hbm, ⟨22, _⟩ => ⟨S4096x1024, .f32⟩
  | .hbm, ⟨23, _⟩ => ⟨S4096x512, .f32⟩
  | .hbm, ⟨24, _⟩ => ⟨S512x1024, .f32⟩
  | .hbm, ⟨25, _⟩ => ⟨S4096x1024, .f32⟩
  | .hbm, ⟨26, _⟩ => ⟨S4096x1024, .f32⟩
  | .hbm, ⟨27, _⟩ => ⟨S4096x1x1024, .f32⟩
  | .hbm, ⟨28, _⟩ => ⟨S4096x1024, .f32⟩
  | .hbm, ⟨29, _⟩ => ⟨S4096x512, .f32⟩
  | .hbm, ⟨30, _⟩ => ⟨S512x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S1024x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Kernel13.lean ====
abbrev S2x4096x2816 : Shape := ⟨3, ![2, 4096, 2816]⟩
abbrev S5632x1024 : Shape := ⟨2, ![5632, 1024]⟩
abbrev S4096x1024 : Shape := ⟨2, ![4096, 1024]⟩
abbrev S1x1024 : Shape := ⟨2, ![1, 1024]⟩
abbrev S2x512x2816 : Shape := ⟨3, ![2, 512, 2816]⟩
abbrev S512x1024 : Shape := ⟨2, ![512, 1024]⟩
abbrev S1x512x2816 : Shape := ⟨3, ![1, 512, 2816]⟩
abbrev S512x2816 : Shape := ⟨2, ![512, 2816]⟩
abbrev S2816x1024 : Shape := ⟨2, ![2816, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S2x4096x2816, .bf16⟩
  | .hbm, ⟨1, _⟩ => ⟨S5632x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference13Ideal.lean ====
abbrev S2x4096x2816 : Shape := ⟨3, ![2, 4096, 2816]⟩
abbrev S5632x1024 : Shape := ⟨2, ![5632, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S2816x1024 : Shape := ⟨2, ![2816, 1024]⟩
abbrev S1024x2816 : Shape := ⟨2, ![1024, 2816]⟩
abbrev S4096x2816 : Shape := ⟨2, ![4096, 2816]⟩
abbrev S1x4096x2816 : Shape := ⟨3, ![1, 4096, 2816]⟩
abbrev S1024 : Shape := ⟨1, ![1024]⟩

abbrev nBuf : Space → Nat
  | .hbm => 100
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S5632x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S2816x1024, .bf16⟩
  | .hbm, ⟨37, _⟩ => ⟨S2816x1024, .f32⟩
  | .hbm, ⟨38, _⟩ => ⟨S1024x2816, .f32⟩
  | .hbm, ⟨39, _⟩ => ⟨S4096x2816, .f32⟩
  | .hbm, ⟨40, _⟩ => ⟨S2816x1024, .bf16⟩
  | .hbm, ⟨41, _⟩ => ⟨S2816x1024, .f32⟩
  | .hbm, ⟨42, _⟩ => ⟨S1024x2816, .f32⟩
  | .hbm, ⟨43, _⟩ => ⟨S4096x2816, .f32⟩
  | .hbm, ⟨44, _⟩ => ⟨S1x4096x2816, .f32⟩
  | .hbm, ⟨45, _⟩ => ⟨S1x4096x2816, .f32⟩
  | .hbm, ⟨46, _⟩ => ⟨S2x4096x2816, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S2x4096x2816, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S1x4096x2816, .f32⟩
  | .hbm, ⟨55, _⟩ => ⟨S4096x2816, .f32⟩
  | .hbm, ⟨56, _⟩ => ⟨S1x4096x2816, .f32⟩
  | .hbm, ⟨57, _⟩ => ⟨S4096x2816, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x1024, .f32⟩
  | .hbm, ⟨98, _⟩ => ⟨S4096x1024, .f32⟩
  | .hbm, ⟨99, _⟩ => ⟨S4096x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_11 : Ref sig .tc := ⟨.hbm, 78, rfl⟩
abbrev main_v61 : Ref sig .tc := ⟨.hbm, 79, rfl⟩
abbrev main_v62 : Ref sig .tc := ⟨.hbm, 80, rfl⟩
abbrev main_cst_12 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_13 : Ref sig .tc := ⟨.hbm, 89, rfl⟩
abbrev main_v70 : Ref sig .tc := ⟨.hbm, 90, rfl⟩
abbrev main_v71 : Ref sig .tc := ⟨.hbm, 91, rfl⟩
abbrev main_cst_14 : Ref sig .tc := ⟨.hbm, 92, rfl⟩
abbrev main_v72 : Ref sig .tc := ⟨.hbm, 93, rfl⟩
abbrev main_v73 : Ref sig .tc := ⟨.hbm, 94, rfl⟩
abbrev main_cst_15 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩

abbrev nD : Nat := 1
abbrev τ : Topo := Topo.v7x

variable {F : FTy → Type} [FloatOps F]
-- ==== Kernel14.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 13
  | .vmem => 18
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .hbm, ⟨11, _⟩ => ⟨S1x1024, .f32⟩
  | .hbm, ⟨12, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | .local _ .vmem, ⟨17, _⟩ => ⟨S1x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference14Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 131
  | .vmem => 0
  | .smem => 0
  | _ => 0

abbrev hbmTy0_0 (i : Nat) : BufTy := match i % 128 with
  | 0 => ⟨S4096x2816, .bf16⟩
  | 1 => ⟨S2816x1024, .bf16⟩
  | 2 => ⟨S4096x1024, .f32⟩
  | 3 => ⟨S1x1024, .f32⟩
  | 4 => ⟨S1x1024, .f32⟩
  | 5 => ⟨S1x1024, .f32⟩
  | 6 => ⟨S1x1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S4096x1024, .f32⟩
  | 15 => ⟨S4096x1024, .f32⟩
  | 16 => ⟨S4096x1024, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x1, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S4096x2816, .f32⟩
  | 37 => ⟨S2816x1024, .f32⟩
  | 38 => ⟨S4096x1024, .f32⟩
  | 39 => ⟨S4096x1024, .f32⟩
  | 40 => ⟨S_, .f32⟩
  | 41 => ⟨S4096, .f32⟩
  | 42 => ⟨S4096x1, .f32⟩
  | 43 => ⟨S_, .f32⟩
  | 44 => ⟨S4096x1, .f32⟩
  | 45 => ⟨S4096x1, .f32⟩
  | 46 => ⟨S4096x1024, .f32⟩
  | 47 => ⟨S4096x1024, .f32⟩
  | 48 => ⟨S4096x1024, .f32⟩
  | 49 => ⟨S_, .f32⟩
  | 50 => ⟨S4096, .f32⟩
  | 51 => ⟨S4096x1, .f32⟩
  | 52 => ⟨S_, .f32⟩
  | 53 => ⟨S4096x1, .f32⟩
  | 54 => ⟨S4096x1, .f32⟩
  | 55 => ⟨S_, .f32⟩
  | 56 => ⟨S4096x1, .f32⟩
  | 57 => ⟨S4096x1, .f32⟩
  | 58 => ⟨S4096x1, .f32⟩
  | 59 => ⟨S4096x1, .f32⟩
  | 60 => ⟨S_, .f32⟩
  | 61 => ⟨S4096x1, .f32⟩
  | 62 => ⟨S4096x1, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S_, .f32⟩
  | 75 => ⟨S4096, .f32⟩
  | 76 => ⟨S_, .f32⟩
  | 77 => ⟨S4096, .f32⟩
  | 78 => ⟨S4096, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S4096, .f32⟩
  | 87 => ⟨S_, .f32⟩
  | 88 => ⟨S4096, .f32⟩
  | 89 => ⟨S4096, .f32⟩
  | 90 => ⟨S4096x1024, .f32⟩
  | 91 => ⟨S4096x1024, .f32⟩
  | 92 => ⟨S_, .f32⟩
  | 93 => ⟨S1024, .f32⟩
  | 94 => ⟨S1x1024, .f32⟩
  | 95 => ⟨S4096x1024, .f32⟩
  | 96 => ⟨S_, .f32⟩
  | 97 => ⟨S1024, .f32⟩
  | 98 => ⟨S1x1024, .f32⟩
  | 99 => ⟨S4096x1024, .f32⟩
  | 100 => ⟨S4096x1024, .f32⟩
  | 101 => ⟨S4096x1024, .f32⟩
  | 102 => ⟨S_, .f32⟩
  | 103 => ⟨S4096, .f32⟩
  | 104 => ⟨S4096x1, .f32⟩
  | 105 => ⟨S4096x1024, .f32⟩
  | 106 => ⟨S4096x1024, .f32⟩
  | 107 => ⟨S4096x1, .f32⟩
  | 108 => ⟨S_, .f32⟩
  | 109 => ⟨S4096x1, .f32⟩
  | 110 => ⟨S4096x1, .f32⟩
  | 111 => ⟨S_, .f32⟩
  | 112 => ⟨S4096, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S_, .f32⟩
  | 120 => ⟨S4096, .f32⟩
  | 121 => ⟨S4096x1, .f32⟩
  | 122 => ⟨S_, .f32⟩
  | 123 => ⟨S4096x1, .f32⟩
  | 124 => ⟨S4096x1, .f32⟩
  | 125 => ⟨S_, .f32⟩
  | 126 => ⟨S4096, .f32⟩
  | 127 => ⟨S4096x1024, .f32⟩
  | _ => ⟨S4096x2816, .bf16⟩

abbrev hbmTy0_1 (i : Nat) : BufTy := match i % 128 with
  | 0 => ⟨S4096x1024, .f32⟩
  | 1 => ⟨S4096x1024, .bf16⟩
  | 2 => ⟨S1x128, .f32⟩
  | _ => ⟨S4096x2816, .bf16⟩

abbrev hbmTy (i : Nat) : BufTy := match i / 128 with
  | 0 => hbmTy0_0 i
  | 1 => hbmTy0_1 i
  | _ => ⟨S4096x2816, .bf16⟩

abbrev bufTy : (tb : Table) → Fin (tcTables nBuf tb) → BufTy
  | .hbm, ⟨i, _⟩ => hbmTy i
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_cst_15 : Ref sig .tc := ⟨.hbm, 81, rfl⟩
abbrev main_v57 : Ref sig .tc := ⟨.hbm, 82, rfl⟩
abbrev main_cst_16 : Ref sig .tc := ⟨.hbm, 83, rfl⟩
abbrev main_cst_17 : Ref sig .tc := ⟨.hbm, 84, rfl⟩
abbrev main_v58 : Ref sig .tc := ⟨.hbm, 85, rfl⟩
abbrev main_v59 : Ref sig .tc := ⟨.hbm, 86, rfl⟩
abbrev main_cst_18 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_19 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_20 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_21 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_22 : Ref sig .tc := ⟨.hbm, 108, rfl⟩
abbrev main_v77 : Ref sig .tc := ⟨.hbm, 109, rfl⟩
abbrev main_v78 : Ref sig .tc := ⟨.hbm, 110, rfl⟩
abbrev main_cst_23 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_24 : Ref sig .tc := ⟨.hbm, 119, rfl⟩
abbrev main_v86 : Ref sig .tc := ⟨.hbm, 120, rfl⟩
abbrev main_v87 : Ref sig .tc := ⟨.hbm, 121, rfl⟩
abbrev main_cst_25 : Ref sig .tc := ⟨.hbm, 122, rfl⟩
abbrev main_v88 : Ref sig .tc := ⟨.hbm, 123, rfl⟩
abbrev main_v89 : Ref sig .tc := ⟨.hbm, 124, rfl⟩
abbrev main_cst_26 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]
-- ==== Proof.GateSpec.lean ====
module

public import Idealize.ShloMosaic.Lib.Pointwise

/-! The gradient of the gated sum of the two attention branches, entry by entry and over the extended
    reals. Names no program: the kernel and the reference are both shown to compute these. -/

@[expose] public section

noncomputable section

namespace Cert.GateGrad

open Idealize.ShloMosaic

/-- An array of two axes over the extended reals. -/
abbrev Arr (a b : Nat) : Type := (⟨2, ![a, b]⟩ : Shape).Idx → EReal

/-- The cotangent of the gated sum: the incoming cotangent times the output projection transposed. -/
def dh (du : Arr 4096 1024) (wo : Arr 1024 1024) (r : Fin 4096) (k : Fin 1024) : EReal :=
  ∑ x : Fin 1024, du (ix2 r x) * wo (ix2 k x)

/-- One branch's projection. -/
def branch (y : Arr 4096 512) (w : Arr 512 1024) (r : Fin 4096) (k : Fin 1024) : EReal :=
  ∑ x : Fin 512, y (ix2 r x) * w (ix2 x k)

/-- The gate of row `r` and column `k`. -/
def gate (gl : Arr 4096 2048) (b : Arr 1 2048) (r : Fin 4096) (k : Fin 2048) : EReal :=
  Ideal.logistic (gl (ix2 r k) + b (ix2 0 k))

/-- The first half of the gates' columns. -/
abbrev lo (k : Fin 1024) : Fin 2048 := ⟨k.val, by omega⟩
/-- The second half of the gates' columns. -/
abbrev hi (k : Fin 1024) : Fin 2048 := ⟨1024 + k.val, by omega⟩

/-- The cotangent of a branch's projection, the gate's column `q` standing over column `k`. -/
def dt (du : Arr 4096 1024) (wo : Arr 1024 1024) (gl : Arr 4096 2048) (b : Arr 1 2048) (r : Fin 4096) (k : Fin 1024)
    (q : Fin 2048) : EReal := dh du wo r k * gate gl b r q

/-- The cotangent of a gate's argument. -/
def dlogit (du : Arr 4096 1024) (y : Arr 4096 512) (w : Arr 512 1024) (wo : Arr 1024 1024) (gl : Arr 4096 2048)
    (b : Arr 1 2048) (r : Fin 4096) (k : Fin 1024) (q : Fin 2048) : EReal :=
  dh du wo r k * branch y w r k * gate gl b r q * (1 - gate gl b r q)

/-- The cotangent of the gates' arguments over both halves of the columns. -/
def dgl (du : Arr 4096 1024) (ya yb : Arr 4096 512) (gl : Arr 4096 2048) (wa wb : Arr 512 1024) (wo : Arr 1024 1024)
    (b : Arr 1 2048) (r : Fin 4096) (q : Fin 2048) : EReal :=
  if h : q.val < 1024 then dlogit du ya wa wo gl b r ⟨q.val, h⟩ q else dlogit du yb wb wo gl b r ⟨q.val - 1024, by omega⟩ q

/-- The cotangent of a branch before its projection; `s` places the branch's columns among the gates'. -/
def dy (du : Arr 4096 1024) (gl : Arr 4096 2048) (w : Arr 512 1024) (wo : Arr 1024 1024) (b : Arr 1 2048)
    (s : Fin 1024 → Fin 2048) (r : Fin 4096) (k : Fin 512) : EReal :=
  ∑ x : Fin 1024, dt du wo gl b r x (s x) * w (ix2 k x)

/-- The cotangent of the gates' bias: the gates' cotangent summed over the rows. -/
def db (du : Arr 4096 1024) (ya yb : Arr 4096 512) (gl : Arr 4096 2048) (wa wb : Arr 512 1024) (wo : Arr 1024 1024)
    (b : Arr 1 2048) (q : Fin 2048) : EReal :=
  ∑ r : Fin 4096, dgl du ya yb gl wa wb wo b r q

end Cert.GateGrad

end
-- ==== Proof.GateBlocks.lean ====
module

public import proofs.«01_k».proof.Defs
public import proofs.«01_k».proof.Proof.GateSpec
public import proofs.«01_k».proof.Proof.Gen.KernelIdeal.Value
public import Idealize.ShloMosaic.Lib.Pipeline.ValueKit

/-! What the gate kernel's result arrays hold after its run. -/

@[expose] public section

set_option maxRecDepth 16384

noncomputable section

namespace Cert.GateGrad

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- Which block each window holds at a grid point: the rows' windows block `t`, the weights' the only one. -/
theorem idx : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![0, 0] := by decide +kernel

section Arguments
variable (c : Dev nD)
abbrev Du : Arr 4096 1024 := m ((c : Thread nD τ).loc main_arg0)
abbrev Ya : Arr 4096 512 := m ((c : Thread nD τ).loc main_arg1)
abbrev Yb : Arr 4096 512 := m ((c : Thread nD τ).loc main_arg2)
abbrev Gl : Arr 4096 2048 := m ((c : Thread nD τ).loc main_arg3)
abbrev Wa : Arr 512 1024 := m ((c : Thread nD τ).loc main_arg4)
abbrev Wb : Arr 512 1024 := m ((c : Thread nD τ).loc main_arg5)
abbrev Wo : Arr 1024 1024 := m ((c : Thread nD τ).loc main_arg6)
abbrev Bg : Arr 1 2048 := m ((c : Thread nD τ).loc main_arg7)
end Arguments

/-- The cotangent of the first branch's projection. -/
theorem final11 (c : Dev nD) : (dats (F := Ideal) m 0 c).arrAt 11 cfg0.N =
    fun i : S4096x1024.Idx => dt (Du m c) (Wo m c) (Gl m c) (Bg m c) (i 0) (i 1) (lo (i 1)) := by
  refine (dats m 0 c).arrAt_eq_of_covers 11 _ (by decide +kernel) fun t hf y => ?_
  blk_simp
  rw [after0_11]
  by_cases h0 : t.val % 8 = 0
  · rw [outsAt0_A m c t h0]
    frame_out
    pointwise [k0_pay11, k0_pay3, k0_pay4, dt, dh, gate]
    blk_point [iblk, V, idx t]
    all_goals blk_simp [idx t]
  · rw [outsAt0_B m c t h0]
    frame_out
    pointwise [k0_pay11, k0_pay3, k0_pay4, dt, dh, gate]
    blk_point [iblk, V, idx t]
    all_goals blk_simp [idx t]

/-- The cotangent of the second branch's projection. -/
theorem final12 (c : Dev nD) : (dats (F := Ideal) m 0 c).arrAt 12 cfg0.N =
    fun i : S4096x1024.Idx => dt (Du m c) (Wo m c) (Gl m c) (Bg m c) (i 0) (i 1) (hi (i 1)) := by
  refine (dats m 0 c).arrAt_eq_of_covers 12 _ (by decide +kernel) fun t hf y => ?_
  blk_simp
  rw [after0_12]
  by_cases h0 : t.val % 8 = 0
  · rw [outsAt0_A m c t h0]
    frame_out
    pointwise [k0_pay16, k0_pay3, k0_pay5, dt, dh, gate]
    blk_point [iblk, V, idx t]
    all_goals blk_simp [idx t]
  · rw [outsAt0_B m c t h0]
    frame_out
    pointwise [k0_pay16, k0_pay3, k0_pay5, dt, dh, gate]
    blk_point [iblk, V, idx t]
    all_goals blk_simp [idx t]

/-- The cotangent of the first branch. -/
theorem final8 (c : Dev nD) : (dats (F := Ideal) m 0 c).arrAt 8 cfg0.N =
    fun i : S4096x512.Idx => dy (Du m c) (Gl m c) (Wa m c) (Wo m c) (Bg m c) lo (i 0) (i 1) := by
  refine (dats m 0 c).arrAt_eq_of_covers 8 _ (by decide +kernel) fun t hf y => ?_
  blk_simp
  rw [after0_8]
  by_cases h0 : t.val % 8 = 0
  · rw [outsAt0_A m c t h0]
    frame_out
    pointwise [k0_pay12, k0_pay11, k0_pay3, k0_pay4, dy, dt, dh, gate]
    blk_point [iblk, V, idx t]
  · rw [outsAt0_B m c t h0]
    frame_out
    pointwise [k0_pay12, k0_pay11, k0_pay3, k0_pay4, dy, dt, dh, gate]
    blk_point [iblk, V, idx t]

/-- The cotangent of the second branch. -/
theorem final9 (c : Dev nD) : (dats (F := Ideal) m 0 c).arrAt 9 cfg0.N =
    fun i : S4096x512.Idx => dy (Du m c) (Gl m c) (Wb m c) (Wo m c) (Bg m c) hi (i 0) (i 1) := by
  refine (dats m 0 c).arrAt_eq_of_covers 9 _ (by decide +kernel) fun t hf y => ?_
  blk_simp
  rw [after0_9]
  by_cases h0 : t.val % 8 = 0
  · rw [outsAt0_A m c t h0]
    frame_out
    pointwise [k0_pay1, k0_pay16, k0_pay3, k0_pay5, dy, dt, dh, gate]
    blk_point [iblk, V, idx t]
  · rw [outsAt0_B m c t h0]
    frame_out
    pointwise [k0_pay1, k0_pay16, k0_pay3, k0_pay5, dy, dt, dh, gate]
    blk_point [iblk, V, idx t]

/-- The gates' cotangent within a block: what a point stores in each half of its columns, at row `y`. -/
theorem block10_lo (c : Dev nD) (t : Fin grid0.N) (r : Fin 512) (k : Fin 1024) (R : Fin 4096) (hR : R.val = t.val * 512 + r.val) :
    k0_pay6 (iblk m c 0 t) (iblk m c 6 t)
      (View.ld (iblk m c 3 t) (Rect.unit ![0, 0] ![512, 1024] inb_S512x2048_S512x1024_0_0))
      (View.ld (iblk m c 7 t) (Rect.unit ![0, 0] ![1, 1024] inb_S1x2048_S1x1024_0_0)) (iblk m c 1 t) (iblk m c 4 t) (ix2 r k)
      = dlogit (Du m c) (Ya m c) (Wa m c) (Wo m c) (Gl m c) (Bg m c) R k (lo k) := by
  pointwise [k0_pay6, k0_pay3, k0_pay4, dlogit, branch, dh, gate]
  blk_point [iblk, V, idx t]

theorem block10_hi (c : Dev nD) (t : Fin grid0.N) (r : Fin 512) (k : Fin 1024) (R : Fin 4096) (hR : R.val = t.val * 512 + r.val) :
    k0_pay13 (k0_pay3 (iblk m c 0 t) (iblk m c 6 t))
            (k0_pay5 (View.ld (iblk m c 3 t) (Rect.unit ![0, 1024] ![512, 1024] inb_S512x2048_S512x1024_0_1024))
              (View.ld (iblk m c 7 t) (Rect.unit ![0, 1024] ![1, 1024] inb_S1x2048_S1x1024_0_1024)))
            (iblk m c 2 t) (iblk m c 5 t) (ix2 r k)
      = dlogit (Du m c) (Yb m c) (Wb m c) (Wo m c) (Gl m c) (Bg m c) R k (hi k) := by
  pointwise [k0_pay13, k0_pay3, k0_pay5, dlogit, branch, dh, gate]
  blk_point [iblk, V, idx t]

end Cert.GateGrad

end
-- ==== Proof.GateSums.lean ====
module

public import proofs.«01_k».proof.Proof.GateBlocks
public import Idealize.ShloMosaic.Lib.Pipeline.ReadBack

/-! The gate kernel's two results that are stored by halves of their columns: the gates' cotangent and
    its sum over the rows, which the grid accumulates point by point. -/

@[expose] public section

set_option maxRecDepth 16384

noncomputable section

namespace Cert.GateGrad

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- The gates' cotangent at the kernel's arguments. -/
abbrev Dgl (c : Dev nD) (r : Fin 4096) (q : Fin 2048) : EReal :=
  dgl (Du m c) (Ya m c) (Yb m c) (Gl m c) (Wa m c) (Wb m c) (Wo m c) (Bg m c) r q

/-- What a point computes for the first half of the columns is the gates' cotangent there. -/
theorem rows_lo (c : Dev nD) (t : Fin grid0.N) (r : Fin 512) (k : Fin 1024) (R : Fin 4096) (q : Fin 2048)
    (hR : R.val = t.val * 512 + r.val) (hq : q.val = k.val) :
    k0_pay6 (iblk m c 0 t) (iblk m c 6 t)
      (View.ld (iblk m c 3 t) (Rect.unit ![0, 0] ![512, 1024] inb_S512x2048_S512x1024_0_0))
      (View.ld (iblk m c 7 t) (Rect.unit ![0, 0] ![1, 1024] inb_S1x2048_S1x1024_0_0)) (iblk m c 1 t) (iblk m c 4 t) (ix2 r k)
      = Dgl m c R q := by
  rw [block10_lo m c t r k R hR, Dgl, dgl, dif_pos (by omega)]
  congr 1 <;> exact Fin.ext (by simp [hq])

/-- What a point computes for the second half of the columns is the gates' cotangent there. -/
theorem rows_hi (c : Dev nD) (t : Fin grid0.N) (r : Fin 512) (k : Fin 1024) (R : Fin 4096) (q : Fin 2048)
    (hR : R.val = t.val * 512 + r.val) (hq : q.val = 1024 + k.val) :
    k0_pay13 (k0_pay3 (iblk m c 0 t) (iblk m c 6 t))
            (k0_pay5 (View.ld (iblk m c 3 t) (Rect.unit ![0, 1024] ![512, 1024] inb_S512x2048_S512x1024_0_1024))
              (View.ld (iblk m c 7 t) (Rect.unit ![0, 1024] ![1, 1024] inb_S1x2048_S1x1024_0_1024)))
            (iblk m c 2 t) (iblk m c 5 t) (ix2 r k)
      = Dgl m c R q := by
  rw [block10_hi m c t r k R hR, Dgl, dgl, dif_neg (by omega)]
  congr 1 <;> exact Fin.ext (by simp [hq])

/-- The gates' cotangent. -/
theorem final10 (c : Dev nD) : (dats (F := Ideal) m 0 c).arrAt 10 cfg0.N =
    fun i : S4096x2048.Idx => Dgl m c (i 0) (i 1) := by
  refine (dats m 0 c).arrAt_eq_of_covers 10 _ (by decide +kernel) fun t hf y => ?_
  blk_simp
  rw [after0_10]
  by_cases h0 : t.val % 8 = 0
  · rw [outsAt0_A m c t h0]
    frame_out
    canon_tiles x h
    · idx_vars x
      refine rows_hi m c t _ _ _ _ ?_ ?_ <;> blk_simp [idx t] <;> simp_all
    · idx_vars x
      refine rows_lo m c t _ _ _ _ ?_ ?_ <;> blk_simp [idx t] <;> simp_all
  · rw [outsAt0_B m c t h0]
    frame_out
    canon_tiles x h
    · idx_vars x
      refine rows_hi m c t _ _ _ _ ?_ ?_ <;> blk_simp [idx t] <;> simp_all
    · idx_vars x
      refine rows_lo m c t _ _ _ _ ?_ ?_ <;> blk_simp [idx t] <;> simp_all

/-- The sum of the gates' cotangent over the rows of block `n`. -/
def blockSum (c : Dev nD) (n : Nat) (q : Fin 2048) : EReal :=
  ∑ r : Fin 512, Dgl m c ⟨(n * 512 + r.val) % 4096, Nat.mod_lt _ (by norm_num)⟩ q

/-- The first half of the accumulator's gain at a point. -/
theorem gain_lo (c : Dev nD) (t : Fin grid0.N) (k : Fin 1024) (q : Fin 2048) (hq : q.val = k.val) :
    ∑ x : Fin 512, k0_pay6 (iblk m c 0 t) (iblk m c 6 t)
      (View.ld (iblk m c 3 t) (Rect.unit ![0, 0] ![512, 1024] inb_S512x2048_S512x1024_0_0))
      (View.ld (iblk m c 7 t) (Rect.unit ![0, 0] ![1, 1024] inb_S1x2048_S1x1024_0_0)) (iblk m c 1 t) (iblk m c 4 t) (ix2 x k)
      = blockSum m c t.val q :=
  Finset.sum_congr rfl fun r _ => rows_lo m c t r k _ q (Nat.mod_eq_of_lt (by have := t.isLt; simp only [N_0] at this; omega)) hq

/-- The second half of the accumulator's gain at a point. -/
theorem gain_hi (c : Dev nD) (t : Fin grid0.N) (k : Fin 1024) (q : Fin 2048) (hq : q.val = 1024 + k.val) :
    ∑ x : Fin 512, k0_pay13 (k0_pay3 (iblk m c 0 t) (iblk m c 6 t))
            (k0_pay5 (View.ld (iblk m c 3 t) (Rect.unit ![0, 1024] ![512, 1024] inb_S512x2048_S512x1024_0_1024))
              (View.ld (iblk m c 7 t) (Rect.unit ![0, 1024] ![1, 1024] inb_S1x2048_S1x1024_0_1024)))
            (iblk m c 2 t) (iblk m c 5 t) (ix2 x k)
      = blockSum m c t.val q :=
  Finset.sum_congr rfl fun r _ => rows_hi m c t r k _ q (Nat.mod_eq_of_lt (by have := t.isLt; simp only [N_0] at this; omega)) hq

/-- At the first point the accumulator holds its block's sum over zero. -/
theorem acc_first (c : Dev nD) (t : Fin grid0.N) (h0 : t.val % 8 = 0) (j : S1x2048.Idx) :
    (outsAt0 m c t.val t.isLt).2.2.2.2.2 j = 0 + blockSum m c t.val (j 1) := by
  rw [outsAt0_A m c t h0]
  frame_out
  simp (disch := decide) only [↓ View.readCov_skip, ↓ View.readCov_cons_toLoadRect, ↓ View.readCov_fill]
  refine View.canon_append_of_piecesOf (Val := Elt Ideal) (e := .f32) (fun j : S1x2048.Idx => (0 + blockSum m c t.val (j 1) : EReal)) [_] [_, _] ⟨fun x => ?_, fun x => ?_, trivial⟩ j ?_
  · idx_vars x
    pointwise [k0_pay15, k0_pay2]
    refine gain_hi m c t _ _ ?_
    blk_simp
  · idx_vars x
    pointwise [k0_pay10, k0_pay8, k0_pay9, k0_pay2]
    refine gain_lo m c t _ _ ?_
    blk_simp
  · exact View.cover_of_tiledL _ ![1, 1024] (by rfl) j

/-- At every later point the accumulator gains its block's sum. -/
theorem acc_next (c : Dev nD) (t : Fin grid0.N) (h0 : ¬t.val % 8 = 0) (j : S1x2048.Idx) :
    (outsAt0 m c t.val t.isLt).2.2.2.2.2 j =
      (outsAt0 m c (t.val - 1) (Nat.lt_of_le_of_lt (Nat.sub_le _ _) t.isLt)).2.2.2.2.2 j + blockSum m c t.val (j 1) := by
  rw [outsAt0_B m c t h0]
  frame_out
  canon_tiles x h
  · idx_vars x
    pointwise [k0_pay15]
    refine congrArg₂ (· + ·) (congrArg _ ?_) (gain_hi m c t _ _ h1)
    idx_vars j
    blk_ext <;> simp_all
  · idx_vars x
    pointwise [k0_pay10, k0_pay8, k0_pay9]
    refine congrArg₂ (· + ·) (congrArg _ ?_) (gain_lo m c t _ _ h1)
    idx_vars j
    blk_ext <;> simp_all

/-- The cotangent of the gates' bias. -/
theorem final13 (c : Dev nD) : (dats (F := Ideal) m 0 c).arrAt 13 cfg0.N =
    fun i : S1x2048.Idx => db (Du m c) (Ya m c) (Yb m c) (Gl m c) (Wa m c) (Wb m c) (Wo m c) (Bg m c) (i 1) := by
  refine (dats m 0 c).arrAt_eq_of_after_last 13 t0_7 (by decide +kernel) _ fun j => ?_
  blk_simp
  rw [after0_13, Pipeline.eq_sum_of_reset_step_apply (fun n h => (outsAt0 m c n h).2.2.2.2.2) 8 (fun _ => 0)
    (fun n j => blockSum m c n (j 1)) (acc_first m c) (acc_next m c) t0_7 j]
  show 0 + ∑ k ∈ Finset.range 8, blockSum m c (0 + k) (j 1) = _
  rw [zero_add, ← Fin.sum_univ_eq_sum_range]
  refine (Finset.sum_congr rfl fun t _ => Finset.sum_congr rfl fun r _ => ?_).trans
    (Fin.sum_mul_add_fin 8 512 (fun r : Fin 4096 => Dgl m c r (j 1)) rfl)
  congr 1
  exact Fin.ext (by simp; omega)

end Cert.GateGrad

end
-- ==== Proof.GateReference.lean ====
module

public import proofs.«01_k».proof.Defs
public import proofs.«01_k».proof.Proof.GateSpec
public import proofs.«01_k».proof.Proof.Gen.ReferenceIdeal.Run
public import proofs.«01_k».proof.Proof.Gen.ReferenceIdeal.Read

/-! What the reference computes: each of its six results, entry by entry. -/

@[expose] public section

set_option maxRecDepth 16384

noncomputable section

namespace Cert.GateGrad

open Idealize.ShloMosaic Idealize.ShloMosaic.TcCoe
open Cert.ReferenceIdeal Cert.ReferenceIdeal.Read

variable (du : Arr 4096 1024) (ya yb : Arr 4096 512) (gl : Arr 4096 2048) (wa wb : Arr 512 1024) (wo : Arr 1024 1024) (b : Arr 1 2048)

/-- The gates. -/
theorem ref_gate (i : S4096x2048.Idx) : val_main_v14 (F := Ideal) gl b i = gate gl b (i 0) (i 1) := by
  pointwise [val_main_v14, val_main_cst_0, val_main_v13, val_main_v12, val_main_v11, val_main_cst, val_main_v10, val_main_v9, val_main_v8, val_main_v7, gate]
  idx_vars i
  rfl

/-- The cotangent of the first branch's projection. -/
theorem ref_dta : val_main_v46 (F := Ideal) du gl wo b = fun i : S4096x1024.Idx => dt du wo gl b (i 0) (i 1) (lo (i 1)) := by
  funext i
  pointwise [val_main_v46, val_main_v32, val_main_v28, val_main_v27, val_main_v20, val_main_v19, val_main_v18, val_main_v2, dt, dh]
  rw [ref_gate, EReal.mul_comm]
  rfl

/-- The cotangent of the second branch's projection. -/
theorem ref_dtb : val_main_v47 (F := Ideal) du gl wo b = fun i : S4096x1024.Idx => dt du wo gl b (i 0) (i 1) (hi (i 1)) := by
  funext i
  pointwise [val_main_v47, val_main_v32, val_main_v28, val_main_v27, val_main_v23, val_main_v22, val_main_v18, val_main_v2, dt, dh]
  rw [ref_gate, EReal.mul_comm]
  rfl

/-- The cotangent of the first branch. -/
theorem ref_dya : val_main_v43 (F := Ideal) du gl wa wo b = fun i : S4096x512.Idx => dy du gl wa wo b lo (i 0) (i 1) := by
  funext i
  pointwise [val_main_v43, val_main_v42, val_main_v41, val_main_v0, val_main_v32, val_main_v28, val_main_v27, val_main_v20, val_main_v19, val_main_v18, val_main_v2, dy, dt, dh]
  refine Finset.sum_congr rfl fun x _ => congrArg (· * _) ?_
  rw [ref_gate, EReal.mul_comm]
  rfl

/-- The cotangent of the second branch. -/
theorem ref_dyb : val_main_v44 (F := Ideal) du gl wb wo b = fun i : S4096x512.Idx => dy du gl wb wo b hi (i 0) (i 1) := by
  funext i
  pointwise [val_main_v44, val_main_v42, val_main_v41, val_main_v1, val_main_v32, val_main_v28, val_main_v27, val_main_v23, val_main_v22, val_main_v18, val_main_v2, dy, dt, dh]
  refine Finset.sum_congr rfl fun x _ => congrArg (· * _) ?_
  rw [ref_gate, EReal.mul_comm]
  rfl

/-- The gates' cotangent with the gate's own derivative as one factor. -/
theorem dgl_eq (r : Fin 4096) (q : Fin 2048) : dgl du ya yb gl wa wb wo b r q =
    (if h : q.val < 1024 then dh du wo r ⟨q.val, h⟩ * branch ya wa r ⟨q.val, h⟩
      else dh du wo r ⟨q.val - 1024, by omega⟩ * branch yb wb r ⟨q.val - 1024, by omega⟩)
      * (gate gl b r q * (1 - gate gl b r q)) := by
  unfold dgl dlogit
  split <;> exact mul_assoc _ _ _

/-- A row of two padded halves added is one half or the other, by the column. -/
theorem halves (q : Fin 2048) (A B : Fin 1024 → EReal) :
    ((if h : (1 ≤ q.val / 1024 ∧ q.val / 1024 - 1 < 1) ∧ q.val % 1024 < 1024 then B ⟨q.val % 1024, h.2⟩ else 0)
      + if h : q.val / 1024 < 1 ∧ q.val % 1024 < 1024 then A ⟨q.val % 1024, h.2⟩ else 0)
      = if h : q.val < 1024 then A ⟨q.val, h⟩ else B ⟨q.val - 1024, by omega⟩ := by
  by_cases h : q.val < 1024
  · rw [dif_pos h, dif_neg (by omega), dif_pos (by omega), zero_add]
    exact congrArg A (Fin.ext (Nat.mod_eq_of_lt h))
  · rw [dif_neg h, dif_pos (by omega), dif_neg (by omega), add_zero]
    exact congrArg B (Fin.ext (show q.val % 1024 = q.val - 1024 by omega))

/-- The gates' cotangent, entry by entry. -/
theorem ref_dgl (r : Fin 4096) (q : Fin 2048) : val_main_v38 (F := Ideal) du ya yb gl wa wb wo b (ix2 r q) = dgl du ya yb gl wa wb wo b r q := by
  pointwise [val_main_v38, val_main_v37, val_main_v36, val_main_v35, val_main_cst_3, val_main_v34, val_main_v33, val_main_v31, val_main_cst_2, val_main_v30, val_main_v29,
    val_main_v4, val_main_v6, val_main_v27, val_main_v2, val_main_v0, val_main_v1, val_main_v3, val_main_v5, val_main_v17, val_main_v16, val_main_v15, val_main_cst_1]
  have e : val_main_v14 (F := Ideal) gl b (ix2 r q) = gate gl b r q := ref_gate gl b _
  refine Eq.trans ?_ (dgl_eq du ya yb gl wa wb wo b r q).symm
  refine congrArg₂ (· * ·) ?_ (congrArg₂ (· * ·) e (congrArg (1 - ·) e))
  exact halves q (fun k => dh du wo r k * branch ya wa r k) fun k => dh du wo r k * branch yb wb r k

/-- The gates' cotangent as the reference returns it. -/
theorem ref_dgl_cast : val_main_v45 (F := Ideal) du ya yb gl wa wb wo b =
    fun i : S4096x2048.Idx => dgl du ya yb gl wa wb wo b (i 0) (i 1) := by
  funext i
  idx_vars i
  exact ref_dgl du ya yb gl wa wb wo b i0 i1

/-- The cotangent of the gates' bias. -/
theorem ref_db : val_main_v40 (F := Ideal) du ya yb gl wa wb wo b = fun i : S1x2048.Idx => db du ya yb gl wa wb wo b (i 1) := by
  funext i
  pointwise [val_main_v40, val_main_v39, val_main_cst_4, db]
  exact Finset.sum_congr rfl fun r _ => ref_dgl du ya yb gl wa wb wo b r _

end Cert.GateGrad

end
-- ==== Proof.GateClaims.lean ====
module

public import proofs.«01_k».proof.Defs
public import proofs.«01_k».proof.Proof.GateSums
public import proofs.«01_k».proof.Proof.GateReference
public import proofs.«01_k».proof.Proof.Gen.Kernel.Frame
public import Idealize.ShloMosaic.Adequacy
public import Idealize.ShloMosaic.Init

/-! The claims about the gate kernel: its frames, its reference's frame, and that the two compute the same
    six arrays over the extended reals. -/

@[expose] public section

noncomputable section

namespace Cert.GateGrad

open Idealize.ShloMosaic Idealize.ShloMosaic.TcCoe Idealize.SL.Sem

/-- The printed kernel terminates without a fault, its arguments unchanged and its semaphores at zero. -/
theorem frame_kernel : Cert.quiescent_Kernel (hKernel := Cert.Kernel.Gen.facts) := fun m ρ _ => Cert.Kernel.Gen.frame m ρ

/-- The idealized kernel terminates without a fault, its arguments unchanged and its semaphores at zero. -/
theorem frame_ideal : Cert.quiescent_KernelIdeal (hKernelIdeal := Cert.KernelIdeal.Gen.facts) :=
  fun m ρ _ => Cert.KernelIdeal.Gen.frame m ρ

/-- The reference terminates without a fault, its arguments unchanged; it declares no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2.2.2, sem_eq_zero_of_no_sems (by decide) r.2⟩)
    (Cert.ReferenceIdeal.Value.run (F := Ideal) m ρ)

/-- The idealized kernel and the reference end with the same six arrays. -/
theorem algebraic : Cert.algebraic_KernelIdeal_ReferenceIdeal (hKernelIdeal := Cert.KernelIdeal.Gen.facts)
    (hReferenceIdeal := Cert.ReferenceIdeal.Gen.facts) := by
  intro m ρ m' ρ' _ ha
  refine ⟨_, _, _, _, _, _, Cert.KernelIdeal.Value.run_blocks (F := Ideal) m ρ, ?_⟩
  refine (θ_run Cert.ReferenceIdeal.defs _ _).mono (fun r h c => ?_) (Cert.ReferenceIdeal.Value.run (F := Ideal) m' ρ')
  obtain ⟨a0, a1, a2, a3, a4, a5, a6, a7⟩ := ha c
  obtain ⟨h0, h1, h2, h3, h4, h5, hr⟩ := h c
  refine ⟨h0.trans ?_, h1.trans ?_, h2.trans ?_, h3.trans ?_, h4.trans ?_, h5.trans ?_, hr⟩
  · rw [final8, a0, a3, a4, a6, a7]
    exact ref_dya _ _ _ _ _
  · rw [final9, a0, a3, a5, a6, a7]
    exact ref_dyb _ _ _ _ _
  · rw [final10, a0, a1, a2, a3, a4, a5, a6, a7]
    exact ref_dgl_cast _ _ _ _ _ _ _ _
  · rw [final11, a0, a3, a6, a7]
    exact ref_dta _ _ _ _
  · rw [final12, a0, a3, a6, a7]
    exact ref_dtb _ _ _ _
  · rw [final13, a0, a1, a2, a3, a4, a5, a6, a7]
    exact ref_db _ _ _ _ _ _ _ _

end Cert.GateGrad

end
-- ==== Proof.ProductSpec.lean ====
module

public import Idealize.ShloMosaic.Lib.Pointwise
public import proofs.«01_k».proof.Proof.GateSpec

/-! The three ways the step multiplies two matrices, entry by entry and over the extended reals. -/

@[expose] public section

noncomputable section

namespace Cert.Product

open Idealize.ShloMosaic
open Cert.GateGrad (Arr)

/-- An entry of `x · w`. -/
def nn {a k b : Nat} (x : Arr a k) (w : Arr k b) (r : Fin a) (s : Fin b) : EReal := ∑ q : Fin k, x (ix2 r q) * w (ix2 q s)

/-- An entry of `x · wᵀ`: the product's cotangent on its left factor. -/
def nt {a k b : Nat} (x : Arr a k) (w : Arr b k) (r : Fin a) (s : Fin b) : EReal := ∑ q : Fin k, x (ix2 r q) * w (ix2 s q)

/-- An entry of `xᵀ · g`: the product's cotangent on its right factor. -/
def tn {k a b : Nat} (x : Arr k a) (g : Arr k b) (r : Fin a) (s : Fin b) : EReal := ∑ q : Fin k, x (ix2 q r) * g (ix2 q s)

/-- The two halves of the first projection, gate and up, kept as two planes. -/
abbrev Planes : Type := (⟨3, ![2, 4096, 2816]⟩ : Shape).Idx → EReal

/-- The two planes side by side: column `k` of the gate's plane, then of the up's. -/
def beside (p : Planes) : Arr 4096 5632 := fun i =>
  if h : (i 1).val < 2816 then p (ix3 0 (i 0) ⟨(i 1).val, h⟩)
  else p (ix3 1 (i 0) ⟨(i 1).val - 2816, by have := (i 1).isLt; simp at this; omega⟩)

/-- Column `k` of plane `p` among the columns of both planes side by side. -/
abbrev column (p : Fin 2) (k : Fin 2816) : Fin 5632 := ⟨2816 * p.val + k.val, by omega⟩

/-- The seven pieces of the input projection's result (queries, keys and values of the first attention, of the
    second, and the gates' arguments) side by side. -/
def joined (qa : Arr 4096 512) (ka va : Arr 4096 128) (qb kb vb : Arr 4096 512) (g : Arr 4096 2048) : Arr 4096 4352 := fun i =>
  if h0 : (i 1).val < 512 then qa (ix2 (i 0) ⟨(i 1).val, h0⟩)
  else if h1 : (i 1).val - 512 < 128 then ka (ix2 (i 0) ⟨(i 1).val - 512, h1⟩)
  else if h2 : (i 1).val - 512 - 128 < 128 then va (ix2 (i 0) ⟨(i 1).val - 512 - 128, h2⟩)
  else if h3 : (i 1).val - 512 - 128 - 128 < 512 then qb (ix2 (i 0) ⟨(i 1).val - 512 - 128 - 128, h3⟩)
  else if h4 : (i 1).val - 512 - 128 - 128 - 512 < 512 then kb (ix2 (i 0) ⟨(i 1).val - 512 - 128 - 128 - 512, h4⟩)
  else if h5 : (i 1).val - 512 - 128 - 128 - 512 - 512 < 512 then vb (ix2 (i 0) ⟨(i 1).val - 512 - 128 - 128 - 512 - 512, h5⟩)
  else g (ix2 (i 0) ⟨(i 1).val - 512 - 128 - 128 - 512 - 512 - 512, by have := (i 1).isLt; simp at this; omega⟩)

/-- Column `k` of the piece that stands at column `o`. -/
abbrev col {n : Nat} (o : Nat) (k : Fin n) (h : o + n ≤ 4352 := by decide) : Fin 4352 := ⟨o + k.val, by omega⟩

section Pieces
variable (qa : Arr 4096 512) (ka va : Arr 4096 128) (qb kb vb : Arr 4096 512) (g : Arr 4096 2048) {x : Fin 4096} {r : Fin 4352}

/-- The first piece stands at column 0. -/
theorem joined_qa (k : Fin 512) (h : r.val = k.val) : joined qa ka va qb kb vb g (ix2 x r) = qa (ix2 x k) := by
  unfold joined
  simp [h]

/-- The second piece stands at column 512. -/
theorem joined_ka (k : Fin 128) (h : r.val = 512 + k.val) : joined qa ka va qb kb vb g (ix2 x r) = ka (ix2 x k) := by
  unfold joined
  simp [h]

/-- The third piece stands at column 640. -/
theorem joined_va (k : Fin 128) (h : r.val = 640 + k.val) : joined qa ka va qb kb vb g (ix2 x r) = va (ix2 x k) := by
  have hr : r.val = 512 + (128 + k.val) := by omega
  unfold joined
  simp [hr]

/-- The fourth piece stands at column 768. -/
theorem joined_qb (k : Fin 512) (h : r.val = 768 + k.val) : joined qa ka va qb kb vb g (ix2 x r) = qb (ix2 x k) := by
  have hr : r.val = 512 + (128 + (128 + k.val)) := by omega
  unfold joined
  simp [hr]

/-- The fifth piece stands at column 1280. -/
theorem joined_kb (k : Fin 512) (h : r.val = 1280 + k.val) : joined qa ka va qb kb vb g (ix2 x r) = kb (ix2 x k) := by
  have hr : r.val = 512 + (128 + (128 + (512 + k.val))) := by omega
  unfold joined
  simp [hr]

/-- The sixth piece stands at column 1792. -/
theorem joined_vb (k : Fin 512) (h : r.val = 1792 + k.val) : joined qa ka va qb kb vb g (ix2 x r) = vb (ix2 x k) := by
  have hr : r.val = 512 + (128 + (128 + (512 + (512 + k.val)))) := by omega
  unfold joined
  simp [hr]

/-- The gates' piece stands at column 2304. -/
theorem joined_g (k : Fin 2048) (h : r.val = 2304 + k.val) : joined qa ka va qb kb vb g (ix2 x r) = g (ix2 x k) := by
  have hr : r.val = 512 + (128 + (128 + (512 + (512 + (512 + k.val))))) := by omega
  unfold joined
  simp [hr]

end Pieces

/-- A sum over all columns as one over the columns from 0 on. -/
theorem sum_whole (f : Fin 4352 → EReal) : ∑ x, f x = ∑ k : Fin 4352, f ⟨0 + k.val, by omega⟩ :=
  Finset.sum_congr rfl fun k _ => congrArg f (Fin.ext (Nat.zero_add _).symm)

/-- A sum over the columns from column `o` on, cut after `a` of them. -/
theorem sum_cut (f : Fin 4352 → EReal) (o a b : Nat) (h : o + (a + b) ≤ 4352) :
    ∑ k : Fin (a + b), f ⟨o + k.val, by omega⟩ = ∑ k : Fin a, f ⟨o + k.val, by omega⟩ + ∑ k : Fin b, f ⟨o + a + k.val, by omega⟩ := by
  rw [Fin.sum_univ_add]
  exact congrArg₂ (· + ·) (Finset.sum_congr rfl fun k _ => congrArg f (Fin.ext (by simp)))
    (Finset.sum_congr rfl fun k _ => congrArg f (Fin.ext (by simp [Nat.add_assoc])))

/-- A sum over all columns is the sum over the pieces. -/
theorem sum_pieces (f : Fin 4352 → EReal) : ∑ x, f x = ∑ k : Fin 512, f (col 0 k) + (∑ k : Fin 128, f (col 512 k)
    + (∑ k : Fin 128, f (col 640 k) + (∑ k : Fin 512, f (col 768 k) + (∑ k : Fin 512, f (col 1280 k)
    + (∑ k : Fin 512, f (col 1792 k) + ∑ k : Fin 2048, f (col 2304 k)))))) := by
  refine (sum_whole f).trans ((sum_cut f 0 512 3840 (by decide)).trans (congrArg _ ?_))
  refine (sum_cut f 512 128 3712 (by decide)).trans (congrArg _ ?_)
  refine (sum_cut f 640 128 3584 (by decide)).trans (congrArg _ ?_)
  refine (sum_cut f 768 512 3072 (by decide)).trans (congrArg _ ?_)
  refine (sum_cut f 1280 512 2560 (by decide)).trans (congrArg _ ?_)
  exact sum_cut f 1792 512 2048 (by decide)

/-- A row of the pieces' joined columns times a column of the weight is the sum over the pieces. -/
theorem nn_joined (qa : Arr 4096 512) (ka va : Arr 4096 128) (qb kb vb : Arr 4096 512) (g : Arr 4096 2048) (w : Arr 4352 1024)
    (r : Fin 4096) (s : Fin 1024) : nn (joined qa ka va qb kb vb g) w r s =
      ∑ k : Fin 512, qa (ix2 r k) * w (ix2 (col 0 k) s) + (∑ k : Fin 128, ka (ix2 r k) * w (ix2 (col 512 k) s)
        + (∑ k : Fin 128, va (ix2 r k) * w (ix2 (col 640 k) s) + (∑ k : Fin 512, qb (ix2 r k) * w (ix2 (col 768 k) s)
        + (∑ k : Fin 512, kb (ix2 r k) * w (ix2 (col 1280 k) s) + (∑ k : Fin 512, vb (ix2 r k) * w (ix2 (col 1792 k) s)
        + ∑ k : Fin 2048, g (ix2 r k) * w (ix2 (col 2304 k) s)))))) := by
  refine (sum_pieces _).trans ?_
  refine congrArg₂ (· + ·) (Finset.sum_congr rfl fun k _ => congrArg (· * _) (joined_qa _ _ _ _ _ _ _ k (by simp))) ?_
  refine congrArg₂ (· + ·) (Finset.sum_congr rfl fun k _ => congrArg (· * _) (joined_ka _ _ _ _ _ _ _ k rfl)) ?_
  refine congrArg₂ (· + ·) (Finset.sum_congr rfl fun k _ => congrArg (· * _) (joined_va _ _ _ _ _ _ _ k rfl)) ?_
  refine congrArg₂ (· + ·) (Finset.sum_congr rfl fun k _ => congrArg (· * _) (joined_qb _ _ _ _ _ _ _ k rfl)) ?_
  refine congrArg₂ (· + ·) (Finset.sum_congr rfl fun k _ => congrArg (· * _) (joined_kb _ _ _ _ _ _ _ k rfl)) ?_
  exact congrArg₂ (· + ·) (Finset.sum_congr rfl fun k _ => congrArg (· * _) (joined_vb _ _ _ _ _ _ _ k rfl))
    (Finset.sum_congr rfl fun k _ => congrArg (· * _) (joined_g _ _ _ _ _ _ _ k rfl))

/-- DeepNorm's share of the incoming cotangent, the skip path's factor as its 32-bit word. -/
def passed (du : Arr 4096 1024) (r : Fin 4096) (s : Fin 1024) : EReal := Ideal.ofBits .f32 0x3F9837F0#32 * du (ix2 r s)

/-- The two parts of the input's gradient as one sum, taken from the left. -/
theorem grad_x_sum (qa : Arr 4096 512) (ka va : Arr 4096 128) (qb kb vb : Arr 4096 512) (g : Arr 4096 2048) (w : Arr 4352 1024)
    (du : Arr 4096 1024) (r : Fin 4096) (s : Fin 1024) : passed du r s + nn (joined qa ka va qb kb vb g) w r s =
      passed du r s + ∑ k : Fin 512, qa (ix2 r k) * w (ix2 (col 0 k) s) + ∑ k : Fin 128, ka (ix2 r k) * w (ix2 (col 512 k) s)
        + ∑ k : Fin 128, va (ix2 r k) * w (ix2 (col 640 k) s) + ∑ k : Fin 512, qb (ix2 r k) * w (ix2 (col 768 k) s)
        + ∑ k : Fin 512, kb (ix2 r k) * w (ix2 (col 1280 k) s) + ∑ k : Fin 512, vb (ix2 r k) * w (ix2 (col 1792 k) s)
        + ∑ k : Fin 2048, g (ix2 r k) * w (ix2 (col 2304 k) s) := by
  rw [nn_joined]
  simp only [add_assoc]

end Cert.Product

end
-- ==== Proof.FfnDownBlocks.lean ====
module

public import proofs.«01_k».proof.Defs
public import proofs.«01_k».proof.Proof.ProductSpec
public import proofs.«01_k».proof.Proof.Gen.Kernel2Ideal.Value
public import proofs.«01_k».proof.Proof.Gen.Kernel3Ideal.Value
public import Idealize.ShloMosaic.Lib.Pipeline.ValueKit

/-! What the two backward products of the feed-forward's second projection leave in their result arrays. -/

@[expose] public section

set_option maxRecDepth 16384

noncomputable section

open Idealize.ShloMosaic Idealize.ShloMosaic.TcCoe Idealize.SL.Sem
open Cert.GateGrad (Arr)
open Cert.Product

namespace Cert.FfnDownBwd

open Cert.Kernel2Ideal Cert.Kernel2Ideal.Gen
open Idealize.ShloMosaic.Pipeline (Dat)

variable (m : (ℓ : Loc nD τ sig) → Buf (Elt Ideal) ℓ)

/-- Which block each window holds: the tokens' block turns slowly, the weights' fast. -/
theorem idx : ∀ t : Fin grid0.N, win0_0.index t = ![t.val / 2, 0] ∧ win0_1.index t = ![t.val % 2, 0]
    ∧ win0_2.index t = ![t.val / 2, t.val % 2] := by decide +kernel

/-- The cotangent of the gated hidden units. -/
theorem final (c : Dev nD) : (dats (F := Ideal) m 0 c).arrAt 2 cfg0.N = fun i : S4096x2816.Idx =>
    nt (m ((c : Thread nD τ).loc main_arg0) : Arr 4096 1024) (m ((c : Thread nD τ).loc main_arg1) : Arr 2816 1024) (i 0) (i 1) := by
  refine (dats m 0 c).arrAt_eq_of_covers 2 _ (by decide +kernel) fun t hf y => ?_
  blk_simp
  rw [after0_2]
  frame_out
  pointwise [k0_pay1, nt]
  blk_point [iblk, V, idx t]
  all_goals blk_simp [idx t]

end Cert.FfnDownBwd

namespace Cert.DwDown

open Cert.Kernel3Ideal Cert.Kernel3Ideal.Gen
open Idealize.ShloMosaic.Pipeline (Dat)

variable (m : (ℓ : Loc nD τ sig) → Buf (Elt Ideal) ℓ)

/-- Which block each window holds: a block of hidden units a step, every token each step. -/
theorem idx : ∀ t : Fin grid0.N, win0_0.index t = ![0, t.val] ∧ win0_1.index t = ![0, 0] ∧ win0_2.index t = ![t.val, 0] := by
  decide +kernel

/-- The gradient of the second projection's weight. -/
theorem final (c : Dev nD) : (dats (F := Ideal) m 0 c).arrAt 2 cfg0.N = fun i : S2816x1024.Idx =>
    tn (m ((c : Thread nD τ).loc main_arg0) : Arr 4096 2816) (m ((c : Thread nD τ).loc main_arg1) : Arr 4096 1024) (i 0) (i 1) := by
  refine (dats m 0 c).arrAt_eq_of_covers 2 _ (by decide +kernel) fun t hf y => ?_
  blk_simp
  rw [after0_2]
  frame_out
  pointwise [k0_pay1, tn]
  blk_point [iblk, V, idx t]
  all_goals blk_simp [idx t]

end Cert.DwDown

end
-- ==== Proof.FfnDownClaims.lean ====
module

public import proofs.«01_k».proof.Proof.FfnDownBlocks
public import proofs.«01_k».proof.Proof.Gen.Kernel2.Frame
public import proofs.«01_k».proof.Proof.Gen.Kernel3.Frame
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import Idealize.ShloMosaic.Adequacy
public import Idealize.ShloMosaic.Init

/-! The claims about the two backward products of the feed-forward's second projection. -/

@[expose] public section

set_option maxRecDepth 16384

noncomputable section

open Idealize.ShloMosaic Idealize.ShloMosaic.TcCoe Idealize.SL.Sem
open Cert.GateGrad (Arr)
open Cert.Product

namespace Cert.FfnDownBwd

open Cert.Reference2Ideal.Read in
/-- The reference's cotangent of the hidden units. -/
theorem ref (x : Arr 4096 1024) (w : Arr 2816 1024) :
    val_main_v5 (F := Ideal) x w = fun i : Cert.Reference2Ideal.S4096x2816.Idx => nt x w (i 0) (i 1) := by
  funext i
  pointwise [val_main_v5, val_main_v4, val_main_v3, val_main_v1, nt]

/-- The reference terminates without a fault, its arguments unchanged; it declares no semaphore. -/
theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The idealized kernel and the reference end with the same array. -/
theorem algebraic : Cert.algebraic_Kernel2Ideal_Reference2Ideal (hKernel2Ideal := Cert.Kernel2Ideal.Gen.facts)
    (hReference2Ideal := Cert.Reference2Ideal.Gen.facts) := by
  intro m ρ m' ρ' _ ha
  refine ⟨_, Cert.Kernel2Ideal.Value.run_blocks (F := Ideal) m ρ, ?_⟩
  refine (θ_run Cert.Reference2Ideal.defs _ _).mono (fun r h c => ?_) (Cert.Reference2Ideal.Value.run (F := Ideal) m' ρ')
  obtain ⟨a0, a1⟩ := ha c
  refine ⟨(h c).1.trans ?_, (h c).2⟩
  rw [final, a0, a1]
  exact ref _ _

end Cert.FfnDownBwd

namespace Cert.DwDown

open Cert.Reference3Ideal.Read in
/-- The reference's gradient of the weight. -/
theorem ref (x : Arr 4096 2816) (g : Arr 4096 1024) :
    val_main_v6 (F := Ideal) x g = fun i : Cert.Reference3Ideal.S2816x1024.Idx => tn x g (i 0) (i 1) := by
  funext i
  pointwise [val_main_v6, val_main_v5, val_main_v4, val_main_v3, val_main_v1, val_main_v0, tn]
  idx_vars i
  simp [EReal.mul_comm]

/-- The reference terminates without a fault, its arguments unchanged; it declares no semaphore. -/
theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The idealized kernel and the reference end with the same array. -/
theorem algebraic : Cert.algebraic_Kernel3Ideal_Reference3Ideal (hKernel3Ideal := Cert.Kernel3Ideal.Gen.facts)
    (hReference3Ideal := Cert.Reference3Ideal.Gen.facts) := by
  intro m ρ m' ρ' _ ha
  refine ⟨_, Cert.Kernel3Ideal.Value.run_blocks (F := Ideal) m ρ, ?_⟩
  refine (θ_run Cert.Reference3Ideal.defs _ _).mono (fun r h c => ?_) (Cert.Reference3Ideal.Value.run (F := Ideal) m' ρ')
  obtain ⟨a0, a1⟩ := ha c
  refine ⟨(h c).1.trans ?_, (h c).2⟩
  rw [final, a0, a1]
  exact ref _ _

end Cert.DwDown

end
-- ==== Proof.FfnUpBlocks.lean ====
module

public import proofs.«01_k».proof.Defs
public import proofs.«01_k».proof.Proof.ProductSpec
public import proofs.«01_k».proof.Proof.Gen.Kernel4Ideal.Value
public import proofs.«01_k».proof.Proof.Gen.Kernel9Ideal.Value
public import Idealize.ShloMosaic.Lib.Pipeline.ValueKit

/-! What the feed-forward's first projection and the gradient of its weight leave in their result arrays. -/

@[expose] public section

set_option maxRecDepth 16384

noncomputable section

open Idealize.ShloMosaic Idealize.ShloMosaic.TcCoe Idealize.SL.Sem
open Cert.GateGrad (Arr)
open Cert.Product

namespace Cert.DwUp

open Cert.Kernel4Ideal Cert.Kernel4Ideal.Gen
open Idealize.ShloMosaic.Pipeline (Dat)

variable (m : (ℓ : Loc nD τ sig) → Buf (Elt Ideal) ℓ)

/-- Which block each window holds: half a plane's columns a step, every token each step. -/
theorem idx : ∀ t : Fin grid0.N, win0_0.index t = ![t.val / 2, 0, t.val % 2] ∧ win0_1.index t = ![0, 0] ∧ win0_2.index t = ![t.val, 0] := by
  decide +kernel

/-- The gradient of the first projection's weight. -/
theorem final (c : Dev nD) : (dats (F := Ideal) m 0 c).arrAt 2 cfg0.N = fun i : S5632x1024.Idx =>
    tn (beside (m ((c : Thread nD τ).loc main_arg0))) (m ((c : Thread nD τ).loc main_arg1) : Arr 4096 1024) (i 0) (i 1) := by
  refine (dats m 0 c).arrAt_eq_of_covers 2 _ (by decide +kernel) fun t hf y => ?_
  blk_simp
  rw [after0_2]
  frame_out
  pointwise [k0_pay1, tn, beside]
  blk_point [iblk, V, idx t]
  all_goals rename_i h _ _
  all_goals blk_simp [idx t] at h
  all_goals omega

end Cert.DwUp

namespace Cert.FfnUp

open Cert.Kernel9Ideal Cert.Kernel9Ideal.Gen
open Idealize.ShloMosaic.Pipeline (Dat)

variable (m : (ℓ : Loc nD τ sig) → Buf (Elt Ideal) ℓ)

/-- Which block each window holds: the tokens' block turns slowly, the weight's fast, two of its blocks to a plane. -/
theorem idx : ∀ t : Fin grid0.N, win0_0.index t = ![t.val / 4, 0] ∧ win0_1.index t = ![t.val % 4, 0]
    ∧ win0_2.index t = ![t.val % 4 / 2, t.val / 4, t.val % 2] := by decide +kernel

/-- The first projection, as two planes. -/
theorem final (c : Dev nD) : (dats (F := Ideal) m 0 c).arrAt 2 cfg0.N = fun i : S2x4096x2816.Idx =>
    nt (m ((c : Thread nD τ).loc main_arg0) : Arr 4096 1024) (m ((c : Thread nD τ).loc main_arg1) : Arr 5632 1024) (i 1) (column (i 0) (i 2)) := by
  refine (dats m 0 c).arrAt_eq_of_covers 2 _ (by decide +kernel) fun t hf y => ?_
  blk_simp
  rw [after0_2]
  frame_out
  pointwise [k0_pay1, nt, column]
  blk_point [iblk, V, idx t]
  all_goals blk_simp [idx t]

end Cert.FfnUp

end
-- ==== Proof.FfnUpClaims.lean ====
module

public import proofs.«01_k».proof.Proof.FfnUpBlocks
public import proofs.«01_k».proof.Proof.Gen.Kernel4.Frame
public import proofs.«01_k».proof.Proof.Gen.Reference4Ideal.Run
public import proofs.«01_k».proof.Proof.Gen.Reference4Ideal.Read
public import proofs.«01_k».proof.Proof.Gen.Kernel9.Frame
public import proofs.«01_k».proof.Proof.Gen.Reference9Ideal.Run
public import proofs.«01_k».proof.Proof.Gen.Reference9Ideal.Read
public import Idealize.ShloMosaic.Adequacy
public import Idealize.ShloMosaic.Init

/-! The claims about the feed-forward's first projection and the gradient of its weight. -/

@[expose] public section

set_option maxRecDepth 16384

noncomputable section

open Idealize.ShloMosaic Idealize.ShloMosaic.TcCoe Idealize.SL.Sem
open Cert.GateGrad (Arr)
open Cert.Product

namespace Cert.DwUp

open Cert.Reference4Ideal.Read in
/-- The reference's gradient of the weight. -/
theorem ref (p : Planes) (x : Arr 4096 1024) :
    val_main_v13 (F := Ideal) p x = fun i : Cert.Reference4Ideal.S5632x1024.Idx => tn (beside p) x (i 0) (i 1) := by
  funext i
  pointwise [val_main_v13, val_main_v12, val_main_v11, val_main_v10, val_main_v8, val_main_v6, val_main_v5, val_main_v4, val_main_v3, val_main_v2, val_main_v1, val_main_v0, tn, beside]

/-- The reference terminates without a fault, its arguments unchanged; it declares no semaphore. -/
theorem frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The idealized kernel and the reference end with the same array. -/
theorem algebraic : Cert.algebraic_Kernel4Ideal_Reference4Ideal (hKernel4Ideal := Cert.Kernel4Ideal.Gen.facts)
    (hReference4Ideal := Cert.Reference4Ideal.Gen.facts) := by
  intro m ρ m' ρ' _ ha
  refine ⟨_, Cert.Kernel4Ideal.Value.run_blocks (F := Ideal) m ρ, ?_⟩
  refine (θ_run Cert.Reference4Ideal.defs _ _).mono (fun r h c => ?_) (Cert.Reference4Ideal.Value.run (F := Ideal) m' ρ')
  obtain ⟨a0, a1⟩ := ha c
  refine ⟨(h c).1.trans ?_, (h c).2⟩
  rw [final, a0, a1]
  exact ref _ _

end Cert.DwUp

namespace Cert.FfnUp

open Cert.Reference9Ideal.Read in
/-- The reference's first projection, as two planes. -/
theorem ref (x : Arr 4096 1024) (w : Arr 5632 1024) :
    val_main_v9 (F := Ideal) x w = fun i : Cert.Reference9Ideal.S2x4096x2816.Idx => nt x w (i 1) (column (i 0) (i 2)) := by
  funext i
  pointwise [val_main_v9, val_main_v8, val_main_v7, val_main_v6, val_main_v5, val_main_v4, val_main_v3, val_main_v2, val_main_v1, val_main_v0, nt, column]
  fin_vals (i 0) with hk <;> simp [hk]

/-- The reference terminates without a fault, its arguments unchanged; it declares no semaphore. -/
theorem frame_reference : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- The idealized kernel and the reference end with the same array. -/
theorem algebraic : Cert.algebraic_Kernel9Ideal_Reference9Ideal (hKernel9Ideal := Cert.Kernel9Ideal.Gen.facts)
    (hReference9Ideal := Cert.Reference9Ideal.Gen.facts) := by
  intro m ρ m' ρ' _ ha
  refine ⟨_, Cert.Kernel9Ideal.Value.run_blocks (F := Ideal) m ρ, ?_⟩
  refine (θ_run Cert.Reference9Ideal.defs _ _).mono (fun r h c => ?_) (Cert.Reference9Ideal.Value.run (F := Ideal) m' ρ')
  obtain ⟨a0, a1⟩ := ha c
  refine ⟨(h c).1.trans ?_, (h c).2⟩
  rw [final, a0, a1]
  exact ref _ _

end Cert.FfnUp

end
-- ==== Proof.BranchBlocks.lean ====
module

public import proofs.«01_k».proof.Defs
public import proofs.«01_k».proof.Proof.ProductSpec
public import proofs.«01_k».proof.Proof.Gen.Kernel5Ideal.Value
public import proofs.«01_k».proof.Proof.Gen.Kernel6Ideal.Value
public import Idealize.ShloMosaic.Lib.Pipeline.ValueKit

/-! What the gradients of a branch's projection and of the output projection leave in their result arrays. -/

@[expose] public section

set_option maxRecDepth 16384

noncomputable section

open Idealize.ShloMosaic Idealize.ShloMosaic.TcCoe Idealize.SL.Sem
open Cert.GateGrad (Arr)
open Cert.Product

namespace Cert.DwBranch

open Cert.Kernel5Ideal Cert.Kernel5Ideal.Gen
open Idealize.ShloMosaic.Pipeline (Dat)

variable (m : (ℓ : Loc nD τ sig) → Buf (Elt Ideal) ℓ)

/-- Which block each window holds: the branch's columns all at once, half the cotangent's a step. -/
theorem idx : ∀ t : Fin grid0.N, win0_0.index t = ![0, 0] ∧ win0_1.index t = ![0, t.val] ∧ win0_2.index t = ![0, t.val] := by
  decide +kernel

/-- The gradient of a branch's projection. -/
theorem final (c : Dev nD) : (dats (F := Ideal) m 0 c).arrAt 2 cfg0.N = fun i : S512x1024.Idx =>
    tn (m ((c : Thread nD τ).loc main_arg0) : Arr 4096 512) (m ((c : Thread nD τ).loc main_arg1) : Arr 4096 1024) (i 0) (i 1) := by
  refine (dats m 0 c).arrAt_eq_of_covers 2 _ (by decide +kernel) fun t hf y => ?_
  blk_simp
  rw [after0_2]
  frame_out
  pointwise [k0_pay1, tn]
  blk_point [iblk, V, idx t]
  all_goals blk_simp [idx t]

end Cert.DwBranch

namespace Cert.DwOut

open Cert.Kernel6Ideal Cert.Kernel6Ideal.Gen
open Idealize.ShloMosaic.Pipeline (Dat)

variable (m : (ℓ : Loc nD τ sig) → Buf (Elt Ideal) ℓ)

/-- Which block each window holds: the gated sum's half turns slowly, the cotangent's fast. -/
theorem idx : ∀ t : Fin grid0.N, win0_0.index t = ![0, t.val / 2] ∧ win0_1.index t = ![0, t.val % 2]
    ∧ win0_2.index t = ![t.val / 2, t.val % 2] := by decide +kernel

/-- The gradient of the output projection. -/
theorem final (c : Dev nD) : (dats (F := Ideal) m 0 c).arrAt 2 cfg0.N = fun i : S1024x1024.Idx =>
    tn (m ((c : Thread nD τ).loc main_arg0) : Arr 4096 1024) (m ((c : Thread nD τ).loc main_arg1) : Arr 4096 1024) (i 0) (i 1) := by
  refine (dats m 0 c).arrAt_eq_of_covers 2 _ (by decide +kernel) fun t hf y => ?_
  blk_simp
  rw [after0_2]
  frame_out
  pointwise [k0_pay1, tn]
  blk_point [iblk, V, idx t]
  all_goals blk_simp [idx t]

end Cert.DwOut

end
-- ==== Proof.BranchClaims.lean ====
module

public import proofs.«01_k».proof.Proof.BranchBlocks
public import proofs.«01_k».proof.Proof.Gen.Kernel5.Frame
public import proofs.«01_k».proof.Proof.Gen.Reference5Ideal.Run
public import proofs.«01_k».proof.Proof.Gen.Reference5Ideal.Read
public import proofs.«01_k».proof.Proof.Gen.Kernel6.Frame
public import proofs.«01_k».proof.Proof.Gen.Reference6Ideal.Run
public import proofs.«01_k».proof.Proof.Gen.Reference6Ideal.Read
public import Idealize.ShloMosaic.Adequacy
public import Idealize.ShloMosaic.Init

/-! The claims about the gradients of a branch's projection and of the output projection. -/

@[expose] public section

set_option maxRecDepth 16384

noncomputable section

open Idealize.ShloMosaic Idealize.ShloMosaic.TcCoe Idealize.SL.Sem
open Cert.GateGrad (Arr)
open Cert.Product

namespace Cert.DwBranch

open Cert.Reference5Ideal.Read in
/-- The reference's gradient of a branch's projection. -/
theorem ref (x : Arr 4096 512) (g : Arr 4096 1024) :
    val_main_v6 (F := Ideal) x g = fun i : Cert.Reference5Ideal.S512x1024.Idx => tn x g (i 0) (i 1) := by
  funext i
  pointwise [val_main_v6, val_main_v5, val_main_v4, val_main_v3, val_main_v1, val_main_v0, tn]
  idx_vars i
  simp [EReal.mul_comm]

/-- The reference terminates without a fault, its arguments unchanged; it declares no semaphore. -/
theorem frame_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The idealized kernel and the reference end with the same array. -/
theorem algebraic : Cert.algebraic_Kernel5Ideal_Reference5Ideal (hKernel5Ideal := Cert.Kernel5Ideal.Gen.facts)
    (hReference5Ideal := Cert.Reference5Ideal.Gen.facts) := by
  intro m ρ m' ρ' _ ha
  refine ⟨_, Cert.Kernel5Ideal.Value.run_blocks (F := Ideal) m ρ, ?_⟩
  refine (θ_run Cert.Reference5Ideal.defs _ _).mono (fun r h c => ?_) (Cert.Reference5Ideal.Value.run (F := Ideal) m' ρ')
  obtain ⟨a0, a1⟩ := ha c
  refine ⟨(h c).1.trans ?_, (h c).2⟩
  rw [final, a0, a1]
  exact ref _ _

end Cert.DwBranch

namespace Cert.DwOut

open Cert.Reference6Ideal.Read in
/-- The reference's gradient of the output projection. -/
theorem ref (x : Arr 4096 1024) (g : Arr 4096 1024) :
    val_main_v6 (F := Ideal) x g = fun i : Cert.Reference6Ideal.S1024x1024.Idx => tn x g (i 0) (i 1) := by
  funext i
  pointwise [val_main_v6, val_main_v5, val_main_v4, val_main_v3, val_main_v1, val_main_v0, tn]
  idx_vars i
  simp [EReal.mul_comm]

/-- The reference terminates without a fault, its arguments unchanged; it declares no semaphore. -/
theorem frame_reference : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The idealized kernel and the reference end with the same array. -/
theorem algebraic : Cert.algebraic_Kernel6Ideal_Reference6Ideal (hKernel6Ideal := Cert.Kernel6Ideal.Gen.facts)
    (hReference6Ideal := Cert.Reference6Ideal.Gen.facts) := by
  intro m ρ m' ρ' _ ha
  refine ⟨_, Cert.Kernel6Ideal.Value.run_blocks (F := Ideal) m ρ, ?_⟩
  refine (θ_run Cert.Reference6Ideal.defs _ _).mono (fun r h c => ?_) (Cert.Reference6Ideal.Value.run (F := Ideal) m' ρ')
  obtain ⟨a0, a1⟩ := ha c
  refine ⟨(h c).1.trans ?_, (h c).2⟩
  rw [final, a0, a1]
  exact ref _ _

end Cert.DwOut

end
-- ==== Proof.DwInBlocks.lean ====
module

public import proofs.«01_k».proof.Defs
public import proofs.«01_k».proof.Proof.ProductSpec
public import proofs.«01_k».proof.Proof.Gen.Kernel7Ideal.Value
public import Idealize.ShloMosaic.Lib.Pipeline.ValueKit

/-! What the gradient of the input projection's weight leaves in its result array. -/

@[expose] public section

set_option maxRecDepth 16384

noncomputable section

open Idealize.ShloMosaic Idealize.ShloMosaic.TcCoe Idealize.SL.Sem
open Cert.GateGrad (Arr)
open Cert.Product

namespace Cert.DwIn

open Cert.Kernel7Ideal Cert.Kernel7Ideal.Gen
open Idealize.ShloMosaic.Pipeline (Dat)

variable (m : (ℓ : Loc nD τ sig) → Buf (Elt Ideal) ℓ)

/-- Which block each window holds: the pieces' columns in turn, each window staying at its first block before its turn
    and at its last block after it. -/
theorem idx : ∀ t : Fin grid0.N, win0_0.index t = ![0, 0] ∧ win0_1.index t = ![0, min t.val 1] ∧ win0_2.index t = ![0, 0]
    ∧ win0_3.index t = ![0, 0] ∧ win0_4.index t = ![0, min (t.val - 3) 1] ∧ win0_5.index t = ![0, min (t.val - 5) 1]
    ∧ win0_6.index t = ![0, min (t.val - 7) 1] ∧ win0_7.index t = ![0, t.val - 9] ∧ win0_8.index t = ![t.val, 0] := by decide +kernel

/-- The cotangents of the seven pieces, side by side. -/
abbrev Ct (c : Dev nD) : Arr 4096 4352 :=
  joined (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))

/-- The gradient of the input projection's weight. -/
theorem final (c : Dev nD) : (dats (F := Ideal) m 0 c).arrAt 8 cfg0.N = fun i : S4352x1024.Idx =>
    tn (Ct m c) (m ((c : Thread nD τ).loc main_arg0) : Arr 4096 1024) (i 0) (i 1) := by
  refine (dats m 0 c).arrAt_eq_of_covers 8 _ (by decide +kernel) fun t hf y => ?_
  blk_simp
  rw [after0_8]
  have hr : (((View.whole main_v0).slice (win0_8.rect t)).emb y 0).val = t.val * 256 + (y 0).val := by blk_simp [idx t]
  have hy : (y 0).val < 256 := (y 0).2
  have ht : t.val < 17 := t.2
  by_cases h0 : t.val < 2
  · rw [outsAt0_A m c t h0 (by omega) (by omega) (by omega) (by omega) (by omega)]
    frame_out
    pointwise [k0_pay1, tn]
    show @Eq EReal _ _
    refine Finset.sum_congr rfl fun x _ => congrArg₂ (· * ·) (Eq.trans ?_ (joined_qa _ _ _ _ _ _ _ ⟨t.val * 256 + (y 0).val, by omega⟩ hr).symm) ?_
    all_goals blk_point [iblk, V, idx t]
    all_goals blk_simp [idx t] <;> omega
  by_cases h1 : t.val % 17 = 2
  · rw [outsAt0_B m c t h0 h1 (by omega) (by omega) (by omega) (by omega)]
    frame_out
    canon_tiles x h
    · pointwise [k0_pay3, tn]
      show @Eq EReal _ _
      refine Finset.sum_congr rfl fun q _ => congrArg₂ (· * ·) (Eq.trans ?_ (joined_va _ _ _ _ _ _ _ (x 0) (hr.trans (by omega))).symm) ?_
      all_goals blk_point [iblk, V, idx t]
      all_goals blk_simp [idx t] <;> omega
    · pointwise [k0_pay2, tn]
      show @Eq EReal _ _
      refine Finset.sum_congr rfl fun q _ => congrArg₂ (· * ·) (Eq.trans ?_ (joined_ka _ _ _ _ _ _ _ (x 0) (hr.trans (by omega))).symm) ?_
      all_goals blk_point [iblk, V, idx t]
      all_goals blk_simp [idx t] <;> omega
  by_cases h2 : 3 ≤ t.val % 17 ∧ t.val % 17 ≤ 4
  · rw [outsAt0_C m c t h0 h1 h2 (by omega) (by omega) (by omega)]
    frame_out
    pointwise [k0_pay4, tn]
    show @Eq EReal _ _
    refine Finset.sum_congr rfl fun x _ => congrArg₂ (· * ·) (Eq.trans ?_ (joined_qb _ _ _ _ _ _ _ ⟨(t.val - 3) * 256 + (y 0).val, by omega⟩ (hr.trans (by dsimp; omega))).symm) ?_
    all_goals blk_point [iblk, V, idx t]
    all_goals blk_simp [idx t] <;> omega
  by_cases h3 : 5 ≤ t.val % 17 ∧ t.val % 17 ≤ 6
  · rw [outsAt0_D m c t h0 h1 h2 h3 (by omega) (by omega)]
    frame_out
    pointwise [k0_pay5, tn]
    show @Eq EReal _ _
    refine Finset.sum_congr rfl fun x _ => congrArg₂ (· * ·) (Eq.trans ?_ (joined_kb _ _ _ _ _ _ _ ⟨(t.val - 5) * 256 + (y 0).val, by omega⟩ (hr.trans (by dsimp; omega))).symm) ?_
    all_goals blk_point [iblk, V, idx t]
    all_goals blk_simp [idx t] <;> omega
  by_cases h4 : 7 ≤ t.val % 17 ∧ t.val % 17 ≤ 8
  · rw [outsAt0_E m c t h0 h1 h2 h3 h4 (by omega)]
    frame_out
    pointwise [k0_pay6, tn]
    show @Eq EReal _ _
    refine Finset.sum_congr rfl fun x _ => congrArg₂ (· * ·) (Eq.trans ?_ (joined_vb _ _ _ _ _ _ _ ⟨(t.val - 7) * 256 + (y 0).val, by omega⟩ (hr.trans (by dsimp; omega))).symm) ?_
    all_goals blk_point [iblk, V, idx t]
    all_goals blk_simp [idx t] <;> omega
  · rw [outsAt0_F m c t h0 h1 h2 h3 h4 (by omega)]
    frame_out
    pointwise [k0_pay7, tn]
    show @Eq EReal _ _
    refine Finset.sum_congr rfl fun x _ => congrArg₂ (· * ·) (Eq.trans ?_ (joined_g _ _ _ _ _ _ _ ⟨(t.val - 9) * 256 + (y 0).val, by omega⟩ (hr.trans (by dsimp; omega))).symm) ?_
    all_goals blk_point [iblk, V, idx t]
    all_goals blk_simp [idx t] <;> omega

end Cert.DwIn

end
-- ==== Proof.GradXBlocks.lean ====
module

public import proofs.«01_k».proof.Defs
public import proofs.«01_k».proof.Proof.ProductSpec
public import proofs.«01_k».proof.Proof.Gen.Kernel8Ideal.Value
public import Idealize.ShloMosaic.Lib.Pipeline.ValueKit

/-! What the gradient of the layer's input leaves in its result array. -/

@[expose] public section

set_option maxRecDepth 16384

noncomputable section

open Idealize.ShloMosaic Idealize.ShloMosaic.TcCoe Idealize.SL.Sem
open Cert.GateGrad (Arr)
open Cert.Product

namespace Cert.GradX

open Cert.Kernel8Ideal Cert.Kernel8Ideal.Gen
open Idealize.ShloMosaic.Pipeline (Dat)

variable (m : (ℓ : Loc nD τ sig) → Buf (Elt Ideal) ℓ)

/-- Which block each window holds: a block of tokens a step, the whole weight each step. -/
theorem idx : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![t.val, 0] ∧ win0_9.index t = ![t.val, 0] := by decide +kernel

/-- The cotangents of the seven pieces, side by side. -/
abbrev Ct (c : Dev nD) : Arr 4096 4352 :=
  joined (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The gradient of the layer's input. -/
theorem final (c : Dev nD) : (dats (F := Ideal) m 0 c).arrAt 9 cfg0.N = fun i : S4096x1024.Idx =>
    passed (m ((c : Thread nD τ).loc main_arg8) : Arr 4096 1024) (i 0) (i 1)
      + nn (Ct m c) (m ((c : Thread nD τ).loc main_arg7) : Arr 4352 1024) (i 0) (i 1) := by
  refine (dats m 0 c).arrAt_eq_of_covers 9 _ (by decide +kernel) fun t hf y => ?_
  blk_simp
  rw [after0_9]
  frame_out
  refine Eq.trans ?_ (grad_x_sum _ _ _ _ _ _ _ _ _ _ _).symm
  pointwise [k0_pay1, k0_pay2, k0_pay3, col, passed]
  blk_point [iblk, V, idx t]
  all_goals blk_simp [idx t]

end Cert.GradX

end
-- ==== Proof.InProjBlocks.lean ====
module

public import proofs.«01_k».proof.Defs
public import proofs.«01_k».proof.Proof.ProductSpec
public import proofs.«01_k».proof.Proof.Gen.Kernel10Ideal.Value
public import Idealize.ShloMosaic.Lib.Pipeline.ValueKit

/-! What the input projection leaves in its eight result arrays. -/

@[expose] public section

set_option maxRecDepth 16384

noncomputable section

open Idealize.ShloMosaic Idealize.ShloMosaic.TcCoe Idealize.SL.Sem
open Cert.GateGrad (Arr)
open Cert.Product

namespace Cert.InProj

open Cert.Kernel10Ideal Cert.Kernel10Ideal.Gen
open Idealize.ShloMosaic.Pipeline (Dat)

variable (m : (ℓ : Loc nD τ sig) → Buf (Elt Ideal) ℓ)

/-- Which block each window holds: a block of tokens a step, the whole weight each step. -/
theorem idx : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] := by decide +kernel

section Arguments
variable (c : Dev nD)
/-- The tokens. -/
abbrev X : Arr 4096 1024 := m ((c : Thread nD τ).loc main_arg0)
/-- The weight, one row per column of the result. -/
abbrev W : Arr 4352 1024 := m ((c : Thread nD τ).loc main_arg1)
end Arguments

/-- The tokens again. -/
theorem final2 (c : Dev nD) : (dats (F := Ideal) m 0 c).arrAt 2 cfg0.N = fun i : S4096x1024.Idx => X m c i := by
  refine (dats m 0 c).arrAt_eq_of_covers 2 _ (by decide +kernel) fun t hf y => ?_
  blk_simp
  rw [after0_2]
  frame_out
  pointwise [k0_pay3]
  blk_point [iblk, V, idx t]
  all_goals blk_simp [idx t]

/-- The first attention's queries. -/
theorem final3 (c : Dev nD) : (dats (F := Ideal) m 0 c).arrAt 3 cfg0.N = fun i : S4096x512.Idx =>
    nt (X m c) (W m c) (i 0) (col 0 (i 1)) := by
  refine (dats m 0 c).arrAt_eq_of_covers 3 _ (by decide +kernel) fun t hf y => ?_
  blk_simp
  rw [after0_3]
  frame_out
  pointwise [k0_pay4, k0_pay3, nt, col]
  blk_point [iblk, V, idx t]
  all_goals blk_simp [idx t]

/-- The first attention's keys. -/
theorem final4 (c : Dev nD) : (dats (F := Ideal) m 0 c).arrAt 4 cfg0.N = fun i : S4096x128.Idx =>
    nt (X m c) (W m c) (i 0) (col 512 (i 1)) := by
  refine (dats m 0 c).arrAt_eq_of_covers 4 _ (by decide +kernel) fun t hf y => ?_
  blk_simp
  rw [after0_4]
  frame_out
  pointwise [k0_pay5, k0_pay3, nt, col]
  blk_point [iblk, V, idx t]
  all_goals blk_simp [idx t]

/-- The first attention's values. -/
theorem final5 (c : Dev nD) : (dats (F := Ideal) m 0 c).arrAt 5 cfg0.N = fun i : S4096x128.Idx =>
    nt (X m c) (W m c) (i 0) (col 640 (i 1)) := by
  refine (dats m 0 c).arrAt_eq_of_covers 5 _ (by decide +kernel) fun t hf y => ?_
  blk_simp
  rw [after0_5]
  frame_out
  pointwise [k0_pay6, k0_pay3, nt, col]
  blk_point [iblk, V, idx t]
  all_goals blk_simp [idx t]

/-- The second attention's queries. -/
theorem final6 (c : Dev nD) : (dats (F := Ideal) m 0 c).arrAt 6 cfg0.N = fun i : S4096x512.Idx =>
    nt (X m c) (W m c) (i 0) (col 768 (i 1)) := by
  refine (dats m 0 c).arrAt_eq_of_covers 6 _ (by decide +kernel) fun t hf y => ?_
  blk_simp
  rw [after0_6]
  frame_out
  pointwise [k0_pay7, k0_pay3, nt, col]
  blk_point [iblk, V, idx t]
  all_goals blk_simp [idx t]

/-- The second attention's keys. -/
theorem final7 (c : Dev nD) : (dats (F := Ideal) m 0 c).arrAt 7 cfg0.N = fun i : S4096x512.Idx =>
    nt (X m c) (W m c) (i 0) (col 1280 (i 1)) := by
  refine (dats m 0 c).arrAt_eq_of_covers 7 _ (by decide +kernel) fun t hf y => ?_
  blk_simp
  rw [after0_7]
  frame_out
  pointwise [k0_pay8, k0_pay3, nt, col]
  blk_point [iblk, V, idx t]
  all_goals blk_simp [idx t]

/-- The second attention's values. -/
theorem final8 (c : Dev nD) : (dats (F := Ideal) m 0 c).arrAt 8 cfg0.N = fun i : S4096x512.Idx =>
    nt (X m c) (W m c) (i 0) (col 1792 (i 1)) := by
  refine (dats m 0 c).arrAt_eq_of_covers 8 _ (by decide +kernel) fun t hf y => ?_
  blk_simp
  rw [after0_8]
  frame_out
  pointwise [k0_pay1, k0_pay9, k0_pay3, nt, col]
  blk_point [iblk, V, idx t]
  all_goals blk_simp [idx t]

/-- The gates' arguments. -/
theorem final9 (c : Dev nD) : (dats (F := Ideal) m 0 c).arrAt 9 cfg0.N = fun i : S4096x2048.Idx =>
    nt (X m c) (W m c) (i 0) (col 2304 (i 1)) := by
  refine (dats m 0 c).arrAt_eq_of_covers 9 _ (by decide +kernel) fun t hf y => ?_
  blk_simp
  rw [after0_9]
  frame_out
  pointwise [k0_pay2, k0_pay9, k0_pay3, nt, col]
  blk_point [iblk, V, idx t]
  all_goals blk_simp [idx t]

end Cert.InProj

end
-- ==== Proof.InputClaims.lean ====
module

public import proofs.«01_k».proof.Proof.DwInBlocks
public import proofs.«01_k».proof.Proof.GradXBlocks
public import proofs.«01_k».proof.Proof.InProjBlocks
public import proofs.«01_k».proof.Proof.Gen.Kernel7.Frame
public import proofs.«01_k».proof.Proof.Gen.Reference7Ideal.Run
public import proofs.«01_k».proof.Proof.Gen.Reference7Ideal.Read
public import proofs.«01_k».proof.Proof.Gen.Kernel8.Frame
public import proofs.«01_k».proof.Proof.Gen.Reference8Ideal.Run
public import proofs.«01_k».proof.Proof.Gen.Reference8Ideal.Read
public import proofs.«01_k».proof.Proof.Gen.Kernel10.Frame
public import proofs.«01_k».proof.Proof.Gen.Reference10Ideal.Run
public import proofs.«01_k».proof.Proof.Gen.Reference10Ideal.Read
public import Idealize.ShloMosaic.Adequacy
public import Idealize.ShloMosaic.Init

/-! The claims about the input projection, the gradient of its weight and that of the layer's input. -/

@[expose] public section

set_option maxRecDepth 16384

noncomputable section

open Idealize.ShloMosaic Idealize.ShloMosaic.TcCoe Idealize.SL.Sem
open Cert.GateGrad (Arr)
open Cert.Product

namespace Cert.DwIn

open Cert.Reference7Ideal.Read in
/-- The reference's gradient of the weight. -/
theorem ref (x : Arr 4096 1024) (qa : Arr 4096 512) (ka va : Arr 4096 128) (qb kb vb : Arr 4096 512) (g : Arr 4096 2048) :
    val_main_v21 (F := Ideal) x qa ka va qb kb vb g =
      fun i : Cert.Reference7Ideal.S4352x1024.Idx => tn (joined qa ka va qb kb vb g) x (i 0) (i 1) := by
  funext i
  pointwise [val_main_v21, val_main_v20, val_main_v19, val_main_v18, val_main_v17, val_main_v8, val_main_v6, val_main_v5, val_main_v4, val_main_v3, val_main_v2, val_main_v1, val_main_v0, tn, joined]

/-- The reference terminates without a fault, its arguments unchanged; it declares no semaphore. -/
theorem frame_reference : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- The idealized kernel and the reference end with the same array. -/
theorem algebraic : Cert.algebraic_Kernel7Ideal_Reference7Ideal (hKernel7Ideal := Cert.Kernel7Ideal.Gen.facts)
    (hReference7Ideal := Cert.Reference7Ideal.Gen.facts) := by
  intro m ρ m' ρ' _ ha
  refine ⟨_, Cert.Kernel7Ideal.Value.run_blocks (F := Ideal) m ρ, ?_⟩
  refine (θ_run Cert.Reference7Ideal.defs _ _).mono (fun r h c => ?_) (Cert.Reference7Ideal.Value.run (F := Ideal) m' ρ')
  obtain ⟨a0, a1, a2, a3, a4, a5, a6, a7⟩ := ha c
  refine ⟨(h c).1.trans ?_, (h c).2⟩
  rw [final, a0, a1, a2, a3, a4, a5, a6, a7]
  exact ref _ _ _ _ _ _ _ _

end Cert.DwIn

namespace Cert.GradX

open Cert.Reference8Ideal.Read in
/-- The reference's gradient of the layer's input. -/
theorem ref (qa : Arr 4096 512) (ka va : Arr 4096 128) (qb kb vb : Arr 4096 512) (g : Arr 4096 2048) (w : Arr 4352 1024) (du : Arr 4096 1024) :
    val_main_v24 (F := Ideal) qa ka va qb kb vb g w du =
      fun i : Cert.Reference8Ideal.S4096x1024.Idx => passed du (i 0) (i 1) + nn (joined qa ka va qb kb vb g) w (i 0) (i 1) := by
  funext i
  pointwise [val_main_v24, val_main_v23, val_main_v22, val_main_v21, val_main_v20, val_main_cst_1, val_main_v9, val_main_v8, val_main_v6, val_main_v5, val_main_v4, val_main_v3, val_main_v2, val_main_v1, val_main_v0, passed, nn, joined]

/-- The reference terminates without a fault, its arguments unchanged; it declares no semaphore. -/
theorem frame_reference : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- The idealized kernel and the reference end with the same array. -/
theorem algebraic : Cert.algebraic_Kernel8Ideal_Reference8Ideal (hKernel8Ideal := Cert.Kernel8Ideal.Gen.facts)
    (hReference8Ideal := Cert.Reference8Ideal.Gen.facts) := by
  intro m ρ m' ρ' _ ha
  refine ⟨_, Cert.Kernel8Ideal.Value.run_blocks (F := Ideal) m ρ, ?_⟩
  refine (θ_run Cert.Reference8Ideal.defs _ _).mono (fun r h c => ?_) (Cert.Reference8Ideal.Value.run (F := Ideal) m' ρ')
  obtain ⟨a0, a1, a2, a3, a4, a5, a6, a7, a8⟩ := ha c
  refine ⟨(h c).1.trans ?_, (h c).2⟩
  rw [final, a0, a1, a2, a3, a4, a5, a6, a7, a8]
  exact ref _ _ _ _ _ _ _ _ _

end Cert.GradX

namespace Cert.InProj

section Reference
open Cert.Reference10Ideal.Read
variable (x : Arr 4096 1024) (w : Arr 4352 1024)

/-- The reference's first attention's queries. -/
theorem ref3 : val_main_v3 (F := Ideal) x w = fun i : Cert.Reference10Ideal.S4096x512.Idx => nt x w (i 0) (col 0 (i 1)) := by
  funext i
  pointwise [val_main_v3, val_main_v2, val_main_v1, val_main_v0, nt, col]

/-- The reference's first attention's keys. -/
theorem ref4 : val_main_v4 (F := Ideal) x w = fun i : Cert.Reference10Ideal.S4096x128.Idx => nt x w (i 0) (col 512 (i 1)) := by
  funext i
  pointwise [val_main_v4, val_main_v2, val_main_v1, val_main_v0, nt, col]

/-- The reference's first attention's values. -/
theorem ref5 : val_main_v11 (F := Ideal) x w = fun i : Cert.Reference10Ideal.S4096x128.Idx => nt x w (i 0) (col 640 (i 1)) := by
  funext i
  pointwise [val_main_v11, val_main_v5, val_main_v2, val_main_v1, val_main_v0, nt, col]

/-- The reference's second attention's queries. -/
theorem ref6 : val_main_v12 (F := Ideal) x w = fun i : Cert.Reference10Ideal.S4096x512.Idx => nt x w (i 0) (col 768 (i 1)) := by
  funext i
  pointwise [val_main_v12, val_main_v6, val_main_v2, val_main_v1, val_main_v0, nt, col]

/-- The reference's second attention's keys. -/
theorem ref7 : val_main_v13 (F := Ideal) x w = fun i : Cert.Reference10Ideal.S4096x512.Idx => nt x w (i 0) (col 1280 (i 1)) := by
  funext i
  pointwise [val_main_v13, val_main_v7, val_main_v2, val_main_v1, val_main_v0, nt, col]

/-- The reference's second attention's values. -/
theorem ref8 : val_main_v14 (F := Ideal) x w = fun i : Cert.Reference10Ideal.S4096x512.Idx => nt x w (i 0) (col 1792 (i 1)) := by
  funext i
  pointwise [val_main_v14, val_main_v8, val_main_v2, val_main_v1, val_main_v0, nt, col]

/-- The reference's gates' arguments. -/
theorem ref9 : val_main_v9 (F := Ideal) x w = fun i : Cert.Reference10Ideal.S4096x2048.Idx => nt x w (i 0) (col 2304 (i 1)) := by
  funext i
  pointwise [val_main_v9, val_main_v2, val_main_v1, val_main_v0, nt, col]

end Reference

/-- The reference terminates without a fault, its arguments unchanged; it declares no semaphore. -/
theorem frame_reference : Cert.quiescent_Reference10Ideal (hReference10Ideal := Cert.Reference10Ideal.Gen.facts) := fun m ρ _ =>
  (θ_run Cert.Reference10Ideal.defs _ _).mono (fun r h => ⟨fun c => (h c).2.2.2.2.2.2.2.2, sem_eq_zero_of_no_sems (by decide) r.2⟩)
    (Cert.Reference10Ideal.Value.run (F := Ideal) m ρ)

/-- The idealized kernel and the reference end with the same eight arrays. -/
theorem algebraic : Cert.algebraic_Kernel10Ideal_Reference10Ideal (hKernel10Ideal := Cert.Kernel10Ideal.Gen.facts)
    (hReference10Ideal := Cert.Reference10Ideal.Gen.facts) := by
  intro m ρ m' ρ' _ ha
  refine ⟨_, _, _, _, _, _, _, _, Cert.Kernel10Ideal.Value.run_blocks (F := Ideal) m ρ, ?_⟩
  refine (θ_run Cert.Reference10Ideal.defs _ _).mono (fun r h c => ?_) (Cert.Reference10Ideal.Value.run (F := Ideal) m' ρ')
  obtain ⟨a0, a1⟩ := ha c
  obtain ⟨h0, h1, h2, h3, h4, h5, h6, h7, hr⟩ := h c
  refine ⟨h0.trans ?_, h1.trans ?_, h2.trans ?_, h3.trans ?_, h4.trans ?_, h5.trans ?_, h6.trans ?_, h7.trans ?_, hr⟩
  · rw [final2, a0]
    rfl
  · rw [final3, a0, a1]
    exact ref3 _ _
  · rw [final4, a0, a1]
    exact ref4 _ _
  · rw [final5, a0, a1]
    exact ref5 _ _
  · rw [final6, a0, a1]
    exact ref6 _ _
  · rw [final7, a0, a1]
    exact ref7 _ _
  · rw [final8, a0, a1]
    exact ref8 _ _
  · rw [final9, a0, a1]
    exact ref9 _ _

end Cert.InProj

end
-- ==== Proof.StickTables.lean ====
/- The two tables of the grid: point by point the row block and the column block it works on. -/
module

public import proofs.«01_k».proof.Proof.Gen.Kernel11Ideal
public import proofs.«01_k».proof.Proof.Gen.Kernel11Ideal.Skeleton
public import proofs.«01_k».proof.Proof.Gen.Kernel11Ideal.Launch
public import Idealize.ShloMosaic.Adequacy
public import Idealize.ShloMosaic.Init
public import Idealize.ShloMosaic.Lib.Affine
public import Idealize.ShloMosaic.Lib.Exec
public import Idealize.ShloMosaic.Lib.Pipeline.FrameBody
public import Idealize.ShloMosaic.Lib.Pipeline.Kit
public import Idealize.ShloMosaic.Lib.Pipeline.TableIdle
public import Idealize.ShloMosaic.Lib.Ring
public import Idealize.ShloMosaic.Lib.Tactic
public import Idealize.ShloMosaic.Lib.Writes
public import Idealize.ShloMosaic.PureOps.Ideal

@[expose] public section

set_option maxRecDepth 16384
set_option Elab.async false

noncomputable section

namespace Cert.Stick

open Cert.Kernel11Ideal Cert.Kernel11Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The tables and scratches the kernel is handed, whole, at their literal types. -/
abbrev tbM0_0 : Memref sig .tc .smem S136 .i32 := Memref.whole main_c
abbrev tbM0_1 : Memref sig .tc .smem S136 .i32 := Memref.whole main_c_0
abbrev scM0_0 : Memref sig .tc .vmem S256x512 .f32 := Memref.whole cc0_scratch0
abbrev scM0_1 : Memref sig .tc .vmem S8x256x1 .f32 := Memref.whole cc0_scratch1
abbrev scM0_2 : Memref sig .tc .vmem S16x512x256 .f32 := Memref.whole cc0_scratch2
abbrev scM0_3 : Memref sig .tc .vmem S16x512x256 .f32 := Memref.whole cc0_scratch3
abbrev scM0_4 : Memref sig .tc .vmem S256x256 .bf16 := Memref.whole cc0_scratch4
abbrev scM0_5 : Memref sig .tc .vmem S4x128x512 .bf16 := Memref.whole cc0_scratch5
abbrev scM0_6 : Memref sig .tc .vmem S4x128x512 .bf16 := Memref.whole cc0_scratch6

/-! ## The pinned words: the tables and the steering windows' arrays, closed forms of the schedule index `ch` -/

/- The proof is stated for one pair of tables, numbered by `ch : Fin 1`; every definition below that depends on them takes `ch` first. -/
variable (ch : Fin 1)

/-- Prefetched table 0 (`main_c`, [136]). -/
def pinT_0 (ch : Fin 1) : S136.Idx → BitVec 32 := fun x => (([0#32, 1#32, 1#32, 2#32, 2#32, 2#32, 3#32, 3#32, 3#32, 3#32, 4#32, 4#32, 4#32, 4#32, 4#32, 5#32, 5#32, 5#32, 5#32, 5#32, 5#32, 6#32, 6#32, 6#32, 6#32, 6#32, 6#32, 6#32, 7#32, 7#32, 7#32, 7#32, 7#32, 7#32, 7#32, 7#32, 8#32, 8#32, 8#32, 8#32, 8#32, 8#32, 8#32, 8#32, 8#32, 9#32, 9#32, 9#32, 9#32, 9#32, 9#32, 9#32, 9#32, 9#32, 9#32, 10#32, 10#32, 10#32, 10#32, 10#32, 10#32, 10#32, 10#32, 10#32, 10#32, 10#32, 11#32, 11#32, 11#32, 11#32, 11#32, 11#32, 11#32, 11#32, 11#32, 11#32, 11#32, 11#32, 12#32, 12#32, 12#32, 12#32, 12#32, 12#32, 12#32, 12#32, 12#32, 12#32, 12#32, 12#32, 12#32, 13#32, 13#32, 13#32, 13#32, 13#32, 13#32, 13#32, 13#32, 13#32, 13#32, 13#32, 13#32, 13#32, 13#32, 14#32, 14#32, 14#32, 14#32, 14#32, 14#32, 14#32, 14#32, 14#32, 14#32, 14#32, 14#32, 14#32, 14#32, 14#32, 15#32, 15#32, 15#32, 15#32, 15#32, 15#32, 15#32, 15#32, 15#32, 15#32, 15#32, 15#32, 15#32, 15#32, 15#32, 15#32] : List (BitVec 32)).getD ((x 0).val) 0#32)

/-- Prefetched table 1 (`main_c_0`, [136]). -/
def pinT_1 (ch : Fin 1) : S136.Idx → BitVec 32 := fun x => (([0#32, 0#32, 1#32, 0#32, 1#32, 2#32, 0#32, 1#32, 2#32, 3#32, 0#32, 1#32, 2#32, 3#32, 4#32, 0#32, 1#32, 2#32, 3#32, 4#32, 5#32, 0#32, 1#32, 2#32, 3#32, 4#32, 5#32, 6#32, 0#32, 1#32, 2#32, 3#32, 4#32, 5#32, 6#32, 7#32, 0#32, 1#32, 2#32, 3#32, 4#32, 5#32, 6#32, 7#32, 8#32, 0#32, 1#32, 2#32, 3#32, 4#32, 5#32, 6#32, 7#32, 8#32, 9#32, 0#32, 1#32, 2#32, 3#32, 4#32, 5#32, 6#32, 7#32, 8#32, 9#32, 10#32, 0#32, 1#32, 2#32, 3#32, 4#32, 5#32, 6#32, 7#32, 8#32, 9#32, 10#32, 11#32, 0#32, 1#32, 2#32, 3#32, 4#32, 5#32, 6#32, 7#32, 8#32, 9#32, 10#32, 11#32, 12#32, 0#32, 1#32, 2#32, 3#32, 4#32, 5#32, 6#32, 7#32, 8#32, 9#32, 10#32, 11#32, 12#32, 13#32, 0#32, 1#32, 2#32, 3#32, 4#32, 5#32, 6#32, 7#32, 8#32, 9#32, 10#32, 11#32, 12#32, 13#32, 14#32, 0#32, 1#32, 2#32, 3#32, 4#32, 5#32, 6#32, 7#32, 8#32, 9#32, 10#32, 11#32, 12#32, 13#32, 14#32, 15#32] : List (BitVec 32)).getD ((x 0).val) 0#32)

set_option backward.proofsInPublic true in
/-- The tables' contents the proof is written at, the grid's. -/
def pfN {F : FTy → Type} [FloatOps F] (ch : Fin 1) : pre0.Contents (Elt F) := fun | ⟨0, _⟩ => pinT_0 ch | ⟨1, _⟩ => pinT_1 ch | ⟨_ + 2, h⟩ => absurd h (by simp)
/-- A window's blocks inside its array, entry by entry (the side condition's per-member proofs below assemble each
    entry's bound: a coordinate's, a constant's, or a table word's decided over the coordinates it is read at). -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

theorem ok_pfN_0_0_inb : ∀ i : grid0.Coords, ∀ a, (cc0_transform_0 (F := Ideal) k0_off1_inb numel1_S1 (pfN (F := Ideal) (⟨0, by omega⟩ : Fin 1)) i a + 1) * S256x512.size a ≤ S4096x512.size a := by decide +kernel
theorem ok_pfN_0_0 : (∀ i : grid0.Coords, ∃ h : (∀ a, (cc0_transform_0 (F := Ideal) k0_off1_inb numel1_S1 (pfN (F := Ideal) (⟨0, by omega⟩ : Fin 1)) i a + 1) * S256x512.size a ≤ S4096x512.size a), EltTy.bits .bf16 = 32 ∨ (Rect.block (s := S4096x512) S256x512.size (cc0_transform_0 (F := Ideal) k0_off1_inb numel1_S1 (pfN (F := Ideal) (⟨0, by omega⟩ : Fin 1)) i) h).WholeWords (EltTy.packing .bf16)) := fun i => ⟨ok_pfN_0_0_inb i, .inr (Affine.block_words_dvd (s := S4096x512) (p := EltTy.packing .bf16) (by decide) (by decide))⟩
theorem ok_pfN_0_1_inb : ∀ i : grid0.Coords, ∀ a, (cc0_transform_1 (F := Ideal) k0_off1_inb numel1_S1 (pfN (F := Ideal) (⟨0, by omega⟩ : Fin 1)) i a + 1) * S256x512.size a ≤ S4096x512.size a := by decide +kernel
theorem ok_pfN_0_1 : (∀ i : grid0.Coords, ∃ h : (∀ a, (cc0_transform_1 (F := Ideal) k0_off1_inb numel1_S1 (pfN (F := Ideal) (⟨0, by omega⟩ : Fin 1)) i a + 1) * S256x512.size a ≤ S4096x512.size a), EltTy.bits .bf16 = 32 ∨ (Rect.block (s := S4096x512) S256x512.size (cc0_transform_1 (F := Ideal) k0_off1_inb numel1_S1 (pfN (F := Ideal) (⟨0, by omega⟩ : Fin 1)) i) h).WholeWords (EltTy.packing .bf16)) := fun i => ⟨ok_pfN_0_1_inb i, .inr (Affine.block_words_dvd (s := S4096x512) (p := EltTy.packing .bf16) (by decide) (by decide))⟩
theorem ok_pfN_0_2_inb : ∀ i : grid0.Coords, ∀ a, (cc0_transform_2 (F := Ideal) k0_off1_inb numel1_S1 (pfN (F := Ideal) (⟨0, by omega⟩ : Fin 1)) i a + 1) * S256x512.size a ≤ S4096x512.size a := by decide +kernel
theorem ok_pfN_0_2 : (∀ i : grid0.Coords, ∃ h : (∀ a, (cc0_transform_2 (F := Ideal) k0_off1_inb numel1_S1 (pfN (F := Ideal) (⟨0, by omega⟩ : Fin 1)) i a + 1) * S256x512.size a ≤ S4096x512.size a), EltTy.bits .bf16 = 32 ∨ (Rect.block (s := S4096x512) S256x512.size (cc0_transform_2 (F := Ideal) k0_off1_inb numel1_S1 (pfN (F := Ideal) (⟨0, by omega⟩ : Fin 1)) i) h).WholeWords (EltTy.packing .bf16)) := fun i => ⟨ok_pfN_0_2_inb i, .inr (Affine.block_words_dvd (s := S4096x512) (p := EltTy.packing .bf16) (by decide) (by decide))⟩
theorem ok_pfN_0_3_inb : ∀ i : grid0.Coords, ∀ a, (cc0_transform_3 (F := Ideal) k0_off1_inb numel1_S1 (pfN (F := Ideal) (⟨0, by omega⟩ : Fin 1)) i a + 1) * S1x1x8x256x256.size a ≤ S16x16x8x256x256.size a := by decide +kernel
theorem ok_pfN_0_3 : (∀ i : grid0.Coords, ∃ h : (∀ a, (cc0_transform_3 (F := Ideal) k0_off1_inb numel1_S1 (pfN (F := Ideal) (⟨0, by omega⟩ : Fin 1)) i a + 1) * S1x1x8x256x256.size a ≤ S16x16x8x256x256.size a), EltTy.bits .bf16 = 32 ∨ (Rect.block (s := S16x16x8x256x256) S1x1x8x256x256.size (cc0_transform_3 (F := Ideal) k0_off1_inb numel1_S1 (pfN (F := Ideal) (⟨0, by omega⟩ : Fin 1)) i) h).WholeWords (EltTy.packing .bf16)) := fun i => ⟨ok_pfN_0_3_inb i, .inr (Affine.block_words_dvd (s := S16x16x8x256x256) (p := EltTy.packing .bf16) (by decide) (by decide))⟩
theorem ok_pfN_0_4_inb : ∀ i : grid0.Coords, ∀ a, (cc0_transform_4 (F := Ideal) k0_off1_inb numel1_S1 (pfN (F := Ideal) (⟨0, by omega⟩ : Fin 1)) i a + 1) * S1x1x8x256x256.size a ≤ S16x16x8x256x256.size a := by decide +kernel
theorem ok_pfN_0_4 : (∀ i : grid0.Coords, ∃ h : (∀ a, (cc0_transform_4 (F := Ideal) k0_off1_inb numel1_S1 (pfN (F := Ideal) (⟨0, by omega⟩ : Fin 1)) i a + 1) * S1x1x8x256x256.size a ≤ S16x16x8x256x256.size a), EltTy.bits .bf16 = 32 ∨ (Rect.block (s := S16x16x8x256x256) S1x1x8x256x256.size (cc0_transform_4 (F := Ideal) k0_off1_inb numel1_S1 (pfN (F := Ideal) (⟨0, by omega⟩ : Fin 1)) i) h).WholeWords (EltTy.packing .bf16)) := fun i => ⟨ok_pfN_0_4_inb i, .inr (Affine.block_words_dvd (s := S16x16x8x256x256) (p := EltTy.packing .bf16) (by decide) (by decide))⟩
theorem ok_pfN_0_5_inb : ∀ i : grid0.Coords, ∀ a, (cc0_transform_5 (F := Ideal) k0_off1_inb numel1_S1 (pfN (F := Ideal) (⟨0, by omega⟩ : Fin 1)) i a + 1) * S256x512.size a ≤ S4096x512.size a := by decide +kernel
theorem ok_pfN_0_5 : (∀ i : grid0.Coords, ∃ h : (∀ a, (cc0_transform_5 (F := Ideal) k0_off1_inb numel1_S1 (pfN (F := Ideal) (⟨0, by omega⟩ : Fin 1)) i a + 1) * S256x512.size a ≤ S4096x512.size a), EltTy.bits .bf16 = 32 ∨ (Rect.block (s := S4096x512) S256x512.size (cc0_transform_5 (F := Ideal) k0_off1_inb numel1_S1 (pfN (F := Ideal) (⟨0, by omega⟩ : Fin 1)) i) h).WholeWords (EltTy.packing .bf16)) := fun i => ⟨ok_pfN_0_5_inb i, .inr (Affine.block_words_dvd (s := S4096x512) (p := EltTy.packing .bf16) (by decide) (by decide))⟩
theorem ok_pfN_0_6_inb : ∀ i : grid0.Coords, ∀ a, (cc0_transform_6 (F := Ideal) k0_off1_inb numel1_S1 (pfN (F := Ideal) (⟨0, by omega⟩ : Fin 1)) i a + 1) * S256x512.size a ≤ S4096x512.size a := by decide +kernel
theorem ok_pfN_0_6 : (∀ i : grid0.Coords, ∃ h : (∀ a, (cc0_transform_6 (F := Ideal) k0_off1_inb numel1_S1 (pfN (F := Ideal) (⟨0, by omega⟩ : Fin 1)) i a + 1) * S256x512.size a ≤ S4096x512.size a), EltTy.bits .bf16 = 32 ∨ (Rect.block (s := S4096x512) S256x512.size (cc0_transform_6 (F := Ideal) k0_off1_inb numel1_S1 (pfN (F := Ideal) (⟨0, by omega⟩ : Fin 1)) i) h).WholeWords (EltTy.packing .bf16)) := fun i => ⟨ok_pfN_0_6_inb i, .inr (Affine.block_words_dvd (s := S4096x512) (p := EltTy.packing .bf16) (by decide) (by decide))⟩
theorem ok_pfN_0 : ok0 (F := Ideal) (pfN (F := Ideal) (⟨0, by omega⟩ : Fin 1)) := ⟨ok_pfN_0_0, ok_pfN_0_1, ok_pfN_0_2, ok_pfN_0_3, ok_pfN_0_4, ok_pfN_0_5, ok_pfN_0_6⟩

end Cert.Stick

end
-- ==== Proof.StickPoints.lean ====
/- What is decided at each of the 136 points of the grid. -/
module

public import proofs.«01_k».proof.Proof.StickTables

@[expose] public section

set_option maxRecDepth 16384
set_option Elab.async false

noncomputable section

namespace Cert.Stick

open Cert.Kernel11Ideal Cert.Kernel11Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (ch : Fin 1)

/-- The side condition holds of the pinned tables at every point (every block
    inside its array): decided point by point, matched here. -/
theorem ok_pfN : ∀ ch : Fin 1, ok0 (F := Ideal) (pfN ch) := fun ch => match ch with
  | ⟨0, _⟩ => ok_pfN_0
  | ⟨_ + 1, h⟩ => absurd h (by omega)

/-- The admissible contents, the pipeline at them (`cfgA ch`: the grid, 136 points), as @main's one. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S256x512 .bf16 := spec0_0.stage ((cfgA ch).slots t (0 : Fin 9))
abbrev hs0_0 (t : Fin (cfgA ch).N) : (ms0_0 ch t).IsWhole := hstage0_0 (((cfgA ch).slots t (0 : Fin 9)).cast nbuf0_0)
abbrev ms0_1 (t : Fin (cfgA ch).N) : Memref sig .tc .vmem S256x512 .bf16 := spec0_1.stage ((cfgA ch).slots t (1 : Fin 9))
abbrev hs0_1 (t : Fin (cfgA ch).N) : (ms0_1 ch t).IsWhole := hstage0_1 (((cfgA ch).slots t (1 : Fin 9)).cast nbuf0_1)
abbrev ms0_2 (t : Fin (cfgA ch).N) : Memref sig .tc .vmem S256x512 .bf16 := spec0_2.stage ((cfgA ch).slots t (2 : Fin 9))
abbrev hs0_2 (t : Fin (cfgA ch).N) : (ms0_2 ch t).IsWhole := hstage0_2 (((cfgA ch).slots t (2 : Fin 9)).cast nbuf0_2)
abbrev ms0_3 (t : Fin (cfgA ch).N) : Memref sig .tc .vmem S1x1x8x256x256 .bf16 := spec0_3.stage ((cfgA ch).slots t (3 : Fin 9))
abbrev hs0_3 (t : Fin (cfgA ch).N) : (ms0_3 ch t).IsWhole := hstage0_3 (((cfgA ch).slots t (3 : Fin 9)).cast nbuf0_3)
abbrev ms0_4 (t : Fin (cfgA ch).N) : Memref sig .tc .vmem S1x1x8x256x256 .bf16 := spec0_4.stage ((cfgA ch).slots t (4 : Fin 9))
abbrev hs0_4 (t : Fin (cfgA ch).N) : (ms0_4 ch t).IsWhole := hstage0_4 (((cfgA ch).slots t (4 : Fin 9)).cast nbuf0_4)
abbrev ms0_5 (t : Fin (cfgA ch).N) : Memref sig .tc .vmem S256x512 .bf16 := spec0_5.stage ((cfgA ch).slots t (5 : Fin 9))
abbrev hs0_5 (t : Fin (cfgA ch).N) : (ms0_5 ch t).IsWhole := hstage0_5 (((cfgA ch).slots t (5 : Fin 9)).cast nbuf0_5)
abbrev ms0_6 (t : Fin (cfgA ch).N) : Memref sig .tc .vmem S256x512 .bf16 := spec0_6.stage ((cfgA ch).slots t (6 : Fin 9))
abbrev hs0_6 (t : Fin (cfgA ch).N) : (ms0_6 ch t).IsWhole := hstage0_6 (((cfgA ch).slots t (6 : Fin 9)).cast nbuf0_6)
abbrev ms0_7 (t : Fin (cfgA ch).N) : Memref sig .tc .vmem S4096x512 .bf16 := spec0_7.stage ((cfgA ch).slots t (7 : Fin 9))
abbrev hs0_7 (t : Fin (cfgA ch).N) : (ms0_7 ch t).IsWhole := hstage0_7 (((cfgA ch).slots t (7 : Fin 9)).cast nbuf0_7)
abbrev ms0_8 (t : Fin (cfgA ch).N) : Memref sig .tc .vmem S4096x512 .bf16 := spec0_8.stage ((cfgA ch).slots t (8 : Fin 9))
abbrev hs0_8 (t : Fin (cfgA ch).N) : (ms0_8 ch t).IsWhole := hstage0_8 (((cfgA ch).slots t (8 : Fin 9)).cast nbuf0_8)

/-! ## The checks every path meets first, at every point -/

/-- The checks at point `t` as ONE proposition, each bound for the next (which may cite it): one evaluation decides them over its points. -/
abbrev ChecksAt (ch : Fin 1) (t : Fin (cfgA ch).N) : Prop :=
  (k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos)))) ∧ ∀ (k0_hw1 : k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos)))), True

set_option synthInstance.maxSize 65536 in
instance ChecksAt.dec (ch : Fin 1) (t : Fin (cfgA ch).N) : Decidable (ChecksAt ch t) :=
  @instDecidableAnd _ _ inferInstance
    (@forall_prop_decidable _ _ inferInstance fun k0_hw1 => instDecidableTrue)

theorem allChecks_0 : ∀ t : Fin (cfgA (⟨0, by omega⟩ : Fin 1)).N, ChecksAt (⟨0, by omega⟩ : Fin 1) t := by decide +kernel

/-- The checks at every point. -/
theorem allChecks : ∀ (ch : Fin 1) (t : Fin (cfgA ch).N), ChecksAt ch t := fun ch => match ch with
  | ⟨0, _⟩ => allChecks_0
  | ⟨_ + 1, h⟩ => absurd h (by omega)

theorem hchk0_k0_hw1 : ∀ (ch : Fin 1) (t : Fin (cfgA ch).N), k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos))) := fun ch t => (allChecks ch t).1
theorem hchkR0_k0_hw1 : ∀ (ch : Fin 1) (t : Fin (cfgA ch).N), k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos))) := hchk0_k0_hw1

/-! ## The control's decisions at a point, at the pinned words (what tells the paths apart) -/

abbrev P0_0 (t : Fin (cfgA ch).N) : Prop := (Scalar.cmpi .ne (Scalar.extui (Scalar.cmpi .eq (BitVec.ofNat 32 ((crd ch t) 0).val) 0#32)) 0#32) = 1#1
abbrev P0_1 (t : Fin (cfgA ch).N) : Prop := (Scalar.cmpi .ne (Scalar.extui (Scalar.cmpi .eq (View.readAt (Elt Ideal) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1
abbrev P0_2 (t : Fin (cfgA ch).N) : Prop := k0_cond3 (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos))) = 1#1
abbrev P0_3 (t : Fin (cfgA ch).N) : Prop := k0_cond4 (crd ch t) = 1#1

/-- Whether scratch 0 (`cc0_scratch0`) holds nothing a point has determined, before position `n`: until a path that stores it
    whole first (A, B) has run. -/
def sfresh0_0 : ℕ → Bool
  | 0 => true
  | n + 1 => if h : n < (cfgA ch).N then (if P0_0 ch ⟨n, h⟩ then false else (if P0_1 ch ⟨n, h⟩ then false else (if P0_2 ch ⟨n, h⟩ then (if P0_3 ch ⟨n, h⟩ then sfresh0_0 n else sfresh0_0 n) else sfresh0_0 n))) else true

/-- Its closed form: fresh before position `n` iff no point below `n` covers it — `n` at most the grid's first covering
    point (read off the walk; the recursion's step is decided against it point by point, the recursion never run). -/
def sfirst0_0 (ch : Fin 1) : ℕ := 0
def sfrTab0_0 : ℕ → Bool := fun n => decide (n ≤ sfirst0_0 ch)

/-- Whether scratch 1 (`cc0_scratch1`) holds nothing a point has determined, before position `n`: until a path that stores it
    whole first (A, B) has run. -/
def sfresh0_1 : ℕ → Bool
  | 0 => true
  | n + 1 => if h : n < (cfgA ch).N then (if P0_0 ch ⟨n, h⟩ then false else (if P0_1 ch ⟨n, h⟩ then false else (if P0_2 ch ⟨n, h⟩ then (if P0_3 ch ⟨n, h⟩ then sfresh0_1 n else sfresh0_1 n) else sfresh0_1 n))) else true

/-- Its closed form: fresh before position `n` iff no point below `n` covers it — `n` at most the grid's first covering
    point (read off the walk; the recursion's step is decided against it point by point, the recursion never run). -/
def sfirst0_1 (ch : Fin 1) : ℕ := 0
def sfrTab0_1 : ℕ → Bool := fun n => decide (n ≤ sfirst0_1 ch)

/-- Whether scratch 2 (`cc0_scratch2`) holds nothing a point has determined, before position `n`: until a path that stores it
    whole first (A) has run. -/
def sfresh0_2 : ℕ → Bool
  | 0 => true
  | n + 1 => if h : n < (cfgA ch).N then (if P0_0 ch ⟨n, h⟩ then false else (if P0_1 ch ⟨n, h⟩ then sfresh0_2 n else (if P0_2 ch ⟨n, h⟩ then (if P0_3 ch ⟨n, h⟩ then sfresh0_2 n else sfresh0_2 n) else sfresh0_2 n))) else true

/-- Its closed form: fresh before position `n` iff no point below `n` covers it — `n` at most the grid's first covering
    point (read off the walk; the recursion's step is decided against it point by point, the recursion never run). -/
def sfirst0_2 (ch : Fin 1) : ℕ := 0
def sfrTab0_2 : ℕ → Bool := fun n => decide (n ≤ sfirst0_2 ch)

/-- Whether scratch 3 (`cc0_scratch3`) holds nothing a point has determined, before position `n`: until a path that stores it
    whole first (A) has run. -/
def sfresh0_3 : ℕ → Bool
  | 0 => true
  | n + 1 => if h : n < (cfgA ch).N then (if P0_0 ch ⟨n, h⟩ then false else (if P0_1 ch ⟨n, h⟩ then sfresh0_3 n else (if P0_2 ch ⟨n, h⟩ then (if P0_3 ch ⟨n, h⟩ then sfresh0_3 n else sfresh0_3 n) else sfresh0_3 n))) else true

/-- Its closed form: fresh before position `n` iff no point below `n` covers it — `n` at most the grid's first covering
    point (read off the walk; the recursion's step is decided against it point by point, the recursion never run). -/
def sfirst0_3 (ch : Fin 1) : ℕ := 0
def sfrTab0_3 : ℕ → Bool := fun n => decide (n ≤ sfirst0_3 ch)

/-- Whether scratch 4 (`cc0_scratch4`) holds nothing a point has determined, before position `n`: until a path that stores it
    whole first (A) has run. -/
def sfresh0_4 : ℕ → Bool
  | 0 => true
  | n + 1 => if h : n < (cfgA ch).N then (if P0_0 ch ⟨n, h⟩ then false else (if P0_1 ch ⟨n, h⟩ then sfresh0_4 n else (if P0_2 ch ⟨n, h⟩ then (if P0_3 ch ⟨n, h⟩ then sfresh0_4 n else sfresh0_4 n) else sfresh0_4 n))) else true

/-- Its closed form: fresh before position `n` iff no point below `n` covers it — `n` at most the grid's first covering
    point (read off the walk; the recursion's step is decided against it point by point, the recursion never run). -/
def sfirst0_4 (ch : Fin 1) : ℕ := 0
def sfrTab0_4 : ℕ → Bool := fun n => decide (n ≤ sfirst0_4 ch)

/-- Whether scratch 5 (`cc0_scratch5`) holds nothing a point has determined, before position `n`: until a path that stores it
    whole first (A, B) has run. -/
def sfresh0_5 : ℕ → Bool
  | 0 => true
  | n + 1 => if h : n < (cfgA ch).N then (if P0_0 ch ⟨n, h⟩ then false else (if P0_1 ch ⟨n, h⟩ then false else (if P0_2 ch ⟨n, h⟩ then (if P0_3 ch ⟨n, h⟩ then sfresh0_5 n else sfresh0_5 n) else sfresh0_5 n))) else true

/-- Its closed form: fresh before position `n` iff no point below `n` covers it — `n` at most the grid's first covering
    point (read off the walk; the recursion's step is decided against it point by point, the recursion never run). -/
def sfirst0_5 (ch : Fin 1) : ℕ := 0
def sfrTab0_5 : ℕ → Bool := fun n => decide (n ≤ sfirst0_5 ch)

/-- Whether scratch 6 (`cc0_scratch6`) holds nothing a point has determined, before position `n`: until a path that stores it
    whole first (A, B) has run. -/
def sfresh0_6 : ℕ → Bool
  | 0 => true
  | n + 1 => if h : n < (cfgA ch).N then (if P0_0 ch ⟨n, h⟩ then false else (if P0_1 ch ⟨n, h⟩ then false else (if P0_2 ch ⟨n, h⟩ then (if P0_3 ch ⟨n, h⟩ then sfresh0_6 n else sfresh0_6 n) else sfresh0_6 n))) else true

/-- Its closed form: fresh before position `n` iff no point below `n` covers it — `n` at most the grid's first covering
    point (read off the walk; the recursion's step is decided against it point by point, the recursion never run). -/
def sfirst0_6 (ch : Fin 1) : ℕ := 0
def sfrTab0_6 : ℕ → Bool := fun n => decide (n ≤ sfirst0_6 ch)

set_option backward.proofsInPublic true in
/-- Whether output 6 holds junk BEFORE each position `1 ‥ N` of the grid — nothing stored into it since
    its last write-back —: the classifier's table (written back at the point before, or idle there and junk
    before it) as a bitmask, bit `n` for position `n + 1`, which `frTab0_6_step` checks against the pipeline's
    own recursion point by point (a bit test is one kernel step; a list walk or the recursion, hundreds). -/
def frMask0_6 : Fin 1 → ℕ
  | ⟨0, _⟩ => 0xffffffffffffffffffffffffffffffffff
  | ⟨_ + 1, h⟩ => absurd h (by omega)
/-- `(cfgA ch).fresh 6` tabulated: true before the first point, then the table. -/
def frTab0_6 : ℕ → Bool
  | 0 => true
  | n + 1 => (frMask0_6 ch).testBit n

set_option backward.proofsInPublic true in
/-- Whether output 7 holds junk BEFORE each position `1 ‥ N` of the grid — nothing stored into it since
    its last write-back —: the classifier's table (written back at the point before, or idle there and junk
    before it) as a bitmask, bit `n` for position `n + 1`, which `frTab0_7_step` checks against the pipeline's
    own recursion point by point (a bit test is one kernel step; a list walk or the recursion, hundreds). -/
def frMask0_7 : Fin 1 → ℕ
  | ⟨0, _⟩ => 0xffffffffffffffffffffffffffffffffff
  | ⟨_ + 1, h⟩ => absurd h (by omega)
/-- `(cfgA ch).fresh 7` tabulated: true before the first point, then the table. -/
def frTab0_7 : ℕ → Bool
  | 0 => true
  | n + 1 => (frMask0_7 ch).testBit n

set_option backward.proofsInPublic true in
/-- Whether output 8 holds junk BEFORE each position `1 ‥ N` of the grid — nothing stored into it since
    its last write-back —: the classifier's table (written back at the point before, or idle there and junk
    before it) as a bitmask, bit `n` for position `n + 1`, which `frTab0_8_step` checks against the pipeline's
    own recursion point by point (a bit test is one kernel step; a list walk or the recursion, hundreds). -/
def frMask0_8 : Fin 1 → ℕ
  | ⟨0, _⟩ => 0xffffffffffffffffffffffffffffffffff
  | ⟨_ + 1, h⟩ => absurd h (by omega)
/-- `(cfgA ch).fresh 8` tabulated: true before the first point, then the table. -/
def frTab0_8 : ℕ → Bool
  | 0 => true
  | n + 1 => (frMask0_8 ch).testBit n

/-! ## Every per-point fact as ONE proposition, decided point by point; the named facts its projections -/

/-- EVERY FACT decided at point `t` past the checks — the freshness tables' steps, each
    path's hypotheses and schedule at its points —, as one proposition: one evaluation
    decides it, sharing each point's words, table reads and block indices between the
    facts. -/
abbrev FactsAt (ch : Fin 1) (t : Fin (cfgA ch).N) : Prop :=
  -- sfrTab0_0_step, sfrTab0_1_step, sfrTab0_2_step, sfrTab0_3_step, sfrTab0_4_step, sfrTab0_5_step, sfrTab0_6_step, frTab0_6_step, frTab0_7_step, frTab0_8_step, hyps0_A, sched0_A, hyps0_B, sched0_B, hyps0_C, sched0_C, hyps0_D, sched0_D, hyps0_E, sched0_E
  (sfrTab0_0 ch (t.val + 1) = (if P0_0 ch t then false else (if P0_1 ch t then false else (if P0_2 ch t then (if P0_3 ch t then sfrTab0_0 ch t.val else sfrTab0_0 ch t.val) else sfrTab0_0 ch t.val))))
  ∧ (sfrTab0_1 ch (t.val + 1) = (if P0_0 ch t then false else (if P0_1 ch t then false else (if P0_2 ch t then (if P0_3 ch t then sfrTab0_1 ch t.val else sfrTab0_1 ch t.val) else sfrTab0_1 ch t.val))))
  ∧ (sfrTab0_2 ch (t.val + 1) = (if P0_0 ch t then false else (if P0_1 ch t then sfrTab0_2 ch t.val else (if P0_2 ch t then (if P0_3 ch t then sfrTab0_2 ch t.val else sfrTab0_2 ch t.val) else sfrTab0_2 ch t.val))))
  ∧ (sfrTab0_3 ch (t.val + 1) = (if P0_0 ch t then false else (if P0_1 ch t then sfrTab0_3 ch t.val else (if P0_2 ch t then (if P0_3 ch t then sfrTab0_3 ch t.val else sfrTab0_3 ch t.val) else sfrTab0_3 ch t.val))))
  ∧ (sfrTab0_4 ch (t.val + 1) = (if P0_0 ch t then false else (if P0_1 ch t then sfrTab0_4 ch t.val else (if P0_2 ch t then (if P0_3 ch t then sfrTab0_4 ch t.val else sfrTab0_4 ch t.val) else sfrTab0_4 ch t.val))))
  ∧ (sfrTab0_5 ch (t.val + 1) = (if P0_0 ch t then false else (if P0_1 ch t then false else (if P0_2 ch t then (if P0_3 ch t then sfrTab0_5 ch t.val else sfrTab0_5 ch t.val) else sfrTab0_5 ch t.val))))
  ∧ (sfrTab0_6 ch (t.val + 1) = (if P0_0 ch t then false else (if P0_1 ch t then false else (if P0_2 ch t then (if P0_3 ch t then sfrTab0_6 ch t.val else sfrTab0_6 ch t.val) else sfrTab0_6 ch t.val))))
  ∧ (frTab0_6 ch (t.val + 1) = (((cfgA ch).win (6 : Fin 9)).flush t || ((cfgA ch).idle (6 : Fin 9) ((cfgA ch).grid.coords t) && frTab0_6 ch t.val)))
  ∧ (frTab0_7 ch (t.val + 1) = (((cfgA ch).win (7 : Fin 9)).flush t || ((cfgA ch).idle (7 : Fin 9) ((cfgA ch).grid.coords t) && frTab0_7 ch t.val)))
  ∧ (frTab0_8 ch (t.val + 1) = (((cfgA ch).win (8 : Fin 9)).flush t || ((cfgA ch).idle (8 : Fin 9) ((cfgA ch).grid.coords t) && frTab0_8 ch t.val)))
  ∧ (P0_0 ch t → ((Scalar.cmpi .ne (Scalar.extui (Scalar.cmpi .eq (BitVec.ofNat 32 ((crd ch t) 0).val) 0#32)) 0#32) = 1#1) ∧ (((Scalar.cmpi .ne (Scalar.extui (Scalar.cmpi .eq (View.readAt (Elt Ideal) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1) ∧ ((k0_cond3 (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos))) = 1#1) ∧ ((¬(k0_cond4 (crd ch t) = 1#1)) ∧ (True)))))
  ∧ (P0_0 ch t → (cfgA ch).idle (6 : Fin 9) ((cfgA ch).grid.coords t) = false ∧ ((cfgA ch).win (6 : Fin 9)).flush t = true ∧ frTab0_6 ch t.val = true ∧ (cfgA ch).idle (7 : Fin 9) ((cfgA ch).grid.coords t) = true ∧ ((cfgA ch).win (7 : Fin 9)).flush t = false ∧ frTab0_7 ch t.val = true ∧ (cfgA ch).idle (8 : Fin 9) ((cfgA ch).grid.coords t) = true ∧ ((cfgA ch).win (8 : Fin 9)).flush t = false ∧ frTab0_8 ch t.val = true ∧ sfrTab0_0 ch t.val = true ∧ sfrTab0_0 ch (t.val + 1) = false ∧ sfrTab0_1 ch t.val = true ∧ sfrTab0_1 ch (t.val + 1) = false ∧ sfrTab0_2 ch t.val = true ∧ sfrTab0_2 ch (t.val + 1) = false ∧ sfrTab0_3 ch t.val = true ∧ sfrTab0_3 ch (t.val + 1) = false ∧ sfrTab0_4 ch t.val = true ∧ sfrTab0_4 ch (t.val + 1) = false ∧ sfrTab0_5 ch t.val = true ∧ sfrTab0_5 ch (t.val + 1) = false ∧ sfrTab0_6 ch t.val = true ∧ sfrTab0_6 ch (t.val + 1) = false)
  ∧ (¬P0_0 ch t → P0_1 ch t → (¬((Scalar.cmpi .ne (Scalar.extui (Scalar.cmpi .eq (BitVec.ofNat 32 ((crd ch t) 0).val) 0#32)) 0#32) = 1#1)) ∧ (((Scalar.cmpi .ne (Scalar.extui (Scalar.cmpi .eq (View.readAt (Elt Ideal) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1) ∧ ((¬(k0_cond3 (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos))) = 1#1)) ∧ ((¬(k0_cond4 (crd ch t) = 1#1)) ∧ (True)))))
  ∧ (¬P0_0 ch t → P0_1 ch t → (cfgA ch).idle (6 : Fin 9) ((cfgA ch).grid.coords t) = true ∧ ((cfgA ch).win (6 : Fin 9)).flush t = false ∧ frTab0_6 ch t.val = true ∧ (cfgA ch).idle (7 : Fin 9) ((cfgA ch).grid.coords t) = true ∧ ((cfgA ch).win (7 : Fin 9)).flush t = false ∧ frTab0_7 ch t.val = true ∧ (cfgA ch).idle (8 : Fin 9) ((cfgA ch).grid.coords t) = true ∧ ((cfgA ch).win (8 : Fin 9)).flush t = false ∧ frTab0_8 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false ∧ sfrTab0_4 ch t.val = false ∧ sfrTab0_4 ch (t.val + 1) = false ∧ sfrTab0_5 ch t.val = false ∧ sfrTab0_5 ch (t.val + 1) = false ∧ sfrTab0_6 ch t.val = false ∧ sfrTab0_6 ch (t.val + 1) = false)
  ∧ (¬P0_0 ch t → ¬P0_1 ch t → P0_2 ch t → ¬P0_3 ch t → (¬((Scalar.cmpi .ne (Scalar.extui (Scalar.cmpi .eq (BitVec.ofNat 32 ((crd ch t) 0).val) 0#32)) 0#32) = 1#1)) ∧ ((¬((Scalar.cmpi .ne (Scalar.extui (Scalar.cmpi .eq (View.readAt (Elt Ideal) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1)) ∧ ((k0_cond3 (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos))) = 1#1) ∧ ((¬(k0_cond4 (crd ch t) = 1#1)) ∧ (True)))))
  ∧ (¬P0_0 ch t → ¬P0_1 ch t → P0_2 ch t → ¬P0_3 ch t → (cfgA ch).idle (6 : Fin 9) ((cfgA ch).grid.coords t) = false ∧ ((cfgA ch).win (6 : Fin 9)).flush t = true ∧ frTab0_6 ch t.val = true ∧ (cfgA ch).idle (7 : Fin 9) ((cfgA ch).grid.coords t) = true ∧ ((cfgA ch).win (7 : Fin 9)).flush t = false ∧ frTab0_7 ch t.val = true ∧ (cfgA ch).idle (8 : Fin 9) ((cfgA ch).grid.coords t) = true ∧ ((cfgA ch).win (8 : Fin 9)).flush t = false ∧ frTab0_8 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false ∧ sfrTab0_4 ch t.val = false ∧ sfrTab0_4 ch (t.val + 1) = false ∧ sfrTab0_5 ch t.val = false ∧ sfrTab0_5 ch (t.val + 1) = false ∧ sfrTab0_6 ch t.val = false ∧ sfrTab0_6 ch (t.val + 1) = false)
  ∧ (¬P0_0 ch t → ¬P0_1 ch t → ¬P0_2 ch t → (¬((Scalar.cmpi .ne (Scalar.extui (Scalar.cmpi .eq (BitVec.ofNat 32 ((crd ch t) 0).val) 0#32)) 0#32) = 1#1)) ∧ ((¬((Scalar.cmpi .ne (Scalar.extui (Scalar.cmpi .eq (View.readAt (Elt Ideal) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1)) ∧ ((¬(k0_cond3 (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos))) = 1#1)) ∧ ((¬(k0_cond4 (crd ch t) = 1#1)) ∧ (True)))))
  ∧ (¬P0_0 ch t → ¬P0_1 ch t → ¬P0_2 ch t → (cfgA ch).idle (6 : Fin 9) ((cfgA ch).grid.coords t) = true ∧ ((cfgA ch).win (6 : Fin 9)).flush t = false ∧ frTab0_6 ch t.val = true ∧ (cfgA ch).idle (7 : Fin 9) ((cfgA ch).grid.coords t) = true ∧ ((cfgA ch).win (7 : Fin 9)).flush t = false ∧ frTab0_7 ch t.val = true ∧ (cfgA ch).idle (8 : Fin 9) ((cfgA ch).grid.coords t) = true ∧ ((cfgA ch).win (8 : Fin 9)).flush t = false ∧ frTab0_8 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false ∧ sfrTab0_4 ch t.val = false ∧ sfrTab0_4 ch (t.val + 1) = false ∧ sfrTab0_5 ch t.val = false ∧ sfrTab0_5 ch (t.val + 1) = false ∧ sfrTab0_6 ch t.val = false ∧ sfrTab0_6 ch (t.val + 1) = false)
  ∧ (¬P0_0 ch t → ¬P0_1 ch t → P0_2 ch t → P0_3 ch t → (¬((Scalar.cmpi .ne (Scalar.extui (Scalar.cmpi .eq (BitVec.ofNat 32 ((crd ch t) 0).val) 0#32)) 0#32) = 1#1)) ∧ ((¬((Scalar.cmpi .ne (Scalar.extui (Scalar.cmpi .eq (View.readAt (Elt Ideal) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1)) ∧ ((k0_cond3 (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos))) = 1#1) ∧ ((k0_cond4 (crd ch t) = 1#1) ∧ (True)))))
  ∧ (¬P0_0 ch t → ¬P0_1 ch t → P0_2 ch t → P0_3 ch t → (cfgA ch).idle (6 : Fin 9) ((cfgA ch).grid.coords t) = false ∧ ((cfgA ch).win (6 : Fin 9)).flush t = true ∧ frTab0_6 ch t.val = true ∧ (cfgA ch).idle (7 : Fin 9) ((cfgA ch).grid.coords t) = false ∧ ((cfgA ch).win (7 : Fin 9)).flush t = true ∧ frTab0_7 ch t.val = true ∧ (cfgA ch).idle (8 : Fin 9) ((cfgA ch).grid.coords t) = false ∧ ((cfgA ch).win (8 : Fin 9)).flush t = true ∧ frTab0_8 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false ∧ sfrTab0_4 ch t.val = false ∧ sfrTab0_4 ch (t.val + 1) = false ∧ sfrTab0_5 ch t.val = false ∧ sfrTab0_5 ch (t.val + 1) = false ∧ sfrTab0_6 ch t.val = false ∧ sfrTab0_6 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance)))))))))))))))))))

theorem allFacts_0_0 : ∀ t : Fin (cfgA (⟨0, by omega⟩ : Fin 1)).N, 0 ≤ t.val → t.val < 17 → FactsAt (⟨0, by omega⟩ : Fin 1) t := by decide +kernel
theorem allFacts_0_1 : ∀ t : Fin (cfgA (⟨0, by omega⟩ : Fin 1)).N, 17 ≤ t.val → t.val < 34 → FactsAt (⟨0, by omega⟩ : Fin 1) t := by decide +kernel
theorem allFacts_0_2 : ∀ t : Fin (cfgA (⟨0, by omega⟩ : Fin 1)).N, 34 ≤ t.val → t.val < 51 → FactsAt (⟨0, by omega⟩ : Fin 1) t := by decide +kernel
theorem allFacts_0_3 : ∀ t : Fin (cfgA (⟨0, by omega⟩ : Fin 1)).N, 51 ≤ t.val → t.val < 68 → FactsAt (⟨0, by omega⟩ : Fin 1) t := by decide +kernel
theorem allFacts_0_4 : ∀ t : Fin (cfgA (⟨0, by omega⟩ : Fin 1)).N, 68 ≤ t.val → t.val < 85 → FactsAt (⟨0, by omega⟩ : Fin 1) t := by decide +kernel
theorem allFacts_0_5 : ∀ t : Fin (cfgA (⟨0, by omega⟩ : Fin 1)).N, 85 ≤ t.val → t.val < 102 → FactsAt (⟨0, by omega⟩ : Fin 1) t := by decide +kernel
theorem allFacts_0_6 : ∀ t : Fin (cfgA (⟨0, by omega⟩ : Fin 1)).N, 102 ≤ t.val → t.val < 119 → FactsAt (⟨0, by omega⟩ : Fin 1) t := by decide +kernel
theorem allFacts_0_7 : ∀ t : Fin (cfgA (⟨0, by omega⟩ : Fin 1)).N, 119 ≤ t.val → t.val < 136 → FactsAt (⟨0, by omega⟩ : Fin 1) t := by decide +kernel
theorem allFacts_0 : ∀ t : Fin (cfgA (⟨0, by omega⟩ : Fin 1)).N, FactsAt (⟨0, by omega⟩ : Fin 1) t := fun t => by
  have h0 : 0 ≤ t.val := Nat.zero_le _
  rcases Nat.lt_or_ge t.val 17 with h1 | h1; · exact allFacts_0_0 t h0 h1
  rcases Nat.lt_or_ge t.val 34 with h2 | h2; · exact allFacts_0_1 t h1 h2
  rcases Nat.lt_or_ge t.val 51 with h3 | h3; · exact allFacts_0_2 t h2 h3
  rcases Nat.lt_or_ge t.val 68 with h4 | h4; · exact allFacts_0_3 t h3 h4
  rcases Nat.lt_or_ge t.val 85 with h5 | h5; · exact allFacts_0_4 t h4 h5
  rcases Nat.lt_or_ge t.val 102 with h6 | h6; · exact allFacts_0_5 t h5 h6
  rcases Nat.lt_or_ge t.val 119 with h7 | h7; · exact allFacts_0_6 t h6 h7
  exact allFacts_0_7 t h7 t.isLt

/-- The tables satisfy the side condition of the pipeline at any values `F`. -/
theorem ok_tables {F : FTy → Type} [FloatOps F] (ch : Fin 1) : ok0 (F := F) (pfN ch) := ok_pfN ch

/-- The tables as contents the pipeline can run at. -/
def tables {F : FTy → Type} [FloatOps F] (ch : Fin 1) : (pcfg0 (F := F)).Adm := ⟨pfN ch, ok_tables ch⟩

/-- The pipeline at the tables is the same at any values. -/
theorem pin_tables {F : FTy → Type} [FloatOps F] (ch : Fin 1) : Pipeline.pin (pcfgs (F := F)) (fun _ => tables ch) = pcs ch := rfl

variable (ch : Fin 1)

/-- The facts at every point. -/
theorem allFacts : ∀ (ch : Fin 1) (t : Fin (cfgA ch).N), FactsAt ch t := fun ch => match ch with
  | ⟨0, _⟩ => allFacts_0
  | ⟨_ + 1, h⟩ => absurd h (by omega)

/-! ## The named facts — the freshness tables' steps, each path's hypotheses and schedule —: its projections -/

theorem sfrTab0_0_step : ∀ (ch : Fin 1) (t : Fin (cfgA ch).N), sfrTab0_0 ch (t.val + 1) = (if P0_0 ch t then false else (if P0_1 ch t then false else (if P0_2 ch t then (if P0_3 ch t then sfrTab0_0 ch t.val else sfrTab0_0 ch t.val) else sfrTab0_0 ch t.val))) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Fin 1) (t : Fin (cfgA ch).N), sfrTab0_1 ch (t.val + 1) = (if P0_0 ch t then false else (if P0_1 ch t then false else (if P0_2 ch t then (if P0_3 ch t then sfrTab0_1 ch t.val else sfrTab0_1 ch t.val) else sfrTab0_1 ch t.val))) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem sfrTab0_2_step : ∀ (ch : Fin 1) (t : Fin (cfgA ch).N), sfrTab0_2 ch (t.val + 1) = (if P0_0 ch t then false else (if P0_1 ch t then sfrTab0_2 ch t.val else (if P0_2 ch t then (if P0_3 ch t then sfrTab0_2 ch t.val else sfrTab0_2 ch t.val) else sfrTab0_2 ch t.val))) := fun ch t => (allFacts ch t).2.2.1
theorem sfresh0_2_eq : ∀ n, n ≤ (cfgA ch).N → sfresh0_2 ch n = sfrTab0_2 ch n
  | 0, _ => by simp only [sfresh0_2, sfrTab0_2, Nat.zero_le, decide_true]
  | n + 1, h => by simp only [sfresh0_2, dif_pos (show n < (cfgA ch).N from h), sfresh0_2_eq n (Nat.le_of_lt h), sfrTab0_2_step ch ⟨n, h⟩]
theorem sfreshF0_2 (t : Fin (cfgA ch).N) : sfresh0_2 ch t.val = sfrTab0_2 ch t.val := sfresh0_2_eq ch t.val (Nat.le_of_lt t.isLt)
theorem sfreshS0_2 (t : Fin (cfgA ch).N) : sfresh0_2 ch (t.val + 1) = sfrTab0_2 ch (t.val + 1) := sfresh0_2_eq ch (t.val + 1) t.isLt

theorem sfrTab0_3_step : ∀ (ch : Fin 1) (t : Fin (cfgA ch).N), sfrTab0_3 ch (t.val + 1) = (if P0_0 ch t then false else (if P0_1 ch t then sfrTab0_3 ch t.val else (if P0_2 ch t then (if P0_3 ch t then sfrTab0_3 ch t.val else sfrTab0_3 ch t.val) else sfrTab0_3 ch t.val))) := fun ch t => (allFacts ch t).2.2.2.1
theorem sfresh0_3_eq : ∀ n, n ≤ (cfgA ch).N → sfresh0_3 ch n = sfrTab0_3 ch n
  | 0, _ => by simp only [sfresh0_3, sfrTab0_3, Nat.zero_le, decide_true]
  | n + 1, h => by simp only [sfresh0_3, dif_pos (show n < (cfgA ch).N from h), sfresh0_3_eq n (Nat.le_of_lt h), sfrTab0_3_step ch ⟨n, h⟩]
theorem sfreshF0_3 (t : Fin (cfgA ch).N) : sfresh0_3 ch t.val = sfrTab0_3 ch t.val := sfresh0_3_eq ch t.val (Nat.le_of_lt t.isLt)
theorem sfreshS0_3 (t : Fin (cfgA ch).N) : sfresh0_3 ch (t.val + 1) = sfrTab0_3 ch (t.val + 1) := sfresh0_3_eq ch (t.val + 1) t.isLt

theorem sfrTab0_4_step : ∀ (ch : Fin 1) (t : Fin (cfgA ch).N), sfrTab0_4 ch (t.val + 1) = (if P0_0 ch t then false else (if P0_1 ch t then sfrTab0_4 ch t.val else (if P0_2 ch t then (if P0_3 ch t then sfrTab0_4 ch t.val else sfrTab0_4 ch t.val) else sfrTab0_4 ch t.val))) := fun ch t => (allFacts ch t).2.2.2.2.1
theorem sfresh0_4_eq : ∀ n, n ≤ (cfgA ch).N → sfresh0_4 ch n = sfrTab0_4 ch n
  | 0, _ => by simp only [sfresh0_4, sfrTab0_4, Nat.zero_le, decide_true]
  | n + 1, h => by simp only [sfresh0_4, dif_pos (show n < (cfgA ch).N from h), sfresh0_4_eq n (Nat.le_of_lt h), sfrTab0_4_step ch ⟨n, h⟩]
theorem sfreshF0_4 (t : Fin (cfgA ch).N) : sfresh0_4 ch t.val = sfrTab0_4 ch t.val := sfresh0_4_eq ch t.val (Nat.le_of_lt t.isLt)
theorem sfreshS0_4 (t : Fin (cfgA ch).N) : sfresh0_4 ch (t.val + 1) = sfrTab0_4 ch (t.val + 1) := sfresh0_4_eq ch (t.val + 1) t.isLt

theorem sfrTab0_5_step : ∀ (ch : Fin 1) (t : Fin (cfgA ch).N), sfrTab0_5 ch (t.val + 1) = (if P0_0 ch t then false else (if P0_1 ch t then false else (if P0_2 ch t then (if P0_3 ch t then sfrTab0_5 ch t.val else sfrTab0_5 ch t.val) else sfrTab0_5 ch t.val))) := fun ch t => (allFacts ch t).2.2.2.2.2.1
theorem sfresh0_5_eq : ∀ n, n ≤ (cfgA ch).N → sfresh0_5 ch n = sfrTab0_5 ch n
  | 0, _ => by simp only [sfresh0_5, sfrTab0_5, Nat.zero_le, decide_true]
  | n + 1, h => by simp only [sfresh0_5, dif_pos (show n < (cfgA ch).N from h), sfresh0_5_eq n (Nat.le_of_lt h), sfrTab0_5_step ch ⟨n, h⟩]
theorem sfreshF0_5 (t : Fin (cfgA ch).N) : sfresh0_5 ch t.val = sfrTab0_5 ch t.val := sfresh0_5_eq ch t.val (Nat.le_of_lt t.isLt)
theorem sfreshS0_5 (t : Fin (cfgA ch).N) : sfresh0_5 ch (t.val + 1) = sfrTab0_5 ch (t.val + 1) := sfresh0_5_eq ch (t.val + 1) t.isLt

theorem sfrTab0_6_step : ∀ (ch : Fin 1) (t : Fin (cfgA ch).N), sfrTab0_6 ch (t.val + 1) = (if P0_0 ch t then false else (if P0_1 ch t then false else (if P0_2 ch t then (if P0_3 ch t then sfrTab0_6 ch t.val else sfrTab0_6 ch t.val) else sfrTab0_6 ch t.val))) := fun ch t => (allFacts ch t).2.2.2.2.2.2.1
theorem sfresh0_6_eq : ∀ n, n ≤ (cfgA ch).N → sfresh0_6 ch n = sfrTab0_6 ch n
  | 0, _ => by simp only [sfresh0_6, sfrTab0_6, Nat.zero_le, decide_true]
  | n + 1, h => by simp only [sfresh0_6, dif_pos (show n < (cfgA ch).N from h), sfresh0_6_eq n (Nat.le_of_lt h), sfrTab0_6_step ch ⟨n, h⟩]
theorem sfreshF0_6 (t : Fin (cfgA ch).N) : sfresh0_6 ch t.val = sfrTab0_6 ch t.val := sfresh0_6_eq ch t.val (Nat.le_of_lt t.isLt)
theorem sfreshS0_6 (t : Fin (cfgA ch).N) : sfresh0_6 ch (t.val + 1) = sfrTab0_6 ch (t.val + 1) := sfresh0_6_eq ch (t.val + 1) t.isLt

theorem frTab0_6_step : ∀ (ch : Fin 1) (t : Fin (cfgA ch).N),
    frTab0_6 ch (t.val + 1) = (((cfgA ch).win (6 : Fin 9)).flush t || ((cfgA ch).idle (6 : Fin 9) ((cfgA ch).grid.coords t) && frTab0_6 ch t.val)) := fun ch t => (allFacts ch t).2.2.2.2.2.2.2.1
theorem freshF0_6 (t : Fin (cfgA ch).N) : (cfgA ch).fresh (6 : Fin 9) t.val = frTab0_6 ch t.val :=
  Pipeline.Cfg.fresh_tab (cfgA ch) (6 : Fin 9) (frTab0_6 ch) rfl (frTab0_6_step ch) t.val (Nat.le_of_lt t.isLt)

theorem frTab0_7_step : ∀ (ch : Fin 1) (t : Fin (cfgA ch).N),
    frTab0_7 ch (t.val + 1) = (((cfgA ch).win (7 : Fin 9)).flush t || ((cfgA ch).idle (7 : Fin 9) ((cfgA ch).grid.coords t) && frTab0_7 ch t.val)) := fun ch t => (allFacts ch t).2.2.2.2.2.2.2.2.1
theorem freshF0_7 (t : Fin (cfgA ch).N) : (cfgA ch).fresh (7 : Fin 9) t.val = frTab0_7 ch t.val :=
  Pipeline.Cfg.fresh_tab (cfgA ch) (7 : Fin 9) (frTab0_7 ch) rfl (frTab0_7_step ch) t.val (Nat.le_of_lt t.isLt)

theorem frTab0_8_step : ∀ (ch : Fin 1) (t : Fin (cfgA ch).N),
    frTab0_8 ch (t.val + 1) = (((cfgA ch).win (8 : Fin 9)).flush t || ((cfgA ch).idle (8 : Fin 9) ((cfgA ch).grid.coords t) && frTab0_8 ch t.val)) := fun ch t => (allFacts ch t).2.2.2.2.2.2.2.2.2.1
theorem freshF0_8 (t : Fin (cfgA ch).N) : (cfgA ch).fresh (8 : Fin 9) t.val = frTab0_8 ch t.val :=
  Pipeline.Cfg.fresh_tab (cfgA ch) (8 : Fin 9) (frTab0_8 ch) rfl (frTab0_8_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Fin 1) (t : Fin (cfgA ch).N), P0_0 ch t →
    (k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos)))) ∧ ∀ (k0_hw1 : k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos)))), (((Scalar.cmpi .ne (Scalar.extui (Scalar.cmpi .eq (BitVec.ofNat 32 ((crd ch t) 0).val) 0#32)) 0#32) = 1#1) ∧ (((Scalar.cmpi .ne (Scalar.extui (Scalar.cmpi .eq (View.readAt (Elt Ideal) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1) ∧ ((k0_cond3 (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos))) = 1#1) ∧ ((¬(k0_cond4 (crd ch t) = 1#1)) ∧ (True))))) := fun ch t q0 =>
  ⟨hchk0_k0_hw1 ch t, fun k0_hw1 => ⟨((allFacts ch t).2.2.2.2.2.2.2.2.2.2.1 q0).1, ⟨((allFacts ch t).2.2.2.2.2.2.2.2.2.2.1 q0).2.1, ⟨((allFacts ch t).2.2.2.2.2.2.2.2.2.2.1 q0).2.2.1, ⟨((allFacts ch t).2.2.2.2.2.2.2.2.2.2.1 q0).2.2.2.1, trivial⟩⟩⟩⟩⟩

theorem hypsR0_A : ∀ (ch : Fin 1) (t : Fin (cfgA ch).N), P0_0 ch t →
    (k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos)))) ∧ ∀ (k0_hw1 : k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos)))), (((Scalar.cmpi .ne (Scalar.extui (Scalar.cmpi .eq (BitVec.ofNat 32 ((crd ch t) 0).val) 0#32)) 0#32) = 1#1) ∧ (((Scalar.cmpi .ne (Scalar.extui (Scalar.cmpi .eq (View.readAt (Elt Ideal) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1) ∧ ((k0_cond3 (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos))) = 1#1) ∧ ((¬(k0_cond4 (crd ch t) = 1#1)) ∧ (True))))) := hyps0_A

/-! Path A's hypotheses that the body's accesses or later hypotheses may cite by name (a check, a trip count),
    one theorem each, numbered by the hypothesis' place in the conjunction and proved off `hypsR0_A`; the step
    (`step0`, `step0_A`) cites these where it projects that conjunction, instead of spelling its spine again. -/
theorem hyp0_A_0 (ch : Fin 1) (t : Fin (cfgA ch).N) (q0 : P0_0 ch t) :
    k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos))) := (hypsR0_A ch t q0).1

/-- At a point of path A: the idle table, the write-backs and which buffers hold junk (decided over the
    freshness tables `frTab`/`sfrTab`, restated over `Cfg.fresh`/`sfresh` by their agreement). -/
theorem sched0_A : ∀ (ch : Fin 1) (t : Fin (cfgA ch).N), P0_0 ch t →
    (cfgA ch).idle (6 : Fin 9) ((cfgA ch).grid.coords t) = false ∧ ((cfgA ch).win (6 : Fin 9)).flush t = true ∧ (cfgA ch).fresh (6 : Fin 9) t.val = true ∧ (cfgA ch).idle (7 : Fin 9) ((cfgA ch).grid.coords t) = true ∧ ((cfgA ch).win (7 : Fin 9)).flush t = false ∧ (cfgA ch).fresh (7 : Fin 9) t.val = true ∧ (cfgA ch).idle (8 : Fin 9) ((cfgA ch).grid.coords t) = true ∧ ((cfgA ch).win (8 : Fin 9)).flush t = false ∧ (cfgA ch).fresh (8 : Fin 9) t.val = true ∧ sfresh0_0 ch t.val = true ∧ sfresh0_0 ch (t.val + 1) = false ∧ sfresh0_1 ch t.val = true ∧ sfresh0_1 ch (t.val + 1) = false ∧ sfresh0_2 ch t.val = true ∧ sfresh0_2 ch (t.val + 1) = false ∧ sfresh0_3 ch t.val = true ∧ sfresh0_3 ch (t.val + 1) = false ∧ sfresh0_4 ch t.val = true ∧ sfresh0_4 ch (t.val + 1) = false ∧ sfresh0_5 ch t.val = true ∧ sfresh0_5 ch (t.val + 1) = false ∧ sfresh0_6 ch t.val = true ∧ sfresh0_6 ch (t.val + 1) = false := by
  intro ch t; rw [freshF0_6 ch t, freshF0_7 ch t, freshF0_8 ch t, sfreshF0_0 ch t, sfreshS0_0 ch t, sfreshF0_1 ch t, sfreshS0_1 ch t, sfreshF0_2 ch t, sfreshS0_2 ch t, sfreshF0_3 ch t, sfreshS0_3 ch t, sfreshF0_4 ch t, sfreshS0_4 ch t, sfreshF0_5 ch t, sfreshS0_5 ch t, sfreshF0_6 ch t, sfreshS0_6 ch t]; exact (fun ch t => (allFacts ch t).2.2.2.2.2.2.2.2.2.2.2.1) ch t

/-- At a point of path B, the path's hypotheses hold of the words the body reads there (the pinned tables read,
    a pinned window's word AS the word `pinBlk ch t (r.idx x)`; the checks among them cited from `ChecksAt`). -/
theorem hyps0_B : ∀ (ch : Fin 1) (t : Fin (cfgA ch).N), ¬P0_0 ch t → P0_1 ch t →
    (k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos)))) ∧ ∀ (k0_hw1 : k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos)))), ((¬((Scalar.cmpi .ne (Scalar.extui (Scalar.cmpi .eq (BitVec.ofNat 32 ((crd ch t) 0).val) 0#32)) 0#32) = 1#1)) ∧ (((Scalar.cmpi .ne (Scalar.extui (Scalar.cmpi .eq (View.readAt (Elt Ideal) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1) ∧ ((¬(k0_cond3 (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos))) = 1#1)) ∧ ((¬(k0_cond4 (crd ch t) = 1#1)) ∧ (True))))) := fun ch t q0 q1 =>
  ⟨hchk0_k0_hw1 ch t, fun k0_hw1 => ⟨((allFacts ch t).2.2.2.2.2.2.2.2.2.2.2.2.1 q0 q1).1, ⟨((allFacts ch t).2.2.2.2.2.2.2.2.2.2.2.2.1 q0 q1).2.1, ⟨((allFacts ch t).2.2.2.2.2.2.2.2.2.2.2.2.1 q0 q1).2.2.1, ⟨((allFacts ch t).2.2.2.2.2.2.2.2.2.2.2.2.1 q0 q1).2.2.2.1, trivial⟩⟩⟩⟩⟩

theorem hypsR0_B : ∀ (ch : Fin 1) (t : Fin (cfgA ch).N), ¬P0_0 ch t → P0_1 ch t →
    (k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos)))) ∧ ∀ (k0_hw1 : k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos)))), ((¬((Scalar.cmpi .ne (Scalar.extui (Scalar.cmpi .eq (BitVec.ofNat 32 ((crd ch t) 0).val) 0#32)) 0#32) = 1#1)) ∧ (((Scalar.cmpi .ne (Scalar.extui (Scalar.cmpi .eq (View.readAt (Elt Ideal) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1) ∧ ((¬(k0_cond3 (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos))) = 1#1)) ∧ ((¬(k0_cond4 (crd ch t) = 1#1)) ∧ (True))))) := hyps0_B

/-! Path B's hypotheses that the body's accesses or later hypotheses may cite by name (a check, a trip count),
    one theorem each, numbered by the hypothesis' place in the conjunction and proved off `hypsR0_B`; the step
    (`step0`, `step0_B`) cites these where it projects that conjunction, instead of spelling its spine again. -/
theorem hyp0_B_0 (ch : Fin 1) (t : Fin (cfgA ch).N) (q0 : ¬P0_0 ch t) (q1 : P0_1 ch t) :
    k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos))) := (hypsR0_B ch t q0 q1).1

/-- At a point of path B: the idle table, the write-backs and which buffers hold junk (decided over the
    freshness tables `frTab`/`sfrTab`, restated over `Cfg.fresh`/`sfresh` by their agreement). -/
theorem sched0_B : ∀ (ch : Fin 1) (t : Fin (cfgA ch).N), ¬P0_0 ch t → P0_1 ch t →
    (cfgA ch).idle (6 : Fin 9) ((cfgA ch).grid.coords t) = true ∧ ((cfgA ch).win (6 : Fin 9)).flush t = false ∧ (cfgA ch).fresh (6 : Fin 9) t.val = true ∧ (cfgA ch).idle (7 : Fin 9) ((cfgA ch).grid.coords t) = true ∧ ((cfgA ch).win (7 : Fin 9)).flush t = false ∧ (cfgA ch).fresh (7 : Fin 9) t.val = true ∧ (cfgA ch).idle (8 : Fin 9) ((cfgA ch).grid.coords t) = true ∧ ((cfgA ch).win (8 : Fin 9)).flush t = false ∧ (cfgA ch).fresh (8 : Fin 9) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false ∧ sfresh0_4 ch t.val = false ∧ sfresh0_4 ch (t.val + 1) = false ∧ sfresh0_5 ch t.val = false ∧ sfresh0_5 ch (t.val + 1) = false ∧ sfresh0_6 ch t.val = false ∧ sfresh0_6 ch (t.val + 1) = false := by
  intro ch t; rw [freshF0_6 ch t, freshF0_7 ch t, freshF0_8 ch t, sfreshF0_0 ch t, sfreshS0_0 ch t, sfreshF0_1 ch t, sfreshS0_1 ch t, sfreshF0_2 ch t, sfreshS0_2 ch t, sfreshF0_3 ch t, sfreshS0_3 ch t, sfreshF0_4 ch t, sfreshS0_4 ch t, sfreshF0_5 ch t, sfreshS0_5 ch t, sfreshF0_6 ch t, sfreshS0_6 ch t]; exact (fun ch t => (allFacts ch t).2.2.2.2.2.2.2.2.2.2.2.2.2.1) ch t

/-- At a point of path C, the path's hypotheses hold of the words the body reads there (the pinned tables read,
    a pinned window's word AS the word `pinBlk ch t (r.idx x)`; the checks among them cited from `ChecksAt`). -/
theorem hyps0_C : ∀ (ch : Fin 1) (t : Fin (cfgA ch).N), ¬P0_0 ch t → ¬P0_1 ch t → P0_2 ch t → ¬P0_3 ch t →
    (k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos)))) ∧ ∀ (k0_hw1 : k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos)))), ((¬((Scalar.cmpi .ne (Scalar.extui (Scalar.cmpi .eq (BitVec.ofNat 32 ((crd ch t) 0).val) 0#32)) 0#32) = 1#1)) ∧ ((¬((Scalar.cmpi .ne (Scalar.extui (Scalar.cmpi .eq (View.readAt (Elt Ideal) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1)) ∧ ((k0_cond3 (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos))) = 1#1) ∧ ((¬(k0_cond4 (crd ch t) = 1#1)) ∧ (True))))) := fun ch t q0 q1 q2 q3 =>
  ⟨hchk0_k0_hw1 ch t, fun k0_hw1 => ⟨((allFacts ch t).2.2.2.2.2.2.2.2.2.2.2.2.2.2.1 q0 q1 q2 q3).1, ⟨((allFacts ch t).2.2.2.2.2.2.2.2.2.2.2.2.2.2.1 q0 q1 q2 q3).2.1, ⟨((allFacts ch t).2.2.2.2.2.2.2.2.2.2.2.2.2.2.1 q0 q1 q2 q3).2.2.1, ⟨((allFacts ch t).2.2.2.2.2.2.2.2.2.2.2.2.2.2.1 q0 q1 q2 q3).2.2.2.1, trivial⟩⟩⟩⟩⟩

theorem hypsR0_C : ∀ (ch : Fin 1) (t : Fin (cfgA ch).N), ¬P0_0 ch t → ¬P0_1 ch t → P0_2 ch t → ¬P0_3 ch t →
    (k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos)))) ∧ ∀ (k0_hw1 : k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos)))), ((¬((Scalar.cmpi .ne (Scalar.extui (Scalar.cmpi .eq (BitVec.ofNat 32 ((crd ch t) 0).val) 0#32)) 0#32) = 1#1)) ∧ ((¬((Scalar.cmpi .ne (Scalar.extui (Scalar.cmpi .eq (View.readAt (Elt Ideal) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1)) ∧ ((k0_cond3 (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos))) = 1#1) ∧ ((¬(k0_cond4 (crd ch t) = 1#1)) ∧ (True))))) := hyps0_C

/-! Path C's hypotheses that the body's accesses or later hypotheses may cite by name (a check, a trip count),
    one theorem each, numbered by the hypothesis' place in the conjunction and proved off `hypsR0_C`; the step
    (`step0`, `step0_C`) cites these where it projects that conjunction, instead of spelling its spine again. -/
theorem hyp0_C_0 (ch : Fin 1) (t : Fin (cfgA ch).N) (q0 : ¬P0_0 ch t) (q1 : ¬P0_1 ch t) (q2 : P0_2 ch t) (q3 : ¬P0_3 ch t) :
    k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos))) := (hypsR0_C ch t q0 q1 q2 q3).1

/-- At a point of path C: the idle table, the write-backs and which buffers hold junk (decided over the
    freshness tables `frTab`/`sfrTab`, restated over `Cfg.fresh`/`sfresh` by their agreement). -/
theorem sched0_C : ∀ (ch : Fin 1) (t : Fin (cfgA ch).N), ¬P0_0 ch t → ¬P0_1 ch t → P0_2 ch t → ¬P0_3 ch t →
    (cfgA ch).idle (6 : Fin 9) ((cfgA ch).grid.coords t) = false ∧ ((cfgA ch).win (6 : Fin 9)).flush t = true ∧ (cfgA ch).fresh (6 : Fin 9) t.val = true ∧ (cfgA ch).idle (7 : Fin 9) ((cfgA ch).grid.coords t) = true ∧ ((cfgA ch).win (7 : Fin 9)).flush t = false ∧ (cfgA ch).fresh (7 : Fin 9) t.val = true ∧ (cfgA ch).idle (8 : Fin 9) ((cfgA ch).grid.coords t) = true ∧ ((cfgA ch).win (8 : Fin 9)).flush t = false ∧ (cfgA ch).fresh (8 : Fin 9) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false ∧ sfresh0_4 ch t.val = false ∧ sfresh0_4 ch (t.val + 1) = false ∧ sfresh0_5 ch t.val = false ∧ sfresh0_5 ch (t.val + 1) = false ∧ sfresh0_6 ch t.val = false ∧ sfresh0_6 ch (t.val + 1) = false := by
  intro ch t; rw [freshF0_6 ch t, freshF0_7 ch t, freshF0_8 ch t, sfreshF0_0 ch t, sfreshS0_0 ch t, sfreshF0_1 ch t, sfreshS0_1 ch t, sfreshF0_2 ch t, sfreshS0_2 ch t, sfreshF0_3 ch t, sfreshS0_3 ch t, sfreshF0_4 ch t, sfreshS0_4 ch t, sfreshF0_5 ch t, sfreshS0_5 ch t, sfreshF0_6 ch t, sfreshS0_6 ch t]; exact (fun ch t => (allFacts ch t).2.2.2.2.2.2.2.2.2.2.2.2.2.2.2.1) ch t

/-- At a point of path D, the path's hypotheses hold of the words the body reads there (the pinned tables read,
    a pinned window's word AS the word `pinBlk ch t (r.idx x)`; the checks among them cited from `ChecksAt`). -/
theorem hyps0_D : ∀ (ch : Fin 1) (t : Fin (cfgA ch).N), ¬P0_0 ch t → ¬P0_1 ch t → ¬P0_2 ch t →
    (k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos)))) ∧ ∀ (k0_hw1 : k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos)))), ((¬((Scalar.cmpi .ne (Scalar.extui (Scalar.cmpi .eq (BitVec.ofNat 32 ((crd ch t) 0).val) 0#32)) 0#32) = 1#1)) ∧ ((¬((Scalar.cmpi .ne (Scalar.extui (Scalar.cmpi .eq (View.readAt (Elt Ideal) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1)) ∧ ((¬(k0_cond3 (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos))) = 1#1)) ∧ ((¬(k0_cond4 (crd ch t) = 1#1)) ∧ (True))))) := fun ch t q0 q1 q2 =>
  ⟨hchk0_k0_hw1 ch t, fun k0_hw1 => ⟨((allFacts ch t).2.2.2.2.2.2.2.2.2.2.2.2.2.2.2.2.1 q0 q1 q2).1, ⟨((allFacts ch t).2.2.2.2.2.2.2.2.2.2.2.2.2.2.2.2.1 q0 q1 q2).2.1, ⟨((allFacts ch t).2.2.2.2.2.2.2.2.2.2.2.2.2.2.2.2.1 q0 q1 q2).2.2.1, ⟨((allFacts ch t).2.2.2.2.2.2.2.2.2.2.2.2.2.2.2.2.1 q0 q1 q2).2.2.2.1, trivial⟩⟩⟩⟩⟩

theorem hypsR0_D : ∀ (ch : Fin 1) (t : Fin (cfgA ch).N), ¬P0_0 ch t → ¬P0_1 ch t → ¬P0_2 ch t →
    (k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos)))) ∧ ∀ (k0_hw1 : k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos)))), ((¬((Scalar.cmpi .ne (Scalar.extui (Scalar.cmpi .eq (BitVec.ofNat 32 ((crd ch t) 0).val) 0#32)) 0#32) = 1#1)) ∧ ((¬((Scalar.cmpi .ne (Scalar.extui (Scalar.cmpi .eq (View.readAt (Elt Ideal) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1)) ∧ ((¬(k0_cond3 (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos))) = 1#1)) ∧ ((¬(k0_cond4 (crd ch t) = 1#1)) ∧ (True))))) := hyps0_D

/-! Path D's hypotheses that the body's accesses or later hypotheses may cite by name (a check, a trip count),
    one theorem each, numbered by the hypothesis' place in the conjunction and proved off `hypsR0_D`; the step
    (`step0`, `step0_D`) cites these where it projects that conjunction, instead of spelling its spine again. -/
theorem hyp0_D_0 (ch : Fin 1) (t : Fin (cfgA ch).N) (q0 : ¬P0_0 ch t) (q1 : ¬P0_1 ch t) (q2 : ¬P0_2 ch t) :
    k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos))) := (hypsR0_D ch t q0 q1 q2).1

/-- At a point of path D: the idle table, the write-backs and which buffers hold junk (decided over the
    freshness tables `frTab`/`sfrTab`, restated over `Cfg.fresh`/`sfresh` by their agreement). -/
theorem sched0_D : ∀ (ch : Fin 1) (t : Fin (cfgA ch).N), ¬P0_0 ch t → ¬P0_1 ch t → ¬P0_2 ch t →
    (cfgA ch).idle (6 : Fin 9) ((cfgA ch).grid.coords t) = true ∧ ((cfgA ch).win (6 : Fin 9)).flush t = false ∧ (cfgA ch).fresh (6 : Fin 9) t.val = true ∧ (cfgA ch).idle (7 : Fin 9) ((cfgA ch).grid.coords t) = true ∧ ((cfgA ch).win (7 : Fin 9)).flush t = false ∧ (cfgA ch).fresh (7 : Fin 9) t.val = true ∧ (cfgA ch).idle (8 : Fin 9) ((cfgA ch).grid.coords t) = true ∧ ((cfgA ch).win (8 : Fin 9)).flush t = false ∧ (cfgA ch).fresh (8 : Fin 9) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false ∧ sfresh0_4 ch t.val = false ∧ sfresh0_4 ch (t.val + 1) = false ∧ sfresh0_5 ch t.val = false ∧ sfresh0_5 ch (t.val + 1) = false ∧ sfresh0_6 ch t.val = false ∧ sfresh0_6 ch (t.val + 1) = false := by
  intro ch t; rw [freshF0_6 ch t, freshF0_7 ch t, freshF0_8 ch t, sfreshF0_0 ch t, sfreshS0_0 ch t, sfreshF0_1 ch t, sfreshS0_1 ch t, sfreshF0_2 ch t, sfreshS0_2 ch t, sfreshF0_3 ch t, sfreshS0_3 ch t, sfreshF0_4 ch t, sfreshS0_4 ch t, sfreshF0_5 ch t, sfreshS0_5 ch t, sfreshF0_6 ch t, sfreshS0_6 ch t]; exact (fun ch t => (allFacts ch t).2.2.2.2.2.2.2.2.2.2.2.2.2.2.2.2.2.1) ch t

/-- At a point of path E, the path's hypotheses hold of the words the body reads there (the pinned tables read,
    a pinned window's word AS the word `pinBlk ch t (r.idx x)`; the checks among them cited from `ChecksAt`). -/
theorem hyps0_E : ∀ (ch : Fin 1) (t : Fin (cfgA ch).N), ¬P0_0 ch t → ¬P0_1 ch t → P0_2 ch t → P0_3 ch t →
    (k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos)))) ∧ ∀ (k0_hw1 : k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos)))), ((¬((Scalar.cmpi .ne (Scalar.extui (Scalar.cmpi .eq (BitVec.ofNat 32 ((crd ch t) 0).val) 0#32)) 0#32) = 1#1)) ∧ ((¬((Scalar.cmpi .ne (Scalar.extui (Scalar.cmpi .eq (View.readAt (Elt Ideal) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1)) ∧ ((k0_cond3 (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos))) = 1#1) ∧ ((k0_cond4 (crd ch t) = 1#1) ∧ (True))))) := fun ch t q0 q1 q2 q3 =>
  ⟨hchk0_k0_hw1 ch t, fun k0_hw1 => ⟨((allFacts ch t).2.2.2.2.2.2.2.2.2.2.2.2.2.2.2.2.2.2.1 q0 q1 q2 q3).1, ⟨((allFacts ch t).2.2.2.2.2.2.2.2.2.2.2.2.2.2.2.2.2.2.1 q0 q1 q2 q3).2.1, ⟨((allFacts ch t).2.2.2.2.2.2.2.2.2.2.2.2.2.2.2.2.2.2.1 q0 q1 q2 q3).2.2.1, ⟨((allFacts ch t).2.2.2.2.2.2.2.2.2.2.2.2.2.2.2.2.2.2.1 q0 q1 q2 q3).2.2.2.1, trivial⟩⟩⟩⟩⟩

theorem hypsR0_E : ∀ (ch : Fin 1) (t : Fin (cfgA ch).N), ¬P0_0 ch t → ¬P0_1 ch t → P0_2 ch t → P0_3 ch t →
    (k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos)))) ∧ ∀ (k0_hw1 : k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos)))), ((¬((Scalar.cmpi .ne (Scalar.extui (Scalar.cmpi .eq (BitVec.ofNat 32 ((crd ch t) 0).val) 0#32)) 0#32) = 1#1)) ∧ ((¬((Scalar.cmpi .ne (Scalar.extui (Scalar.cmpi .eq (View.readAt (Elt Ideal) (tbM0_1).view (Rect.unit (s := S136) (k0_off1 (crd ch t)) S1.size (k0_off1_inb (crd ch t))).toLoadRect (pinT_1 ch) (Shape.Idx.first (numel1_S1.symm ▸ Nat.one_pos))) 0#32)) 0#32) = 1#1)) ∧ ((k0_cond3 (View.readAt (Elt Ideal) (tbM0_0).view (Rect.unit (s := S136) (k0_off1 (crd ch t)) S1.size (k0_off1_inb (crd ch t))).toLoadRect (pinT_0 ch) (Shape.Idx.first (numel1_S1.symm ▸ Nat.one_pos))) (View.readAt (Elt Ideal) (tbM0_1).view (Rect.unit (s := S136) (k0_off1 (crd ch t)) S1.size (k0_off1_inb (crd ch t))).toLoadRect (pinT_1 ch) (Shape.Idx.first (numel1_S1.symm ▸ Nat.one_pos))) = 1#1) ∧ ((k0_cond4 (crd ch t) = 1#1) ∧ (True))))) := hyps0_E

/-! Path E's hypotheses that the body's accesses or later hypotheses may cite by name (a check, a trip count),
    one theorem each, numbered by the hypothesis' place in the conjunction and proved off `hypsR0_E`; the step
    (`step0`, `step0_E`) cites these where it projects that conjunction, instead of spelling its spine again. -/
theorem hyp0_E_0 (ch : Fin 1) (t : Fin (cfgA ch).N) (q0 : ¬P0_0 ch t) (q1 : ¬P0_1 ch t) (q2 : P0_2 ch t) (q3 : P0_3 ch t) :
    k0_chk1 (View.readAt (Elt Ideal) (tbM0_1).view (Rect.unit (s := S136) (k0_off1 (crd ch t)) S1.size (k0_off1_inb (crd ch t))).toLoadRect (pinT_1 ch) (Shape.Idx.first (numel1_S1.symm ▸ Nat.one_pos))) := (hypsR0_E ch t q0 q1 q2 q3).1

/-- At a point of path E: the idle table, the write-backs and which buffers hold junk (decided over the
    freshness tables `frTab`/`sfrTab`, restated over `Cfg.fresh`/`sfresh` by their agreement). -/
theorem sched0_E : ∀ (ch : Fin 1) (t : Fin (cfgA ch).N), ¬P0_0 ch t → ¬P0_1 ch t → P0_2 ch t → P0_3 ch t →
    (cfgA ch).idle (6 : Fin 9) ((cfgA ch).grid.coords t) = false ∧ ((cfgA ch).win (6 : Fin 9)).flush t = true ∧ (cfgA ch).fresh (6 : Fin 9) t.val = true ∧ (cfgA ch).idle (7 : Fin 9) ((cfgA ch).grid.coords t) = false ∧ ((cfgA ch).win (7 : Fin 9)).flush t = true ∧ (cfgA ch).fresh (7 : Fin 9) t.val = true ∧ (cfgA ch).idle (8 : Fin 9) ((cfgA ch).grid.coords t) = false ∧ ((cfgA ch).win (8 : Fin 9)).flush t = true ∧ (cfgA ch).fresh (8 : Fin 9) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false ∧ sfresh0_4 ch t.val = false ∧ sfresh0_4 ch (t.val + 1) = false ∧ sfresh0_5 ch t.val = false ∧ sfresh0_5 ch (t.val + 1) = false ∧ sfresh0_6 ch t.val = false ∧ sfresh0_6 ch (t.val + 1) = false := by
  intro ch t; rw [freshF0_6 ch t, freshF0_7 ch t, freshF0_8 ch t, sfreshF0_0 ch t, sfreshS0_0 ch t, sfreshF0_1 ch t, sfreshS0_1 ch t, sfreshF0_2 ch t, sfreshS0_2 ch t, sfreshF0_3 ch t, sfreshS0_3 ch t, sfreshF0_4 ch t, sfreshS0_4 ch t, sfreshF0_5 ch t, sfreshS0_5 ch t, sfreshF0_6 ch t, sfreshS0_6 ch t]; exact (fun ch t => (allFacts ch t).2.2.2.2.2.2.2.2.2.2.2.2.2.2.2.2.2.2.2) ch t

end Cert.Stick

end
-- ==== Proof.StickRuns.lean ====
/- The body of the kernel run once for each of the five ways through its branches. -/
module

public import proofs.«01_k».proof.Proof.StickPoints

@[expose] public section

set_option maxRecDepth 16384
set_option Elab.async false

noncomputable section

namespace Cert.Stick

open Cert.Kernel11Ideal Cert.Kernel11Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The algebra of the resources, at the values `F`. -/
local notation "𝕄" => MT nD τ sig Unit (Elt F) ℕ (UR sig nD τ) ℕ

/-! ## The kernel body per control path, on symbolic staging memrefs: a subtype the run finds -/

/-- One staging buffer of output window 6, through which its contents are stated (`View.read_writes_of_cover`). -/
abbrev VO0_6 : View sig .tc .vmem S256x512 .bf16 := (Memref.whole cc0_stg6_0 : Memref sig .tc .vmem S256x512 .bf16).view
/-- One staging buffer of output window 7, through which its contents are stated (`View.read_writes_of_cover`). -/
abbrev VO0_7 : View sig .tc .vmem S4096x512 .bf16 := (Memref.whole cc0_stg7_0 : Memref sig .tc .vmem S4096x512 .bf16).view
/-- One staging buffer of output window 8, through which its contents are stated (`View.read_writes_of_cover`). -/
abbrev VO0_8 : View sig .tc .vmem S4096x512 .bf16 := (Memref.whole cc0_stg8_0 : Memref sig .tc .vmem S4096x512 .bf16).view

set_option backward.proofsInPublic true in
set_option maxHeartbeats 8000000 in
/-- PATH A (points 0): what the body leaves — per stored output its pieces (last first), per scratch its
    contents — WITH the proof that, on whole staging memrefs, from the inputs at their blocks, the tables, the outputs
    (6: stored, 7: idle, 8: idle) and the scratches (0: covered, 1: covered, 2: covered, 3: covered, 4: covered, 5: covered, 6: covered), under the path's decisions as
    hypotheses over the words the body reads (`k0_hw1`; `k0_h1`; `hc2`; `k0_h3`; `k0_h4`), the body runs to the continuation holding all of it as stated. The
    body run operation by operation. -/
noncomputable def kernelRun0_A (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x1x8x256x256 .bf16) (harg6 : arg6.IsWhole) (arg7 : Memref sig .tc .vmem S1x1x8x256x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (T0 : (S136.Idx → Elt F .i32)) (T1 : (S136.Idx → Elt F .i32))
     (x0 : (S256x512.Idx → Elt F .bf16)) (x1 : (S256x512.Idx → Elt F .bf16)) (x2 : (S256x512.Idx → Elt F .bf16)) (x3 : (S1x1x8x256x256.Idx → Elt F .bf16)) (x4 : (S1x1x8x256x256.Idx → Elt F .bf16)) (x5 : (S256x512.Idx → Elt F .bf16)) (k0_hw1 : k0_chk1 (View.readAt (Elt F) (tbM0_1).view (Rect.unit (s := S136) (k0_off1 i) S1.size (k0_off1_inb i)).toLoadRect T1 (Shape.Idx.first (numel1_S1.symm ▸ Nat.one_pos)))) (k0_h1 : (Scalar.cmpi .ne (Scalar.extui (Scalar.cmpi .eq (BitVec.ofNat 32 (i 0).val) 0#32)) 0#32) = 1#1) (hc2 : (Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1) (k0_h3 : k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1) (k0_h4 : ¬(k0_cond4 i = 1#1)) :
    Σ' (out0 : List (View.Piece (Elt F) S256x512 .bf16)) (out1 : Buf (Elt F) ((c : Thread nD τ).loc cc0_scratch0)) (out2 : Buf (Elt F) ((c : Thread nD τ).loc cc0_scratch1)) (out3 : Buf (Elt F) ((c : Thread nD τ).loc cc0_scratch2)) (out4 : Buf (Elt F) ((c : Thread nD τ).loc cc0_scratch3)) (out5 : Buf (Elt F) ((c : Thread nD τ).loc cc0_scratch4)) (out6 : Buf (Elt F) ((c : Thread nD τ).loc cc0_scratch5)), { out7 : Buf (Elt F) ((c : Thread nD τ).loc cc0_scratch6) //
      ∀ (y7 : (S4096x512.Idx → Elt F .bf16)) (y8 : (S4096x512.Idx → Elt F .bf16)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (xa4 : Buf (Elt F) ((c : Thread nD τ).loc cc0_scratch4)) (xa5 : Buf (Elt F) ((c : Thread nD τ).loc cc0_scratch5)) (xa6 : Buf (Elt F) ((c : Thread nD τ).loc cc0_scratch6)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ owns (c : Thread nD τ) arg10 fullShare y7
          ∗ owns (c : Thread nD τ) arg11 fullShare y8
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (scM0_5.view.loc (c : Thread nD τ) ↦{fullShare} xa5)
          ∗ (scM0_6.view.loc (c : Thread nD τ) ↦{fullShare} xa6)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (arg8.view.loc (c : Thread nD τ) ↦[arg8.view.set]{fullShare} arg8.view.rep x5)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt F) f out0)
              ∗ owns (c : Thread nD τ) arg10 fullShare y7
              ∗ owns (c : Thread nD τ) arg11 fullShare y8
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)
              ∗ (scM0_4.view.loc (c : Thread nD τ) ↦{fullShare} out5)
              ∗ (scM0_5.view.loc (c : Thread nD τ) ↦{fullShare} out6)
              ∗ (scM0_6.view.loc (c : Thread nD τ) ↦{fullShare} out7)) -∗ K ⟨⟩))
          ⊢ wp frame (wpE (defs₀ (F := F)) Variants.none c none) Set.univ (cc0_sb_bwd i tbM0_0 (Memref.isWhole_whole _) tbM0_1 (Memref.isWhole_whole _) arg3 harg3 arg4 harg4 arg5 harg5 arg6 harg6 arg7 harg7 arg8 harg8 arg9 harg9 arg10 harg10 arg11 harg11 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _)) K } :=
  ⟨_, _, _, _, _, _, _, _, fun (y7 : (S4096x512.Idx → Elt F .bf16)) (y8 : (S4096x512.Idx → Elt F .bf16)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (xa4 : Buf (Elt F) ((c : Thread nD τ).loc cc0_scratch4)) (xa5 : Buf (Elt F) ((c : Thread nD τ).loc cc0_scratch5)) (xa6 : Buf (Elt F) ((c : Thread nD τ).loc cc0_scratch6)) K => by
    unfold owns
    rw [cc0_sb_bwd_eq_skeleton]; unfold cc0_sb_bwd_skel
    iintro ⟨H0, H1, H2, H3, H4, H5, HT0, HT1, ⟨%d6, %f6, -, HO6⟩, ⟨%f7, %hf7, HO7⟩, ⟨%f8, %hf8, HO8⟩, HS0, HS1, HS2, HS3, HS4, HS5, HS6, Hk⟩
    obtain rfl := harg10.eq_unread hf7; obtain rfl := harg11.eq_unread hf8
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hS5 : scM0_5.IsWhole := Memref.isWhole_whole _
    have hS6 : scM0_6.IsWhole := Memref.isWhole_whole _
    have hT0 : tbM0_0.IsWhole := Memref.isWhole_whole _
    have hT1 : tbM0_1.IsWhole := Memref.isWhole_whole _
    sl_exec! (disch := first | (guard_target = k0_chk1 _; exact k0_hw1) | (guard_target = Scalar.cmpi = _; exact k0_h1) | (guard_target = Scalar.cmpi = _; exact hc2) | (guard_target = k0_cond3 _ _ = _; exact k0_h3) | (guard_target = ¬(k0_cond4 _ = _); exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; iexact HO6
    isplitl [HO7]
    · iexists _; isplitr; · ipureintro; exact harg10.read_unread _
      iexact HO7
    isplitl [HO8]
    · iexists _; isplitr; · ipureintro; exact harg11.read_unread _
      iexact HO8
    isplitl [HS0]; · iexact HS0
    isplitl [HS1]; · iexact HS1
    isplitl [HS2]; · iexact HS2
    isplitl [HS3]; · iexact HS3
    isplitl [HS4]; · iexact HS4
    isplitl [HS5]; · iexact HS5
    iexact HS6⟩

/-- Path A's pieces for output 6 tile its block (1 store of `S256x512`, decided). -/
theorem cover0_A_6 (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x1x8x256x256 .bf16) (harg6 : arg6.IsWhole) (arg7 : Memref sig .tc .vmem S1x1x8x256x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (T0 : (S136.Idx → Elt F .i32)) (T1 : (S136.Idx → Elt F .i32))
     (x0 : (S256x512.Idx → Elt F .bf16)) (x1 : (S256x512.Idx → Elt F .bf16)) (x2 : (S256x512.Idx → Elt F .bf16)) (x3 : (S1x1x8x256x256.Idx → Elt F .bf16)) (x4 : (S1x1x8x256x256.Idx → Elt F .bf16)) (x5 : (S256x512.Idx → Elt F .bf16)) (k0_hw1 : k0_chk1 (View.readAt (Elt F) (tbM0_1).view (Rect.unit (s := S136) (k0_off1 i) S1.size (k0_off1_inb i)).toLoadRect T1 (Shape.Idx.first (numel1_S1.symm ▸ Nat.one_pos)))) (k0_h1 : (Scalar.cmpi .ne (Scalar.extui (Scalar.cmpi .eq (BitVec.ofNat 32 (i 0).val) 0#32)) 0#32) = 1#1) (hc2 : (Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1) (k0_h3 : k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1) (k0_h4 : ¬(k0_cond4 i = 1#1)) (y : S256x512.Idx) :
    ∃ pc ∈ (kernelRun0_A c i arg3 harg3 arg4 harg4 arg5 harg5 arg6 harg6 arg7 harg7 arg8 harg8 arg9 harg9 arg10 harg10 arg11 harg11 T0 T1 x0 x1 x2 x3 x4 x5 k0_hw1 k0_h1 hc2 k0_h3 k0_h4).1, y ∈ pc.1.set :=
  View.cover_of_tiledL (kernelRun0_A c i arg3 harg3 arg4 harg4 arg5 harg5 arg6 harg6 arg7 harg7 arg8 harg8 arg9 harg9 arg10 harg10 arg11 harg11 T0 T1 x0 x1 x2 x3 x4 x5 k0_hw1 k0_h1 hc2 k0_h3 k0_h4).1 S256x512.size (by sl_kernel_rfl) y

/-- What path A leaves in output 6's staging buffer: its pieces read back over junk. -/
def out0_A_6 (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x1x8x256x256 .bf16) (harg6 : arg6.IsWhole) (arg7 : Memref sig .tc .vmem S1x1x8x256x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (T0 : (S136.Idx → Elt F .i32)) (T1 : (S136.Idx → Elt F .i32))
     (x0 : (S256x512.Idx → Elt F .bf16)) (x1 : (S256x512.Idx → Elt F .bf16)) (x2 : (S256x512.Idx → Elt F .bf16)) (x3 : (S1x1x8x256x256.Idx → Elt F .bf16)) (x4 : (S1x1x8x256x256.Idx → Elt F .bf16)) (x5 : (S256x512.Idx → Elt F .bf16)) (k0_hw1 : k0_chk1 (View.readAt (Elt F) (tbM0_1).view (Rect.unit (s := S136) (k0_off1 i) S1.size (k0_off1_inb i)).toLoadRect T1 (Shape.Idx.first (numel1_S1.symm ▸ Nat.one_pos)))) (k0_h1 : (Scalar.cmpi .ne (Scalar.extui (Scalar.cmpi .eq (BitVec.ofNat 32 (i 0).val) 0#32)) 0#32) = 1#1) (hc2 : (Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1) (k0_h3 : k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1) (k0_h4 : ¬(k0_cond4 i = 1#1)) : (S256x512.Idx → Elt F .bf16) :=
  VO0_6.read (Elt F) (VO0_6.writes (Elt F) VO0_6.junk (kernelRun0_A c i arg3 harg3 arg4 harg4 arg5 harg5 arg6 harg6 arg7 harg7 arg8 harg8 arg9 harg9 arg10 harg10 arg11 harg11 T0 T1 x0 x1 x2 x3 x4 x5 k0_hw1 k0_h1 hc2 k0_h3 k0_h4).1)

set_option backward.proofsInPublic true in
set_option maxHeartbeats 8000000 in
/-- PATH B (points 1, 3, … 120: 15 of 136): what the body leaves — per stored output its pieces (last first), per scratch its
    contents — WITH the proof that, on whole staging memrefs, from the inputs at their blocks, the tables, the outputs
    (6: idle, 7: idle, 8: idle) and the scratches (0: covered, 1: covered, 2: carried, 3: carried, 4: carried, 5: covered, 6: covered), under the path's decisions as
    hypotheses over the words the body reads (`k0_hw1`; `k0_h1`; `hc2`; `k0_h3`; `k0_h4`), the body runs to the continuation holding all of it as stated. The
    body run operation by operation. -/
noncomputable def kernelRun0_B (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x1x8x256x256 .bf16) (harg6 : arg6.IsWhole) (arg7 : Memref sig .tc .vmem S1x1x8x256x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (T0 : (S136.Idx → Elt F .i32)) (T1 : (S136.Idx → Elt F .i32))
     (x0 : (S256x512.Idx → Elt F .bf16)) (x1 : (S256x512.Idx → Elt F .bf16)) (x2 : (S256x512.Idx → Elt F .bf16)) (x3 : (S1x1x8x256x256.Idx → Elt F .bf16)) (x4 : (S1x1x8x256x256.Idx → Elt F .bf16)) (x5 : (S256x512.Idx → Elt F .bf16)) (xa2 : Buf (Elt F) ((c : Thread nD τ).loc cc0_scratch2)) (xa3 : Buf (Elt F) ((c : Thread nD τ).loc cc0_scratch3)) (xa4 : Buf (Elt F) ((c : Thread nD τ).loc cc0_scratch4)) (k0_hw1 : k0_chk1 (View.readAt (Elt F) (tbM0_1).view (Rect.unit (s := S136) (k0_off1 i) S1.size (k0_off1_inb i)).toLoadRect T1 (Shape.Idx.first (numel1_S1.symm ▸ Nat.one_pos)))) (k0_h1 : ¬((Scalar.cmpi .ne (Scalar.extui (Scalar.cmpi .eq (BitVec.ofNat 32 (i 0).val) 0#32)) 0#32) = 1#1)) (hc2 : (Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1) (k0_h3 : ¬(k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1)) (k0_h4 : ¬(k0_cond4 i = 1#1)) :
    Σ' (out0 : Buf (Elt F) ((c : Thread nD τ).loc cc0_scratch0)) (out1 : Buf (Elt F) ((c : Thread nD τ).loc cc0_scratch1)) (out2 : Buf (Elt F) ((c : Thread nD τ).loc cc0_scratch2)) (out3 : Buf (Elt F) ((c : Thread nD τ).loc cc0_scratch3)) (out4 : Buf (Elt F) ((c : Thread nD τ).loc cc0_scratch4)) (out5 : Buf (Elt F) ((c : Thread nD τ).loc cc0_scratch5)), { out6 : Buf (Elt F) ((c : Thread nD τ).loc cc0_scratch6) //
      ∀ (y6 : (S256x512.Idx → Elt F .bf16)) (y7 : (S4096x512.Idx → Elt F .bf16)) (y8 : (S4096x512.Idx → Elt F .bf16)) (xa0 : Buf (Elt F) ((c : Thread nD τ).loc cc0_scratch0)) (xa1 : Buf (Elt F) ((c : Thread nD τ).loc cc0_scratch1)) (xa5 : Buf (Elt F) ((c : Thread nD τ).loc cc0_scratch5)) (xa6 : Buf (Elt F) ((c : Thread nD τ).loc cc0_scratch6)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tbM0_0.view.loc (c : Thread nD τ) ↦{fullShare.right} T0)
          ∗ (tbM0_1.view.loc (c : Thread nD τ) ↦{fullShare.right} T1)
          ∗ owns (c : Thread nD τ) arg9 fullShare y6
          ∗ owns (c : Thread nD τ) arg10 fullShare y7
          ∗ owns (c : Thread nD τ) arg11 fullShare y8
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (scM0_5.view.loc (c : Thread nD τ) ↦{fullShare} xa5)
          ∗ (scM0_6.view.loc (c : Thread nD τ) ↦{fullShare} xa6)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (arg8.view.loc (c : Thread nD τ) ↦[arg8.view.set]{fullShare} arg8.view.rep x5)
              ∗ (tbM0_0.view.loc (c : Thread nD τ) ↦{fullShare.right} T0)
              ∗ (tbM0_1.view.loc (c : Thread nD τ) ↦{fullShare.right} T1)
              ∗ owns (c : Thread nD τ) arg9 fullShare y6
              ∗ owns (c : Thread nD τ) arg10 fullShare y7
              ∗ owns (c : Thread nD τ) arg11 fullShare y8
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)
              ∗ (scM0_4.view.loc (c : Thread nD τ) ↦{fullShare} out4)
              ∗ (scM0_5.view.loc (c : Thread nD τ) ↦{fullShare} out5)
              ∗ (scM0_6.view.loc (c : Thread nD τ) ↦{fullShare} out6)) -∗ K ⟨⟩))
          ⊢ wp frame (wpE (defs₀ (F := F)) Variants.none c none) Set.univ (cc0_sb_bwd i tbM0_0 (Memref.isWhole_whole _) tbM0_1 (Memref.isWhole_whole _) arg3 harg3 arg4 harg4 arg5 harg5 arg6 harg6 arg7 harg7 arg8 harg8 arg9 harg9 arg10 harg10 arg11 harg11 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _)) K } :=
  ⟨_, _, _, _, _, _, _, fun (y6 : (S256x512.Idx → Elt F .bf16)) (y7 : (S4096x512.Idx → Elt F .bf16)) (y8 : (S4096x512.Idx → Elt F .bf16)) (xa0 : Buf (Elt F) ((c : Thread nD τ).loc cc0_scratch0)) (xa1 : Buf (Elt F) ((c : Thread nD τ).loc cc0_scratch1)) (xa5 : Buf (Elt F) ((c : Thread nD τ).loc cc0_scratch5)) (xa6 : Buf (Elt F) ((c : Thread nD τ).loc cc0_scratch6)) K => by
    unfold owns
    rw [cc0_sb_bwd_eq_skeleton]; unfold cc0_sb_bwd_skel
    iintro ⟨H0, H1, H2, H3, H4, H5, HT0, HT1, ⟨%f6, %hf6, HO6⟩, ⟨%f7, %hf7, HO7⟩, ⟨%f8, %hf8, HO8⟩, HS0, HS1, HS2, HS3, HS4, HS5, HS6, Hk⟩
    obtain rfl := harg9.eq_unread hf6; obtain rfl := harg10.eq_unread hf7; obtain rfl := harg11.eq_unread hf8
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hS5 : scM0_5.IsWhole := Memref.isWhole_whole _
    have hS6 : scM0_6.IsWhole := Memref.isWhole_whole _
    have hT0 : tbM0_0.IsWhole := Memref.isWhole_whole _
    have hT1 : tbM0_1.IsWhole := Memref.isWhole_whole _
    sl_exec! (disch := first | (guard_target = k0_chk1 _; exact k0_hw1) | (guard_target = ¬(Scalar.cmpi = _); exact k0_h1) | (guard_target = Scalar.cmpi = _; exact hc2) | (guard_target = ¬(k0_cond3 _ _ = _); exact k0_h3) | (guard_target = ¬(k0_cond4 _ = _); exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]
    · iexists _; isplitr; · ipureintro; exact harg9.read_unread _
      iexact HO6
    isplitl [HO7]
    · iexists _; isplitr; · ipureintro; exact harg10.read_unread _
      iexact HO7
    isplitl [HO8]
    · iexists _; isplitr; · ipureintro; exact harg11.read_unread _
      iexact HO8
    isplitl [HS0]; · iexact HS0
    isplitl [HS1]; · iexact HS1
    isplitl [HS2]; · iexact HS2
    isplitl [HS3]; · iexact HS3
    isplitl [HS4]; · iexact HS4
    isplitl [HS5]; · iexact HS5
    iexact HS6⟩

set_option backward.proofsInPublic true in
set_option maxHeartbeats 8000000 in
/-- PATH C (points 2, 5, … 119: 14 of 136): what the body leaves — per stored output its pieces (last first), per scratch its
    contents — WITH the proof that, on whole staging memrefs, from the inputs at their blocks, the tables, the outputs
    (6: stored, 7: idle, 8: idle) and the scratches (0: carried, 1: carried, 2: carried, 3: carried, 4: carried, 5: carried, 6: carried), under the path's decisions as
    hypotheses over the words the body reads (`k0_hw1`; `k0_h1`; `hc2`; `k0_h3`; `k0_h4`), the body runs to the continuation holding all of it as stated. The
    body run operation by operation. -/
noncomputable def kernelRun0_C (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x1x8x256x256 .bf16) (harg6 : arg6.IsWhole) (arg7 : Memref sig .tc .vmem S1x1x8x256x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (T0 : (S136.Idx → Elt F .i32)) (T1 : (S136.Idx → Elt F .i32))
     (x0 : (S256x512.Idx → Elt F .bf16)) (x1 : (S256x512.Idx → Elt F .bf16)) (x2 : (S256x512.Idx → Elt F .bf16)) (x3 : (S1x1x8x256x256.Idx → Elt F .bf16)) (x4 : (S1x1x8x256x256.Idx → Elt F .bf16)) (x5 : (S256x512.Idx → Elt F .bf16)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (xa4 : Buf (Elt F) ((c : Thread nD τ).loc cc0_scratch4)) (xa5 : Buf (Elt F) ((c : Thread nD τ).loc cc0_scratch5)) (xa6 : Buf (Elt F) ((c : Thread nD τ).loc cc0_scratch6)) (k0_hw1 : k0_chk1 (View.readAt (Elt F) (tbM0_1).view (Rect.unit (s := S136) (k0_off1 i) S1.size (k0_off1_inb i)).toLoadRect T1 (Shape.Idx.first (numel1_S1.symm ▸ Nat.one_pos)))) (k0_h1 : ¬((Scalar.cmpi .ne (Scalar.extui (Scalar.cmpi .eq (BitVec.ofNat 32 (i 0).val) 0#32)) 0#32) = 1#1)) (hc2 : ¬((Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1)) (k0_h3 : k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1) (k0_h4 : ¬(k0_cond4 i = 1#1)) :
    Σ' (out0 : List (View.Piece (Elt F) S256x512 .bf16)) (out1 : Buf (Elt F) ((c : Thread nD τ).loc cc0_scratch0)) (out2 : Buf (Elt F) ((c : Thread nD τ).loc cc0_scratch1)) (out3 : Buf (Elt F) ((c : Thread nD τ).loc cc0_scratch2)) (out4 : Buf (Elt F) ((c : Thread nD τ).loc cc0_scratch3)) (out5 : Buf (Elt F) ((c : Thread nD τ).loc cc0_scratch4)) (out6 : Buf (Elt F) ((c : Thread nD τ).loc cc0_scratch5)), { out7 : Buf (Elt F) ((c : Thread nD τ).loc cc0_scratch6) //
      ∀ (y7 : (S4096x512.Idx → Elt F .bf16)) (y8 : (S4096x512.Idx → Elt F .bf16)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ owns (c : Thread nD τ) arg10 fullShare y7
          ∗ owns (c : Thread nD τ) arg11 fullShare y8
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (scM0_5.view.loc (c : Thread nD τ) ↦{fullShare} xa5)
          ∗ (scM0_6.view.loc (c : Thread nD τ) ↦{fullShare} xa6)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (arg8.view.loc (c : Thread nD τ) ↦[arg8.view.set]{fullShare} arg8.view.rep x5)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt F) f out0)
              ∗ owns (c : Thread nD τ) arg10 fullShare y7
              ∗ owns (c : Thread nD τ) arg11 fullShare y8
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)
              ∗ (scM0_4.view.loc (c : Thread nD τ) ↦{fullShare} out5)
              ∗ (scM0_5.view.loc (c : Thread nD τ) ↦{fullShare} out6)
              ∗ (scM0_6.view.loc (c : Thread nD τ) ↦{fullShare} out7)) -∗ K ⟨⟩))
          ⊢ wp frame (wpE (defs₀ (F := F)) Variants.none c none) Set.univ (cc0_sb_bwd i tbM0_0 (Memref.isWhole_whole _) tbM0_1 (Memref.isWhole_whole _) arg3 harg3 arg4 harg4 arg5 harg5 arg6 harg6 arg7 harg7 arg8 harg8 arg9 harg9 arg10 harg10 arg11 harg11 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _)) K } :=
  ⟨_, _, _, _, _, _, _, _, fun (y7 : (S4096x512.Idx → Elt F .bf16)) (y8 : (S4096x512.Idx → Elt F .bf16)) K => by
    unfold owns
    rw [cc0_sb_bwd_eq_skeleton]; unfold cc0_sb_bwd_skel
    iintro ⟨H0, H1, H2, H3, H4, H5, HT0, HT1, ⟨%d6, %f6, -, HO6⟩, ⟨%f7, %hf7, HO7⟩, ⟨%f8, %hf8, HO8⟩, HS0, HS1, HS2, HS3, HS4, HS5, HS6, Hk⟩
    obtain rfl := harg10.eq_unread hf7; obtain rfl := harg11.eq_unread hf8
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hS5 : scM0_5.IsWhole := Memref.isWhole_whole _
    have hS6 : scM0_6.IsWhole := Memref.isWhole_whole _
    have hT0 : tbM0_0.IsWhole := Memref.isWhole_whole _
    have hT1 : tbM0_1.IsWhole := Memref.isWhole_whole _
    sl_exec! (disch := first | (guard_target = k0_chk1 _; exact k0_hw1) | (guard_target = ¬(Scalar.cmpi = _); exact k0_h1) | (guard_target = ¬(Scalar.cmpi = _); exact hc2) | (guard_target = k0_cond3 _ _ = _; exact k0_h3) | (guard_target = ¬(k0_cond4 _ = _); exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; iexact HO6
    isplitl [HO7]
    · iexists _; isplitr; · ipureintro; exact harg10.read_unread _
      iexact HO7
    isplitl [HO8]
    · iexists _; isplitr; · ipureintro; exact harg11.read_unread _
      iexact HO8
    isplitl [HS0]; · iexact HS0
    isplitl [HS1]; · iexact HS1
    isplitl [HS2]; · iexact HS2
    isplitl [HS3]; · iexact HS3
    isplitl [HS4]; · iexact HS4
    isplitl [HS5]; · iexact HS5
    iexact HS6⟩

/-- Path C's pieces for output 6 tile its block (1 store of `S256x512`, decided). -/
theorem cover0_C_6 (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x1x8x256x256 .bf16) (harg6 : arg6.IsWhole) (arg7 : Memref sig .tc .vmem S1x1x8x256x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (T0 : (S136.Idx → Elt F .i32)) (T1 : (S136.Idx → Elt F .i32))
     (x0 : (S256x512.Idx → Elt F .bf16)) (x1 : (S256x512.Idx → Elt F .bf16)) (x2 : (S256x512.Idx → Elt F .bf16)) (x3 : (S1x1x8x256x256.Idx → Elt F .bf16)) (x4 : (S1x1x8x256x256.Idx → Elt F .bf16)) (x5 : (S256x512.Idx → Elt F .bf16)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (xa4 : Buf (Elt F) ((c : Thread nD τ).loc cc0_scratch4)) (xa5 : Buf (Elt F) ((c : Thread nD τ).loc cc0_scratch5)) (xa6 : Buf (Elt F) ((c : Thread nD τ).loc cc0_scratch6)) (k0_hw1 : k0_chk1 (View.readAt (Elt F) (tbM0_1).view (Rect.unit (s := S136) (k0_off1 i) S1.size (k0_off1_inb i)).toLoadRect T1 (Shape.Idx.first (numel1_S1.symm ▸ Nat.one_pos)))) (k0_h1 : ¬((Scalar.cmpi .ne (Scalar.extui (Scalar.cmpi .eq (BitVec.ofNat 32 (i 0).val) 0#32)) 0#32) = 1#1)) (hc2 : ¬((Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1)) (k0_h3 : k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1) (k0_h4 : ¬(k0_cond4 i = 1#1)) (y : S256x512.Idx) :
    ∃ pc ∈ (kernelRun0_C c i arg3 harg3 arg4 harg4 arg5 harg5 arg6 harg6 arg7 harg7 arg8 harg8 arg9 harg9 arg10 harg10 arg11 harg11 T0 T1 x0 x1 x2 x3 x4 x5 xa0 xa1 xa2 xa3 xa4 xa5 xa6 k0_hw1 k0_h1 hc2 k0_h3 k0_h4).1, y ∈ pc.1.set :=
  View.cover_of_tiledL (kernelRun0_C c i arg3 harg3 arg4 harg4 arg5 harg5 arg6 harg6 arg7 harg7 arg8 harg8 arg9 harg9 arg10 harg10 arg11 harg11 T0 T1 x0 x1 x2 x3 x4 x5 xa0 xa1 xa2 xa3 xa4 xa5 xa6 k0_hw1 k0_h1 hc2 k0_h3 k0_h4).1 S256x512.size (by sl_kernel_rfl) y

/-- What path C leaves in output 6's staging buffer: its pieces read back over junk. -/
def out0_C_6 (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x1x8x256x256 .bf16) (harg6 : arg6.IsWhole) (arg7 : Memref sig .tc .vmem S1x1x8x256x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (T0 : (S136.Idx → Elt F .i32)) (T1 : (S136.Idx → Elt F .i32))
     (x0 : (S256x512.Idx → Elt F .bf16)) (x1 : (S256x512.Idx → Elt F .bf16)) (x2 : (S256x512.Idx → Elt F .bf16)) (x3 : (S1x1x8x256x256.Idx → Elt F .bf16)) (x4 : (S1x1x8x256x256.Idx → Elt F .bf16)) (x5 : (S256x512.Idx → Elt F .bf16)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (xa4 : Buf (Elt F) ((c : Thread nD τ).loc cc0_scratch4)) (xa5 : Buf (Elt F) ((c : Thread nD τ).loc cc0_scratch5)) (xa6 : Buf (Elt F) ((c : Thread nD τ).loc cc0_scratch6)) (k0_hw1 : k0_chk1 (View.readAt (Elt F) (tbM0_1).view (Rect.unit (s := S136) (k0_off1 i) S1.size (k0_off1_inb i)).toLoadRect T1 (Shape.Idx.first (numel1_S1.symm ▸ Nat.one_pos)))) (k0_h1 : ¬((Scalar.cmpi .ne (Scalar.extui (Scalar.cmpi .eq (BitVec.ofNat 32 (i 0).val) 0#32)) 0#32) = 1#1)) (hc2 : ¬((Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1)) (k0_h3 : k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1) (k0_h4 : ¬(k0_cond4 i = 1#1)) : (S256x512.Idx → Elt F .bf16) :=
  VO0_6.read (Elt F) (VO0_6.writes (Elt F) VO0_6.junk (kernelRun0_C c i arg3 harg3 arg4 harg4 arg5 harg5 arg6 harg6 arg7 harg7 arg8 harg8 arg9 harg9 arg10 harg10 arg11 harg11 T0 T1 x0 x1 x2 x3 x4 x5 xa0 xa1 xa2 xa3 xa4 xa5 xa6 k0_hw1 k0_h1 hc2 k0_h3 k0_h4).1)

set_option backward.proofsInPublic true in
set_option maxHeartbeats 8000000 in
/-- PATH D (points 4, 7, … 134: 105 of 136): what the body leaves — per stored output its pieces (last first), per scratch its
    contents — WITH the proof that, on whole staging memrefs, from the inputs at their blocks, the tables, the outputs
    (6: idle, 7: idle, 8: idle) and the scratches (0: carried, 1: carried, 2: carried, 3: carried, 4: carried, 5: carried, 6: carried), under the path's decisions as
    hypotheses over the words the body reads (`k0_hw1`; `k0_h1`; `hc2`; `k0_h3`; `k0_h4`), the body runs to the continuation holding all of it as stated. The
    body run operation by operation. -/
noncomputable def kernelRun0_D (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x1x8x256x256 .bf16) (harg6 : arg6.IsWhole) (arg7 : Memref sig .tc .vmem S1x1x8x256x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (T0 : (S136.Idx → Elt F .i32)) (T1 : (S136.Idx → Elt F .i32))
     (x0 : (S256x512.Idx → Elt F .bf16)) (x1 : (S256x512.Idx → Elt F .bf16)) (x2 : (S256x512.Idx → Elt F .bf16)) (x3 : (S1x1x8x256x256.Idx → Elt F .bf16)) (x4 : (S1x1x8x256x256.Idx → Elt F .bf16)) (x5 : (S256x512.Idx → Elt F .bf16)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (xa4 : Buf (Elt F) ((c : Thread nD τ).loc cc0_scratch4)) (xa5 : Buf (Elt F) ((c : Thread nD τ).loc cc0_scratch5)) (xa6 : Buf (Elt F) ((c : Thread nD τ).loc cc0_scratch6)) (k0_hw1 : k0_chk1 (View.readAt (Elt F) (tbM0_1).view (Rect.unit (s := S136) (k0_off1 i) S1.size (k0_off1_inb i)).toLoadRect T1 (Shape.Idx.first (numel1_S1.symm ▸ Nat.one_pos)))) (k0_h1 : ¬((Scalar.cmpi .ne (Scalar.extui (Scalar.cmpi .eq (BitVec.ofNat 32 (i 0).val) 0#32)) 0#32) = 1#1)) (hc2 : ¬((Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1)) (k0_h3 : ¬(k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1)) (k0_h4 : ¬(k0_cond4 i = 1#1)) :
    Σ' (out0 : Buf (Elt F) ((c : Thread nD τ).loc cc0_scratch0)) (out1 : Buf (Elt F) ((c : Thread nD τ).loc cc0_scratch1)) (out2 : Buf (Elt F) ((c : Thread nD τ).loc cc0_scratch2)) (out3 : Buf (Elt F) ((c : Thread nD τ).loc cc0_scratch3)) (out4 : Buf (Elt F) ((c : Thread nD τ).loc cc0_scratch4)) (out5 : Buf (Elt F) ((c : Thread nD τ).loc cc0_scratch5)), { out6 : Buf (Elt F) ((c : Thread nD τ).loc cc0_scratch6) //
      ∀ (y6 : (S256x512.Idx → Elt F .bf16)) (y7 : (S4096x512.Idx → Elt F .bf16)) (y8 : (S4096x512.Idx → Elt F .bf16)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tbM0_0.view.loc (c : Thread nD τ) ↦{fullShare.right} T0)
          ∗ (tbM0_1.view.loc (c : Thread nD τ) ↦{fullShare.right} T1)
          ∗ owns (c : Thread nD τ) arg9 fullShare y6
          ∗ owns (c : Thread nD τ) arg10 fullShare y7
          ∗ owns (c : Thread nD τ) arg11 fullShare y8
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (scM0_5.view.loc (c : Thread nD τ) ↦{fullShare} xa5)
          ∗ (scM0_6.view.loc (c : Thread nD τ) ↦{fullShare} xa6)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (arg8.view.loc (c : Thread nD τ) ↦[arg8.view.set]{fullShare} arg8.view.rep x5)
              ∗ (tbM0_0.view.loc (c : Thread nD τ) ↦{fullShare.right} T0)
              ∗ (tbM0_1.view.loc (c : Thread nD τ) ↦{fullShare.right} T1)
              ∗ owns (c : Thread nD τ) arg9 fullShare y6
              ∗ owns (c : Thread nD τ) arg10 fullShare y7
              ∗ owns (c : Thread nD τ) arg11 fullShare y8
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)
              ∗ (scM0_4.view.loc (c : Thread nD τ) ↦{fullShare} out4)
              ∗ (scM0_5.view.loc (c : Thread nD τ) ↦{fullShare} out5)
              ∗ (scM0_6.view.loc (c : Thread nD τ) ↦{fullShare} out6)) -∗ K ⟨⟩))
          ⊢ wp frame (wpE (defs₀ (F := F)) Variants.none c none) Set.univ (cc0_sb_bwd i tbM0_0 (Memref.isWhole_whole _) tbM0_1 (Memref.isWhole_whole _) arg3 harg3 arg4 harg4 arg5 harg5 arg6 harg6 arg7 harg7 arg8 harg8 arg9 harg9 arg10 harg10 arg11 harg11 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _)) K } :=
  ⟨_, _, _, _, _, _, _, fun (y6 : (S256x512.Idx → Elt F .bf16)) (y7 : (S4096x512.Idx → Elt F .bf16)) (y8 : (S4096x512.Idx → Elt F .bf16)) K => by
    unfold owns
    rw [cc0_sb_bwd_eq_skeleton]; unfold cc0_sb_bwd_skel
    iintro ⟨H0, H1, H2, H3, H4, H5, HT0, HT1, ⟨%f6, %hf6, HO6⟩, ⟨%f7, %hf7, HO7⟩, ⟨%f8, %hf8, HO8⟩, HS0, HS1, HS2, HS3, HS4, HS5, HS6, Hk⟩
    obtain rfl := harg9.eq_unread hf6; obtain rfl := harg10.eq_unread hf7; obtain rfl := harg11.eq_unread hf8
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hS5 : scM0_5.IsWhole := Memref.isWhole_whole _
    have hS6 : scM0_6.IsWhole := Memref.isWhole_whole _
    have hT0 : tbM0_0.IsWhole := Memref.isWhole_whole _
    have hT1 : tbM0_1.IsWhole := Memref.isWhole_whole _
    sl_exec! (disch := first | (guard_target = k0_chk1 _; exact k0_hw1) | (guard_target = ¬(Scalar.cmpi = _); exact k0_h1) | (guard_target = ¬(Scalar.cmpi = _); exact hc2) | (guard_target = ¬(k0_cond3 _ _ = _); exact k0_h3) | (guard_target = ¬(k0_cond4 _ = _); exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]
    · iexists _; isplitr; · ipureintro; exact harg9.read_unread _
      iexact HO6
    isplitl [HO7]
    · iexists _; isplitr; · ipureintro; exact harg10.read_unread _
      iexact HO7
    isplitl [HO8]
    · iexists _; isplitr; · ipureintro; exact harg11.read_unread _
      iexact HO8
    isplitl [HS0]; · iexact HS0
    isplitl [HS1]; · iexact HS1
    isplitl [HS2]; · iexact HS2
    isplitl [HS3]; · iexact HS3
    isplitl [HS4]; · iexact HS4
    isplitl [HS5]; · iexact HS5
    iexact HS6⟩

set_option backward.proofsInPublic true in
set_option maxHeartbeats 8000000 in
/-- PATH E (points 135): what the body leaves — per stored output its pieces (last first), per scratch its
    contents — WITH the proof that, on whole staging memrefs, from the inputs at their blocks, the tables, the outputs
    (6: stored, 7: stored, 8: stored) and the scratches (0: carried, 1: carried, 2: carried, 3: carried, 4: carried, 5: carried, 6: carried), under the path's decisions as
    hypotheses over the words the body reads (`k0_hw1`; `k0_h1`; `hc2`; `k0_h3`; `k0_h4`), the body runs to the continuation holding all of it as stated. The
    body run operation by operation. -/
noncomputable def kernelRun0_E (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x1x8x256x256 .bf16) (harg6 : arg6.IsWhole) (arg7 : Memref sig .tc .vmem S1x1x8x256x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (T0 : (S136.Idx → Elt F .i32)) (T1 : (S136.Idx → Elt F .i32))
     (x0 : (S256x512.Idx → Elt F .bf16)) (x1 : (S256x512.Idx → Elt F .bf16)) (x2 : (S256x512.Idx → Elt F .bf16)) (x3 : (S1x1x8x256x256.Idx → Elt F .bf16)) (x4 : (S1x1x8x256x256.Idx → Elt F .bf16)) (x5 : (S256x512.Idx → Elt F .bf16)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (xa4 : Buf (Elt F) ((c : Thread nD τ).loc cc0_scratch4)) (xa5 : Buf (Elt F) ((c : Thread nD τ).loc cc0_scratch5)) (xa6 : Buf (Elt F) ((c : Thread nD τ).loc cc0_scratch6)) (k0_hw1 : k0_chk1 (View.readAt (Elt F) (tbM0_1).view (Rect.unit (s := S136) (k0_off1 i) S1.size (k0_off1_inb i)).toLoadRect T1 (Shape.Idx.first (numel1_S1.symm ▸ Nat.one_pos)))) (k0_h1 : ¬((Scalar.cmpi .ne (Scalar.extui (Scalar.cmpi .eq (BitVec.ofNat 32 (i 0).val) 0#32)) 0#32) = 1#1)) (hc2 : ¬((Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1)) (k0_h3 : k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1) (k0_h4 : k0_cond4 i = 1#1) :
    Σ' (out0 : List (View.Piece (Elt F) S256x512 .bf16)) (out1 : List (View.Piece (Elt F) S4096x512 .bf16)) (out2 : List (View.Piece (Elt F) S4096x512 .bf16)) (out3 : Buf (Elt F) ((c : Thread nD τ).loc cc0_scratch0)) (out4 : Buf (Elt F) ((c : Thread nD τ).loc cc0_scratch1)) (out5 : Buf (Elt F) ((c : Thread nD τ).loc cc0_scratch2)) (out6 : Buf (Elt F) ((c : Thread nD τ).loc cc0_scratch3)) (out7 : Buf (Elt F) ((c : Thread nD τ).loc cc0_scratch4)) (out8 : Buf (Elt F) ((c : Thread nD τ).loc cc0_scratch5)), { out9 : Buf (Elt F) ((c : Thread nD τ).loc cc0_scratch6) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (∃ d, owns (c : Thread nD τ) arg10 fullShare d)
          ∗ (∃ d, owns (c : Thread nD τ) arg11 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (scM0_4.view.loc (c : Thread nD τ) ↦{fullShare} xa4)
          ∗ (scM0_5.view.loc (c : Thread nD τ) ↦{fullShare} xa5)
          ∗ (scM0_6.view.loc (c : Thread nD τ) ↦{fullShare} xa6)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (arg8.view.loc (c : Thread nD τ) ↦[arg8.view.set]{fullShare} arg8.view.rep x5)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt F) f out0)
              ∗ (∃ f, arg10.view.loc (c : Thread nD τ) ↦[arg10.view.set]{fullShare} arg10.view.writes (Elt F) f out1)
              ∗ (∃ f, arg11.view.loc (c : Thread nD τ) ↦[arg11.view.set]{fullShare} arg11.view.writes (Elt F) f out2)
              ∗ (scM0_0.view.loc (c : Thread nD τ) ↦{fullShare} out3)
              ∗ (scM0_1.view.loc (c : Thread nD τ) ↦{fullShare} out4)
              ∗ (scM0_2.view.loc (c : Thread nD τ) ↦{fullShare} out5)
              ∗ (scM0_3.view.loc (c : Thread nD τ) ↦{fullShare} out6)
              ∗ (scM0_4.view.loc (c : Thread nD τ) ↦{fullShare} out7)
              ∗ (scM0_5.view.loc (c : Thread nD τ) ↦{fullShare} out8)
              ∗ (scM0_6.view.loc (c : Thread nD τ) ↦{fullShare} out9)) -∗ K ⟨⟩))
          ⊢ wp frame (wpE (defs₀ (F := F)) Variants.none c none) Set.univ (cc0_sb_bwd i tbM0_0 (Memref.isWhole_whole _) tbM0_1 (Memref.isWhole_whole _) arg3 harg3 arg4 harg4 arg5 harg5 arg6 harg6 arg7 harg7 arg8 harg8 arg9 harg9 arg10 harg10 arg11 harg11 scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _)) K } :=
  ⟨_, _, _, _, _, _, _, _, _, _, fun K => by
    unfold owns
    rw [cc0_sb_bwd_eq_skeleton]; unfold cc0_sb_bwd_skel
    iintro ⟨H0, H1, H2, H3, H4, H5, HT0, HT1, ⟨%d6, %f6, -, HO6⟩, ⟨%d7, %f7, -, HO7⟩, ⟨%d8, %f8, -, HO8⟩, HS0, HS1, HS2, HS3, HS4, HS5, HS6, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hS4 : scM0_4.IsWhole := Memref.isWhole_whole _
    have hS5 : scM0_5.IsWhole := Memref.isWhole_whole _
    have hS6 : scM0_6.IsWhole := Memref.isWhole_whole _
    have hT0 : tbM0_0.IsWhole := Memref.isWhole_whole _
    have hT1 : tbM0_1.IsWhole := Memref.isWhole_whole _
    sl_exec! (disch := first | (guard_target = k0_chk1 _; exact k0_hw1) | (guard_target = ¬(Scalar.cmpi = _); exact k0_h1) | (guard_target = ¬(Scalar.cmpi = _); exact hc2) | (guard_target = k0_cond3 _ _ = _; exact k0_h3) | (guard_target = k0_cond4 _ = _; exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; iexact HO6
    isplitl [HO7]; · iexists _; iexact HO7
    isplitl [HO8]; · iexists _; iexact HO8
    isplitl [HS0]; · iexact HS0
    isplitl [HS1]; · iexact HS1
    isplitl [HS2]; · iexact HS2
    isplitl [HS3]; · iexact HS3
    isplitl [HS4]; · iexact HS4
    isplitl [HS5]; · iexact HS5
    iexact HS6⟩

/-- Path E's pieces for output 6 tile its block (1 store of `S256x512`, decided). -/
theorem cover0_E_6 (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x1x8x256x256 .bf16) (harg6 : arg6.IsWhole) (arg7 : Memref sig .tc .vmem S1x1x8x256x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (T0 : (S136.Idx → Elt F .i32)) (T1 : (S136.Idx → Elt F .i32))
     (x0 : (S256x512.Idx → Elt F .bf16)) (x1 : (S256x512.Idx → Elt F .bf16)) (x2 : (S256x512.Idx → Elt F .bf16)) (x3 : (S1x1x8x256x256.Idx → Elt F .bf16)) (x4 : (S1x1x8x256x256.Idx → Elt F .bf16)) (x5 : (S256x512.Idx → Elt F .bf16)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (xa4 : Buf (Elt F) ((c : Thread nD τ).loc cc0_scratch4)) (xa5 : Buf (Elt F) ((c : Thread nD τ).loc cc0_scratch5)) (xa6 : Buf (Elt F) ((c : Thread nD τ).loc cc0_scratch6)) (k0_hw1 : k0_chk1 (View.readAt (Elt F) (tbM0_1).view (Rect.unit (s := S136) (k0_off1 i) S1.size (k0_off1_inb i)).toLoadRect T1 (Shape.Idx.first (numel1_S1.symm ▸ Nat.one_pos)))) (k0_h1 : ¬((Scalar.cmpi .ne (Scalar.extui (Scalar.cmpi .eq (BitVec.ofNat 32 (i 0).val) 0#32)) 0#32) = 1#1)) (hc2 : ¬((Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1)) (k0_h3 : k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1) (k0_h4 : k0_cond4 i = 1#1) (y : S256x512.Idx) :
    ∃ pc ∈ (kernelRun0_E c i arg3 harg3 arg4 harg4 arg5 harg5 arg6 harg6 arg7 harg7 arg8 harg8 arg9 harg9 arg10 harg10 arg11 harg11 T0 T1 x0 x1 x2 x3 x4 x5 xa0 xa1 xa2 xa3 xa4 xa5 xa6 k0_hw1 k0_h1 hc2 k0_h3 k0_h4).1, y ∈ pc.1.set :=
  View.cover_of_tiledL (kernelRun0_E c i arg3 harg3 arg4 harg4 arg5 harg5 arg6 harg6 arg7 harg7 arg8 harg8 arg9 harg9 arg10 harg10 arg11 harg11 T0 T1 x0 x1 x2 x3 x4 x5 xa0 xa1 xa2 xa3 xa4 xa5 xa6 k0_hw1 k0_h1 hc2 k0_h3 k0_h4).1 S256x512.size (by sl_kernel_rfl) y

/-- What path E leaves in output 6's staging buffer: its pieces read back over junk. -/
def out0_E_6 (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x1x8x256x256 .bf16) (harg6 : arg6.IsWhole) (arg7 : Memref sig .tc .vmem S1x1x8x256x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (T0 : (S136.Idx → Elt F .i32)) (T1 : (S136.Idx → Elt F .i32))
     (x0 : (S256x512.Idx → Elt F .bf16)) (x1 : (S256x512.Idx → Elt F .bf16)) (x2 : (S256x512.Idx → Elt F .bf16)) (x3 : (S1x1x8x256x256.Idx → Elt F .bf16)) (x4 : (S1x1x8x256x256.Idx → Elt F .bf16)) (x5 : (S256x512.Idx → Elt F .bf16)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (xa4 : Buf (Elt F) ((c : Thread nD τ).loc cc0_scratch4)) (xa5 : Buf (Elt F) ((c : Thread nD τ).loc cc0_scratch5)) (xa6 : Buf (Elt F) ((c : Thread nD τ).loc cc0_scratch6)) (k0_hw1 : k0_chk1 (View.readAt (Elt F) (tbM0_1).view (Rect.unit (s := S136) (k0_off1 i) S1.size (k0_off1_inb i)).toLoadRect T1 (Shape.Idx.first (numel1_S1.symm ▸ Nat.one_pos)))) (k0_h1 : ¬((Scalar.cmpi .ne (Scalar.extui (Scalar.cmpi .eq (BitVec.ofNat 32 (i 0).val) 0#32)) 0#32) = 1#1)) (hc2 : ¬((Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1)) (k0_h3 : k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1) (k0_h4 : k0_cond4 i = 1#1) : (S256x512.Idx → Elt F .bf16) :=
  VO0_6.read (Elt F) (VO0_6.writes (Elt F) VO0_6.junk (kernelRun0_E c i arg3 harg3 arg4 harg4 arg5 harg5 arg6 harg6 arg7 harg7 arg8 harg8 arg9 harg9 arg10 harg10 arg11 harg11 T0 T1 x0 x1 x2 x3 x4 x5 xa0 xa1 xa2 xa3 xa4 xa5 xa6 k0_hw1 k0_h1 hc2 k0_h3 k0_h4).1)

/-- Path E's pieces for output 7 tile its block (16 store of `S256x512`, decided). -/
theorem cover0_E_7 (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x1x8x256x256 .bf16) (harg6 : arg6.IsWhole) (arg7 : Memref sig .tc .vmem S1x1x8x256x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (T0 : (S136.Idx → Elt F .i32)) (T1 : (S136.Idx → Elt F .i32))
     (x0 : (S256x512.Idx → Elt F .bf16)) (x1 : (S256x512.Idx → Elt F .bf16)) (x2 : (S256x512.Idx → Elt F .bf16)) (x3 : (S1x1x8x256x256.Idx → Elt F .bf16)) (x4 : (S1x1x8x256x256.Idx → Elt F .bf16)) (x5 : (S256x512.Idx → Elt F .bf16)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (xa4 : Buf (Elt F) ((c : Thread nD τ).loc cc0_scratch4)) (xa5 : Buf (Elt F) ((c : Thread nD τ).loc cc0_scratch5)) (xa6 : Buf (Elt F) ((c : Thread nD τ).loc cc0_scratch6)) (k0_hw1 : k0_chk1 (View.readAt (Elt F) (tbM0_1).view (Rect.unit (s := S136) (k0_off1 i) S1.size (k0_off1_inb i)).toLoadRect T1 (Shape.Idx.first (numel1_S1.symm ▸ Nat.one_pos)))) (k0_h1 : ¬((Scalar.cmpi .ne (Scalar.extui (Scalar.cmpi .eq (BitVec.ofNat 32 (i 0).val) 0#32)) 0#32) = 1#1)) (hc2 : ¬((Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1)) (k0_h3 : k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1) (k0_h4 : k0_cond4 i = 1#1) (y : S4096x512.Idx) :
    ∃ pc ∈ (kernelRun0_E c i arg3 harg3 arg4 harg4 arg5 harg5 arg6 harg6 arg7 harg7 arg8 harg8 arg9 harg9 arg10 harg10 arg11 harg11 T0 T1 x0 x1 x2 x3 x4 x5 xa0 xa1 xa2 xa3 xa4 xa5 xa6 k0_hw1 k0_h1 hc2 k0_h3 k0_h4).2.1, y ∈ pc.1.set :=
  View.cover_of_tiledL (kernelRun0_E c i arg3 harg3 arg4 harg4 arg5 harg5 arg6 harg6 arg7 harg7 arg8 harg8 arg9 harg9 arg10 harg10 arg11 harg11 T0 T1 x0 x1 x2 x3 x4 x5 xa0 xa1 xa2 xa3 xa4 xa5 xa6 k0_hw1 k0_h1 hc2 k0_h3 k0_h4).2.1 S256x512.size (by sl_kernel_rfl) y

/-- What path E leaves in output 7's staging buffer: its pieces read back over junk. -/
def out0_E_7 (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x1x8x256x256 .bf16) (harg6 : arg6.IsWhole) (arg7 : Memref sig .tc .vmem S1x1x8x256x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (T0 : (S136.Idx → Elt F .i32)) (T1 : (S136.Idx → Elt F .i32))
     (x0 : (S256x512.Idx → Elt F .bf16)) (x1 : (S256x512.Idx → Elt F .bf16)) (x2 : (S256x512.Idx → Elt F .bf16)) (x3 : (S1x1x8x256x256.Idx → Elt F .bf16)) (x4 : (S1x1x8x256x256.Idx → Elt F .bf16)) (x5 : (S256x512.Idx → Elt F .bf16)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (xa4 : Buf (Elt F) ((c : Thread nD τ).loc cc0_scratch4)) (xa5 : Buf (Elt F) ((c : Thread nD τ).loc cc0_scratch5)) (xa6 : Buf (Elt F) ((c : Thread nD τ).loc cc0_scratch6)) (k0_hw1 : k0_chk1 (View.readAt (Elt F) (tbM0_1).view (Rect.unit (s := S136) (k0_off1 i) S1.size (k0_off1_inb i)).toLoadRect T1 (Shape.Idx.first (numel1_S1.symm ▸ Nat.one_pos)))) (k0_h1 : ¬((Scalar.cmpi .ne (Scalar.extui (Scalar.cmpi .eq (BitVec.ofNat 32 (i 0).val) 0#32)) 0#32) = 1#1)) (hc2 : ¬((Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1)) (k0_h3 : k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1) (k0_h4 : k0_cond4 i = 1#1) : (S4096x512.Idx → Elt F .bf16) :=
  VO0_7.read (Elt F) (VO0_7.writes (Elt F) VO0_7.junk (kernelRun0_E c i arg3 harg3 arg4 harg4 arg5 harg5 arg6 harg6 arg7 harg7 arg8 harg8 arg9 harg9 arg10 harg10 arg11 harg11 T0 T1 x0 x1 x2 x3 x4 x5 xa0 xa1 xa2 xa3 xa4 xa5 xa6 k0_hw1 k0_h1 hc2 k0_h3 k0_h4).2.1)

/-- Path E's pieces for output 8 tile its block (16 store of `S256x512`, decided). -/
theorem cover0_E_8 (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x1x8x256x256 .bf16) (harg6 : arg6.IsWhole) (arg7 : Memref sig .tc .vmem S1x1x8x256x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (T0 : (S136.Idx → Elt F .i32)) (T1 : (S136.Idx → Elt F .i32))
     (x0 : (S256x512.Idx → Elt F .bf16)) (x1 : (S256x512.Idx → Elt F .bf16)) (x2 : (S256x512.Idx → Elt F .bf16)) (x3 : (S1x1x8x256x256.Idx → Elt F .bf16)) (x4 : (S1x1x8x256x256.Idx → Elt F .bf16)) (x5 : (S256x512.Idx → Elt F .bf16)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (xa4 : Buf (Elt F) ((c : Thread nD τ).loc cc0_scratch4)) (xa5 : Buf (Elt F) ((c : Thread nD τ).loc cc0_scratch5)) (xa6 : Buf (Elt F) ((c : Thread nD τ).loc cc0_scratch6)) (k0_hw1 : k0_chk1 (View.readAt (Elt F) (tbM0_1).view (Rect.unit (s := S136) (k0_off1 i) S1.size (k0_off1_inb i)).toLoadRect T1 (Shape.Idx.first (numel1_S1.symm ▸ Nat.one_pos)))) (k0_h1 : ¬((Scalar.cmpi .ne (Scalar.extui (Scalar.cmpi .eq (BitVec.ofNat 32 (i 0).val) 0#32)) 0#32) = 1#1)) (hc2 : ¬((Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1)) (k0_h3 : k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1) (k0_h4 : k0_cond4 i = 1#1) (y : S4096x512.Idx) :
    ∃ pc ∈ (kernelRun0_E c i arg3 harg3 arg4 harg4 arg5 harg5 arg6 harg6 arg7 harg7 arg8 harg8 arg9 harg9 arg10 harg10 arg11 harg11 T0 T1 x0 x1 x2 x3 x4 x5 xa0 xa1 xa2 xa3 xa4 xa5 xa6 k0_hw1 k0_h1 hc2 k0_h3 k0_h4).2.2.1, y ∈ pc.1.set :=
  View.cover_of_tiledL (kernelRun0_E c i arg3 harg3 arg4 harg4 arg5 harg5 arg6 harg6 arg7 harg7 arg8 harg8 arg9 harg9 arg10 harg10 arg11 harg11 T0 T1 x0 x1 x2 x3 x4 x5 xa0 xa1 xa2 xa3 xa4 xa5 xa6 k0_hw1 k0_h1 hc2 k0_h3 k0_h4).2.2.1 S256x512.size (by sl_kernel_rfl) y

/-- What path E leaves in output 8's staging buffer: its pieces read back over junk. -/
def out0_E_8 (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x1x8x256x256 .bf16) (harg6 : arg6.IsWhole) (arg7 : Memref sig .tc .vmem S1x1x8x256x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (T0 : (S136.Idx → Elt F .i32)) (T1 : (S136.Idx → Elt F .i32))
     (x0 : (S256x512.Idx → Elt F .bf16)) (x1 : (S256x512.Idx → Elt F .bf16)) (x2 : (S256x512.Idx → Elt F .bf16)) (x3 : (S1x1x8x256x256.Idx → Elt F .bf16)) (x4 : (S1x1x8x256x256.Idx → Elt F .bf16)) (x5 : (S256x512.Idx → Elt F .bf16)) (xa0 : Buf (Elt F) ((c : Thread nD τ).loc cc0_scratch0)) (xa1 : Buf (Elt F) ((c : Thread nD τ).loc cc0_scratch1)) (xa2 : Buf (Elt F) ((c : Thread nD τ).loc cc0_scratch2)) (xa3 : Buf (Elt F) ((c : Thread nD τ).loc cc0_scratch3)) (xa4 : Buf (Elt F) ((c : Thread nD τ).loc cc0_scratch4)) (xa5 : Buf (Elt F) ((c : Thread nD τ).loc cc0_scratch5)) (xa6 : Buf (Elt F) ((c : Thread nD τ).loc cc0_scratch6)) (k0_hw1 : k0_chk1 (View.readAt (Elt F) (tbM0_1).view (Rect.unit (s := S136) (k0_off1 i) S1.size (k0_off1_inb i)).toLoadRect T1 (Shape.Idx.first (numel1_S1.symm ▸ Nat.one_pos)))) (k0_h1 : ¬((Scalar.cmpi .ne (Scalar.extui (Scalar.cmpi .eq (BitVec.ofNat 32 (i 0).val) 0#32)) 0#32) = 1#1)) (hc2 : ¬((Scalar.cmpi .ne (Scalar.extui (Scalar.cmpi .eq (View.readAt (Elt F) (tbM0_1).view (Rect.unit (s := S136) (k0_off1 i) S1.size (k0_off1_inb i)).toLoadRect T1 (Shape.Idx.first (numel1_S1.symm ▸ Nat.one_pos))) 0#32)) 0#32) = 1#1)) (k0_h3 : k0_cond3 (View.readAt (Elt F) (tbM0_0).view (Rect.unit (s := S136) (k0_off1 i) S1.size (k0_off1_inb i)).toLoadRect T0 (Shape.Idx.first (numel1_S1.symm ▸ Nat.one_pos))) (View.readAt (Elt F) (tbM0_1).view (Rect.unit (s := S136) (k0_off1 i) S1.size (k0_off1_inb i)).toLoadRect T1 (Shape.Idx.first (numel1_S1.symm ▸ Nat.one_pos))) = 1#1) (k0_h4 : k0_cond4 i = 1#1) : (S4096x512.Idx → Elt F .bf16) :=
  VO0_8.read (Elt F) (VO0_8.writes (Elt F) VO0_8.junk (kernelRun0_E c i arg3 harg3 arg4 harg4 arg5 harg5 arg6 harg6 arg7 harg7 arg8 harg8 arg9 harg9 arg10 harg10 arg11 harg11 T0 T1 x0 x1 x2 x3 x4 x5 xa0 xa1 xa2 xa3 xa4 xa5 xa6 k0_hw1 k0_h1 hc2 k0_h3 k0_h4).2.2.1)

end Cert.Stick

end
-- ==== Proof.StickAdds.lean ====
/- The four stores by which one grid point adds its part into the running sums of one column block. -/
module

public import proofs.«01_k».proof.Proof.StickRuns
public import proofs.«01_k».proof.Proof.Gen.Kernel11Ideal.Skeleton
public import Idealize.ShloMosaic.Lib.Pipeline.ValueKit
public import Idealize.ShloMosaic.Lib.StableHlo.ReadAt
public import Idealize.ShloMosaic.Lib.Pointwise
public import proofs.«01_k».proof.Proof.Gen.Kernel11Ideal.Launch
public import Idealize.ShloMosaic.Lib.Pipeline.Frame
public import Idealize.ShloMosaic.Lib.StableHlo.ReadAt
public import Idealize.ShloMosaic.Adequacy
public import Idealize.ShloMosaic.Init
public import Idealize.ShloMosaic.Lib.Affine
public import Idealize.ShloMosaic.Lib.Claim
public import Idealize.ShloMosaic.Lib.Exec
public import Idealize.ShloMosaic.Lib.Pipeline.FrameBody
public import Idealize.ShloMosaic.Lib.Pipeline.Kit
public import Idealize.ShloMosaic.Lib.Pipeline.Quiescent
public import Idealize.ShloMosaic.Lib.Pipeline.TableIdle
public import Idealize.ShloMosaic.Lib.Ring
public import Idealize.ShloMosaic.Lib.Tactic
public import Idealize.ShloMosaic.Lib.Writes
public import Idealize.ShloMosaic.PureOps.Ideal

@[expose] public section

set_option maxRecDepth 16384
set_option Elab.async false

noncomputable section

namespace Cert.Stick

open Cert.Kernel11Ideal Cert.Kernel11Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The sums kept while the grid runs: per block of columns, per feature, per column of the block. -/
abbrev Sums : Type := S16x512x256.Idx → EReal

/-- A write of 128 features of one block, read inside them. -/
theorem write_hit {κ : Kind} {sp : Space} (v : View sig κ sp S16x512x256 .f32) (f : v.ty.Contents (Elt Ideal)) (L : List (View.Piece (Elt Ideal) S16x512x256 .f32))
    (o : Fin 3 → ℕ) (h : ∀ a, o a + S1x128x256.size a ≤ S16x512x256.size a)
    (w : S1x128x256.Idx → EReal) (x : S16x512x256.Idx) (r : Fin 128) (h0 : (x 0).val = o 0) (h1 : (x 1).val = o 1 + r.val) (h2 : o 2 = 0) :
    v.read (Elt Ideal) (v.writes (Elt Ideal) f (⟨Rect.unit (s := S16x512x256) o S1x128x256.size h, w⟩ :: L)) x = w (ix3 0 r (x 2)) :=
  View.read_writes_cons_hit_of_coords v f (Rect.unit (s := S16x512x256) o S1x128x256.size h) w L (ix3 0 r (x 2)) x fun a => by
    fin_cases a
    · show (x 0).val = o 0 + 1 * 0; omega
    · show (x 1).val = o 1 + 1 * r.val; omega
    · show (x 2).val = o 2 + 1 * (x 2).val; omega

/-- A write of 128 features of one block, read outside them. -/
theorem write_miss {κ : Kind} {sp : Space} (v : View sig κ sp S16x512x256 .f32) (f : v.ty.Contents (Elt Ideal)) (L : List (View.Piece (Elt Ideal) S16x512x256 .f32))
    (o : Fin 3 → ℕ) (h : ∀ a, o a + S1x128x256.size a ≤ S16x512x256.size a)
    (w : S1x128x256.Idx → EReal) (x : S16x512x256.Idx) (hx : ¬((x 0).val = o 0 ∧ o 1 ≤ (x 1).val ∧ (x 1).val < o 1 + 128)) :
    v.read (Elt Ideal) (v.writes (Elt Ideal) f (⟨Rect.unit (s := S16x512x256) o S1x128x256.size h, w⟩ :: L)) x
      = v.read (Elt Ideal) (v.writes (Elt Ideal) f L) x := by
  by_cases h0 : (x 0).val = o 0
  · exact View.read_writes_cons_miss_of_axis v f _ L x (1 : Fin 3) (o 1) 128 rfl rfl rfl (by omega)
  · exact View.read_writes_cons_miss_of_axis v f _ L x (0 : Fin 3) (o 0) 1 rfl rfl rfl (by omega)

/-- What the buffer of the sums holds after a list of writes. -/
def kept (f : Sums) (L : List (View.Piece (Elt Ideal) S16x512x256 .f32)) : Sums :=
  scM0_3.view.read (Elt Ideal) (scM0_3.view.writes (Elt Ideal) f L)

/-- The same of the buffer of the sums: a write read inside. -/
theorem put_hit (f : Sums) (L : List (View.Piece (Elt Ideal) S16x512x256 .f32)) (o : Fin 3 → ℕ) (h : ∀ a, o a + S1x128x256.size a ≤ S16x512x256.size a)
    (w : S1x128x256.Idx → EReal) (x : S16x512x256.Idx) (r : Fin 128) (h0 : (x 0).val = o 0) (h1 : (x 1).val = o 1 + r.val) (h2 : o 2 = 0) :
    kept f (⟨Rect.unit (s := S16x512x256) o S1x128x256.size h, w⟩ :: L) x = w (ix3 0 r (x 2)) :=
  write_hit scM0_3.view f L o h w x r h0 h1 h2

/-- The same of the buffer of the sums: a write read outside. -/
theorem put_miss (f : Sums) (L : List (View.Piece (Elt Ideal) S16x512x256 .f32)) (o : Fin 3 → ℕ) (h : ∀ a, o a + S1x128x256.size a ≤ S16x512x256.size a)
    (w : S1x128x256.Idx → EReal) (x : S16x512x256.Idx) (hx : ¬((x 0).val = o 0 ∧ o 1 ≤ (x 1).val ∧ (x 1).val < o 1 + 128)) :
    kept f (⟨Rect.unit (s := S16x512x256) o S1x128x256.size h, w⟩ :: L) x = kept f L x :=
  write_miss scM0_3.view f L o h w x hx

/-- A load of 128 features of one block. -/
theorem got (g : Sums) (o : Fin 3 → ℕ) (h : ∀ a, o a + S1x128x256.size a ≤ S16x512x256.size a) (x : S16x512x256.Idx) (r : Fin 128)
    (h0 : (x 0).val = o 0) (h1 : (x 1).val = o 1 + r.val) (h2 : o 2 = 0) :
    View.readAt (Elt Ideal) scM0_3.view (Rect.unit (s := S16x512x256) o S1x128x256.size h).toLoadRect g (ix3 0 r (x 2)) = g x := by
  refine congrArg g (funext fun a => Fin.ext ?_)
  fin_cases a
  · show o 0 + 1 * 0 = (x 0).val; omega
  · show o 1 + 1 * r.val = (x 1).val; omega
  · show o 2 + 1 * (x 2).val = (x 2).val; omega

/-- Four loads, additions and stores, one for each pair of heads, add to one block of columns and leave the others. -/
theorem four_adds (f : Sums) (L : List (View.Piece (Elt Ideal) S16x512x256 .f32)) (o : Fin 4 → Fin 3 → ℕ)
    (h : ∀ p a, o p a + S1x128x256.size a ≤ S16x512x256.size a) (j : ℕ) (ho : ∀ p, o p 0 = j ∧ o p 1 = 128 * p.val ∧ o p 2 = 0)
    (w0 w1 w2 w3 : S1x128x256.Idx → EReal) (G : Fin 4 → Fin 128 → Fin 256 → EReal)
    (hw0 : ∀ y, w0 y = View.readAt (Elt Ideal) scM0_3.view (Rect.unit (s := S16x512x256) (o 0) S1x128x256.size (h 0)).toLoadRect (kept f L) y + G 0 (y 1) (y 2))
    (hw1 : ∀ y, w1 y = View.readAt (Elt Ideal) scM0_3.view (Rect.unit (s := S16x512x256) (o 1) S1x128x256.size (h 1)).toLoadRect
      (kept f (⟨Rect.unit (s := S16x512x256) (o 0) S1x128x256.size (h 0), w0⟩ :: L)) y + G 1 (y 1) (y 2))
    (hw2 : ∀ y, w2 y = View.readAt (Elt Ideal) scM0_3.view (Rect.unit (s := S16x512x256) (o 2) S1x128x256.size (h 2)).toLoadRect
      (kept f (⟨Rect.unit (s := S16x512x256) (o 1) S1x128x256.size (h 1), w1⟩ :: ⟨Rect.unit (s := S16x512x256) (o 0) S1x128x256.size (h 0), w0⟩ :: L)) y + G 2 (y 1) (y 2))
    (hw3 : ∀ y, w3 y = View.readAt (Elt Ideal) scM0_3.view (Rect.unit (s := S16x512x256) (o 3) S1x128x256.size (h 3)).toLoadRect
      (kept f (⟨Rect.unit (s := S16x512x256) (o 2) S1x128x256.size (h 2), w2⟩ :: ⟨Rect.unit (s := S16x512x256) (o 1) S1x128x256.size (h 1), w1⟩ ::
        ⟨Rect.unit (s := S16x512x256) (o 0) S1x128x256.size (h 0), w0⟩ :: L)) y + G 3 (y 1) (y 2))
    (x : S16x512x256.Idx) :
    kept f (⟨Rect.unit (s := S16x512x256) (o 3) S1x128x256.size (h 3), w3⟩ :: ⟨Rect.unit (s := S16x512x256) (o 2) S1x128x256.size (h 2), w2⟩ ::
        ⟨Rect.unit (s := S16x512x256) (o 1) S1x128x256.size (h 1), w1⟩ :: ⟨Rect.unit (s := S16x512x256) (o 0) S1x128x256.size (h 0), w0⟩ :: L) x
      = if (x 0).val = j then kept f L x
          + G ⟨(x 1).val / 128, by have := (x 1).isLt; simp at this; omega⟩ ⟨(x 1).val % 128, Nat.mod_lt _ (by decide)⟩ (x 2)
        else kept f L x := by
  have b : (x 1).val < 512 := (x 1).isLt
  have e0 := ho 0; have e1 := ho 1; have e2 := ho 2; have e3 := ho 3
  simp only [Fin.val_zero, show ((1 : Fin 4) : ℕ) = 1 from rfl, show ((2 : Fin 4) : ℕ) = 2 from rfl, show ((3 : Fin 4) : ℕ) = 3 from rfl] at e0 e1 e2 e3
  by_cases hj : (x 0).val = j
  · rw [if_pos hj]
    have hr : (x 1).val % 128 < 128 := Nat.mod_lt _ (by decide)
    rcases (show (x 1).val / 128 = 0 ∨ (x 1).val / 128 = 1 ∨ (x 1).val / 128 = 2 ∨ (x 1).val / 128 = 3 by omega) with hp | hp | hp | hp
    · rw [put_miss _ _ _ _ _ _ (by omega), put_miss _ _ _ _ _ _ (by omega), put_miss _ _ _ _ _ _ (by omega),
        put_hit _ _ _ _ _ _ ⟨(x 1).val % 128, hr⟩ (by omega) (by show _ = _ + (x 1).val % 128; omega) (by omega), hw0,
        got _ _ _ _ ⟨(x 1).val % 128, hr⟩ (by omega) (by show _ = _ + (x 1).val % 128; omega) (by omega)]
      exact congrArg (fun p => kept f L x + G p _ _) (Fin.ext hp.symm)
    · rw [put_miss _ _ _ _ _ _ (by omega), put_miss _ _ _ _ _ _ (by omega),
        put_hit _ _ _ _ _ _ ⟨(x 1).val % 128, hr⟩ (by omega) (by show _ = _ + (x 1).val % 128; omega) (by omega), hw1,
        got _ _ _ _ ⟨(x 1).val % 128, hr⟩ (by omega) (by show _ = _ + (x 1).val % 128; omega) (by omega),
        put_miss _ _ _ _ _ _ (by omega)]
      exact congrArg (fun p => kept f L x + G p _ _) (Fin.ext hp.symm)
    · rw [put_miss _ _ _ _ _ _ (by omega),
        put_hit _ _ _ _ _ _ ⟨(x 1).val % 128, hr⟩ (by omega) (by show _ = _ + (x 1).val % 128; omega) (by omega), hw2,
        got _ _ _ _ ⟨(x 1).val % 128, hr⟩ (by omega) (by show _ = _ + (x 1).val % 128; omega) (by omega),
        put_miss _ _ _ _ _ _ (by omega), put_miss _ _ _ _ _ _ (by omega)]
      exact congrArg (fun p => kept f L x + G p _ _) (Fin.ext hp.symm)
    · rw [put_hit _ _ _ _ _ _ ⟨(x 1).val % 128, hr⟩ (by omega) (by show _ = _ + (x 1).val % 128; omega) (by omega), hw3,
        got _ _ _ _ ⟨(x 1).val % 128, hr⟩ (by omega) (by show _ = _ + (x 1).val % 128; omega) (by omega),
        put_miss _ _ _ _ _ _ (by omega), put_miss _ _ _ _ _ _ (by omega), put_miss _ _ _ _ _ _ (by omega)]
      exact congrArg (fun p => kept f L x + G p _ _) (Fin.ext hp.symm)
  · rw [if_neg hj, put_miss _ _ _ _ _ _ (by omega), put_miss _ _ _ _ _ _ (by omega), put_miss _ _ _ _ _ _ (by omega), put_miss _ _ _ _ _ _ (by omega)]

end Cert.Stick

end
-- ==== Proof.StickPays.lean ====
/- What the stored values of one grid point are at each index. -/
module

public import proofs.«01_k».proof.Proof.StickAdds
public import proofs.«01_k».proof.Proof.Gen.Kernel11Ideal.Skeleton
public import Idealize.ShloMosaic.Lib.Pipeline.ValueKit
public import Idealize.ShloMosaic.Lib.StableHlo.ReadAt
public import Idealize.ShloMosaic.Lib.Pointwise
public import proofs.«01_k».proof.Proof.Gen.Kernel11Ideal.Launch
public import Idealize.ShloMosaic.Lib.Pipeline.Frame
public import Idealize.ShloMosaic.Lib.StableHlo.ReadAt
public import Idealize.ShloMosaic.Adequacy
public import Idealize.ShloMosaic.Init
public import Idealize.ShloMosaic.Lib.Affine
public import Idealize.ShloMosaic.Lib.Claim
public import Idealize.ShloMosaic.Lib.Exec
public import Idealize.ShloMosaic.Lib.Pipeline.FrameBody
public import Idealize.ShloMosaic.Lib.Pipeline.Kit
public import Idealize.ShloMosaic.Lib.Pipeline.Quiescent
public import Idealize.ShloMosaic.Lib.Pipeline.TableIdle
public import Idealize.ShloMosaic.Lib.Ring
public import Idealize.ShloMosaic.Lib.Tactic
public import Idealize.ShloMosaic.Lib.Writes
public import Idealize.ShloMosaic.PureOps.Ideal

@[expose] public section

set_option maxRecDepth 16384
set_option Elab.async false

noncomputable section

namespace Cert.Stick

open Cert.Kernel11Ideal Cert.Kernel11Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The tile of weights of one pair of heads, the second head's rows under the first's. -/
def stacked (a : S1x1x8x256x256.Idx → EReal) (p : Fin 4) (c : Fin 512) (y : Fin 256) : EReal :=
  if h : c.val < 256 then a (ix5 (0 : Fin 1) (0 : Fin 1) (⟨2 * p.val, by omega⟩ : Fin 8) (⟨c.val, h⟩ : Fin 256) y)
  else a (ix5 (0 : Fin 1) (0 : Fin 1) (⟨2 * p.val + 1, by omega⟩ : Fin 8) (⟨c.val - 256, by omega⟩ : Fin 256) y)

/-- What one pair of heads adds to feature `r` of its 128 and column `y` of the block. -/
def added (d : S4x128x512.Idx → EReal) (a : S1x1x8x256x256.Idx → EReal) (p : Fin 4) (r : Fin 128) (y : Fin 256) : EReal :=
  ∑ c : Fin 512, d (ix3 p r c) * stacked a p c y

set_option maxHeartbeats 1000000 in
theorem pay66 (v : FVec Ideal S1x128x256 .f32) (d : FVec Ideal S1x128x512 .bf16) (a b : FVec Ideal S1x1x1x256x256 .bf16) (x : S1x128x256.Idx) :
    k0_pay66 (F := Ideal) v d a b x = v x + ∑ c : Fin 512, d (ix3 0 (x 1) c) * (if h : c.val < 256 then a (ix5 0 0 0 ⟨c.val, h⟩ (x 2)) else b (ix5 0 0 0 ⟨c.val - 256, by omega⟩ (x 2))) := by
  pointwise [k0_pay66]

set_option maxHeartbeats 1000000 in
theorem pay86 (v : FVec Ideal S1x128x256 .f32) (d : FVec Ideal S1x128x512 .bf16) (a b : FVec Ideal S1x1x1x256x256 .bf16) (x : S1x128x256.Idx) :
    k0_pay86 (F := Ideal) v d a b x = v x + ∑ c : Fin 512, d (ix3 0 (x 1) c) * (if h : c.val < 256 then a (ix5 0 0 0 ⟨c.val, h⟩ (x 2)) else b (ix5 0 0 0 ⟨c.val - 256, by omega⟩ (x 2))) := by
  pointwise [k0_pay86]

set_option maxHeartbeats 1000000 in
theorem pay102 (v : FVec Ideal S1x128x256 .f32) (d : FVec Ideal S1x128x512 .bf16) (a b : FVec Ideal S1x1x1x256x256 .bf16) (x : S1x128x256.Idx) :
    k0_pay102 (F := Ideal) v d a b x = v x + ∑ c : Fin 512, d (ix3 0 (x 1) c) * (if h : c.val < 256 then a (ix5 0 0 0 ⟨c.val, h⟩ (x 2)) else b (ix5 0 0 0 ⟨c.val - 256, by omega⟩ (x 2))) := by
  pointwise [k0_pay102]

set_option maxHeartbeats 1000000 in
theorem pay1 (v : FVec Ideal S1x128x256 .f32) (d : FVec Ideal S1x128x512 .bf16) (a b : FVec Ideal S1x1x1x256x256 .bf16) (x : S1x128x256.Idx) :
    k0_pay1 (F := Ideal) (k0_pay119 v) (k0_pay120 d) (k0_pay121 a b) x = v x + ∑ c : Fin 512, d (ix3 0 (x 1) c) * (if h : c.val < 256 then a (ix5 0 0 0 ⟨c.val, h⟩ (x 2)) else b (ix5 0 0 0 ⟨c.val - 256, by omega⟩ (x 2))) := by
  pointwise [k0_pay1, k0_pay119, k0_pay120, k0_pay121]

/-- The rows of one pair of heads out of the kept rows of the cotangent. -/
theorem rows_at (d : S4x128x512.Idx → EReal) (p : ℕ) (hp : p < 4) (h : ∀ a, (![p, 0, 0] : Fin 3 → ℕ) a + S1x128x512.size a ≤ S4x128x512.size a) (r : Fin 128) (c : Fin 512) :
    View.readAt (Elt Ideal) scM0_6.view (Rect.unit (s := S4x128x512) ![p, 0, 0] S1x128x512.size h).toLoadRect d (ix3 0 r c) = d (ix3 (⟨p, hp⟩ : Fin 4) r c) := by
  refine congrArg d (funext fun a => Fin.ext ?_)
  fin_cases a
  · show p + 1 * 0 = p; omega
  · show 0 + 1 * r.val = r.val; omega
  · show 0 + 1 * c.val = c.val; omega

/-- One head's tile out of the eight. -/
theorem tile_at (arg6 : Memref sig .tc .vmem S1x1x8x256x256 .bf16) (x3 : S1x1x8x256x256.Idx → EReal) (k : ℕ) (hk : k < 8)
    (h : ∀ a, (![0, 0, k, 0, 0] : Fin 5 → ℕ) a + S1x1x1x256x256.size a ≤ S1x1x8x256x256.size a) (r y : Fin 256) :
    View.readAt (Elt Ideal) arg6.view (Rect.unit (s := S1x1x8x256x256) ![0, 0, k, 0, 0] S1x1x1x256x256.size h).toLoadRect (arg6.view.rep x3) (ix5 0 0 0 r y)
      = x3 (ix5 0 0 (⟨k, hk⟩ : Fin 8) r y) := by
  rw [View.readAt_eq_ld, View.read_rep]
  refine congrArg x3 (funext fun a => Fin.ext ?_)
  fin_cases a
  · show 0 + 1 * 0 = 0; omega
  · show 0 + 1 * 0 = 0; omega
  · show k + 1 * 0 = k; omega
  · show 0 + 1 * r.val = r.val; omega
  · show 0 + 1 * y.val = y.val; omega

end Cert.Stick

end
-- ==== Proof.StickAll.lean ====
/- The sums after the four stores are the sums before with the point's part added. -/
module

public import proofs.«01_k».proof.Proof.StickPays
public import proofs.«01_k».proof.Proof.Gen.Kernel11Ideal.Skeleton
public import Idealize.ShloMosaic.Lib.Pipeline.ValueKit
public import Idealize.ShloMosaic.Lib.StableHlo.ReadAt
public import Idealize.ShloMosaic.Lib.Pointwise
public import proofs.«01_k».proof.Proof.Gen.Kernel11Ideal.Launch
public import Idealize.ShloMosaic.Lib.Pipeline.Frame
public import Idealize.ShloMosaic.Lib.StableHlo.ReadAt
public import Idealize.ShloMosaic.Adequacy
public import Idealize.ShloMosaic.Init
public import Idealize.ShloMosaic.Lib.Affine
public import Idealize.ShloMosaic.Lib.Claim
public import Idealize.ShloMosaic.Lib.Exec
public import Idealize.ShloMosaic.Lib.Pipeline.FrameBody
public import Idealize.ShloMosaic.Lib.Pipeline.Kit
public import Idealize.ShloMosaic.Lib.Pipeline.Quiescent
public import Idealize.ShloMosaic.Lib.Pipeline.TableIdle
public import Idealize.ShloMosaic.Lib.Ring
public import Idealize.ShloMosaic.Lib.Tactic
public import Idealize.ShloMosaic.Lib.Writes
public import Idealize.ShloMosaic.PureOps.Ideal

@[expose] public section

set_option maxRecDepth 16384
set_option Elab.async false

noncomputable section

namespace Cert.Stick

open Cert.Kernel11Ideal Cert.Kernel11Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The four offsets of one block of columns. -/
def offs (v : BitVec 32) : Fin 4 → Fin 3 → ℕ := ![k0_off2 v, k0_off3 v, k0_off4 v, k0_off5 v]

/-- One head's tile of weights, as loaded. -/
def loadedTile (arg6 : Memref sig .tc .vmem S1x1x8x256x256 .bf16) (x3 : S1x1x8x256x256.Idx → EReal) (k : ℕ)
    (hk : ∀ a, (![0, 0, k, 0, 0] : Fin 5 → ℕ) a + S1x1x1x256x256.size a ≤ S1x1x8x256x256.size a) : S1x1x1x256x256.Idx → EReal :=
  View.readAt (Elt Ideal) arg6.view (Rect.unit (s := S1x1x8x256x256) ![0, 0, k, 0, 0] S1x1x1x256x256.size hk).toLoadRect (arg6.view.rep x3)

/-- One pair's rows of the cotangent, as loaded. -/
def loadedRows (d : S4x128x512.Idx → EReal) (p : ℕ) (hp : ∀ a, (![p, 0, 0] : Fin 3 → ℕ) a + S1x128x512.size a ≤ S4x128x512.size a) : S1x128x512.Idx → EReal :=
  View.readAt (Elt Ideal) scM0_6.view (Rect.unit (s := S4x128x512) ![p, 0, 0] S1x128x512.size hp).toLoadRect d

/-- One pair's sums of block `v`, as loaded. -/
def loadedSums (f : Sums) (L : List (View.Piece (Elt Ideal) S16x512x256 .f32)) (o : Fin 3 → ℕ) (h : ∀ a, o a + S1x128x256.size a ≤ S16x512x256.size a) : S1x128x256.Idx → EReal :=
  View.readAt (Elt Ideal) scM0_3.view (Rect.unit (s := S16x512x256) o S1x128x256.size h).toLoadRect (kept f L)

section

variable (f : Sums) (L : List (View.Piece (Elt Ideal) S16x512x256 .f32)) (v : BitVec 32) (d : S4x128x512.Idx → EReal)
    (arg6 : Memref sig .tc .vmem S1x1x8x256x256 .bf16) (x3 : S1x1x8x256x256.Idx → EReal)
    (h : ∀ p a, offs v p a + S1x128x256.size a ≤ S16x512x256.size a)

/-- The store of the first pair of heads. -/
def stored0 : List (View.Piece (Elt Ideal) S16x512x256 .f32) :=
  ⟨Rect.unit (s := S16x512x256) (offs v 0) S1x128x256.size (h 0), k0_pay66 (F := Ideal) (loadedSums f L (offs v 0) (h 0)) (loadedRows d 0 inb_S4x128x512_S1x128x512_0_0_0)
    (loadedTile arg6 x3 0 inb_S1x1x8x256x256_S1x1x1x256x256_0_0_0_0_0) (loadedTile arg6 x3 1 inb_S1x1x8x256x256_S1x1x1x256x256_0_0_1_0_0)⟩ :: L

/-- The stores of the first two pairs. -/
def stored1 : List (View.Piece (Elt Ideal) S16x512x256 .f32) :=
  ⟨Rect.unit (s := S16x512x256) (offs v 1) S1x128x256.size (h 1), k0_pay86 (F := Ideal) (loadedSums f (stored0 f L v d arg6 x3 h) (offs v 1) (h 1)) (loadedRows d 1 inb_S4x128x512_S1x128x512_1_0_0)
    (loadedTile arg6 x3 2 inb_S1x1x8x256x256_S1x1x1x256x256_0_0_2_0_0) (loadedTile arg6 x3 3 inb_S1x1x8x256x256_S1x1x1x256x256_0_0_3_0_0)⟩ :: stored0 f L v d arg6 x3 h

/-- The stores of the first three pairs. -/
def stored2 : List (View.Piece (Elt Ideal) S16x512x256 .f32) :=
  ⟨Rect.unit (s := S16x512x256) (offs v 2) S1x128x256.size (h 2), k0_pay102 (F := Ideal) (loadedSums f (stored1 f L v d arg6 x3 h) (offs v 2) (h 2)) (loadedRows d 2 inb_S4x128x512_S1x128x512_2_0_0)
    (loadedTile arg6 x3 4 inb_S1x1x8x256x256_S1x1x1x256x256_0_0_4_0_0) (loadedTile arg6 x3 5 inb_S1x1x8x256x256_S1x1x1x256x256_0_0_5_0_0)⟩ :: stored1 f L v d arg6 x3 h

/-- The stores of the four pairs. -/
def stored3 : List (View.Piece (Elt Ideal) S16x512x256 .f32) :=
  ⟨Rect.unit (s := S16x512x256) (offs v 3) S1x128x256.size (h 3), k0_pay1 (F := Ideal) (k0_pay119 (loadedSums f (stored2 f L v d arg6 x3 h) (offs v 3) (h 3))) (k0_pay120 (loadedRows d 3 inb_S4x128x512_S1x128x512_3_0_0))
    (k0_pay121 (loadedTile arg6 x3 6 inb_S1x1x8x256x256_S1x1x1x256x256_0_0_6_0_0) (loadedTile arg6 x3 7 inb_S1x1x8x256x256_S1x1x1x256x256_0_0_7_0_0))⟩ :: stored2 f L v d arg6 x3 h

/-- After the four pairs of heads of one grid point block `v` of the sums has grown by what the point adds, and the others have stayed. -/
theorem adds (x : S16x512x256.Idx) :
    kept f (stored3 f L v d arg6 x3 h) x
      = if (x 0).val = (Scalar.indexCast v).toNat then kept f L x
          + added d x3 ⟨(x 1).val / 128, by have := (x 1).isLt; simp at this; omega⟩ ⟨(x 1).val % 128, Nat.mod_lt _ (by decide)⟩ (x 2)
        else kept f L x := by
  have tile : ∀ (p : Fin 4) (k k' : ℕ) (hk hk') (c : Fin 512) (y : Fin 256), k = 2 * p.val → k' = 2 * p.val + 1 →
      (if h : c.val < 256 then loadedTile arg6 x3 k hk (ix5 0 0 0 ⟨c.val, h⟩ y) else loadedTile arg6 x3 k' hk' (ix5 0 0 0 ⟨c.val - 256, by omega⟩ y)) = stacked x3 p c y := by
    intro p k k' hk hk' c y e e'
    subst e; subst e'
    unfold stacked
    split
    · exact tile_at arg6 x3 _ (by omega) hk _ y
    · exact tile_at arg6 x3 _ (by omega) hk' _ y
  refine four_adds f L (offs v) h (Scalar.indexCast v).toNat (fun p => by fin_cases p <;> exact ⟨rfl, rfl, rfl⟩) _ _ _ _ (added d x3) ?_ ?_ ?_ ?_ x
  · intro y
    refine (pay66 _ _ _ _ y).trans (congrArg (loadedSums f L (offs v 0) (h 0) y + ·) (Finset.sum_congr rfl fun c _ => ?_))
    exact congrArg₂ (· * ·) (rows_at d 0 (by omega) _ (y 1) c) (tile 0 0 1 _ _ c (y 2) rfl rfl)
  · intro y
    refine (pay86 _ _ _ _ y).trans (congrArg (loadedSums f (stored0 f L v d arg6 x3 h) (offs v 1) (h 1) y + ·) (Finset.sum_congr rfl fun c _ => ?_))
    exact congrArg₂ (· * ·) (rows_at d 1 (by omega) _ (y 1) c) (tile 1 2 3 _ _ c (y 2) rfl rfl)
  · intro y
    refine (pay102 _ _ _ _ y).trans (congrArg (loadedSums f (stored1 f L v d arg6 x3 h) (offs v 2) (h 2) y + ·) (Finset.sum_congr rfl fun c _ => ?_))
    exact congrArg₂ (· * ·) (rows_at d 2 (by omega) _ (y 1) c) (tile 2 4 5 _ _ c (y 2) rfl rfl)
  · intro y
    refine (pay1 _ _ _ _ y).trans (congrArg (loadedSums f (stored2 f L v d arg6 x3 h) (offs v 3) (h 3) y + ·) (Finset.sum_congr rfl fun c _ => ?_))
    exact congrArg₂ (· * ·) (rows_at d 3 (by omega) _ (y 1) c) (tile 3 6 7 _ _ c (y 2) rfl rfl)

end

end Cert.Stick

end
-- ==== Proof.StickDot.lean ====
/- The products of the rows of the cotangents with a tile of the weights, at each index. -/
module

public import proofs.«01_k».proof.Proof.StickAll
public import proofs.«01_k».proof.Proof.Gen.Kernel11Ideal.Skeleton
public import Idealize.ShloMosaic.Lib.Pipeline.ValueKit
public import Idealize.ShloMosaic.Lib.StableHlo.ReadAt
public import Idealize.ShloMosaic.Lib.Pointwise
public import Idealize.ShloMosaic.Lib.WordCmp
public import Idealize.ShloMosaic.Lib.Pipeline.Regions
public import proofs.«01_k».proof.Proof.Gen.Kernel11Ideal.Launch
public import Idealize.ShloMosaic.Lib.Pipeline.Frame
public import Idealize.ShloMosaic.Lib.StableHlo.ReadAt
public import Idealize.ShloMosaic.Adequacy
public import Idealize.ShloMosaic.Init
public import Idealize.ShloMosaic.Lib.Affine
public import Idealize.ShloMosaic.Lib.Claim
public import Idealize.ShloMosaic.Lib.Exec
public import Idealize.ShloMosaic.Lib.Pipeline.FrameBody
public import Idealize.ShloMosaic.Lib.Pipeline.Kit
public import Idealize.ShloMosaic.Lib.Pipeline.Quiescent
public import Idealize.ShloMosaic.Lib.Pipeline.TableIdle
public import Idealize.ShloMosaic.Lib.Ring
public import Idealize.ShloMosaic.Lib.Tactic
public import Idealize.ShloMosaic.Lib.Writes
public import Idealize.ShloMosaic.PureOps.Ideal

@[expose] public section

set_option maxRecDepth 16384
set_option Elab.async false

noncomputable section

namespace Cert.Stick

open Cert.Kernel11Ideal Cert.Kernel11Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- Feature `r` of the pair `p` and row `c`, the first head's 256 rows and then the second's: the cotangent where the feature is that head's, zero elsewhere. -/
def spread (o : S256x512.Idx → EReal) (p : Fin 4) (r : Fin 128) (c : Fin 512) : EReal :=
  if h : c.val < 256 then (if r.val < 64 then o (ix2 (⟨c.val, h⟩ : Fin 256) (⟨128 * p.val + r.val, by omega⟩ : Fin 512)) else 0)
  else (if r.val < 64 then 0 else o (ix2 (⟨c.val - 256, by omega⟩ : Fin 256) (⟨128 * p.val + r.val, by omega⟩ : Fin 512)))

/-- The choice by whether a feature is one of the first head's. -/
theorem low_choice {n : ℕ} (hn : n < 128) (a b : EReal) :
    Scalar.select (IntOp.cmpi .slt (BitVec.ofNat 32 n) 64#32) a b = if n < 64 then a else b := by
  have e := Idealize.ShloMosaic.WordCmp.cmpi_slt_ofNat_eq_one_iff (w := 32) (a := n) (b := 64) (by omega) (by omega)
  unfold Scalar.select
  by_cases h : n < 64
  · rw [if_pos h]; exact if_pos (e.mpr h)
  · rw [if_neg h]; exact if_neg (fun q => h (e.mp q))

set_option maxHeartbeats 1000000 in
theorem pay51 (v : FVec Ideal S256x128 .bf16) (x : S1x128x512.Idx) :
    k0_pay51 (F := Ideal) v x = if h : (x 2).val < 256 then (if (x 1).val < 64 then v (ix2 (⟨(x 2).val, h⟩ : Fin 256) (x 1)) else 0)
      else (if (x 1).val < 64 then 0 else v (ix2 (⟨(x 2).val - 256, by have := (x 2).isLt; simp at this; omega⟩ : Fin 256) (x 1))) := by
  pointwise [k0_pay51]
  simp only [low_choice (n := (x 1).val) (x 1).isLt]

set_option maxHeartbeats 1000000 in
theorem pay17 (v : FVec Ideal S256x128 .bf16) (x : S1x128x512.Idx) :
    k0_pay17 (F := Ideal) v x = if h : (x 2).val < 256 then (if (x 1).val < 64 then v (ix2 (⟨(x 2).val, h⟩ : Fin 256) (x 1)) else 0)
      else (if (x 1).val < 64 then 0 else v (ix2 (⟨(x 2).val - 256, by have := (x 2).isLt; simp at this; omega⟩ : Fin 256) (x 1))) := by
  pointwise [k0_pay17]
  simp only [low_choice (n := (x 1).val) (x 1).isLt]

set_option maxHeartbeats 1000000 in
theorem pay14 (v : FVec Ideal S256x128 .bf16) (x : S1x128x512.Idx) :
    k0_pay14 (F := Ideal) v x = if h : (x 2).val < 256 then (if (x 1).val < 64 then v (ix2 (⟨(x 2).val, h⟩ : Fin 256) (x 1)) else 0)
      else (if (x 1).val < 64 then 0 else v (ix2 (⟨(x 2).val - 256, by have := (x 2).isLt; simp at this; omega⟩ : Fin 256) (x 1))) := by
  pointwise [k0_pay14]
  simp only [low_choice (n := (x 1).val) (x 1).isLt]

set_option maxHeartbeats 1000000 in
theorem pay12 (v : FVec Ideal S256x128 .bf16) (x : S1x128x512.Idx) :
    k0_pay12 (F := Ideal) (k0_pay11 v) x = if h : (x 2).val < 256 then (if (x 1).val < 64 then v (ix2 (⟨(x 2).val, h⟩ : Fin 256) (x 1)) else 0)
      else (if (x 1).val < 64 then 0 else v (ix2 (⟨(x 2).val - 256, by have := (x 2).isLt; simp at this; omega⟩ : Fin 256) (x 1))) := by
  pointwise [k0_pay12, k0_pay11]
  simp only [low_choice (n := (x 1).val) (x 1).isLt]

set_option maxHeartbeats 1000000 in
theorem pay48 (x : S16x512x256.Idx) : k0_pay48 (F := Ideal) x = 0 := by
  pointwise [k0_pay48]

/-- A write of one pair's rows, read inside them. -/
theorem rows_hit {κ : Kind} {sp : Space} (v : View sig κ sp S4x128x512 .bf16) (f : v.ty.Contents (Elt Ideal)) (L : List (View.Piece (Elt Ideal) S4x128x512 .bf16))
    (p : ℕ) (h : ∀ a, (![p, 0, 0] : Fin 3 → ℕ) a + S1x128x512.size a ≤ S4x128x512.size a) (w : S1x128x512.Idx → EReal)
    (q : Fin 4) (r : Fin 128) (c : Fin 512) (hq : q.val = p) :
    v.read (Elt Ideal) (v.writes (Elt Ideal) f (⟨Rect.unit (s := S4x128x512) ![p, 0, 0] S1x128x512.size h, w⟩ :: L)) (ix3 q r c) = w (ix3 0 r c) :=
  View.read_writes_cons_hit_of_coords v f (Rect.unit (s := S4x128x512) ![p, 0, 0] S1x128x512.size h) w L (ix3 0 r c) (ix3 q r c) fun a => by
    fin_cases a
    · show q.val = p + 1 * 0; omega
    · show r.val = 0 + 1 * r.val; omega
    · show c.val = 0 + 1 * c.val; omega

/-- A write of one pair's rows, read outside them. -/
theorem rows_miss {κ : Kind} {sp : Space} (v : View sig κ sp S4x128x512 .bf16) (f : v.ty.Contents (Elt Ideal)) (L : List (View.Piece (Elt Ideal) S4x128x512 .bf16))
    (p : ℕ) (h : ∀ a, (![p, 0, 0] : Fin 3 → ℕ) a + S1x128x512.size a ≤ S4x128x512.size a) (w : S1x128x512.Idx → EReal)
    (q : Fin 4) (r : Fin 128) (c : Fin 512) (hq : q.val ≠ p) :
    v.read (Elt Ideal) (v.writes (Elt Ideal) f (⟨Rect.unit (s := S4x128x512) ![p, 0, 0] S1x128x512.size h, w⟩ :: L)) (ix3 q r c)
      = v.read (Elt Ideal) (v.writes (Elt Ideal) f L) (ix3 q r c) :=
  View.read_writes_cons_miss_of_axis v f _ L (ix3 q r c) (0 : Fin 3) p 1 rfl rfl rfl (by show q.val < p ∨ p + 1 ≤ q.val; omega)

/-- The columns of the cotangent's block that one pair of heads reads. -/
theorem cols_at (arg8 : Memref sig .tc .vmem S256x512 .bf16) (x5 : S256x512.Idx → EReal) (o : ℕ) (ho : o + 128 ≤ 512)
    (h : ∀ a, (![0, o] : Fin 2 → ℕ) a + S256x128.size a ≤ S256x512.size a) (r : Fin 256) (y : Fin 128) :
    View.readAt (Elt Ideal) arg8.view (Rect.unit (s := S256x512) ![0, o] S256x128.size h).toLoadRect (arg8.view.rep x5) (ix2 r y)
      = x5 (ix2 r (⟨o + y.val, by omega⟩ : Fin 512)) := by
  rw [View.readAt_eq_ld, View.read_rep]
  refine congrArg x5 (funext fun a => Fin.ext ?_)
  fin_cases a
  · show 0 + 1 * r.val = r.val; omega
  · show o + 1 * y.val = o + y.val; omega

/-- The four stores of the cotangent's rows. -/
def storedRows (arg8 : Memref sig .tc .vmem S256x512 .bf16) (x5 : S256x512.Idx → EReal) : List (View.Piece (Elt Ideal) S4x128x512 .bf16) :=
  [⟨Rect.unit (s := S4x128x512) ![3, 0, 0] S1x128x512.size inb_S4x128x512_S1x128x512_3_0_0, k0_pay51 (F := Ideal) (View.readAt (Elt Ideal) arg8.view (Rect.unit (s := S256x512) ![0, 384] S256x128.size inb_S256x512_S256x128_0_384).toLoadRect (arg8.view.rep x5))⟩,
    ⟨Rect.unit (s := S4x128x512) ![2, 0, 0] S1x128x512.size inb_S4x128x512_S1x128x512_2_0_0, k0_pay17 (F := Ideal) (View.readAt (Elt Ideal) arg8.view (Rect.unit (s := S256x512) ![0, 256] S256x128.size inb_S256x512_S256x128_0_256).toLoadRect (arg8.view.rep x5))⟩,
    ⟨Rect.unit (s := S4x128x512) ![1, 0, 0] S1x128x512.size inb_S4x128x512_S1x128x512_1_0_0, k0_pay14 (F := Ideal) (View.readAt (Elt Ideal) arg8.view (Rect.unit (s := S256x512) ![0, 128] S256x128.size inb_S256x512_S256x128_0_128).toLoadRect (arg8.view.rep x5))⟩,
    ⟨Rect.unit (s := S4x128x512) ![0, 0, 0] S1x128x512.size inb_S4x128x512_S1x128x512_0_0_0, k0_pay12 (F := Ideal) (k0_pay11 (View.readAt (Elt Ideal) arg8.view (Rect.unit (s := S256x512) ![0, 0] S256x128.size inb_S256x512_S256x128_0_0).toLoadRect (arg8.view.rep x5)))⟩]

/-- The kept rows of the cotangent after those stores. -/
def keptRows (arg8 : Memref sig .tc .vmem S256x512 .bf16) (x5 : S256x512.Idx → EReal) : S4x128x512.Idx → EReal :=
  scM0_6.view.read (Elt Ideal) (scM0_6.view.writes (Elt Ideal) scM0_6.view.junk (storedRows arg8 x5))

/-- One pair's stored rows, at an index. -/
theorem spread_at (arg8 : Memref sig .tc .vmem S256x512 .bf16) (x5 : S256x512.Idx → EReal) (p : Fin 4) (o : ℕ) (ho : o = 128 * p.val)
    (h : ∀ a, (![0, o] : Fin 2 → ℕ) a + S256x128.size a ≤ S256x512.size a) (r : Fin 128) (c : Fin 512) :
    (if h' : c.val < 256 then (if r.val < 64 then View.readAt (Elt Ideal) arg8.view (Rect.unit (s := S256x512) ![0, o] S256x128.size h).toLoadRect (arg8.view.rep x5) (ix2 (⟨c.val, h'⟩ : Fin 256) r) else 0)
      else (if r.val < 64 then 0 else View.readAt (Elt Ideal) arg8.view (Rect.unit (s := S256x512) ![0, o] S256x128.size h).toLoadRect (arg8.view.rep x5) (ix2 (⟨c.val - 256, by omega⟩ : Fin 256) r)))
      = spread x5 p r c := by
  subst ho
  unfold spread
  split
  · exact congrArg (fun z : EReal => if r.val < 64 then z else 0) (cols_at arg8 x5 _ (by omega) h _ r)
  · exact congrArg (fun z : EReal => if r.val < 64 then 0 else z) (cols_at arg8 x5 _ (by omega) h _ r)

/-- The kept rows at an index. -/
theorem keptRows_at (arg8 : Memref sig .tc .vmem S256x512 .bf16) (x5 : S256x512.Idx → EReal) (q : Fin 4) (r : Fin 128) (c : Fin 512) :
    keptRows arg8 x5 (ix3 q r c) = spread x5 q r c := by
  unfold keptRows storedRows
  rcases (show q = 0 ∨ q = 1 ∨ q = 2 ∨ q = 3 by omega) with rfl | rfl | rfl | rfl
  · rw [rows_miss _ _ _ 3 _ _ 0 r c (by decide), rows_miss _ _ _ 2 _ _ 0 r c (by decide), rows_miss _ _ _ 1 _ _ 0 r c (by decide), rows_hit _ _ _ 0 _ _ 0 r c rfl]
    exact (pay12 _ _).trans (spread_at arg8 x5 0 0 rfl _ r c)
  · rw [rows_miss _ _ _ 3 _ _ 1 r c (by decide), rows_miss _ _ _ 2 _ _ 1 r c (by decide), rows_hit _ _ _ 1 _ _ 1 r c rfl]
    exact (pay14 _ _).trans (spread_at arg8 x5 1 128 rfl _ r c)
  · rw [rows_miss _ _ _ 3 _ _ 2 r c (by decide), rows_hit _ _ _ 2 _ _ 2 r c rfl]
    exact (pay17 _ _).trans (spread_at arg8 x5 2 256 rfl _ r c)
  · rw [rows_hit _ _ _ 3 _ _ 3 r c rfl]
    exact (pay51 _ _).trans (spread_at arg8 x5 3 384 rfl _ r c)

end Cert.Stick

end
-- ==== Proof.StickLeft.lean ====
/- What each of the five paths of the body leaves in the sums and in the kept rows. -/
module

public import proofs.«01_k».proof.Proof.StickDot
public import proofs.«01_k».proof.Proof.Gen.Kernel11Ideal.Skeleton
public import Idealize.ShloMosaic.Lib.Pipeline.ValueKit
public import Idealize.ShloMosaic.Lib.StableHlo.ReadAt
public import Idealize.ShloMosaic.Lib.Pointwise
public import Idealize.ShloMosaic.Lib.WordCmp
public import Idealize.ShloMosaic.Lib.Pipeline.Regions
public import proofs.«01_k».proof.Proof.Gen.Kernel11Ideal.Launch
public import Idealize.ShloMosaic.Lib.Pipeline.Frame
public import Idealize.ShloMosaic.Lib.StableHlo.ReadAt
public import Idealize.ShloMosaic.Adequacy
public import Idealize.ShloMosaic.Init
public import Idealize.ShloMosaic.Lib.Affine
public import Idealize.ShloMosaic.Lib.Claim
public import Idealize.ShloMosaic.Lib.Exec
public import Idealize.ShloMosaic.Lib.Pipeline.FrameBody
public import Idealize.ShloMosaic.Lib.Pipeline.Kit
public import Idealize.ShloMosaic.Lib.Pipeline.Quiescent
public import Idealize.ShloMosaic.Lib.Pipeline.TableIdle
public import Idealize.ShloMosaic.Lib.Ring
public import Idealize.ShloMosaic.Lib.Tactic
public import Idealize.ShloMosaic.Lib.Writes
public import Idealize.ShloMosaic.PureOps.Ideal

@[expose] public section

set_option maxRecDepth 16384
set_option Elab.async false

noncomputable section

namespace Cert.Stick

open Cert.Kernel11Ideal Cert.Kernel11Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- Without a store a buffer keeps its contents. -/
theorem kept_nil (f : Sums) : kept f [] = f := rfl

/-- The sums as the first point finds them, before anything is stored. -/
def unknown : Sums := scM0_3.view.read (Elt Ideal) scM0_3.view.junk

/-- The first point's store of zeros. -/
def cleared : List (View.Piece (Elt Ideal) S16x512x256 .f32) :=
  [⟨Rect.unit (s := S16x512x256) ![0, 0, 0] S16x512x256.size inb_S16x512x256_S16x512x256_0_0_0, k0_pay48 (F := Ideal)⟩]

/-- A write of the whole, read anywhere. -/
theorem all_hit {κ : Kind} {sp : Space} (v : View sig κ sp S16x512x256 .f32) (f : v.ty.Contents (Elt Ideal)) (w : S16x512x256.Idx → EReal)
    (h : ∀ a, (![0, 0, 0] : Fin 3 → ℕ) a + S16x512x256.size a ≤ S16x512x256.size a) (x : S16x512x256.Idx) :
    v.read (Elt Ideal) (v.writes (Elt Ideal) f [⟨Rect.unit (s := S16x512x256) ![0, 0, 0] S16x512x256.size h, w⟩]) x = w x :=
  View.read_writes_cons_hit_of_coords v f (Rect.unit (s := S16x512x256) ![0, 0, 0] S16x512x256.size h) w [] x x fun a => by
    fin_cases a
    · show (x 0).val = 0 + 1 * (x 0).val; omega
    · show (x 1).val = 0 + 1 * (x 1).val; omega
    · show (x 2).val = 0 + 1 * (x 2).val; omega

/-- Cleared sums are zero at every index. -/
theorem cleared_at (f : Sums) (x : S16x512x256.Idx) : kept f cleared x = 0 :=
  (all_hit scM0_3.view f (k0_pay48 (F := Ideal)) _ x).trans (pay48 x)

/-- What path A leaves in the kept arrays. -/
theorem left_A (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x1x8x256x256 .bf16) (harg6 : arg6.IsWhole) (arg7 : Memref sig .tc .vmem S1x1x8x256x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (T0 : (S136.Idx → Elt Ideal .i32)) (T1 : (S136.Idx → Elt Ideal .i32))
     (x0 : (S256x512.Idx → Elt Ideal .bf16)) (x1 : (S256x512.Idx → Elt Ideal .bf16)) (x2 : (S256x512.Idx → Elt Ideal .bf16)) (x3 : (S1x1x8x256x256.Idx → Elt Ideal .bf16)) (x4 : (S1x1x8x256x256.Idx → Elt Ideal .bf16)) (x5 : (S256x512.Idx → Elt Ideal .bf16)) (k0_hw1 : k0_chk1 (View.readAt (Elt Ideal) (tbM0_1).view (Rect.unit (s := S136) (k0_off1 i) S1.size (k0_off1_inb i)).toLoadRect T1 (Shape.Idx.first (numel1_S1.symm ▸ Nat.one_pos)))) (k0_h1 : (Scalar.cmpi .ne (Scalar.extui (Scalar.cmpi .eq (BitVec.ofNat 32 (i 0).val) 0#32)) 0#32) = 1#1) (hc2 : (Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1) (k0_h3 : k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1) (k0_h4 : ¬(k0_cond4 i = 1#1))
    (h : ∀ p a, offs (View.readAt (Elt Ideal) (tbM0_1).view (Rect.unit (s := S136) (k0_off1 i) S1.size (k0_off1_inb i)).toLoadRect T1 (Shape.Idx.first (numel1_S1.symm ▸ Nat.one_pos))) p a + S1x128x256.size a ≤ S16x512x256.size a) :
    @Eq Sums (kernelRun0_A (F := Ideal) c i arg3 harg3 arg4 harg4 arg5 harg5 arg6 harg6 arg7 harg7 arg8 harg8 arg9 harg9 arg10 harg10 arg11 harg11 T0 T1 x0 x1 x2 x3 x4 x5 k0_hw1 k0_h1 hc2 k0_h3 k0_h4).2.2.2.2.1 (kept unknown (stored3 unknown cleared (View.readAt (Elt Ideal) (tbM0_1).view (Rect.unit (s := S136) (k0_off1 i) S1.size (k0_off1_inb i)).toLoadRect T1 (Shape.Idx.first (numel1_S1.symm ▸ Nat.one_pos))) (keptRows arg8 x5) arg6 x3 h)) := by
  chain_rfl

/-- The rows that path A keeps. -/
theorem rows_A (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x1x8x256x256 .bf16) (harg6 : arg6.IsWhole) (arg7 : Memref sig .tc .vmem S1x1x8x256x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (T0 : (S136.Idx → Elt Ideal .i32)) (T1 : (S136.Idx → Elt Ideal .i32))
     (x0 : (S256x512.Idx → Elt Ideal .bf16)) (x1 : (S256x512.Idx → Elt Ideal .bf16)) (x2 : (S256x512.Idx → Elt Ideal .bf16)) (x3 : (S1x1x8x256x256.Idx → Elt Ideal .bf16)) (x4 : (S1x1x8x256x256.Idx → Elt Ideal .bf16)) (x5 : (S256x512.Idx → Elt Ideal .bf16)) (k0_hw1 : k0_chk1 (View.readAt (Elt Ideal) (tbM0_1).view (Rect.unit (s := S136) (k0_off1 i) S1.size (k0_off1_inb i)).toLoadRect T1 (Shape.Idx.first (numel1_S1.symm ▸ Nat.one_pos)))) (k0_h1 : (Scalar.cmpi .ne (Scalar.extui (Scalar.cmpi .eq (BitVec.ofNat 32 (i 0).val) 0#32)) 0#32) = 1#1) (hc2 : (Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1) (k0_h3 : k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1) (k0_h4 : ¬(k0_cond4 i = 1#1)) :
    @Eq (S4x128x512.Idx → EReal) (kernelRun0_A (F := Ideal) c i arg3 harg3 arg4 harg4 arg5 harg5 arg6 harg6 arg7 harg7 arg8 harg8 arg9 harg9 arg10 harg10 arg11 harg11 T0 T1 x0 x1 x2 x3 x4 x5 k0_hw1 k0_h1 hc2 k0_h3 k0_h4).2.2.2.2.2.2.2.1 (keptRows arg8 x5) := by
  chain_rfl

/-- What path B leaves in the kept arrays. -/
theorem left_B (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x1x8x256x256 .bf16) (harg6 : arg6.IsWhole) (arg7 : Memref sig .tc .vmem S1x1x8x256x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (T0 : (S136.Idx → Elt Ideal .i32)) (T1 : (S136.Idx → Elt Ideal .i32))
     (x0 : (S256x512.Idx → Elt Ideal .bf16)) (x1 : (S256x512.Idx → Elt Ideal .bf16)) (x2 : (S256x512.Idx → Elt Ideal .bf16)) (x3 : (S1x1x8x256x256.Idx → Elt Ideal .bf16)) (x4 : (S1x1x8x256x256.Idx → Elt Ideal .bf16)) (x5 : (S256x512.Idx → Elt Ideal .bf16)) (xa2 : Buf (Elt Ideal) ((c : Thread nD τ).loc cc0_scratch2)) (xa3 : Buf (Elt Ideal) ((c : Thread nD τ).loc cc0_scratch3)) (xa4 : Buf (Elt Ideal) ((c : Thread nD τ).loc cc0_scratch4)) (k0_hw1 : k0_chk1 (View.readAt (Elt Ideal) (tbM0_1).view (Rect.unit (s := S136) (k0_off1 i) S1.size (k0_off1_inb i)).toLoadRect T1 (Shape.Idx.first (numel1_S1.symm ▸ Nat.one_pos)))) (k0_h1 : ¬((Scalar.cmpi .ne (Scalar.extui (Scalar.cmpi .eq (BitVec.ofNat 32 (i 0).val) 0#32)) 0#32) = 1#1)) (hc2 : (Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1) (k0_h3 : ¬(k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1)) (k0_h4 : ¬(k0_cond4 i = 1#1))
    (h : ∀ p a, offs (View.readAt (Elt Ideal) (tbM0_1).view (Rect.unit (s := S136) (k0_off1 i) S1.size (k0_off1_inb i)).toLoadRect T1 (Shape.Idx.first (numel1_S1.symm ▸ Nat.one_pos))) p a + S1x128x256.size a ≤ S16x512x256.size a) :
    @Eq Sums (kernelRun0_B (F := Ideal) c i arg3 harg3 arg4 harg4 arg5 harg5 arg6 harg6 arg7 harg7 arg8 harg8 arg9 harg9 arg10 harg10 arg11 harg11 T0 T1 x0 x1 x2 x3 x4 x5 xa2 xa3 xa4 k0_hw1 k0_h1 hc2 k0_h3 k0_h4).2.2.2.1 (kept xa3 (stored3 xa3 [] (View.readAt (Elt Ideal) (tbM0_1).view (Rect.unit (s := S136) (k0_off1 i) S1.size (k0_off1_inb i)).toLoadRect T1 (Shape.Idx.first (numel1_S1.symm ▸ Nat.one_pos))) (keptRows arg8 x5) arg6 x3 h)) := by
  chain_rfl

/-- The rows that path B keeps. -/
theorem rows_B (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x1x8x256x256 .bf16) (harg6 : arg6.IsWhole) (arg7 : Memref sig .tc .vmem S1x1x8x256x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (T0 : (S136.Idx → Elt Ideal .i32)) (T1 : (S136.Idx → Elt Ideal .i32))
     (x0 : (S256x512.Idx → Elt Ideal .bf16)) (x1 : (S256x512.Idx → Elt Ideal .bf16)) (x2 : (S256x512.Idx → Elt Ideal .bf16)) (x3 : (S1x1x8x256x256.Idx → Elt Ideal .bf16)) (x4 : (S1x1x8x256x256.Idx → Elt Ideal .bf16)) (x5 : (S256x512.Idx → Elt Ideal .bf16)) (xa2 : Buf (Elt Ideal) ((c : Thread nD τ).loc cc0_scratch2)) (xa3 : Buf (Elt Ideal) ((c : Thread nD τ).loc cc0_scratch3)) (xa4 : Buf (Elt Ideal) ((c : Thread nD τ).loc cc0_scratch4)) (k0_hw1 : k0_chk1 (View.readAt (Elt Ideal) (tbM0_1).view (Rect.unit (s := S136) (k0_off1 i) S1.size (k0_off1_inb i)).toLoadRect T1 (Shape.Idx.first (numel1_S1.symm ▸ Nat.one_pos)))) (k0_h1 : ¬((Scalar.cmpi .ne (Scalar.extui (Scalar.cmpi .eq (BitVec.ofNat 32 (i 0).val) 0#32)) 0#32) = 1#1)) (hc2 : (Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1) (k0_h3 : ¬(k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1)) (k0_h4 : ¬(k0_cond4 i = 1#1)) :
    @Eq (S4x128x512.Idx → EReal) (kernelRun0_B (F := Ideal) c i arg3 harg3 arg4 harg4 arg5 harg5 arg6 harg6 arg7 harg7 arg8 harg8 arg9 harg9 arg10 harg10 arg11 harg11 T0 T1 x0 x1 x2 x3 x4 x5 xa2 xa3 xa4 k0_hw1 k0_h1 hc2 k0_h3 k0_h4).2.2.2.2.2.2.1 (keptRows arg8 x5) := by
  chain_rfl

/-- What path C leaves in the kept arrays. -/
theorem left_C (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x1x8x256x256 .bf16) (harg6 : arg6.IsWhole) (arg7 : Memref sig .tc .vmem S1x1x8x256x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (T0 : (S136.Idx → Elt Ideal .i32)) (T1 : (S136.Idx → Elt Ideal .i32))
     (x0 : (S256x512.Idx → Elt Ideal .bf16)) (x1 : (S256x512.Idx → Elt Ideal .bf16)) (x2 : (S256x512.Idx → Elt Ideal .bf16)) (x3 : (S1x1x8x256x256.Idx → Elt Ideal .bf16)) (x4 : (S1x1x8x256x256.Idx → Elt Ideal .bf16)) (x5 : (S256x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (xa4 : Buf (Elt Ideal) ((c : Thread nD τ).loc cc0_scratch4)) (xa5 : Buf (Elt Ideal) ((c : Thread nD τ).loc cc0_scratch5)) (xa6 : Buf (Elt Ideal) ((c : Thread nD τ).loc cc0_scratch6)) (k0_hw1 : k0_chk1 (View.readAt (Elt Ideal) (tbM0_1).view (Rect.unit (s := S136) (k0_off1 i) S1.size (k0_off1_inb i)).toLoadRect T1 (Shape.Idx.first (numel1_S1.symm ▸ Nat.one_pos)))) (k0_h1 : ¬((Scalar.cmpi .ne (Scalar.extui (Scalar.cmpi .eq (BitVec.ofNat 32 (i 0).val) 0#32)) 0#32) = 1#1)) (hc2 : ¬((Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1)) (k0_h3 : k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1) (k0_h4 : ¬(k0_cond4 i = 1#1))
    (h : ∀ p a, offs (View.readAt (Elt Ideal) (tbM0_1).view (Rect.unit (s := S136) (k0_off1 i) S1.size (k0_off1_inb i)).toLoadRect T1 (Shape.Idx.first (numel1_S1.symm ▸ Nat.one_pos))) p a + S1x128x256.size a ≤ S16x512x256.size a) :
    @Eq Sums (kernelRun0_C (F := Ideal) c i arg3 harg3 arg4 harg4 arg5 harg5 arg6 harg6 arg7 harg7 arg8 harg8 arg9 harg9 arg10 harg10 arg11 harg11 T0 T1 x0 x1 x2 x3 x4 x5 xa0 xa1 xa2 xa3 xa4 xa5 xa6 k0_hw1 k0_h1 hc2 k0_h3 k0_h4).2.2.2.2.1 (kept xa3 (stored3 xa3 [] (View.readAt (Elt Ideal) (tbM0_1).view (Rect.unit (s := S136) (k0_off1 i) S1.size (k0_off1_inb i)).toLoadRect T1 (Shape.Idx.first (numel1_S1.symm ▸ Nat.one_pos))) xa6 arg6 x3 h)) := by
  chain_rfl

/-- What path D leaves in the kept arrays. -/
theorem left_D (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x1x8x256x256 .bf16) (harg6 : arg6.IsWhole) (arg7 : Memref sig .tc .vmem S1x1x8x256x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (T0 : (S136.Idx → Elt Ideal .i32)) (T1 : (S136.Idx → Elt Ideal .i32))
     (x0 : (S256x512.Idx → Elt Ideal .bf16)) (x1 : (S256x512.Idx → Elt Ideal .bf16)) (x2 : (S256x512.Idx → Elt Ideal .bf16)) (x3 : (S1x1x8x256x256.Idx → Elt Ideal .bf16)) (x4 : (S1x1x8x256x256.Idx → Elt Ideal .bf16)) (x5 : (S256x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (xa4 : Buf (Elt Ideal) ((c : Thread nD τ).loc cc0_scratch4)) (xa5 : Buf (Elt Ideal) ((c : Thread nD τ).loc cc0_scratch5)) (xa6 : Buf (Elt Ideal) ((c : Thread nD τ).loc cc0_scratch6)) (k0_hw1 : k0_chk1 (View.readAt (Elt Ideal) (tbM0_1).view (Rect.unit (s := S136) (k0_off1 i) S1.size (k0_off1_inb i)).toLoadRect T1 (Shape.Idx.first (numel1_S1.symm ▸ Nat.one_pos)))) (k0_h1 : ¬((Scalar.cmpi .ne (Scalar.extui (Scalar.cmpi .eq (BitVec.ofNat 32 (i 0).val) 0#32)) 0#32) = 1#1)) (hc2 : ¬((Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1)) (k0_h3 : ¬(k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1)) (k0_h4 : ¬(k0_cond4 i = 1#1))
    (h : ∀ p a, offs (View.readAt (Elt Ideal) (tbM0_1).view (Rect.unit (s := S136) (k0_off1 i) S1.size (k0_off1_inb i)).toLoadRect T1 (Shape.Idx.first (numel1_S1.symm ▸ Nat.one_pos))) p a + S1x128x256.size a ≤ S16x512x256.size a) :
    @Eq Sums (kernelRun0_D (F := Ideal) c i arg3 harg3 arg4 harg4 arg5 harg5 arg6 harg6 arg7 harg7 arg8 harg8 arg9 harg9 arg10 harg10 arg11 harg11 T0 T1 x0 x1 x2 x3 x4 x5 xa0 xa1 xa2 xa3 xa4 xa5 xa6 k0_hw1 k0_h1 hc2 k0_h3 k0_h4).2.2.2.1 (kept xa3 (stored3 xa3 [] (View.readAt (Elt Ideal) (tbM0_1).view (Rect.unit (s := S136) (k0_off1 i) S1.size (k0_off1_inb i)).toLoadRect T1 (Shape.Idx.first (numel1_S1.symm ▸ Nat.one_pos))) xa6 arg6 x3 h)) := by
  chain_rfl

/-- What path E leaves in the kept arrays. -/
theorem left_E (c : Dev nD) (i : grid0.Coords) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S1x1x8x256x256 .bf16) (harg6 : arg6.IsWhole) (arg7 : Memref sig .tc .vmem S1x1x8x256x256 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (T0 : (S136.Idx → Elt Ideal .i32)) (T1 : (S136.Idx → Elt Ideal .i32))
     (x0 : (S256x512.Idx → Elt Ideal .bf16)) (x1 : (S256x512.Idx → Elt Ideal .bf16)) (x2 : (S256x512.Idx → Elt Ideal .bf16)) (x3 : (S1x1x8x256x256.Idx → Elt Ideal .bf16)) (x4 : (S1x1x8x256x256.Idx → Elt Ideal .bf16)) (x5 : (S256x512.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (xa4 : Buf (Elt Ideal) ((c : Thread nD τ).loc cc0_scratch4)) (xa5 : Buf (Elt Ideal) ((c : Thread nD τ).loc cc0_scratch5)) (xa6 : Buf (Elt Ideal) ((c : Thread nD τ).loc cc0_scratch6)) (k0_hw1 : k0_chk1 (View.readAt (Elt Ideal) (tbM0_1).view (Rect.unit (s := S136) (k0_off1 i) S1.size (k0_off1_inb i)).toLoadRect T1 (Shape.Idx.first (numel1_S1.symm ▸ Nat.one_pos)))) (k0_h1 : ¬((Scalar.cmpi .ne (Scalar.extui (Scalar.cmpi .eq (BitVec.ofNat 32 (i 0).val) 0#32)) 0#32) = 1#1)) (hc2 : ¬((Scalar.cmpi .ne (Scalar.extui (Scalar.cmpi .eq (View.readAt (Elt Ideal) (tbM0_1).view (Rect.unit (s := S136) (k0_off1 i) S1.size (k0_off1_inb i)).toLoadRect T1 (Shape.Idx.first (numel1_S1.symm ▸ Nat.one_pos))) 0#32)) 0#32) = 1#1)) (k0_h3 : k0_cond3 (View.readAt (Elt Ideal) (tbM0_0).view (Rect.unit (s := S136) (k0_off1 i) S1.size (k0_off1_inb i)).toLoadRect T0 (Shape.Idx.first (numel1_S1.symm ▸ Nat.one_pos))) (View.readAt (Elt Ideal) (tbM0_1).view (Rect.unit (s := S136) (k0_off1 i) S1.size (k0_off1_inb i)).toLoadRect T1 (Shape.Idx.first (numel1_S1.symm ▸ Nat.one_pos))) = 1#1) (k0_h4 : k0_cond4 i = 1#1)
    (h : ∀ p a, offs (View.readAt (Elt Ideal) (tbM0_1).view (Rect.unit (s := S136) (k0_off1 i) S1.size (k0_off1_inb i)).toLoadRect T1 (Shape.Idx.first (numel1_S1.symm ▸ Nat.one_pos))) p a + S1x128x256.size a ≤ S16x512x256.size a) :
    @Eq Sums (kernelRun0_E (F := Ideal) c i arg3 harg3 arg4 harg4 arg5 harg5 arg6 harg6 arg7 harg7 arg8 harg8 arg9 harg9 arg10 harg10 arg11 harg11 T0 T1 x0 x1 x2 x3 x4 x5 xa0 xa1 xa2 xa3 xa4 xa5 xa6 k0_hw1 k0_h1 hc2 k0_h3 k0_h4).2.2.2.2.2.2.1 (kept xa3 (stored3 xa3 [] (View.readAt (Elt Ideal) (tbM0_1).view (Rect.unit (s := S136) (k0_off1 i) S1.size (k0_off1_inb i)).toLoadRect T1 (Shape.Idx.first (numel1_S1.symm ▸ Nat.one_pos))) xa6 arg6 x3 h)) := by
  chain_rfl

end Cert.Stick

end
-- ==== Proof.StickSteps.lean ====
/- What the kernel holds after each point of the grid: the outputs being written and the scratch arrays. -/
module

public import proofs.«01_k».proof.Proof.StickRuns
public import Idealize.ShloMosaic.Adequacy
public import Idealize.ShloMosaic.Init
public import Idealize.ShloMosaic.Lib.Affine
public import Idealize.ShloMosaic.Lib.Claim
public import Idealize.ShloMosaic.Lib.Exec
public import Idealize.ShloMosaic.Lib.Pipeline.FrameBody
public import Idealize.ShloMosaic.Lib.Pipeline.Kit
public import Idealize.ShloMosaic.Lib.Pipeline.Quiescent
public import Idealize.ShloMosaic.Lib.Pipeline.TableIdle
public import Idealize.ShloMosaic.Lib.Ring
public import Idealize.ShloMosaic.Lib.Tactic
public import Idealize.ShloMosaic.Lib.Writes
public import Idealize.ShloMosaic.PureOps.Ideal

@[expose] public section

set_option maxRecDepth 16384
set_option Elab.async false

noncomputable section

namespace Cert.Stick

open Cert.Kernel11Ideal Cert.Kernel11Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The algebra of the resources, at the values `F`. -/
local notation "𝕄" => MT nD τ sig Unit (Elt F) ℕ (UR sig nD τ) ℕ

/-- Every format has a value: the bits of zero. -/
local instance zeroBits (φ : FTy) : Inhabited (F φ) := ⟨FloatOps.ofBits φ 0⟩

/-- The proof's resource algebra: the rounds library's, for the pipeline's staging cells, embedded whole. -/
abbrev EP : Emb (UR sig nD τ) 𝕄 := emb₁

variable (ch : Fin 1)
variable (V : (c : Dev nD) → (b : Ref sig .tc) → Buf (Elt F) ((c : Thread nD τ).loc b))

/-- Window `w`'s block at point `t`, read off its array as the region finds it. -/
def iblk (c : Dev nD) (w : Fin (cfgA ch).W) (t : Fin (cfgA ch).N) : (((cfgA ch).win w).xblock (crd ch t)).Idx → Elt F ((cfgA ch).win w).elt :=
  (((cfgA ch).win w).blk t).view.read (Elt F) (V c (Pipeline.arrRef spec0 w))

/-! ## What the outputs and scratches hold after each point -/

/-- ONE STEP of the trajectory: what the outputs' current buffers and the scratches hold after the body at point `t`
    (output 6, output 7, output 8, scratch 0, scratch 1, scratch 2, scratch 3, scratch 4, scratch 5, scratch 6), from what they held before (`prev`): the path the decisions select at `t`, its
    run's contents; an output the path leaves idle keeps what it held (junk — `default`, named by nothing — where fresh). -/
def step0 (c : Dev nD) (t : Fin (cfgA ch).N) (prev : (S256x512.Idx → Elt F .bf16) × (S4096x512.Idx → Elt F .bf16) × (S4096x512.Idx → Elt F .bf16) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3) × Buf (Elt F) ((c : Thread nD τ).loc cc0_scratch4) × Buf (Elt F) ((c : Thread nD τ).loc cc0_scratch5) × Buf (Elt F) ((c : Thread nD τ).loc cc0_scratch6)) : (S256x512.Idx → Elt F .bf16) × (S4096x512.Idx → Elt F .bf16) × (S4096x512.Idx → Elt F .bf16) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3) × Buf (Elt F) ((c : Thread nD τ).loc cc0_scratch4) × Buf (Elt F) ((c : Thread nD τ).loc cc0_scratch5) × Buf (Elt F) ((c : Thread nD τ).loc cc0_scratch6) :=
  if q0 : P0_0 ch t then
    (out0_A_6 (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1, (if (cfgA ch).fresh (7 : Fin 9) t.val then default else prev.2.1), (if (cfgA ch).fresh (8 : Fin 9) t.val then default else prev.2.2.1), (kernelRun0_A (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1).2.1, (kernelRun0_A (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1).2.2.1, (kernelRun0_A (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1).2.2.2.1, (kernelRun0_A (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1).2.2.2.2.1, (kernelRun0_A (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1).2.2.2.2.2.1, (kernelRun0_A (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1).2.2.2.2.2.2.1, (kernelRun0_A (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1).2.2.2.2.2.2.2.1)
  else
    if q1 : P0_1 ch t then
      ((if (cfgA ch).fresh (6 : Fin 9) t.val then default else prev.1), (if (cfgA ch).fresh (7 : Fin 9) t.val then default else prev.2.1), (if (cfgA ch).fresh (8 : Fin 9) t.val then default else prev.2.2.1), (kernelRun0_B (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.2.2.1 prev.2.2.2.2.2.2.1 prev.2.2.2.2.2.2.2.1 (hyp0_B_0 ch t q0 q1) ((hypsR0_B ch t q0 q1).2 (hyp0_B_0 ch t q0 q1)).1 ((hypsR0_B ch t q0 q1).2 (hyp0_B_0 ch t q0 q1)).2.1 ((hypsR0_B ch t q0 q1).2 (hyp0_B_0 ch t q0 q1)).2.2.1 ((hypsR0_B ch t q0 q1).2 (hyp0_B_0 ch t q0 q1)).2.2.2.1).1, (kernelRun0_B (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.2.2.1 prev.2.2.2.2.2.2.1 prev.2.2.2.2.2.2.2.1 (hyp0_B_0 ch t q0 q1) ((hypsR0_B ch t q0 q1).2 (hyp0_B_0 ch t q0 q1)).1 ((hypsR0_B ch t q0 q1).2 (hyp0_B_0 ch t q0 q1)).2.1 ((hypsR0_B ch t q0 q1).2 (hyp0_B_0 ch t q0 q1)).2.2.1 ((hypsR0_B ch t q0 q1).2 (hyp0_B_0 ch t q0 q1)).2.2.2.1).2.1, (kernelRun0_B (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.2.2.1 prev.2.2.2.2.2.2.1 prev.2.2.2.2.2.2.2.1 (hyp0_B_0 ch t q0 q1) ((hypsR0_B ch t q0 q1).2 (hyp0_B_0 ch t q0 q1)).1 ((hypsR0_B ch t q0 q1).2 (hyp0_B_0 ch t q0 q1)).2.1 ((hypsR0_B ch t q0 q1).2 (hyp0_B_0 ch t q0 q1)).2.2.1 ((hypsR0_B ch t q0 q1).2 (hyp0_B_0 ch t q0 q1)).2.2.2.1).2.2.1, (kernelRun0_B (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.2.2.1 prev.2.2.2.2.2.2.1 prev.2.2.2.2.2.2.2.1 (hyp0_B_0 ch t q0 q1) ((hypsR0_B ch t q0 q1).2 (hyp0_B_0 ch t q0 q1)).1 ((hypsR0_B ch t q0 q1).2 (hyp0_B_0 ch t q0 q1)).2.1 ((hypsR0_B ch t q0 q1).2 (hyp0_B_0 ch t q0 q1)).2.2.1 ((hypsR0_B ch t q0 q1).2 (hyp0_B_0 ch t q0 q1)).2.2.2.1).2.2.2.1, (kernelRun0_B (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.2.2.1 prev.2.2.2.2.2.2.1 prev.2.2.2.2.2.2.2.1 (hyp0_B_0 ch t q0 q1) ((hypsR0_B ch t q0 q1).2 (hyp0_B_0 ch t q0 q1)).1 ((hypsR0_B ch t q0 q1).2 (hyp0_B_0 ch t q0 q1)).2.1 ((hypsR0_B ch t q0 q1).2 (hyp0_B_0 ch t q0 q1)).2.2.1 ((hypsR0_B ch t q0 q1).2 (hyp0_B_0 ch t q0 q1)).2.2.2.1).2.2.2.2.1, (kernelRun0_B (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.2.2.1 prev.2.2.2.2.2.2.1 prev.2.2.2.2.2.2.2.1 (hyp0_B_0 ch t q0 q1) ((hypsR0_B ch t q0 q1).2 (hyp0_B_0 ch t q0 q1)).1 ((hypsR0_B ch t q0 q1).2 (hyp0_B_0 ch t q0 q1)).2.1 ((hypsR0_B ch t q0 q1).2 (hyp0_B_0 ch t q0 q1)).2.2.1 ((hypsR0_B ch t q0 q1).2 (hyp0_B_0 ch t q0 q1)).2.2.2.1).2.2.2.2.2.1, (kernelRun0_B (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.2.2.1 prev.2.2.2.2.2.2.1 prev.2.2.2.2.2.2.2.1 (hyp0_B_0 ch t q0 q1) ((hypsR0_B ch t q0 q1).2 (hyp0_B_0 ch t q0 q1)).1 ((hypsR0_B ch t q0 q1).2 (hyp0_B_0 ch t q0 q1)).2.1 ((hypsR0_B ch t q0 q1).2 (hyp0_B_0 ch t q0 q1)).2.2.1 ((hypsR0_B ch t q0 q1).2 (hyp0_B_0 ch t q0 q1)).2.2.2.1).2.2.2.2.2.2.1)
    else
      if q2 : P0_2 ch t then
        if q3 : P0_3 ch t then
          (out0_E_6 (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_E_0 ch t q0 q1 q2 q3) ((hypsR0_E ch t q0 q1 q2 q3).2 (hyp0_E_0 ch t q0 q1 q2 q3)).1 ((hypsR0_E ch t q0 q1 q2 q3).2 (hyp0_E_0 ch t q0 q1 q2 q3)).2.1 ((hypsR0_E ch t q0 q1 q2 q3).2 (hyp0_E_0 ch t q0 q1 q2 q3)).2.2.1 ((hypsR0_E ch t q0 q1 q2 q3).2 (hyp0_E_0 ch t q0 q1 q2 q3)).2.2.2.1, out0_E_7 (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_E_0 ch t q0 q1 q2 q3) ((hypsR0_E ch t q0 q1 q2 q3).2 (hyp0_E_0 ch t q0 q1 q2 q3)).1 ((hypsR0_E ch t q0 q1 q2 q3).2 (hyp0_E_0 ch t q0 q1 q2 q3)).2.1 ((hypsR0_E ch t q0 q1 q2 q3).2 (hyp0_E_0 ch t q0 q1 q2 q3)).2.2.1 ((hypsR0_E ch t q0 q1 q2 q3).2 (hyp0_E_0 ch t q0 q1 q2 q3)).2.2.2.1, out0_E_8 (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_E_0 ch t q0 q1 q2 q3) ((hypsR0_E ch t q0 q1 q2 q3).2 (hyp0_E_0 ch t q0 q1 q2 q3)).1 ((hypsR0_E ch t q0 q1 q2 q3).2 (hyp0_E_0 ch t q0 q1 q2 q3)).2.1 ((hypsR0_E ch t q0 q1 q2 q3).2 (hyp0_E_0 ch t q0 q1 q2 q3)).2.2.1 ((hypsR0_E ch t q0 q1 q2 q3).2 (hyp0_E_0 ch t q0 q1 q2 q3)).2.2.2.1, (kernelRun0_E (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_E_0 ch t q0 q1 q2 q3) ((hypsR0_E ch t q0 q1 q2 q3).2 (hyp0_E_0 ch t q0 q1 q2 q3)).1 ((hypsR0_E ch t q0 q1 q2 q3).2 (hyp0_E_0 ch t q0 q1 q2 q3)).2.1 ((hypsR0_E ch t q0 q1 q2 q3).2 (hyp0_E_0 ch t q0 q1 q2 q3)).2.2.1 ((hypsR0_E ch t q0 q1 q2 q3).2 (hyp0_E_0 ch t q0 q1 q2 q3)).2.2.2.1).2.2.2.1, (kernelRun0_E (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_E_0 ch t q0 q1 q2 q3) ((hypsR0_E ch t q0 q1 q2 q3).2 (hyp0_E_0 ch t q0 q1 q2 q3)).1 ((hypsR0_E ch t q0 q1 q2 q3).2 (hyp0_E_0 ch t q0 q1 q2 q3)).2.1 ((hypsR0_E ch t q0 q1 q2 q3).2 (hyp0_E_0 ch t q0 q1 q2 q3)).2.2.1 ((hypsR0_E ch t q0 q1 q2 q3).2 (hyp0_E_0 ch t q0 q1 q2 q3)).2.2.2.1).2.2.2.2.1, (kernelRun0_E (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_E_0 ch t q0 q1 q2 q3) ((hypsR0_E ch t q0 q1 q2 q3).2 (hyp0_E_0 ch t q0 q1 q2 q3)).1 ((hypsR0_E ch t q0 q1 q2 q3).2 (hyp0_E_0 ch t q0 q1 q2 q3)).2.1 ((hypsR0_E ch t q0 q1 q2 q3).2 (hyp0_E_0 ch t q0 q1 q2 q3)).2.2.1 ((hypsR0_E ch t q0 q1 q2 q3).2 (hyp0_E_0 ch t q0 q1 q2 q3)).2.2.2.1).2.2.2.2.2.1, (kernelRun0_E (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_E_0 ch t q0 q1 q2 q3) ((hypsR0_E ch t q0 q1 q2 q3).2 (hyp0_E_0 ch t q0 q1 q2 q3)).1 ((hypsR0_E ch t q0 q1 q2 q3).2 (hyp0_E_0 ch t q0 q1 q2 q3)).2.1 ((hypsR0_E ch t q0 q1 q2 q3).2 (hyp0_E_0 ch t q0 q1 q2 q3)).2.2.1 ((hypsR0_E ch t q0 q1 q2 q3).2 (hyp0_E_0 ch t q0 q1 q2 q3)).2.2.2.1).2.2.2.2.2.2.1, (kernelRun0_E (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_E_0 ch t q0 q1 q2 q3) ((hypsR0_E ch t q0 q1 q2 q3).2 (hyp0_E_0 ch t q0 q1 q2 q3)).1 ((hypsR0_E ch t q0 q1 q2 q3).2 (hyp0_E_0 ch t q0 q1 q2 q3)).2.1 ((hypsR0_E ch t q0 q1 q2 q3).2 (hyp0_E_0 ch t q0 q1 q2 q3)).2.2.1 ((hypsR0_E ch t q0 q1 q2 q3).2 (hyp0_E_0 ch t q0 q1 q2 q3)).2.2.2.1).2.2.2.2.2.2.2.1, (kernelRun0_E (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_E_0 ch t q0 q1 q2 q3) ((hypsR0_E ch t q0 q1 q2 q3).2 (hyp0_E_0 ch t q0 q1 q2 q3)).1 ((hypsR0_E ch t q0 q1 q2 q3).2 (hyp0_E_0 ch t q0 q1 q2 q3)).2.1 ((hypsR0_E ch t q0 q1 q2 q3).2 (hyp0_E_0 ch t q0 q1 q2 q3)).2.2.1 ((hypsR0_E ch t q0 q1 q2 q3).2 (hyp0_E_0 ch t q0 q1 q2 q3)).2.2.2.1).2.2.2.2.2.2.2.2.1, (kernelRun0_E (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_E_0 ch t q0 q1 q2 q3) ((hypsR0_E ch t q0 q1 q2 q3).2 (hyp0_E_0 ch t q0 q1 q2 q3)).1 ((hypsR0_E ch t q0 q1 q2 q3).2 (hyp0_E_0 ch t q0 q1 q2 q3)).2.1 ((hypsR0_E ch t q0 q1 q2 q3).2 (hyp0_E_0 ch t q0 q1 q2 q3)).2.2.1 ((hypsR0_E ch t q0 q1 q2 q3).2 (hyp0_E_0 ch t q0 q1 q2 q3)).2.2.2.1).2.2.2.2.2.2.2.2.2.1)
        else
          (out0_C_6 (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1, (if (cfgA ch).fresh (7 : Fin 9) t.val then default else prev.2.1), (if (cfgA ch).fresh (8 : Fin 9) t.val then default else prev.2.2.1), (kernelRun0_C (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1).2.1, (kernelRun0_C (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1).2.2.1, (kernelRun0_C (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1).2.2.2.1, (kernelRun0_C (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1).2.2.2.2.1, (kernelRun0_C (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1).2.2.2.2.2.1, (kernelRun0_C (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1).2.2.2.2.2.2.1, (kernelRun0_C (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1).2.2.2.2.2.2.2.1)
      else
        ((if (cfgA ch).fresh (6 : Fin 9) t.val then default else prev.1), (if (cfgA ch).fresh (7 : Fin 9) t.val then default else prev.2.1), (if (cfgA ch).fresh (8 : Fin 9) t.val then default else prev.2.2.1), (kernelRun0_D (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_D_0 ch t q0 q1 q2) ((hypsR0_D ch t q0 q1 q2).2 (hyp0_D_0 ch t q0 q1 q2)).1 ((hypsR0_D ch t q0 q1 q2).2 (hyp0_D_0 ch t q0 q1 q2)).2.1 ((hypsR0_D ch t q0 q1 q2).2 (hyp0_D_0 ch t q0 q1 q2)).2.2.1 ((hypsR0_D ch t q0 q1 q2).2 (hyp0_D_0 ch t q0 q1 q2)).2.2.2.1).1, (kernelRun0_D (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_D_0 ch t q0 q1 q2) ((hypsR0_D ch t q0 q1 q2).2 (hyp0_D_0 ch t q0 q1 q2)).1 ((hypsR0_D ch t q0 q1 q2).2 (hyp0_D_0 ch t q0 q1 q2)).2.1 ((hypsR0_D ch t q0 q1 q2).2 (hyp0_D_0 ch t q0 q1 q2)).2.2.1 ((hypsR0_D ch t q0 q1 q2).2 (hyp0_D_0 ch t q0 q1 q2)).2.2.2.1).2.1, (kernelRun0_D (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_D_0 ch t q0 q1 q2) ((hypsR0_D ch t q0 q1 q2).2 (hyp0_D_0 ch t q0 q1 q2)).1 ((hypsR0_D ch t q0 q1 q2).2 (hyp0_D_0 ch t q0 q1 q2)).2.1 ((hypsR0_D ch t q0 q1 q2).2 (hyp0_D_0 ch t q0 q1 q2)).2.2.1 ((hypsR0_D ch t q0 q1 q2).2 (hyp0_D_0 ch t q0 q1 q2)).2.2.2.1).2.2.1, (kernelRun0_D (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_D_0 ch t q0 q1 q2) ((hypsR0_D ch t q0 q1 q2).2 (hyp0_D_0 ch t q0 q1 q2)).1 ((hypsR0_D ch t q0 q1 q2).2 (hyp0_D_0 ch t q0 q1 q2)).2.1 ((hypsR0_D ch t q0 q1 q2).2 (hyp0_D_0 ch t q0 q1 q2)).2.2.1 ((hypsR0_D ch t q0 q1 q2).2 (hyp0_D_0 ch t q0 q1 q2)).2.2.2.1).2.2.2.1, (kernelRun0_D (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_D_0 ch t q0 q1 q2) ((hypsR0_D ch t q0 q1 q2).2 (hyp0_D_0 ch t q0 q1 q2)).1 ((hypsR0_D ch t q0 q1 q2).2 (hyp0_D_0 ch t q0 q1 q2)).2.1 ((hypsR0_D ch t q0 q1 q2).2 (hyp0_D_0 ch t q0 q1 q2)).2.2.1 ((hypsR0_D ch t q0 q1 q2).2 (hyp0_D_0 ch t q0 q1 q2)).2.2.2.1).2.2.2.2.1, (kernelRun0_D (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_D_0 ch t q0 q1 q2) ((hypsR0_D ch t q0 q1 q2).2 (hyp0_D_0 ch t q0 q1 q2)).1 ((hypsR0_D ch t q0 q1 q2).2 (hyp0_D_0 ch t q0 q1 q2)).2.1 ((hypsR0_D ch t q0 q1 q2).2 (hyp0_D_0 ch t q0 q1 q2)).2.2.1 ((hypsR0_D ch t q0 q1 q2).2 (hyp0_D_0 ch t q0 q1 q2)).2.2.2.1).2.2.2.2.2.1, (kernelRun0_D (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_D_0 ch t q0 q1 q2) ((hypsR0_D ch t q0 q1 q2).2 (hyp0_D_0 ch t q0 q1 q2)).1 ((hypsR0_D ch t q0 q1 q2).2 (hyp0_D_0 ch t q0 q1 q2)).2.1 ((hypsR0_D ch t q0 q1 q2).2 (hyp0_D_0 ch t q0 q1 q2)).2.2.1 ((hypsR0_D ch t q0 q1 q2).2 (hyp0_D_0 ch t q0 q1 q2)).2.2.2.1).2.2.2.2.2.2.1)

/-- THE TRAJECTORY: after position `n`. -/
def traj0 (c : Dev nD) : (n : ℕ) → n < (cfgA ch).N → (S256x512.Idx → Elt F .bf16) × (S4096x512.Idx → Elt F .bf16) × (S4096x512.Idx → Elt F .bf16) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3) × Buf (Elt F) ((c : Thread nD τ).loc cc0_scratch4) × Buf (Elt F) ((c : Thread nD τ).loc cc0_scratch5) × Buf (Elt F) ((c : Thread nD τ).loc cc0_scratch6)
  | 0, h => step0 ch V c ⟨0, h⟩ (default, default, default, default, default, default, default, default, default, default)
  | n + 1, h => step0 ch V c ⟨n + 1, h⟩ (traj0 c n (Nat.lt_of_succ_lt h))

/-- What they held BEFORE point `t` (junk before the first). -/
def prev0 (c : Dev nD) (t : Fin (cfgA ch).N) : (S256x512.Idx → Elt F .bf16) × (S4096x512.Idx → Elt F .bf16) × (S4096x512.Idx → Elt F .bf16) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3) × Buf (Elt F) ((c : Thread nD τ).loc cc0_scratch4) × Buf (Elt F) ((c : Thread nD τ).loc cc0_scratch5) × Buf (Elt F) ((c : Thread nD τ).loc cc0_scratch6) :=
  if h : t.val = 0 then (default, default, default, default, default, default, default, default, default, default) else traj0 ch V c (t.val - 1) (by omega)

theorem traj0_eq (c : Dev nD) (t : Fin (cfgA ch).N) : traj0 ch V c t.val t.isLt = step0 ch V c t (prev0 ch V c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S256x512.Idx → Elt F .bf16) × (S4096x512.Idx → Elt F .bf16) × (S4096x512.Idx → Elt F .bf16) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3) × Buf (Elt F) ((c : Thread nD τ).loc cc0_scratch4) × Buf (Elt F) ((c : Thread nD τ).loc cc0_scratch5) × Buf (Elt F) ((c : Thread nD τ).loc cc0_scratch6)) (q0 : P0_0 ch t) :
    step0 ch V c t prev = (out0_A_6 (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1, (if (cfgA ch).fresh (7 : Fin 9) t.val then default else prev.2.1), (if (cfgA ch).fresh (8 : Fin 9) t.val then default else prev.2.2.1), (kernelRun0_A (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1).2.1, (kernelRun0_A (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1).2.2.1, (kernelRun0_A (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1).2.2.2.1, (kernelRun0_A (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1).2.2.2.2.1, (kernelRun0_A (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1).2.2.2.2.2.1, (kernelRun0_A (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1).2.2.2.2.2.2.1, (kernelRun0_A (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) (hyp0_A_0 ch t q0) ((hypsR0_A ch t q0).2 (hyp0_A_0 ch t q0)).1 ((hypsR0_A ch t q0).2 (hyp0_A_0 ch t q0)).2.1 ((hypsR0_A ch t q0).2 (hyp0_A_0 ch t q0)).2.2.1 ((hypsR0_A ch t q0).2 (hyp0_A_0 ch t q0)).2.2.2.1).2.2.2.2.2.2.2.1) := by
  unfold step0; exact (dif_pos q0)

/-- `step0` at a point of path B. -/
theorem step0_B (c : Dev nD) (t : Fin (cfgA ch).N) (prev : (S256x512.Idx → Elt F .bf16) × (S4096x512.Idx → Elt F .bf16) × (S4096x512.Idx → Elt F .bf16) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3) × Buf (Elt F) ((c : Thread nD τ).loc cc0_scratch4) × Buf (Elt F) ((c : Thread nD τ).loc cc0_scratch5) × Buf (Elt F) ((c : Thread nD τ).loc cc0_scratch6)) (q0 : ¬P0_0 ch t) (q1 : P0_1 ch t) :
    step0 ch V c t prev = ((if (cfgA ch).fresh (6 : Fin 9) t.val then default else prev.1), (if (cfgA ch).fresh (7 : Fin 9) t.val then default else prev.2.1), (if (cfgA ch).fresh (8 : Fin 9) t.val then default else prev.2.2.1), (kernelRun0_B (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.2.2.1 prev.2.2.2.2.2.2.1 prev.2.2.2.2.2.2.2.1 (hyp0_B_0 ch t q0 q1) ((hypsR0_B ch t q0 q1).2 (hyp0_B_0 ch t q0 q1)).1 ((hypsR0_B ch t q0 q1).2 (hyp0_B_0 ch t q0 q1)).2.1 ((hypsR0_B ch t q0 q1).2 (hyp0_B_0 ch t q0 q1)).2.2.1 ((hypsR0_B ch t q0 q1).2 (hyp0_B_0 ch t q0 q1)).2.2.2.1).1, (kernelRun0_B (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.2.2.1 prev.2.2.2.2.2.2.1 prev.2.2.2.2.2.2.2.1 (hyp0_B_0 ch t q0 q1) ((hypsR0_B ch t q0 q1).2 (hyp0_B_0 ch t q0 q1)).1 ((hypsR0_B ch t q0 q1).2 (hyp0_B_0 ch t q0 q1)).2.1 ((hypsR0_B ch t q0 q1).2 (hyp0_B_0 ch t q0 q1)).2.2.1 ((hypsR0_B ch t q0 q1).2 (hyp0_B_0 ch t q0 q1)).2.2.2.1).2.1, (kernelRun0_B (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.2.2.1 prev.2.2.2.2.2.2.1 prev.2.2.2.2.2.2.2.1 (hyp0_B_0 ch t q0 q1) ((hypsR0_B ch t q0 q1).2 (hyp0_B_0 ch t q0 q1)).1 ((hypsR0_B ch t q0 q1).2 (hyp0_B_0 ch t q0 q1)).2.1 ((hypsR0_B ch t q0 q1).2 (hyp0_B_0 ch t q0 q1)).2.2.1 ((hypsR0_B ch t q0 q1).2 (hyp0_B_0 ch t q0 q1)).2.2.2.1).2.2.1, (kernelRun0_B (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.2.2.1 prev.2.2.2.2.2.2.1 prev.2.2.2.2.2.2.2.1 (hyp0_B_0 ch t q0 q1) ((hypsR0_B ch t q0 q1).2 (hyp0_B_0 ch t q0 q1)).1 ((hypsR0_B ch t q0 q1).2 (hyp0_B_0 ch t q0 q1)).2.1 ((hypsR0_B ch t q0 q1).2 (hyp0_B_0 ch t q0 q1)).2.2.1 ((hypsR0_B ch t q0 q1).2 (hyp0_B_0 ch t q0 q1)).2.2.2.1).2.2.2.1, (kernelRun0_B (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.2.2.1 prev.2.2.2.2.2.2.1 prev.2.2.2.2.2.2.2.1 (hyp0_B_0 ch t q0 q1) ((hypsR0_B ch t q0 q1).2 (hyp0_B_0 ch t q0 q1)).1 ((hypsR0_B ch t q0 q1).2 (hyp0_B_0 ch t q0 q1)).2.1 ((hypsR0_B ch t q0 q1).2 (hyp0_B_0 ch t q0 q1)).2.2.1 ((hypsR0_B ch t q0 q1).2 (hyp0_B_0 ch t q0 q1)).2.2.2.1).2.2.2.2.1, (kernelRun0_B (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.2.2.1 prev.2.2.2.2.2.2.1 prev.2.2.2.2.2.2.2.1 (hyp0_B_0 ch t q0 q1) ((hypsR0_B ch t q0 q1).2 (hyp0_B_0 ch t q0 q1)).1 ((hypsR0_B ch t q0 q1).2 (hyp0_B_0 ch t q0 q1)).2.1 ((hypsR0_B ch t q0 q1).2 (hyp0_B_0 ch t q0 q1)).2.2.1 ((hypsR0_B ch t q0 q1).2 (hyp0_B_0 ch t q0 q1)).2.2.2.1).2.2.2.2.2.1, (kernelRun0_B (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.2.2.1 prev.2.2.2.2.2.2.1 prev.2.2.2.2.2.2.2.1 (hyp0_B_0 ch t q0 q1) ((hypsR0_B ch t q0 q1).2 (hyp0_B_0 ch t q0 q1)).1 ((hypsR0_B ch t q0 q1).2 (hyp0_B_0 ch t q0 q1)).2.1 ((hypsR0_B ch t q0 q1).2 (hyp0_B_0 ch t q0 q1)).2.2.1 ((hypsR0_B ch t q0 q1).2 (hyp0_B_0 ch t q0 q1)).2.2.2.1).2.2.2.2.2.2.1) := by
  unfold step0; exact ((dif_neg q0).trans (dif_pos q1))

/-- `step0` at a point of path C. -/
theorem step0_C (c : Dev nD) (t : Fin (cfgA ch).N) (prev : (S256x512.Idx → Elt F .bf16) × (S4096x512.Idx → Elt F .bf16) × (S4096x512.Idx → Elt F .bf16) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3) × Buf (Elt F) ((c : Thread nD τ).loc cc0_scratch4) × Buf (Elt F) ((c : Thread nD τ).loc cc0_scratch5) × Buf (Elt F) ((c : Thread nD τ).loc cc0_scratch6)) (q0 : ¬P0_0 ch t) (q1 : ¬P0_1 ch t) (q2 : P0_2 ch t) (q3 : ¬P0_3 ch t) :
    step0 ch V c t prev = (out0_C_6 (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1, (if (cfgA ch).fresh (7 : Fin 9) t.val then default else prev.2.1), (if (cfgA ch).fresh (8 : Fin 9) t.val then default else prev.2.2.1), (kernelRun0_C (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1).2.1, (kernelRun0_C (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1).2.2.1, (kernelRun0_C (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1).2.2.2.1, (kernelRun0_C (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1).2.2.2.2.1, (kernelRun0_C (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1).2.2.2.2.2.1, (kernelRun0_C (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1).2.2.2.2.2.2.1, (kernelRun0_C (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_C_0 ch t q0 q1 q2 q3) ((hypsR0_C ch t q0 q1 q2 q3).2 (hyp0_C_0 ch t q0 q1 q2 q3)).1 ((hypsR0_C ch t q0 q1 q2 q3).2 (hyp0_C_0 ch t q0 q1 q2 q3)).2.1 ((hypsR0_C ch t q0 q1 q2 q3).2 (hyp0_C_0 ch t q0 q1 q2 q3)).2.2.1 ((hypsR0_C ch t q0 q1 q2 q3).2 (hyp0_C_0 ch t q0 q1 q2 q3)).2.2.2.1).2.2.2.2.2.2.2.1) := by
  unfold step0; exact ((dif_neg q0).trans ((dif_neg q1).trans ((dif_pos q2).trans (dif_neg q3))))

/-- `step0` at a point of path D. -/
theorem step0_D (c : Dev nD) (t : Fin (cfgA ch).N) (prev : (S256x512.Idx → Elt F .bf16) × (S4096x512.Idx → Elt F .bf16) × (S4096x512.Idx → Elt F .bf16) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3) × Buf (Elt F) ((c : Thread nD τ).loc cc0_scratch4) × Buf (Elt F) ((c : Thread nD τ).loc cc0_scratch5) × Buf (Elt F) ((c : Thread nD τ).loc cc0_scratch6)) (q0 : ¬P0_0 ch t) (q1 : ¬P0_1 ch t) (q2 : ¬P0_2 ch t) :
    step0 ch V c t prev = ((if (cfgA ch).fresh (6 : Fin 9) t.val then default else prev.1), (if (cfgA ch).fresh (7 : Fin 9) t.val then default else prev.2.1), (if (cfgA ch).fresh (8 : Fin 9) t.val then default else prev.2.2.1), (kernelRun0_D (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_D_0 ch t q0 q1 q2) ((hypsR0_D ch t q0 q1 q2).2 (hyp0_D_0 ch t q0 q1 q2)).1 ((hypsR0_D ch t q0 q1 q2).2 (hyp0_D_0 ch t q0 q1 q2)).2.1 ((hypsR0_D ch t q0 q1 q2).2 (hyp0_D_0 ch t q0 q1 q2)).2.2.1 ((hypsR0_D ch t q0 q1 q2).2 (hyp0_D_0 ch t q0 q1 q2)).2.2.2.1).1, (kernelRun0_D (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_D_0 ch t q0 q1 q2) ((hypsR0_D ch t q0 q1 q2).2 (hyp0_D_0 ch t q0 q1 q2)).1 ((hypsR0_D ch t q0 q1 q2).2 (hyp0_D_0 ch t q0 q1 q2)).2.1 ((hypsR0_D ch t q0 q1 q2).2 (hyp0_D_0 ch t q0 q1 q2)).2.2.1 ((hypsR0_D ch t q0 q1 q2).2 (hyp0_D_0 ch t q0 q1 q2)).2.2.2.1).2.1, (kernelRun0_D (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_D_0 ch t q0 q1 q2) ((hypsR0_D ch t q0 q1 q2).2 (hyp0_D_0 ch t q0 q1 q2)).1 ((hypsR0_D ch t q0 q1 q2).2 (hyp0_D_0 ch t q0 q1 q2)).2.1 ((hypsR0_D ch t q0 q1 q2).2 (hyp0_D_0 ch t q0 q1 q2)).2.2.1 ((hypsR0_D ch t q0 q1 q2).2 (hyp0_D_0 ch t q0 q1 q2)).2.2.2.1).2.2.1, (kernelRun0_D (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_D_0 ch t q0 q1 q2) ((hypsR0_D ch t q0 q1 q2).2 (hyp0_D_0 ch t q0 q1 q2)).1 ((hypsR0_D ch t q0 q1 q2).2 (hyp0_D_0 ch t q0 q1 q2)).2.1 ((hypsR0_D ch t q0 q1 q2).2 (hyp0_D_0 ch t q0 q1 q2)).2.2.1 ((hypsR0_D ch t q0 q1 q2).2 (hyp0_D_0 ch t q0 q1 q2)).2.2.2.1).2.2.2.1, (kernelRun0_D (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_D_0 ch t q0 q1 q2) ((hypsR0_D ch t q0 q1 q2).2 (hyp0_D_0 ch t q0 q1 q2)).1 ((hypsR0_D ch t q0 q1 q2).2 (hyp0_D_0 ch t q0 q1 q2)).2.1 ((hypsR0_D ch t q0 q1 q2).2 (hyp0_D_0 ch t q0 q1 q2)).2.2.1 ((hypsR0_D ch t q0 q1 q2).2 (hyp0_D_0 ch t q0 q1 q2)).2.2.2.1).2.2.2.2.1, (kernelRun0_D (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_D_0 ch t q0 q1 q2) ((hypsR0_D ch t q0 q1 q2).2 (hyp0_D_0 ch t q0 q1 q2)).1 ((hypsR0_D ch t q0 q1 q2).2 (hyp0_D_0 ch t q0 q1 q2)).2.1 ((hypsR0_D ch t q0 q1 q2).2 (hyp0_D_0 ch t q0 q1 q2)).2.2.1 ((hypsR0_D ch t q0 q1 q2).2 (hyp0_D_0 ch t q0 q1 q2)).2.2.2.1).2.2.2.2.2.1, (kernelRun0_D (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_D_0 ch t q0 q1 q2) ((hypsR0_D ch t q0 q1 q2).2 (hyp0_D_0 ch t q0 q1 q2)).1 ((hypsR0_D ch t q0 q1 q2).2 (hyp0_D_0 ch t q0 q1 q2)).2.1 ((hypsR0_D ch t q0 q1 q2).2 (hyp0_D_0 ch t q0 q1 q2)).2.2.1 ((hypsR0_D ch t q0 q1 q2).2 (hyp0_D_0 ch t q0 q1 q2)).2.2.2.1).2.2.2.2.2.2.1) := by
  unfold step0; exact ((dif_neg q0).trans ((dif_neg q1).trans (dif_neg q2)))

/-- `step0` at a point of path E. -/
theorem step0_E (c : Dev nD) (t : Fin (cfgA ch).N) (prev : (S256x512.Idx → Elt F .bf16) × (S4096x512.Idx → Elt F .bf16) × (S4096x512.Idx → Elt F .bf16) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3) × Buf (Elt F) ((c : Thread nD τ).loc cc0_scratch4) × Buf (Elt F) ((c : Thread nD τ).loc cc0_scratch5) × Buf (Elt F) ((c : Thread nD τ).loc cc0_scratch6)) (q0 : ¬P0_0 ch t) (q1 : ¬P0_1 ch t) (q2 : P0_2 ch t) (q3 : P0_3 ch t) :
    step0 ch V c t prev = (out0_E_6 (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_E_0 ch t q0 q1 q2 q3) ((hypsR0_E ch t q0 q1 q2 q3).2 (hyp0_E_0 ch t q0 q1 q2 q3)).1 ((hypsR0_E ch t q0 q1 q2 q3).2 (hyp0_E_0 ch t q0 q1 q2 q3)).2.1 ((hypsR0_E ch t q0 q1 q2 q3).2 (hyp0_E_0 ch t q0 q1 q2 q3)).2.2.1 ((hypsR0_E ch t q0 q1 q2 q3).2 (hyp0_E_0 ch t q0 q1 q2 q3)).2.2.2.1, out0_E_7 (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_E_0 ch t q0 q1 q2 q3) ((hypsR0_E ch t q0 q1 q2 q3).2 (hyp0_E_0 ch t q0 q1 q2 q3)).1 ((hypsR0_E ch t q0 q1 q2 q3).2 (hyp0_E_0 ch t q0 q1 q2 q3)).2.1 ((hypsR0_E ch t q0 q1 q2 q3).2 (hyp0_E_0 ch t q0 q1 q2 q3)).2.2.1 ((hypsR0_E ch t q0 q1 q2 q3).2 (hyp0_E_0 ch t q0 q1 q2 q3)).2.2.2.1, out0_E_8 (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_E_0 ch t q0 q1 q2 q3) ((hypsR0_E ch t q0 q1 q2 q3).2 (hyp0_E_0 ch t q0 q1 q2 q3)).1 ((hypsR0_E ch t q0 q1 q2 q3).2 (hyp0_E_0 ch t q0 q1 q2 q3)).2.1 ((hypsR0_E ch t q0 q1 q2 q3).2 (hyp0_E_0 ch t q0 q1 q2 q3)).2.2.1 ((hypsR0_E ch t q0 q1 q2 q3).2 (hyp0_E_0 ch t q0 q1 q2 q3)).2.2.2.1, (kernelRun0_E (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_E_0 ch t q0 q1 q2 q3) ((hypsR0_E ch t q0 q1 q2 q3).2 (hyp0_E_0 ch t q0 q1 q2 q3)).1 ((hypsR0_E ch t q0 q1 q2 q3).2 (hyp0_E_0 ch t q0 q1 q2 q3)).2.1 ((hypsR0_E ch t q0 q1 q2 q3).2 (hyp0_E_0 ch t q0 q1 q2 q3)).2.2.1 ((hypsR0_E ch t q0 q1 q2 q3).2 (hyp0_E_0 ch t q0 q1 q2 q3)).2.2.2.1).2.2.2.1, (kernelRun0_E (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_E_0 ch t q0 q1 q2 q3) ((hypsR0_E ch t q0 q1 q2 q3).2 (hyp0_E_0 ch t q0 q1 q2 q3)).1 ((hypsR0_E ch t q0 q1 q2 q3).2 (hyp0_E_0 ch t q0 q1 q2 q3)).2.1 ((hypsR0_E ch t q0 q1 q2 q3).2 (hyp0_E_0 ch t q0 q1 q2 q3)).2.2.1 ((hypsR0_E ch t q0 q1 q2 q3).2 (hyp0_E_0 ch t q0 q1 q2 q3)).2.2.2.1).2.2.2.2.1, (kernelRun0_E (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_E_0 ch t q0 q1 q2 q3) ((hypsR0_E ch t q0 q1 q2 q3).2 (hyp0_E_0 ch t q0 q1 q2 q3)).1 ((hypsR0_E ch t q0 q1 q2 q3).2 (hyp0_E_0 ch t q0 q1 q2 q3)).2.1 ((hypsR0_E ch t q0 q1 q2 q3).2 (hyp0_E_0 ch t q0 q1 q2 q3)).2.2.1 ((hypsR0_E ch t q0 q1 q2 q3).2 (hyp0_E_0 ch t q0 q1 q2 q3)).2.2.2.1).2.2.2.2.2.1, (kernelRun0_E (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_E_0 ch t q0 q1 q2 q3) ((hypsR0_E ch t q0 q1 q2 q3).2 (hyp0_E_0 ch t q0 q1 q2 q3)).1 ((hypsR0_E ch t q0 q1 q2 q3).2 (hyp0_E_0 ch t q0 q1 q2 q3)).2.1 ((hypsR0_E ch t q0 q1 q2 q3).2 (hyp0_E_0 ch t q0 q1 q2 q3)).2.2.1 ((hypsR0_E ch t q0 q1 q2 q3).2 (hyp0_E_0 ch t q0 q1 q2 q3)).2.2.2.1).2.2.2.2.2.2.1, (kernelRun0_E (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_E_0 ch t q0 q1 q2 q3) ((hypsR0_E ch t q0 q1 q2 q3).2 (hyp0_E_0 ch t q0 q1 q2 q3)).1 ((hypsR0_E ch t q0 q1 q2 q3).2 (hyp0_E_0 ch t q0 q1 q2 q3)).2.1 ((hypsR0_E ch t q0 q1 q2 q3).2 (hyp0_E_0 ch t q0 q1 q2 q3)).2.2.1 ((hypsR0_E ch t q0 q1 q2 q3).2 (hyp0_E_0 ch t q0 q1 q2 q3)).2.2.2.1).2.2.2.2.2.2.2.1, (kernelRun0_E (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_E_0 ch t q0 q1 q2 q3) ((hypsR0_E ch t q0 q1 q2 q3).2 (hyp0_E_0 ch t q0 q1 q2 q3)).1 ((hypsR0_E ch t q0 q1 q2 q3).2 (hyp0_E_0 ch t q0 q1 q2 q3)).2.1 ((hypsR0_E ch t q0 q1 q2 q3).2 (hyp0_E_0 ch t q0 q1 q2 q3)).2.2.1 ((hypsR0_E ch t q0 q1 q2 q3).2 (hyp0_E_0 ch t q0 q1 q2 q3)).2.2.2.1).2.2.2.2.2.2.2.2.1, (kernelRun0_E (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) prev.2.2.2.1 prev.2.2.2.2.1 prev.2.2.2.2.2.1 prev.2.2.2.2.2.2.1 prev.2.2.2.2.2.2.2.1 prev.2.2.2.2.2.2.2.2.1 prev.2.2.2.2.2.2.2.2.2 (hyp0_E_0 ch t q0 q1 q2 q3) ((hypsR0_E ch t q0 q1 q2 q3).2 (hyp0_E_0 ch t q0 q1 q2 q3)).1 ((hypsR0_E ch t q0 q1 q2 q3).2 (hyp0_E_0 ch t q0 q1 q2 q3)).2.1 ((hypsR0_E ch t q0 q1 q2 q3).2 (hyp0_E_0 ch t q0 q1 q2 q3)).2.2.1 ((hypsR0_E ch t q0 q1 q2 q3).2 (hyp0_E_0 ch t q0 q1 q2 q3)).2.2.2.1).2.2.2.2.2.2.2.2.2.1) := by
  unfold step0; exact ((dif_neg q0).trans ((dif_neg q1).trans ((dif_pos q2).trans (dif_pos q3))))

/-! ## The pipeline's proof data -/

/-- What the tracked buffers held before position `t` of `Fin (N+1)` (the invariant's index). -/
def prev0T (c : Dev nD) (t : Fin ((cfgA ch).N + 1)) : (S256x512.Idx → Elt F .bf16) × (S4096x512.Idx → Elt F .bf16) × (S4096x512.Idx → Elt F .bf16) × Buf (Elt F) ((c : Thread nD τ).loc cc0_scratch0) × Buf (Elt F) ((c : Thread nD τ).loc cc0_scratch1) × Buf (Elt F) ((c : Thread nD τ).loc cc0_scratch2) × Buf (Elt F) ((c : Thread nD τ).loc cc0_scratch3) × Buf (Elt F) ((c : Thread nD τ).loc cc0_scratch4) × Buf (Elt F) ((c : Thread nD τ).loc cc0_scratch5) × Buf (Elt F) ((c : Thread nD τ).loc cc0_scratch6) :=
  if h : t.val = 0 then (default, default, default, default, default, default, default, default, default, default) else traj0 ch V c (t.val - 1) (by omega)

theorem prev0T_castSucc (c : Dev nD) (t : Fin (cfgA ch).N) : prev0T ch V c t.castSucc = prev0 ch V c t := by
  unfold prev0T prev0; simp only [Fin.val_castSucc]
theorem prev0T_succ (c : Dev nD) (t : Fin (cfgA ch).N) : prev0T ch V c t.succ = traj0 ch V c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (V : (c : Dev nD) → (b : Ref sig .tc) → Buf (Elt F) ((c : Thread nD τ).loc b)) (c : Dev nD) (t : Fin ((cfgA ch).N + 1)) : sProp 𝕄 :=
  iprop((∃ a, ⌜sfresh0_0 ch t.val = false → a = (prev0T ch V c t).2.2.2.1⌝ ∗ (scM0_0.view.loc (c : Thread nD τ) ↦{fullShare} a)) ∗ (∃ a, ⌜sfresh0_1 ch t.val = false → a = (prev0T ch V c t).2.2.2.2.1⌝ ∗ (scM0_1.view.loc (c : Thread nD τ) ↦{fullShare} a)) ∗ (∃ a, ⌜sfresh0_2 ch t.val = false → a = (prev0T ch V c t).2.2.2.2.2.1⌝ ∗ (scM0_2.view.loc (c : Thread nD τ) ↦{fullShare} a)) ∗ (∃ a, ⌜sfresh0_3 ch t.val = false → a = (prev0T ch V c t).2.2.2.2.2.2.1⌝ ∗ (scM0_3.view.loc (c : Thread nD τ) ↦{fullShare} a)) ∗ (∃ a, ⌜sfresh0_4 ch t.val = false → a = (prev0T ch V c t).2.2.2.2.2.2.2.1⌝ ∗ (scM0_4.view.loc (c : Thread nD τ) ↦{fullShare} a)) ∗ (∃ a, ⌜sfresh0_5 ch t.val = false → a = (prev0T ch V c t).2.2.2.2.2.2.2.2.1⌝ ∗ (scM0_5.view.loc (c : Thread nD τ) ↦{fullShare} a)) ∗ (∃ a, ⌜sfresh0_6 ch t.val = false → a = (prev0T ch V c t).2.2.2.2.2.2.2.2.2⌝ ∗ (scM0_6.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt F) Unit ℕ (UR sig nD τ) ℕ (cfgA ch) c where
  A w := V c (Pipeline.arrRef spec0 w)
  after w t := match w with
    | ⟨0, _⟩ => iblk ch V c (0 : Fin 9) t
    | ⟨1, _⟩ => iblk ch V c (1 : Fin 9) t
    | ⟨2, _⟩ => iblk ch V c (2 : Fin 9) t
    | ⟨3, _⟩ => iblk ch V c (3 : Fin 9) t
    | ⟨4, _⟩ => iblk ch V c (4 : Fin 9) t
    | ⟨5, _⟩ => iblk ch V c (5 : Fin 9) t
    | ⟨6, _⟩ => (traj0 ch V c t.val t.isLt).1
    | ⟨7, _⟩ => (traj0 ch V c t.val t.isLt).2.1
    | ⟨8, _⟩ => (traj0 ch V c t.val t.isLt).2.2.1
  Φ t := Phi ch V c t
  q _ := fullShare
  owed _ := 0

theorem after0_0 (c : Dev nD) (t : Fin (cfgA ch).N) : (dats ch V 0 c).after (0 : Fin 9) t = iblk ch V c (0 : Fin 9) t := rfl
theorem after0_1 (c : Dev nD) (t : Fin (cfgA ch).N) : (dats ch V 0 c).after (1 : Fin 9) t = iblk ch V c (1 : Fin 9) t := rfl
theorem after0_2 (c : Dev nD) (t : Fin (cfgA ch).N) : (dats ch V 0 c).after (2 : Fin 9) t = iblk ch V c (2 : Fin 9) t := rfl
theorem after0_3 (c : Dev nD) (t : Fin (cfgA ch).N) : (dats ch V 0 c).after (3 : Fin 9) t = iblk ch V c (3 : Fin 9) t := rfl
theorem after0_4 (c : Dev nD) (t : Fin (cfgA ch).N) : (dats ch V 0 c).after (4 : Fin 9) t = iblk ch V c (4 : Fin 9) t := rfl
theorem after0_5 (c : Dev nD) (t : Fin (cfgA ch).N) : (dats ch V 0 c).after (5 : Fin 9) t = iblk ch V c (5 : Fin 9) t := rfl
theorem after0_6 (c : Dev nD) (t : Fin (cfgA ch).N) : (dats ch V 0 c).after (6 : Fin 9) t = (traj0 ch V c t.val t.isLt).1 := rfl
theorem after0_7 (c : Dev nD) (t : Fin (cfgA ch).N) : (dats ch V 0 c).after (7 : Fin 9) t = (traj0 ch V c t.val t.isLt).2.1 := rfl
theorem after0_8 (c : Dev nD) (t : Fin (cfgA ch).N) : (dats ch V 0 c).after (8 : Fin 9) t = (traj0 ch V c t.val t.isLt).2.2.1 := rfl

end Cert.Stick

end
-- ==== Proof.StickBody.lean ====
/- The body of the kernel at every point of the grid takes what is held before it to what is held after it. -/
module

public import proofs.«01_k».proof.Proof.StickSteps
public import Idealize.ShloMosaic.Adequacy
public import Idealize.ShloMosaic.Init
public import Idealize.ShloMosaic.Lib.Affine
public import Idealize.ShloMosaic.Lib.Claim
public import Idealize.ShloMosaic.Lib.Exec
public import Idealize.ShloMosaic.Lib.Pipeline.FrameBody
public import Idealize.ShloMosaic.Lib.Pipeline.Kit
public import Idealize.ShloMosaic.Lib.Pipeline.Quiescent
public import Idealize.ShloMosaic.Lib.Pipeline.TableIdle
public import Idealize.ShloMosaic.Lib.Ring
public import Idealize.ShloMosaic.Lib.Tactic
public import Idealize.ShloMosaic.Lib.Writes
public import Idealize.ShloMosaic.PureOps.Ideal

@[expose] public section

set_option maxRecDepth 16384
set_option Elab.async false

noncomputable section

namespace Cert.Stick

open Cert.Kernel11Ideal Cert.Kernel11Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The algebra of the resources, at the values `F`. -/
local notation "𝕄" => MT nD τ sig Unit (Elt F) ℕ (UR sig nD τ) ℕ
variable (ch : Fin 1)
variable (V : (c : Dev nD) → (b : Ref sig .tc) → Buf (Elt F) ((c : Thread nD τ).loc b))

/-! ## What each window's staging buffer holds when the body runs -/

/-- Input window 0 holds its block, fetched there or not. -/
theorem before0_0 (c : Dev nD) (t : Fin (cfgA ch).N) (d) : (dats ch V 0 c).before (0 : Fin 9) t d = iblk ch V c (0 : Fin 9) t :=
  ((dats ch V 0 c).before_in_eq_fetched (0 : Fin 9) rfl (fun _ => rfl) (fun _ _ _ => rfl) (fun t => by rw [after0_0]; unfold Dat.blockOf iblk; rfl) t d).trans
    (by unfold Dat.fetched Dat.blockOf iblk; rfl)

/-- Input window 1 holds its block, fetched there or not. -/
theorem before0_1 (c : Dev nD) (t : Fin (cfgA ch).N) (d) : (dats ch V 0 c).before (1 : Fin 9) t d = iblk ch V c (1 : Fin 9) t :=
  ((dats ch V 0 c).before_in_eq_fetched (1 : Fin 9) rfl (fun _ => rfl) (fun _ _ _ => rfl) (fun t => by rw [after0_1]; unfold Dat.blockOf iblk; rfl) t d).trans
    (by unfold Dat.fetched Dat.blockOf iblk; rfl)

/-- Input window 2 holds its block, fetched there or not. -/
theorem before0_2 (c : Dev nD) (t : Fin (cfgA ch).N) (d) : (dats ch V 0 c).before (2 : Fin 9) t d = iblk ch V c (2 : Fin 9) t :=
  ((dats ch V 0 c).before_in_eq_fetched (2 : Fin 9) rfl (fun _ => rfl) (fun _ _ _ => rfl) (fun t => by rw [after0_2]; unfold Dat.blockOf iblk; rfl) t d).trans
    (by unfold Dat.fetched Dat.blockOf iblk; rfl)

/-- Input window 3 holds its block, fetched there or not. -/
theorem before0_3 (c : Dev nD) (t : Fin (cfgA ch).N) (d) : (dats ch V 0 c).before (3 : Fin 9) t d = iblk ch V c (3 : Fin 9) t :=
  ((dats ch V 0 c).before_in_eq_fetched (3 : Fin 9) rfl (fun _ => rfl) (fun _ _ _ => rfl) (fun t => by rw [after0_3]; unfold Dat.blockOf iblk; rfl) t d).trans
    (by unfold Dat.fetched Dat.blockOf iblk; rfl)

/-- Input window 4 holds its block, fetched there or not. -/
theorem before0_4 (c : Dev nD) (t : Fin (cfgA ch).N) (d) : (dats ch V 0 c).before (4 : Fin 9) t d = iblk ch V c (4 : Fin 9) t :=
  ((dats ch V 0 c).before_in_eq_fetched (4 : Fin 9) rfl (fun _ => rfl) (fun _ _ _ => rfl) (fun t => by rw [after0_4]; unfold Dat.blockOf iblk; rfl) t d).trans
    (by unfold Dat.fetched Dat.blockOf iblk; rfl)

/-- Input window 5 holds its block, fetched there or not. -/
theorem before0_5 (c : Dev nD) (t : Fin (cfgA ch).N) (d) : (dats ch V 0 c).before (5 : Fin 9) t d = iblk ch V c (5 : Fin 9) t :=
  ((dats ch V 0 c).before_in_eq_fetched (5 : Fin 9) rfl (fun _ => rfl) (fun _ _ _ => rfl) (fun t => by rw [after0_5]; unfold Dat.blockOf iblk; rfl) t d).trans
    (by unfold Dat.fetched Dat.blockOf iblk; rfl)

/-- Output 6's `after` carries through the points that leave it idle. -/
theorem hcarry0_6 (c : Dev nD) : ∀ (t : Fin (cfgA ch).N) (ht : t.val ≠ 0), (cfgA ch).idle (6 : Fin 9) ((cfgA ch).grid.coords t) = true → (cfgA ch).fresh (6 : Fin 9) t.val = false →
    (dats ch V 0 c).after (6 : Fin 9) t = (dats ch V 0 c).after (6 : Fin 9) ⟨t.val - 1, by omega⟩ := by
  intro t ht hi hf
  rw [after0_6, after0_6, traj0_eq]
  by_cases q0 : P0_0 ch t
  · obtain ⟨i6, -, -, -, -, -, -, -, -, -, -, -, -, -, -, -, -, -, -, -, -, -, -⟩ := sched0_A ch t q0
    rw [i6] at hi; exact absurd hi (by decide)
  · by_cases q1 : P0_1 ch t
    · rw [step0_B ch V c t _ q0 q1]
      simp only [hf, Bool.false_eq_true, ↓reduceIte]
      unfold prev0; rw [dif_neg ht]
    · by_cases q2 : P0_2 ch t
      · by_cases q3 : P0_3 ch t
        · obtain ⟨i6, -, -, -, -, -, -, -, -, -, -, -, -, -, -, -, -, -, -, -, -, -, -⟩ := sched0_E ch t q0 q1 q2 q3
          rw [i6] at hi; exact absurd hi (by decide)
        · obtain ⟨i6, -, -, -, -, -, -, -, -, -, -, -, -, -, -, -, -, -, -, -, -, -, -⟩ := sched0_C ch t q0 q1 q2 q3
          rw [i6] at hi; exact absurd hi (by decide)
      · rw [step0_D ch V c t _ q0 q1 q2]
        simp only [hf, Bool.false_eq_true, ↓reduceIte]
        unfold prev0; rw [dif_neg ht]

/-- Output window 6 holds, when the body runs at `t`: junk if nothing was stored since its last write-back (`Cfg.fresh`),
    else what the point before left. -/
theorem before0_6 (c : Dev nD) (t : Fin (cfgA ch).N) (d) :
    (dats ch V 0 c).before (6 : Fin 9) t d = if (cfgA ch).fresh (6 : Fin 9) t.val then d else (prev0 ch V c t).1 := by
  rw [(dats ch V 0 c).before_out_traj (6 : Fin 9) rfl (fun _ _ => rfl) (hcarry0_6 ch V c) t.val t rfl d]
  by_cases hf : (cfgA ch).fresh (6 : Fin 9) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_6]; unfold prev0; rw [dif_neg h0]

/-- Output 7's `after` carries through the points that leave it idle. -/
theorem hcarry0_7 (c : Dev nD) : ∀ (t : Fin (cfgA ch).N) (ht : t.val ≠ 0), (cfgA ch).idle (7 : Fin 9) ((cfgA ch).grid.coords t) = true → (cfgA ch).fresh (7 : Fin 9) t.val = false →
    (dats ch V 0 c).after (7 : Fin 9) t = (dats ch V 0 c).after (7 : Fin 9) ⟨t.val - 1, by omega⟩ := by
  intro t ht hi hf
  rw [after0_7, after0_7, traj0_eq]
  by_cases q0 : P0_0 ch t
  · rw [step0_A ch V c t _ q0]
    simp only [hf, Bool.false_eq_true, ↓reduceIte]
    unfold prev0; rw [dif_neg ht]
  · by_cases q1 : P0_1 ch t
    · rw [step0_B ch V c t _ q0 q1]
      simp only [hf, Bool.false_eq_true, ↓reduceIte]
      unfold prev0; rw [dif_neg ht]
    · by_cases q2 : P0_2 ch t
      · by_cases q3 : P0_3 ch t
        · obtain ⟨-, -, -, i7, -, -, -, -, -, -, -, -, -, -, -, -, -, -, -, -, -, -, -⟩ := sched0_E ch t q0 q1 q2 q3
          rw [i7] at hi; exact absurd hi (by decide)
        · rw [step0_C ch V c t _ q0 q1 q2 q3]
          simp only [hf, Bool.false_eq_true, ↓reduceIte]
          unfold prev0; rw [dif_neg ht]
      · rw [step0_D ch V c t _ q0 q1 q2]
        simp only [hf, Bool.false_eq_true, ↓reduceIte]
        unfold prev0; rw [dif_neg ht]

/-- Output window 7 holds, when the body runs at `t`: junk if nothing was stored since its last write-back (`Cfg.fresh`),
    else what the point before left. -/
theorem before0_7 (c : Dev nD) (t : Fin (cfgA ch).N) (d) :
    (dats ch V 0 c).before (7 : Fin 9) t d = if (cfgA ch).fresh (7 : Fin 9) t.val then d else (prev0 ch V c t).2.1 := by
  rw [(dats ch V 0 c).before_out_traj (7 : Fin 9) rfl (fun _ _ => rfl) (hcarry0_7 ch V c) t.val t rfl d]
  by_cases hf : (cfgA ch).fresh (7 : Fin 9) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_7]; unfold prev0; rw [dif_neg h0]

/-- Output 8's `after` carries through the points that leave it idle. -/
theorem hcarry0_8 (c : Dev nD) : ∀ (t : Fin (cfgA ch).N) (ht : t.val ≠ 0), (cfgA ch).idle (8 : Fin 9) ((cfgA ch).grid.coords t) = true → (cfgA ch).fresh (8 : Fin 9) t.val = false →
    (dats ch V 0 c).after (8 : Fin 9) t = (dats ch V 0 c).after (8 : Fin 9) ⟨t.val - 1, by omega⟩ := by
  intro t ht hi hf
  rw [after0_8, after0_8, traj0_eq]
  by_cases q0 : P0_0 ch t
  · rw [step0_A ch V c t _ q0]
    simp only [hf, Bool.false_eq_true, ↓reduceIte]
    unfold prev0; rw [dif_neg ht]
  · by_cases q1 : P0_1 ch t
    · rw [step0_B ch V c t _ q0 q1]
      simp only [hf, Bool.false_eq_true, ↓reduceIte]
      unfold prev0; rw [dif_neg ht]
    · by_cases q2 : P0_2 ch t
      · by_cases q3 : P0_3 ch t
        · obtain ⟨-, -, -, -, -, -, i8, -, -, -, -, -, -, -, -, -, -, -, -, -, -, -, -⟩ := sched0_E ch t q0 q1 q2 q3
          rw [i8] at hi; exact absurd hi (by decide)
        · rw [step0_C ch V c t _ q0 q1 q2 q3]
          simp only [hf, Bool.false_eq_true, ↓reduceIte]
          unfold prev0; rw [dif_neg ht]
      · rw [step0_D ch V c t _ q0 q1 q2]
        simp only [hf, Bool.false_eq_true, ↓reduceIte]
        unfold prev0; rw [dif_neg ht]

/-- Output window 8 holds, when the body runs at `t`: junk if nothing was stored since its last write-back (`Cfg.fresh`),
    else what the point before left. -/
theorem before0_8 (c : Dev nD) (t : Fin (cfgA ch).N) (d) :
    (dats ch V 0 c).before (8 : Fin 9) t d = if (cfgA ch).fresh (8 : Fin 9) t.val then d else (prev0 ch V c t).2.2.1 := by
  rw [(dats ch V 0 c).before_out_traj (8 : Fin 9) rfl (fun _ _ => rfl) (hcarry0_8 ch V c) t.val t rfl d]
  by_cases hf : (cfgA ch).fresh (8 : Fin 9) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_8]; unfold prev0; rw [dif_neg h0]

/-! ## The body obligation, at a generic point, by path -/

/-- The body at point `t` on its staging memrefs, as the pipeline calls it. -/
abbrev bodyAt0 (t : Fin (cfgA ch).N) : Prog (TpuEff nD τ sig (Elt F) Λ₀ .tc) PUnit :=
  cc0_sb_bwd (crd ch t) (Memref.whole main_c) (Memref.isWhole_whole _) (Memref.whole main_c_0) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)

set_option maxHeartbeats 8000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (c : Dev nD) (t : Fin (cfgA ch).N) :
    iprop((dats ch V 0 c).Φ t.castSucc ∗ (dats ch V 0 c).owesAt () t.castSucc
        ∗ (∃ d, owns (c : Thread nD τ) (ms0_0 ch t) fullShare ((dats ch V 0 c).before (0 : Fin 9) t d))
        ∗ (∃ d, owns (c : Thread nD τ) (ms0_1 ch t) fullShare ((dats ch V 0 c).before (1 : Fin 9) t d))
        ∗ (∃ d, owns (c : Thread nD τ) (ms0_2 ch t) fullShare ((dats ch V 0 c).before (2 : Fin 9) t d))
        ∗ (∃ d, owns (c : Thread nD τ) (ms0_3 ch t) fullShare ((dats ch V 0 c).before (3 : Fin 9) t d))
        ∗ (∃ d, owns (c : Thread nD τ) (ms0_4 ch t) fullShare ((dats ch V 0 c).before (4 : Fin 9) t d))
        ∗ (∃ d, owns (c : Thread nD τ) (ms0_5 ch t) fullShare ((dats ch V 0 c).before (5 : Fin 9) t d))
        ∗ (∃ d, owns (c : Thread nD τ) (ms0_6 ch t) fullShare ((dats ch V 0 c).before (6 : Fin 9) t d))
        ∗ (∃ d, owns (c : Thread nD τ) (ms0_7 ch t) fullShare ((dats ch V 0 c).before (7 : Fin 9) t d))
        ∗ (∃ d, owns (c : Thread nD τ) (ms0_8 ch t) fullShare ((dats ch V 0 c).before (8 : Fin 9) t d)))
      ⊢ wp frame (wpE (defs₀ (F := F)) Variants.none c none) Set.univ (bodyAt0 ch t) fun _ =>
          iprop((dats ch V 0 c).Φ t.succ ∗ (dats ch V 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch V 0 c).before w t d))
                  | true => owns (c : Thread nD τ) (((cfgA ch).win w).stage ((cfgA ch).slots t w)) fullShare ((dats ch V 0 c).after w t)
                | false => owns (c : Thread nD τ) (((cfgA ch).win w).stage ((cfgA ch).slots t w)) fullShare ((dats ch V 0 c).after w t)) := by
  rw [bigSep_W0]
  by_cases q0 : P0_0 ch t
  · obtain ⟨i6, f6, fr6, i7, f7, fr7, i8, f8, fr8, sf0, sfn0, sf1, sfn1, sf2, sfn2, sf3, sfn3, sf4, sfn4, sf5, sfn5, sf6, sfn6⟩ := sched0_A ch t q0
    have F0 := hypsR0_A ch t q0
    have k0_hw1 := F0.1; have F1 := F0.2 k0_hw1
    have k0_h1 := F1.1; have F2 := F1.2
    have hc2 := F2.1; have F3 := F2.2
    have k0_h3 := F3.1; have F4 := F3.2
    have k0_h4 := F4.1; have F5 := F4.2
    clear F0 F1 F2 F3 F4 F5
    rewrite [i6, i7]
    simp only [before0_0, before0_1, before0_2, before0_3, before0_4, before0_5, before0_6, before0_7, before0_8, after0_0, after0_1, after0_2, after0_3, after0_4, after0_5, after0_6, after0_7, after0_8, f6, f7, f8]
    simp only [fr6, fr7, fr8, Bool.false_eq_true, ↓reduceIte]
    rewrite [show (dats ch V 0 c).Φ t.succ = Phi ch V c t.succ from rfl, show (dats ch V 0 c).Φ t.castSucc = Phi ch V c t.castSucc from rfl,
      show (dats ch V 0 c).owesAt () t.succ = (dats ch V 0 c).owesAt () t.castSucc from rfl]
    try rewrite [traj0_eq, step0_A ch V c t _ q0]
    unfold Phi; simp only [prev0T_castSucc, prev0T_succ, traj0_eq, step0_A ch V c t _ q0, Fin.val_castSucc, Fin.val_succ]
    iintro ⟨⟨⟨%a0, %ha0, HS0⟩, ⟨%a1, %ha1, HS1⟩, ⟨%a2, %ha2, HS2⟩, ⟨%a3, %ha3, HS3⟩, ⟨%a4, %ha4, HS4⟩, ⟨%a5, %ha5, HS5⟩, ⟨%a6, %ha6, HS6⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) k0_hw1 k0_h1 hc2 k0_h3 k0_h4).2.2.2.2.2.2.2.2 _ _ a0 a1 a2 a3 a4 a5 a6 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [HT1]; · iexact HT1
    isplitl [H6]; · iexists _; iexact H6
    isplitl [H7]; · iexact H7
    isplitl [H8]; · iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, HT0, HT1, ⟨%e6, H6⟩, H7, H8, HS0, HS1, HS2, HS3, HS4, HS5, HS6⟩
    isplitl [HS0 HS1 HS2 HS3 HS4 HS5 HS6 HT0 HT1]
    · isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn1]; decide) | decide)
      isplitl [HS2]
      · iexists _; isplitr; swap
        · iexact HS2
        · ipureintro; intro hn; first | rfl | exact absurd hn (by first | (rw [sfn2]; decide) | decide)
      isplitl [HS3]
      · iexists _; isplitr; swap
        · iexact HS3
        · ipureintro; intro hn; first | rfl | exact absurd hn (by first | (rw [sfn3]; decide) | decide)
      isplitl [HS4]
      · iexists _; isplitr; swap
        · iexact HS4
        · ipureintro; intro hn; first | rfl | exact absurd hn (by first | (rw [sfn4]; decide) | decide)
      isplitl [HS5]
      · iexists _; isplitr; swap
        · iexact HS5
        · ipureintro; intro hn; first | rfl | exact absurd hn (by first | (rw [sfn5]; decide) | decide)
      isplitl [HS6]
      · iexists _; isplitr; swap
        · iexact HS6
        · ipureintro; intro hn; first | rfl | exact absurd hn (by first | (rw [sfn6]; decide) | decide)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    isplitl [H6]
    · unfold owns; iexists _; isplitr; swap
      · iexact H6
      · ipureintro; exact View.read_writes_of_cover _ _ _ _ _ (cover0_A_6 c _ _ _ _ _ _ _ _ _ _ _ _ _ _ _ _ _ _ _ _ _ _ _ _ _ _ _ _ _ _ _ _)
    isplitl [H7]
    · first | (iexists d7; iexact H7) | iexact H7
    first | (iexists d8; iexact H8) | iexact H8
  · by_cases q1 : P0_1 ch t
    · obtain ⟨i6, f6, fr6, i7, f7, fr7, i8, f8, fr8, sf0, sfn0, sf1, sfn1, sf2, sfn2, sf3, sfn3, sf4, sfn4, sf5, sfn5, sf6, sfn6⟩ := sched0_B ch t q0 q1
      have F0 := hypsR0_B ch t q0 q1
      have k0_hw1 := F0.1; have F1 := F0.2 k0_hw1
      have k0_h1 := F1.1; have F2 := F1.2
      have hc2 := F2.1; have F3 := F2.2
      have k0_h3 := F3.1; have F4 := F3.2
      have k0_h4 := F4.1; have F5 := F4.2
      clear F0 F1 F2 F3 F4 F5
      rewrite [i6, i7]
      simp only [before0_0, before0_1, before0_2, before0_3, before0_4, before0_5, before0_6, before0_7, before0_8, after0_0, after0_1, after0_2, after0_3, after0_4, after0_5, after0_6, after0_7, after0_8, f6, f7, f8]
      simp only [fr6, fr7, fr8, Bool.false_eq_true, ↓reduceIte]
      rewrite [show (dats ch V 0 c).Φ t.succ = Phi ch V c t.succ from rfl, show (dats ch V 0 c).Φ t.castSucc = Phi ch V c t.castSucc from rfl,
        show (dats ch V 0 c).owesAt () t.succ = (dats ch V 0 c).owesAt () t.castSucc from rfl]
      try rewrite [traj0_eq, step0_B ch V c t _ q0 q1]
      unfold Phi; simp only [prev0T_castSucc, prev0T_succ, traj0_eq, step0_B ch V c t _ q0 q1, Fin.val_castSucc, Fin.val_succ]
      simp only [exists_held sf2, exists_held sf3, exists_held sf4]
      iintro ⟨⟨⟨%a0, %ha0, HS0⟩, ⟨%a1, %ha1, HS1⟩, HS2, HS3, HS4, ⟨%a5, %ha5, HS5⟩, ⟨%a6, %ha6, HS6⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) _ _ _ k0_hw1 k0_h1 hc2 k0_h3 k0_h4).2.2.2.2.2.2.2 _ _ _ a0 a1 a5 a6 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [H7]; · iexact H7
      isplitl [H8]; · iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, HT0, HT1, H6, H7, H8, HS0, HS1, HS2, HS3, HS4, HS5, HS6⟩
      isplitl [HS0 HS1 HS2 HS3 HS4 HS5 HS6 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HS4]
        · iexists _; isplitr; swap
          · iexact HS4
          · ipureintro; intro hn; first | rfl | exact absurd hn (by first | (rw [sfn4]; decide) | decide)
        isplitl [HS5]
        · iexists _; isplitr; swap
          · iexact HS5
          · ipureintro; intro hn; first | rfl | exact absurd hn (by first | (rw [sfn5]; decide) | decide)
        isplitl [HS6]
        · iexists _; isplitr; swap
          · iexact HS6
          · ipureintro; intro hn; first | rfl | exact absurd hn (by first | (rw [sfn6]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      isplitl [H6]
      · first | (iexists d6; iexact H6) | iexact H6
      isplitl [H7]
      · first | (iexists d7; iexact H7) | iexact H7
      first | (iexists d8; iexact H8) | iexact H8
    · by_cases q2 : P0_2 ch t
      · by_cases q3 : P0_3 ch t
        · obtain ⟨i6, f6, fr6, i7, f7, fr7, i8, f8, fr8, sf0, sfn0, sf1, sfn1, sf2, sfn2, sf3, sfn3, sf4, sfn4, sf5, sfn5, sf6, sfn6⟩ := sched0_E ch t q0 q1 q2 q3
          have F0 := hypsR0_E ch t q0 q1 q2 q3
          have k0_hw1 := F0.1; have F1 := F0.2 k0_hw1
          have k0_h1 := F1.1; have F2 := F1.2
          have hc2 := F2.1; have F3 := F2.2
          have k0_h3 := F3.1; have F4 := F3.2
          have k0_h4 := F4.1; have F5 := F4.2
          clear F0 F1 F2 F3 F4 F5
          rewrite [i6, i7]
          simp only [before0_0, before0_1, before0_2, before0_3, before0_4, before0_5, before0_6, before0_7, before0_8, after0_0, after0_1, after0_2, after0_3, after0_4, after0_5, after0_6, after0_7, after0_8, f6, f7, f8]
          simp only [fr6, fr7, fr8, Bool.false_eq_true, ↓reduceIte]
          rewrite [show (dats ch V 0 c).Φ t.succ = Phi ch V c t.succ from rfl, show (dats ch V 0 c).Φ t.castSucc = Phi ch V c t.castSucc from rfl,
            show (dats ch V 0 c).owesAt () t.succ = (dats ch V 0 c).owesAt () t.castSucc from rfl]
          try rewrite [traj0_eq, step0_E ch V c t _ q0 q1 q2 q3]
          unfold Phi; simp only [prev0T_castSucc, prev0T_succ, traj0_eq, step0_E ch V c t _ q0 q1 q2 q3, Fin.val_castSucc, Fin.val_succ]
          simp only [exists_held sf0, exists_held sf1, exists_held sf2, exists_held sf3, exists_held sf4, exists_held sf5, exists_held sf6]
          iintro ⟨⟨HS0, HS1, HS2, HS3, HS4, HS5, HS6, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_E (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) _ _ _ _ _ _ _ k0_hw1 k0_h1 hc2 k0_h3 k0_h4).2.2.2.2.2.2.2.2.2.2 _)
          isplitl [H0]; · iapply rep_of_owns; iexact H0
          isplitl [H1]; · iapply rep_of_owns; iexact H1
          isplitl [H2]; · iapply rep_of_owns; iexact H2
          isplitl [H3]; · iapply rep_of_owns; iexact H3
          isplitl [H4]; · iapply rep_of_owns; iexact H4
          isplitl [H5]; · iapply rep_of_owns; iexact H5
          isplitl [HT0]; · iexact HT0
          isplitl [HT1]; · iexact HT1
          isplitl [H6]; · iexists _; iexact H6
          isplitl [H7]; · iexists _; iexact H7
          isplitl [H8]; · iexists _; iexact H8
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iintro ⟨H0, H1, H2, H3, H4, H5, HT0, HT1, ⟨%e6, H6⟩, ⟨%e7, H7⟩, ⟨%e8, H8⟩, HS0, HS1, HS2, HS3, HS4, HS5, HS6⟩
          isplitl [HS0 HS1 HS2 HS3 HS4 HS5 HS6 HT0 HT1]
          · isplitl [HS0]
            · iexists _; isplitr; swap
              · iexact HS0
              · ipureintro; intro hn; first | rfl | exact absurd hn (by first | (rw [sfn0]; decide) | decide)
            isplitl [HS1]
            · iexists _; isplitr; swap
              · iexact HS1
              · ipureintro; intro hn; first | rfl | exact absurd hn (by first | (rw [sfn1]; decide) | decide)
            isplitl [HS2]
            · iexists _; isplitr; swap
              · iexact HS2
              · ipureintro; intro hn; first | rfl | exact absurd hn (by first | (rw [sfn2]; decide) | decide)
            isplitl [HS3]
            · iexists _; isplitr; swap
              · iexact HS3
              · ipureintro; intro hn; first | rfl | exact absurd hn (by first | (rw [sfn3]; decide) | decide)
            isplitl [HS4]
            · iexists _; isplitr; swap
              · iexact HS4
              · ipureintro; intro hn; first | rfl | exact absurd hn (by first | (rw [sfn4]; decide) | decide)
            isplitl [HS5]
            · iexists _; isplitr; swap
              · iexact HS5
              · ipureintro; intro hn; first | rfl | exact absurd hn (by first | (rw [sfn5]; decide) | decide)
            isplitl [HS6]
            · iexists _; isplitr; swap
              · iexact HS6
              · ipureintro; intro hn; first | rfl | exact absurd hn (by first | (rw [sfn6]; decide) | decide)
            isplitl [HT0]
            · iexact HT0
            iexact HT1
          isplitl [Ho]; · iexact Ho
          isplitl [H0]
          · iapply owns_of_rep; iexact H0
          isplitl [H1]
          · iapply owns_of_rep; iexact H1
          isplitl [H2]
          · iapply owns_of_rep; iexact H2
          isplitl [H3]
          · iapply owns_of_rep; iexact H3
          isplitl [H4]
          · iapply owns_of_rep; iexact H4
          isplitl [H5]
          · iapply owns_of_rep; iexact H5
          isplitl [H6]
          · unfold owns; iexists _; isplitr; swap
            · iexact H6
            · ipureintro; exact View.read_writes_of_cover _ _ _ _ _ (cover0_E_6 c _ _ _ _ _ _ _ _ _ _ _ _ _ _ _ _ _ _ _ _ _ _ _ _ _ _ _ _ _ _ _ _ _ _ _ _ _ _ _)
          isplitl [H7]
          · unfold owns; iexists _; isplitr; swap
            · iexact H7
            · ipureintro; exact View.read_writes_of_cover _ _ _ _ _ (cover0_E_7 c _ _ _ _ _ _ _ _ _ _ _ _ _ _ _ _ _ _ _ _ _ _ _ _ _ _ _ _ _ _ _ _ _ _ _ _ _ _ _)
          unfold owns; iexists _; isplitr; swap
          · iexact H8
          · ipureintro; exact View.read_writes_of_cover _ _ _ _ _ (cover0_E_8 c _ _ _ _ _ _ _ _ _ _ _ _ _ _ _ _ _ _ _ _ _ _ _ _ _ _ _ _ _ _ _ _ _ _ _ _ _ _ _)
        · obtain ⟨i6, f6, fr6, i7, f7, fr7, i8, f8, fr8, sf0, sfn0, sf1, sfn1, sf2, sfn2, sf3, sfn3, sf4, sfn4, sf5, sfn5, sf6, sfn6⟩ := sched0_C ch t q0 q1 q2 q3
          have F0 := hypsR0_C ch t q0 q1 q2 q3
          have k0_hw1 := F0.1; have F1 := F0.2 k0_hw1
          have k0_h1 := F1.1; have F2 := F1.2
          have hc2 := F2.1; have F3 := F2.2
          have k0_h3 := F3.1; have F4 := F3.2
          have k0_h4 := F4.1; have F5 := F4.2
          clear F0 F1 F2 F3 F4 F5
          rewrite [i6, i7]
          simp only [before0_0, before0_1, before0_2, before0_3, before0_4, before0_5, before0_6, before0_7, before0_8, after0_0, after0_1, after0_2, after0_3, after0_4, after0_5, after0_6, after0_7, after0_8, f6, f7, f8]
          simp only [fr6, fr7, fr8, Bool.false_eq_true, ↓reduceIte]
          rewrite [show (dats ch V 0 c).Φ t.succ = Phi ch V c t.succ from rfl, show (dats ch V 0 c).Φ t.castSucc = Phi ch V c t.castSucc from rfl,
            show (dats ch V 0 c).owesAt () t.succ = (dats ch V 0 c).owesAt () t.castSucc from rfl]
          try rewrite [traj0_eq, step0_C ch V c t _ q0 q1 q2 q3]
          unfold Phi; simp only [prev0T_castSucc, prev0T_succ, traj0_eq, step0_C ch V c t _ q0 q1 q2 q3, Fin.val_castSucc, Fin.val_succ]
          simp only [exists_held sf0, exists_held sf1, exists_held sf2, exists_held sf3, exists_held sf4, exists_held sf5, exists_held sf6]
          iintro ⟨⟨HS0, HS1, HS2, HS3, HS4, HS5, HS6, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_C (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) _ _ _ _ _ _ _ k0_hw1 k0_h1 hc2 k0_h3 k0_h4).2.2.2.2.2.2.2.2 _ _ _)
          isplitl [H0]; · iapply rep_of_owns; iexact H0
          isplitl [H1]; · iapply rep_of_owns; iexact H1
          isplitl [H2]; · iapply rep_of_owns; iexact H2
          isplitl [H3]; · iapply rep_of_owns; iexact H3
          isplitl [H4]; · iapply rep_of_owns; iexact H4
          isplitl [H5]; · iapply rep_of_owns; iexact H5
          isplitl [HT0]; · iexact HT0
          isplitl [HT1]; · iexact HT1
          isplitl [H6]; · iexists _; iexact H6
          isplitl [H7]; · iexact H7
          isplitl [H8]; · iexact H8
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iintro ⟨H0, H1, H2, H3, H4, H5, HT0, HT1, ⟨%e6, H6⟩, H7, H8, HS0, HS1, HS2, HS3, HS4, HS5, HS6⟩
          isplitl [HS0 HS1 HS2 HS3 HS4 HS5 HS6 HT0 HT1]
          · isplitl [HS0]
            · iexists _; isplitr; swap
              · iexact HS0
              · ipureintro; intro hn; first | rfl | exact absurd hn (by first | (rw [sfn0]; decide) | decide)
            isplitl [HS1]
            · iexists _; isplitr; swap
              · iexact HS1
              · ipureintro; intro hn; first | rfl | exact absurd hn (by first | (rw [sfn1]; decide) | decide)
            isplitl [HS2]
            · iexists _; isplitr; swap
              · iexact HS2
              · ipureintro; intro hn; first | rfl | exact absurd hn (by first | (rw [sfn2]; decide) | decide)
            isplitl [HS3]
            · iexists _; isplitr; swap
              · iexact HS3
              · ipureintro; intro hn; first | rfl | exact absurd hn (by first | (rw [sfn3]; decide) | decide)
            isplitl [HS4]
            · iexists _; isplitr; swap
              · iexact HS4
              · ipureintro; intro hn; first | rfl | exact absurd hn (by first | (rw [sfn4]; decide) | decide)
            isplitl [HS5]
            · iexists _; isplitr; swap
              · iexact HS5
              · ipureintro; intro hn; first | rfl | exact absurd hn (by first | (rw [sfn5]; decide) | decide)
            isplitl [HS6]
            · iexists _; isplitr; swap
              · iexact HS6
              · ipureintro; intro hn; first | rfl | exact absurd hn (by first | (rw [sfn6]; decide) | decide)
            isplitl [HT0]
            · iexact HT0
            iexact HT1
          isplitl [Ho]; · iexact Ho
          isplitl [H0]
          · iapply owns_of_rep; iexact H0
          isplitl [H1]
          · iapply owns_of_rep; iexact H1
          isplitl [H2]
          · iapply owns_of_rep; iexact H2
          isplitl [H3]
          · iapply owns_of_rep; iexact H3
          isplitl [H4]
          · iapply owns_of_rep; iexact H4
          isplitl [H5]
          · iapply owns_of_rep; iexact H5
          isplitl [H6]
          · unfold owns; iexists _; isplitr; swap
            · iexact H6
            · ipureintro; exact View.read_writes_of_cover _ _ _ _ _ (cover0_C_6 c _ _ _ _ _ _ _ _ _ _ _ _ _ _ _ _ _ _ _ _ _ _ _ _ _ _ _ _ _ _ _ _ _ _ _ _ _ _ _)
          isplitl [H7]
          · first | (iexists d7; iexact H7) | iexact H7
          first | (iexists d8; iexact H8) | iexact H8
      · obtain ⟨i6, f6, fr6, i7, f7, fr7, i8, f8, fr8, sf0, sfn0, sf1, sfn1, sf2, sfn2, sf3, sfn3, sf4, sfn4, sf5, sfn5, sf6, sfn6⟩ := sched0_D ch t q0 q1 q2
        have F0 := hypsR0_D ch t q0 q1 q2
        have k0_hw1 := F0.1; have F1 := F0.2 k0_hw1
        have k0_h1 := F1.1; have F2 := F1.2
        have hc2 := F2.1; have F3 := F2.2
        have k0_h3 := F3.1; have F4 := F3.2
        have k0_h4 := F4.1; have F5 := F4.2
        clear F0 F1 F2 F3 F4 F5
        rewrite [i6, i7]
        simp only [before0_0, before0_1, before0_2, before0_3, before0_4, before0_5, before0_6, before0_7, before0_8, after0_0, after0_1, after0_2, after0_3, after0_4, after0_5, after0_6, after0_7, after0_8, f6, f7, f8]
        simp only [fr6, fr7, fr8, Bool.false_eq_true, ↓reduceIte]
        rewrite [show (dats ch V 0 c).Φ t.succ = Phi ch V c t.succ from rfl, show (dats ch V 0 c).Φ t.castSucc = Phi ch V c t.castSucc from rfl,
          show (dats ch V 0 c).owesAt () t.succ = (dats ch V 0 c).owesAt () t.castSucc from rfl]
        try rewrite [traj0_eq, step0_D ch V c t _ q0 q1 q2]
        unfold Phi; simp only [prev0T_castSucc, prev0T_succ, traj0_eq, step0_D ch V c t _ q0 q1 q2, Fin.val_castSucc, Fin.val_succ]
        simp only [exists_held sf0, exists_held sf1, exists_held sf2, exists_held sf3, exists_held sf4, exists_held sf5, exists_held sf6]
        iintro ⟨⟨HS0, HS1, HS2, HS3, HS4, HS5, HS6, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_D (F := F) c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ms0_7 ch t) (hs0_7 ch t) (ms0_8 ch t) (hs0_8 ch t) (pinT_0 ch) (pinT_1 ch) (iblk ch V c (0 : Fin 9) t) (iblk ch V c (1 : Fin 9) t) (iblk ch V c (2 : Fin 9) t) (iblk ch V c (3 : Fin 9) t) (iblk ch V c (4 : Fin 9) t) (iblk ch V c (5 : Fin 9) t) _ _ _ _ _ _ _ k0_hw1 k0_h1 hc2 k0_h3 k0_h4).2.2.2.2.2.2.2 _ _ _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        isplitl [HT1]; · iexact HT1
        isplitl [H6]; · iexact H6
        isplitl [H7]; · iexact H7
        isplitl [H8]; · iexact H8
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, HT0, HT1, H6, H7, H8, HS0, HS1, HS2, HS3, HS4, HS5, HS6⟩
        isplitl [HS0 HS1 HS2 HS3 HS4 HS5 HS6 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn3]; decide) | decide)
          isplitl [HS4]
          · iexists _; isplitr; swap
            · iexact HS4
            · ipureintro; intro hn; first | rfl | exact absurd hn (by first | (rw [sfn4]; decide) | decide)
          isplitl [HS5]
          · iexists _; isplitr; swap
            · iexact HS5
            · ipureintro; intro hn; first | rfl | exact absurd hn (by first | (rw [sfn5]; decide) | decide)
          isplitl [HS6]
          · iexists _; isplitr; swap
            · iexact HS6
            · ipureintro; intro hn; first | rfl | exact absurd hn (by first | (rw [sfn6]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        isplitl [H6]
        · first | (iexists d6; iexact H6) | iexact H6
        isplitl [H7]
        · first | (iexists d7; iexact H7) | iexact H7
        first | (iexists d8; iexact H8) | iexact H8

/-- The library's body obligation, at every point. -/
theorem body_obligation (c : Dev nD) : BodyObligation (dats ch V 0 c) (defs₀ (F := F)) Variants.none () Set.univ := fun t => by
  rw [bigSep_W0]
  exact sound_body ch V c t

end Cert.Stick

end
-- ==== Proof.StickRun.lean ====
/- The whole run of the kernel: what every array holds when it ends, and that the arguments end unchanged. -/
module

public import proofs.«01_k».proof.Proof.StickBody
public import proofs.«01_k».proof.Proof.Gen.Kernel11Ideal.Launch
public import Idealize.ShloMosaic.Lib.Pipeline.Frame
public import Idealize.ShloMosaic.Lib.StableHlo.ReadAt
public import Idealize.ShloMosaic.Adequacy
public import Idealize.ShloMosaic.Init
public import Idealize.ShloMosaic.Lib.Affine
public import Idealize.ShloMosaic.Lib.Claim
public import Idealize.ShloMosaic.Lib.Exec
public import Idealize.ShloMosaic.Lib.Pipeline.FrameBody
public import Idealize.ShloMosaic.Lib.Pipeline.Kit
public import Idealize.ShloMosaic.Lib.Pipeline.Quiescent
public import Idealize.ShloMosaic.Lib.Pipeline.TableIdle
public import Idealize.ShloMosaic.Lib.Ring
public import Idealize.ShloMosaic.Lib.Tactic
public import Idealize.ShloMosaic.Lib.Writes
public import Idealize.ShloMosaic.PureOps.Ideal

@[expose] public section

set_option maxRecDepth 16384
set_option Elab.async false

noncomputable section

namespace Cert.Stick

open Cert.Kernel11Ideal Cert.Kernel11Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The algebra of the resources, at the values `F`. -/
local notation "𝕄" => MT nD τ sig Unit (Elt F) ℕ (UR sig nD τ) ℕ
variable (ch : Fin 1)

/-! ## What the region finds -/

/-- The host operations before the region, stretch by stretch. -/
abbrev stretches : List (List (HloOp τ sig (Elt F))) :=
  [hostOps0, hostOps0_1, hostOps0_2, hostOps0_3, hostOps0_4, hostOps0_5, hostOps0_6, hostOps0_7, hostOps0_8, hostOps0_9,
    hostOps0_10, hostOps0_11]

/-- What every buffer holds when the region begins. -/
def found (m : (ℓ : Loc nD τ sig) → Buf (Elt F) ℓ) (c : Dev nD) (b : Ref sig .tc) : Buf (Elt F) ((c : Thread nD τ).loc b) :=
  StableHlo.after (stretches (F := F)).flatten (fun b => m (c, b)) b

variable (m : (ℓ : Loc nD τ sig) → Buf (Elt F) ℓ) (ρ : Dev nD → PrngReg)

/-- The host operations run from the launch memory to what the region finds. -/
theorem host_run : Pipeline.HMainP (Ix := Unit) (Name := ℕ) (U := UR sig nD τ) (Lvl := ℕ) (pcfgs (F := F)) 0 defs₀ Variants.none m
    (main (F := F)) (found m) :=
  Pipeline.hmainP_prefixes pcfgs 0 defs₀ Variants.none m main stretches
    ⟨hostOps0_sub, hostOps0_1_sub, hostOps0_2_sub, hostOps0_3_sub, hostOps0_4_sub, hostOps0_5_sub, hostOps0_6_sub, hostOps0_7_sub,
      hostOps0_8_sub, hostOps0_9_sub, hostOps0_10_sub, hostOps0_11_sub⟩
    (by simp only [stretches, List.Forall]; repeat' apply And.intro
        all_goals rfl)
    main_chain

/-- The first argument is not written before the region. -/
theorem found_arg0 (c : Dev nD) : found m c main_arg0 = m ((c : Thread nD τ).loc main_arg0) := by
  unfold found stretches; after_reads_simp

/-- The second argument is not written before the region. -/
theorem found_arg1 (c : Dev nD) : found m c main_arg1 = m ((c : Thread nD τ).loc main_arg1) := by
  unfold found stretches; after_reads_simp

/-- The third argument is not written before the region. -/
theorem found_arg2 (c : Dev nD) : found m c main_arg2 = m ((c : Thread nD τ).loc main_arg2) := by
  unfold found stretches; after_reads_simp

/-- The fourth argument is not written before the region. -/
theorem found_arg3 (c : Dev nD) : found m c main_arg3 = m ((c : Thread nD τ).loc main_arg3) := by
  unfold found stretches; after_reads_simp

/-- The index of a table's entry. -/
def entry (k : Fin 136) : S136.Idx := fun a => ⟨k.val, by fin_cases a; exact k.isLt⟩

/-- The constant of the first table, entry by entry. -/
theorem table0_eq (i : S136.Idx) : lit0 (S136.rowMajor i) = pinT_0 ch i := by
  have h : ∀ k : Fin 136, lit0 (S136.rowMajor (entry k)) = pinT_0 0 (entry k) := by decide +kernel
  have hc : ch = 0 := Subsingleton.elim _ _
  have e : i = entry (i 0) := funext fun a => by fin_cases a; rfl
  rw [hc, e]; exact h (i 0)

/-- The constant of the second table, entry by entry. -/
theorem table1_eq (i : S136.Idx) : lit1 (S136.rowMajor i) = pinT_1 ch i := by
  have h : ∀ k : Fin 136, lit1 (S136.rowMajor (entry k)) = pinT_1 0 (entry k) := by decide +kernel
  have hc : ch = 0 := Subsingleton.elim _ _
  have e : i = entry (i 0) := funext fun a => by fin_cases a; rfl
  rw [hc, e]; exact h (i 0)

/-- The first table, the row block of every point. -/
theorem found_table0 (c : Dev nD) : found m c main_c = (tables (F := F) ch).1 0 := by
  have h : found m c main_c = (show (⟨S136, .i32⟩ : BufTy).Contents (Elt F) from fun i => lit0 (S136.rowMajor i)) := by
    unfold found stretches; after_reads_simp; rfl
  exact h.trans (funext fun i => table0_eq ch i)

/-- The second table, the column block of every point. -/
theorem found_table1 (c : Dev nD) : found m c main_c_0 = (tables (F := F) ch).1 1 := by
  have h : found m c main_c_0 = (show (⟨S136, .i32⟩ : BufTy).Contents (Elt F) from fun i => lit1 (S136.rowMajor i)) := by
    unfold found stretches; after_reads_simp; rfl
  exact h.trans (funext fun i => table1_eq ch i)

/-- The tables the region reads are the ones its schedule is laid out by. -/
theorem found_tables (c : Dev nD) (k : Fin 2) : found m c (pre0.ref k) = (tables (F := F) ch).1 k := by
  fin_cases k
  · exact found_table0 ch m c
  · exact found_table1 ch m c

/-! ## The launch -/

/-- The tokens and the cells the region starts from. -/
def u₀ : UR sig nD τ :=
  initOf (Pipeline.cells (pcs ch) ((launch0 (F := F)).cellOf_inj fun _ => tables ch))
    (Pipeline.launchToks (pcs ch) ((launch0 (F := F)).cellOf_inj fun _ => tables ch))

/-- Every array is held whole. -/
theorem share_eq (c : Dev nD) (w : Fin (cfgA ch).W) : (dats ch (found m) 0 c).share w = fullShare := by unfold Dat.share; split <;> rfl

/-- The two tables as the region receives them, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant holds before the first point. -/
theorem phi0_intro (c : Dev nD) :
    iprop(BI.emp ∗ Pipeline.prefHeld pre0 c (fun _ => fullShare.right) (tables (F := F) ch).1 ∗ Pipeline.scopedRest spec0 c)
      ⊢ (dats ch (found m) 0 c).Φ 0 := by
  rw [prefHeld_eq, scopedRest0_eq, show (dats ch (found m) 0 c).Φ 0 = Phi ch (found m) c 0 from rfl]
  unfold Phi
  iintro ⟨-, ⟨HT0, HT1⟩, ⟨%a0, HS0⟩, ⟨%a1, HS1⟩, ⟨%a2, HS2⟩, ⟨%a3, HS3⟩, ⟨%a4, HS4⟩, ⟨%a5, HS5⟩, ⟨%a6, HS6⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HS3]
  · iexists a3; isplitr; swap
    · iexact HS3
    · ipureintro; intro h; exact absurd (h.symm.trans (show sfresh0_3 ch 0 = true from rfl)) Bool.false_ne_true
  isplitl [HS4]
  · iexists a4; isplitr; swap
    · iexact HS4
    · ipureintro; intro h; exact absurd (h.symm.trans (show sfresh0_4 ch 0 = true from rfl)) Bool.false_ne_true
  isplitl [HS5]
  · iexists a5; isplitr; swap
    · iexact HS5
    · ipureintro; intro h; exact absurd (h.symm.trans (show sfresh0_5 ch 0 = true from rfl)) Bool.false_ne_true
  isplitl [HS6]
  · iexists a6; isplitr; swap
    · iexact HS6
    · ipureintro; intro h; exact absurd (h.symm.trans (show sfresh0_6 ch 0 = true from rfl)) Bool.false_ne_true
  isplitl [HT0]
  · iexact HT0
  iexact HT1

/-- After the last point the invariant gives the scratch buffers back. -/
theorem phiN_exit (c : Dev nD) : (dats ch (found m) 0 c).Φ (Fin.last (cfgA ch).N) ⊢ iprop(BI.emp ∗ Pipeline.scopedRest spec0 c) := by
  rw [scopedRest0_eq, show (dats ch (found m) 0 c).Φ (Fin.last (cfgA ch).N) = Phi ch (found m) c (Fin.last _) from rfl]
  unfold Phi
  iintro ⟨⟨%a0, -, HS0⟩, ⟨%a1, -, HS1⟩, ⟨%a2, -, HS2⟩, ⟨%a3, -, HS3⟩, ⟨%a4, -, HS4⟩, ⟨%a5, -, HS5⟩, ⟨%a6, -, HS6⟩, -, -⟩
  isplitr; · iempintro
  isplitl [HS0]
  · iexists a0; iexact HS0
  isplitl [HS1]
  · iexists a1; iexact HS1
  isplitl [HS2]
  · iexists a2; iexact HS2
  isplitl [HS3]
  · iexists a3; iexact HS3
  isplitl [HS4]
  · iexists a4; iexact HS4
  isplitl [HS5]
  · iexists a5; iexact HS5
  iexists a6; iexact HS6

/-- Anything held may be let go. -/
theorem forget (P : sProp 𝕄) : P ⊢ iprop(BI.emp ∗ BI.emp) := by
  iintro -; isplitr <;> iempintro

/-- What the run leaves: every array of the region at what its points compute. -/
def Left : PUnit × MemSt nD τ sig (Elt F) → Prop := fun r =>
  ∀ c : Dev nD, ∀ w : Fin (cfgA ch).W, r.2.mem (((cfgA ch).win w).arr.view.loc (c : Thread nD τ)) = (dats ch (found m) 0 c).arrAt w (cfgA ch).N

set_option backward.isDefEq.respectTransparency.types false in
set_option maxHeartbeats 4000000 in
/-- From any memory with zero counters every weakly fair execution ends, with every array at what the points compute and
    every counter at zero. -/
theorem run_quiescent : θ_run (defs (F := F)) (onTc (τ := τ) (main (F := F))) (s₀ m ρ) (fun r => Left ch m r ∧ r.2.sem = fun _ => 0) :=
  Pipeline.θ_run_region_noSem_pf_quiescent (pcfgs (F := F)) (fun _ => tables (F := F) ch) (dats (F := F) ch (found m)) () ((launch0 (F := F)).cellOf_inj fun _ => tables ch) (0 : Fin 1)
    (launch0 (F := F)).win.to₀ (launch0 (F := F)).pre EP defs₀ Variants.none m ρ main
    (hbody := fun c => (body_obligation ch (found m) c).loose) (hne := (launch0 (F := F)).block_pos)
    (harr := (launch0 (F := F)).arr_whole) (hstage := (launch0 (F := F)).stage_whole) (howed := fun _ _ => rfl)
    (u₀ := u₀ (F := F) ch) (hu₀ := .rfl)
    (V := found m)
    (hmain := host_run m)
    (hsplit := fun c => Pipeline.arrays_split (Val := Elt F) (pcs ch) (dats ch (found m)) 0 (launch0 (F := F)).win.arr_inj c (launch0 (F := F)).arr_whole
      (share_eq ch m c) _ _ fun _ => rfl)
    (hpf := found_tables ch m)
    (X := fun _ => iprop(emp)) (Y := fun _ => iprop(emp)) (Z := fun _ => iprop(emp))
    (hX := fun c => forget _)
    (hin := phi0_intro ch m)
    (hout := phiN_exit ch m)
    (QY := fun _ _ => True)
    (hY := fun c s' => by
      iintro ⟨-, -, HSI⟩; imodintro
      isplitr; · ipureintro; trivial
      iexact HSI)
    (hQ := fun _ h hz => ⟨fun c => (h c).1, hz⟩)

/-- The array of the first argument keeps what the launch memory holds. -/
theorem kept0 (c : Dev nD) : (dats 0 (found m) 0 c).arrAt (0 : Fin 9) (cfgA 0).N = m ((c : Thread nD τ).loc main_arg0) :=
  ((dats 0 (found m) 0 c).arrAt_in (0 : Fin 9) rfl _).trans (found_arg0 m c)

/-- The array of the second argument keeps what the launch memory holds. -/
theorem kept1 (c : Dev nD) : (dats 0 (found m) 0 c).arrAt (1 : Fin 9) (cfgA 0).N = m ((c : Thread nD τ).loc main_arg1) :=
  ((dats 0 (found m) 0 c).arrAt_in (1 : Fin 9) rfl _).trans (found_arg1 m c)

/-- The array of the third argument keeps what the launch memory holds. -/
theorem kept2 (c : Dev nD) : (dats 0 (found m) 0 c).arrAt (2 : Fin 9) (cfgA 0).N = m ((c : Thread nD τ).loc main_arg2) :=
  ((dats 0 (found m) 0 c).arrAt_in (2 : Fin 9) rfl _).trans (found_arg2 m c)

/-- The array of the fourth argument keeps what the launch memory holds. -/
theorem kept3 (c : Dev nD) : (dats 0 (found m) 0 c).arrAt (5 : Fin 9) (cfgA 0).N = m ((c : Thread nD τ).loc main_arg3) :=
  ((dats 0 (found m) 0 c).arrAt_in (5 : Fin 9) rfl _).trans (found_arg3 m c)

/-- THE FRAME: every weakly fair execution ends, the arguments unchanged and every counter at zero; the third result is left
    at what the points compute. -/
theorem run_all : θ_run (defs (F := F)) (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) ∧ ∀ c : Dev nD, r.2.mem ((c.tc : Thread nD τ).loc main_v31_2) = (dats 0 (found m) 0 c).arrAt (8 : Fin 9) (cfgA 0).N) :=
  (θ_run defs _ _).mono (fun r h => ⟨⟨fun c => ⟨
      (h.1 c (0 : Fin 9)).trans (kept0 m c),
      (h.1 c (1 : Fin 9)).trans (kept1 m c),
      (h.1 c (2 : Fin 9)).trans (kept2 m c),
      (h.1 c (5 : Fin 9)).trans (kept3 m c)⟩, h.2⟩,
    fun c => h.1 c (8 : Fin 9)⟩) (run_quiescent 0 m ρ)

end Cert.Stick

end
-- ==== Proof.StickParts.lean ====
/- The sums and the kept rows after each grid point, in terms of those after the point before. -/
module

public import proofs.«01_k».proof.Proof.StickLeft
public import proofs.«01_k».proof.Proof.Gen.Kernel11Ideal.Skeleton
public import Idealize.ShloMosaic.Lib.Pipeline.ValueKit
public import Idealize.ShloMosaic.Lib.StableHlo.ReadAt
public import Idealize.ShloMosaic.Lib.Pointwise
public import Idealize.ShloMosaic.Lib.WordCmp
public import Idealize.ShloMosaic.Lib.Pipeline.Regions
public import proofs.«01_k».proof.Proof.Gen.Kernel11Ideal.Launch
public import Idealize.ShloMosaic.Lib.Pipeline.Frame
public import Idealize.ShloMosaic.Lib.StableHlo.ReadAt
public import proofs.«01_k».proof.Proof.StickRun
public import Idealize.ShloMosaic.Adequacy
public import Idealize.ShloMosaic.Init
public import Idealize.ShloMosaic.Lib.Affine
public import Idealize.ShloMosaic.Lib.Claim
public import Idealize.ShloMosaic.Lib.Exec
public import Idealize.ShloMosaic.Lib.Pipeline.FrameBody
public import Idealize.ShloMosaic.Lib.Pipeline.Kit
public import Idealize.ShloMosaic.Lib.Pipeline.Quiescent
public import Idealize.ShloMosaic.Lib.Pipeline.TableIdle
public import Idealize.ShloMosaic.Lib.Ring
public import Idealize.ShloMosaic.Lib.Tactic
public import Idealize.ShloMosaic.Lib.Writes
public import Idealize.ShloMosaic.PureOps.Ideal

@[expose] public section

set_option maxRecDepth 16384
set_option Elab.async false

noncomputable section

namespace Cert.Stick

open Cert.Kernel11Ideal Cert.Kernel11Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The number of the block of rows at a grid point. -/
def rowOf (n : ℕ) : ℕ := (List.range 16).countP (fun k => (k + 1) * (k + 2) / 2 ≤ n)

/-- The number of the block of columns at a grid point. -/
def colOf (n : ℕ) : ℕ := n - rowOf n * (rowOf n + 1) / 2

/-- The word of the second table that a grid point reads. -/
def word (t : Fin (cfgA 0).N) : BitVec 32 :=
  (View.readAt (Elt Ideal) (tbM0_1).view (Rect.unit (s := S136) (k0_off1 (crd 0 t)) S1.size (k0_off1_inb (crd 0 t))).toLoadRect (pinT_1 0) (Shape.Idx.first (numel1_S1.symm ▸ Nat.one_pos)))

/-- A word of a table is the number it stands for. -/
theorem word_eq : ∀ t : Fin (cfgA 0).N, (Scalar.indexCast (word t)).toNat = colOf t.val := by decide +kernel

/-- A point's column block is not later than its row block. -/
theorem colOf_le : ∀ t : Fin 136, colOf t.val ≤ rowOf t.val ∧ rowOf t.val < 16 := by decide +kernel

/-- The points at which the sums begin. -/
theorem first_iff : ∀ t : Fin (cfgA 0).N, P0_0 0 t ↔ t.val = 0 := by decide +kernel

/-- The points at which the rows are kept anew. -/
theorem second_iff : ∀ t : Fin (cfgA 0).N, ¬ P0_0 0 t → (P0_1 0 t ↔ colOf t.val = 0) := by decide +kernel

/-- The offsets that a point stores at lie inside the sums. -/
theorem offs_ok (t : Fin (cfgA 0).N) : ∀ p a, offs (word t) p a + S1x128x256.size a ≤ S16x512x256.size a := by
  intro p a
  have hc := word_eq t
  have hl := colOf_le ⟨t.val, t.isLt⟩
  have hj : (Scalar.indexCast (word t)).toNat < 16 := by simp only at hl; omega
  fin_cases p <;> fin_cases a <;> first
    | (show (Scalar.indexCast (word t)).toNat + 1 ≤ 16; omega)
    | exact (by decide : 0 + 128 ≤ 512)
    | exact (by decide : 128 + 128 ≤ 512)
    | exact (by decide : 256 + 128 ≤ 512)
    | exact (by decide : 384 + 128 ≤ 512)
    | (show 0 + 256 ≤ 256; decide)

variable (V : (c : Dev nD) → (b : Ref sig .tc) → Buf (Elt Ideal) ((c : Thread nD τ).loc b)) (c : Dev nD)

/-- The sums after a grid point. -/
def sumsAfter (t : Fin (cfgA 0).N) : Sums := (traj0 0 V c t.val t.isLt).2.2.2.2.2.2.1

/-- The cotangent's kept rows after a grid point. -/
def rowsAfter (t : Fin (cfgA 0).N) : S4x128x512.Idx → EReal := (traj0 0 V c t.val t.isLt).2.2.2.2.2.2.2.2.2

/-- The cotangent's block at a grid point. -/
def ctAt (t : Fin (cfgA 0).N) : S256x512.Idx → EReal := iblk 0 V c (5 : Fin 9) t

/-- The weights' tiles at a grid point. -/
def tilesAt (t : Fin (cfgA 0).N) : S1x1x8x256x256.Idx → EReal := iblk 0 V c (3 : Fin 9) t

/-- The sums after a point of path A. -/
theorem sums_A (t : Fin (cfgA 0).N) (q0 : P0_0 0 t) :
    sumsAfter V c t = kept unknown (stored3 unknown cleared (word t) (keptRows (ms0_5 0 t) (ctAt V c t)) (ms0_3 0 t) (tilesAt V c t) (offs_ok t)) := by
  unfold sumsAfter
  rw [traj0_eq, step0_A 0 V c t _ q0]
  chain_rfl

/-- The kept rows after a point of path A. -/
theorem kept_A (t : Fin (cfgA 0).N) (q0 : P0_0 0 t) : rowsAfter V c t = keptRows (ms0_5 0 t) (ctAt V c t) := by
  unfold rowsAfter
  rw [traj0_eq, step0_A 0 V c t _ q0]
  chain_rfl

/-- The sums after a point of path B. -/
theorem sums_B (t : Fin (cfgA 0).N) (q0 : ¬P0_0 0 t) (q1 : P0_1 0 t) :
    sumsAfter V c t = kept ((prev0 0 V c t).2.2.2.2.2.2.1 : Sums) (stored3 ((prev0 0 V c t).2.2.2.2.2.2.1 : Sums) [] (word t) (keptRows (ms0_5 0 t) (ctAt V c t)) (ms0_3 0 t) (tilesAt V c t) (offs_ok t)) := by
  unfold sumsAfter
  rw [traj0_eq, step0_B 0 V c t _ q0 q1]
  chain_rfl

/-- The kept rows after a point of path B. -/
theorem kept_B (t : Fin (cfgA 0).N) (q0 : ¬P0_0 0 t) (q1 : P0_1 0 t) : rowsAfter V c t = keptRows (ms0_5 0 t) (ctAt V c t) := by
  unfold rowsAfter
  rw [traj0_eq, step0_B 0 V c t _ q0 q1]
  chain_rfl

/-- The sums after a point of path C. -/
theorem sums_C (t : Fin (cfgA 0).N) (q0 : ¬P0_0 0 t) (q1 : ¬P0_1 0 t) (q2 : P0_2 0 t) (q3 : ¬P0_3 0 t) :
    sumsAfter V c t = kept ((prev0 0 V c t).2.2.2.2.2.2.1 : Sums) (stored3 ((prev0 0 V c t).2.2.2.2.2.2.1 : Sums) [] (word t) (prev0 0 V c t).2.2.2.2.2.2.2.2.2 (ms0_3 0 t) (tilesAt V c t) (offs_ok t)) := by
  unfold sumsAfter
  rw [traj0_eq, step0_C 0 V c t _ q0 q1 q2 q3]
  chain_rfl

/-- The kept rows after a point of path C. -/
theorem kept_C (t : Fin (cfgA 0).N) (q0 : ¬P0_0 0 t) (q1 : ¬P0_1 0 t) (q2 : P0_2 0 t) (q3 : ¬P0_3 0 t) : rowsAfter V c t = (prev0 0 V c t).2.2.2.2.2.2.2.2.2 := by
  unfold rowsAfter
  rw [traj0_eq, step0_C 0 V c t _ q0 q1 q2 q3]
  chain_rfl

/-- The sums after a point of path D. -/
theorem sums_D (t : Fin (cfgA 0).N) (q0 : ¬P0_0 0 t) (q1 : ¬P0_1 0 t) (q2 : ¬P0_2 0 t) :
    sumsAfter V c t = kept ((prev0 0 V c t).2.2.2.2.2.2.1 : Sums) (stored3 ((prev0 0 V c t).2.2.2.2.2.2.1 : Sums) [] (word t) (prev0 0 V c t).2.2.2.2.2.2.2.2.2 (ms0_3 0 t) (tilesAt V c t) (offs_ok t)) := by
  unfold sumsAfter
  rw [traj0_eq, step0_D 0 V c t _ q0 q1 q2]
  chain_rfl

/-- The kept rows after a point of path D. -/
theorem kept_D (t : Fin (cfgA 0).N) (q0 : ¬P0_0 0 t) (q1 : ¬P0_1 0 t) (q2 : ¬P0_2 0 t) : rowsAfter V c t = (prev0 0 V c t).2.2.2.2.2.2.2.2.2 := by
  unfold rowsAfter
  rw [traj0_eq, step0_D 0 V c t _ q0 q1 q2]
  chain_rfl

/-- The sums after a point of path E. -/
theorem sums_E (t : Fin (cfgA 0).N) (q0 : ¬P0_0 0 t) (q1 : ¬P0_1 0 t) (q2 : P0_2 0 t) (q3 : P0_3 0 t) :
    sumsAfter V c t = kept ((prev0 0 V c t).2.2.2.2.2.2.1 : Sums) (stored3 ((prev0 0 V c t).2.2.2.2.2.2.1 : Sums) [] (word t) (prev0 0 V c t).2.2.2.2.2.2.2.2.2 (ms0_3 0 t) (tilesAt V c t) (offs_ok t)) := by
  unfold sumsAfter
  rw [traj0_eq, step0_E 0 V c t _ q0 q1 q2 q3]
  chain_rfl

/-- The kept rows after a point of path E. -/
theorem kept_E (t : Fin (cfgA 0).N) (q0 : ¬P0_0 0 t) (q1 : ¬P0_1 0 t) (q2 : P0_2 0 t) (q3 : P0_3 0 t) : rowsAfter V c t = (prev0 0 V c t).2.2.2.2.2.2.2.2.2 := by
  unfold rowsAfter
  rw [traj0_eq, step0_E 0 V c t _ q0 q1 q2 q3]
  chain_rfl

end Cert.Stick

end
-- ==== Proof.StickSum.lean ====
/- The sums after any number of grid points, as a sum over the points so far. -/
module

public import proofs.«01_k».proof.Proof.StickParts
public import proofs.«01_k».proof.Proof.Gen.Kernel11Ideal.Skeleton
public import Idealize.ShloMosaic.Lib.Pipeline.ValueKit
public import Idealize.ShloMosaic.Lib.StableHlo.ReadAt
public import Idealize.ShloMosaic.Lib.Pointwise
public import Idealize.ShloMosaic.Lib.WordCmp
public import Idealize.ShloMosaic.Lib.Pipeline.Regions
public import proofs.«01_k».proof.Proof.Gen.Kernel11Ideal.Launch
public import Idealize.ShloMosaic.Lib.Pipeline.Frame
public import Idealize.ShloMosaic.Lib.StableHlo.ReadAt
public import proofs.«01_k».proof.Proof.StickRun
public import Idealize.ShloMosaic.Adequacy
public import Idealize.ShloMosaic.Init
public import Idealize.ShloMosaic.Lib.Affine
public import Idealize.ShloMosaic.Lib.Claim
public import Idealize.ShloMosaic.Lib.Exec
public import Idealize.ShloMosaic.Lib.Pipeline.FrameBody
public import Idealize.ShloMosaic.Lib.Pipeline.Kit
public import Idealize.ShloMosaic.Lib.Pipeline.Quiescent
public import Idealize.ShloMosaic.Lib.Pipeline.TableIdle
public import Idealize.ShloMosaic.Lib.Ring
public import Idealize.ShloMosaic.Lib.Tactic
public import Idealize.ShloMosaic.Lib.Writes
public import Idealize.ShloMosaic.PureOps.Ideal

@[expose] public section

set_option maxRecDepth 16384
set_option Elab.async false

noncomputable section

namespace Cert.Stick

open Cert.Kernel11Ideal Cert.Kernel11Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The block of rows that a grid point's first index names. -/
theorem row_block : ∀ t : Fin (cfgA 0).N, ((cfgA 0).win (5 : Fin 9)).index t (0 : Fin 2) = rowOf t.val ∧ ((cfgA 0).win (5 : Fin 9)).index t (1 : Fin 2) = 0 := by decide +kernel

/-- The block of weights that a grid point's two indices name. -/
theorem tile_block : ∀ t : Fin (cfgA 0).N, ((cfgA 0).win (3 : Fin 9)).index t (0 : Fin 5) = rowOf t.val ∧ ((cfgA 0).win (3 : Fin 9)).index t (1 : Fin 5) = colOf t.val
    ∧ ((cfgA 0).win (3 : Fin 9)).index t (2 : Fin 5) = 0 ∧ ((cfgA 0).win (3 : Fin 9)).index t (3 : Fin 5) = 0 ∧ ((cfgA 0).win (3 : Fin 9)).index t (4 : Fin 5) = 0 := by decide +kernel

variable (V : (c : Dev nD) → (b : Ref sig .tc) → Buf (Elt Ideal) ((c : Thread nD τ).loc b)) (c : Dev nD)

/-- A point's row block is one of the sixteen. -/
theorem row_lt (t : Fin (cfgA 0).N) : rowOf t.val < 16 := (colOf_le ⟨t.val, t.isLt⟩).2
/-- A point's column block is one of the sixteen. -/
theorem col_lt (t : Fin (cfgA 0).N) : colOf t.val < 16 := lt_of_le_of_lt (colOf_le ⟨t.val, t.isLt⟩).1 (row_lt t)

/-- The block of the cotangents that a point reads, at an index. -/
theorem ctAt_at (t : Fin (cfgA 0).N) (a : Fin 256) (b : Fin 512) :
    ctAt V c t (ix2 a b) = (V c main_arg3 : S4096x512.Idx → EReal) (ix2 (⟨256 * rowOf t.val + a.val, by have := row_lt t; omega⟩ : Fin 4096) b) := by
  have e := row_block t
  unfold ctAt iblk
  refine congrArg (V c main_arg3 : S4096x512.Idx → EReal) (funext fun ax => Fin.ext ?_)
  fin_cases ax
  · show ((cfgA 0).win (5 : Fin 9)).index t (0 : Fin 2) * 256 + 1 * a.val = 256 * rowOf t.val + a.val
    rw [e.1]; omega
  · show ((cfgA 0).win (5 : Fin 9)).index t (1 : Fin 2) * 512 + 1 * b.val = b.val
    rw [e.2]; omega

/-- The tile of the weights that a point reads, at an index. -/
theorem tilesAt_at (t : Fin (cfgA 0).N) (h : Fin 8) (a b : Fin 256) :
    tilesAt V c t (ix5 0 0 h a b) = (V c main_v27 : S16x16x8x256x256.Idx → EReal) (ix5 (⟨rowOf t.val, row_lt t⟩ : Fin 16) (⟨colOf t.val, col_lt t⟩ : Fin 16) h a b) := by
  obtain ⟨e0, e1, e2, e3, e4⟩ := tile_block t
  unfold tilesAt iblk
  refine congrArg (V c main_v27 : S16x16x8x256x256.Idx → EReal) (funext fun ax => Fin.ext ?_)
  fin_cases ax
  · show ((cfgA 0).win (3 : Fin 9)).index t (0 : Fin 5) * 1 + 1 * 0 = rowOf t.val
    rw [e0]; omega
  · show ((cfgA 0).win (3 : Fin 9)).index t (1 : Fin 5) * 1 + 1 * 0 = colOf t.val
    rw [e1]; omega
  · show ((cfgA 0).win (3 : Fin 9)).index t (2 : Fin 5) * 8 + 1 * h.val = h.val
    rw [e2]; omega
  · show ((cfgA 0).win (3 : Fin 9)).index t (3 : Fin 5) * 256 + 1 * a.val = a.val
    rw [e3]; omega
  · show ((cfgA 0).win (3 : Fin 9)).index t (4 : Fin 5) * 256 + 1 * b.val = b.val
    rw [e4]; omega

/-- The sums a grid point starts from: the ones the point before left, and nothing before the first. -/
def sumsBefore (t : Fin (cfgA 0).N) (x : S16x512x256.Idx) : EReal :=
  if h : t.val = 0 then 0 else sumsAfter V c ⟨t.val - 1, by omega⟩ x

/-- What a grid point does to the sums. -/
theorem sums_step (t : Fin (cfgA 0).N) (x : S16x512x256.Idx) :
    sumsAfter V c t x = if (x 0).val = colOf t.val then sumsBefore V c t x
        + added (rowsAfter V c t) (tilesAt V c t) ⟨(x 1).val / 128, by have := (x 1).isLt; simp at this; omega⟩ ⟨(x 1).val % 128, Nat.mod_lt _ (by decide)⟩ (x 2)
      else sumsBefore V c t x := by
  have w := word_eq t
  by_cases q0 : P0_0 0 t
  · have z : t.val = 0 := (first_iff t).mp q0
    rw [sums_A V c t q0, adds, w, cleared_at, kept_A V c t q0, sumsBefore, dif_pos z]
  · have z : ¬ t.val = 0 := fun z => q0 ((first_iff t).mpr z)
    have b : ((prev0 0 V c t).2.2.2.2.2.2.1 : Sums) x = sumsBefore V c t x := by
      unfold sumsBefore prev0 sumsAfter; rw [dif_neg z, dif_neg z]
    by_cases q1 : P0_1 0 t
    · rw [sums_B V c t q0 q1, adds, w, kept_nil, b, kept_B V c t q0 q1]
    · by_cases q2 : P0_2 0 t
      · by_cases q3 : P0_3 0 t
        · rw [sums_E V c t q0 q1 q2 q3, adds, w, kept_nil, b, kept_E V c t q0 q1 q2 q3]
        · rw [sums_C V c t q0 q1 q2 q3, adds, w, kept_nil, b, kept_C V c t q0 q1 q2 q3]
      · rw [sums_D V c t q0 q1 q2, adds, w, kept_nil, b, kept_D V c t q0 q1 q2]

/-- The rows of the cotangent that the first point of a block of rows keeps. -/
theorem rows_new (t : Fin (cfgA 0).N) (h : colOf t.val = 0) (q : Fin 4) (r : Fin 128) (k : Fin 512) :
    rowsAfter V c t (ix3 q r k) = spread (ctAt V c t) q r k := by
  by_cases q0 : P0_0 0 t
  · rw [kept_A V c t q0, keptRows_at]
  · rw [kept_B V c t q0 ((second_iff t q0).mpr h), keptRows_at]

/-- The other points of the block leave them. -/
theorem rows_old (t : Fin (cfgA 0).N) (h : ¬ colOf t.val = 0) (z : ¬ t.val = 0) : rowsAfter V c t = rowsAfter V c ⟨t.val - 1, by omega⟩ := by
  have q0 : ¬ P0_0 0 t := fun q => z ((first_iff t).mp q)
  have q1 : ¬ P0_1 0 t := fun q => h ((second_iff t q0).mp q)
  have b : ((prev0 0 V c t).2.2.2.2.2.2.2.2.2 : S4x128x512.Idx → EReal) = rowsAfter V c ⟨t.val - 1, by omega⟩ := by
    unfold prev0 rowsAfter; rw [dif_neg z]
  by_cases q2 : P0_2 0 t
  · by_cases q3 : P0_3 0 t
    · rw [kept_E V c t q0 q1 q2 q3]; exact b
    · rw [kept_C V c t q0 q1 q2 q3]; exact b
  · rw [kept_D V c t q0 q1 q2]; exact b

/-- A point that is not the first of its block of rows has the block of the point before. -/
theorem same_block : ∀ t : Fin 136, ¬ colOf t.val = 0 → ¬ t.val = 0 ∧ rowOf (t.val - 1) = rowOf t.val := by decide +kernel

/-- At every point the kept rows are those of the point's block. -/
theorem rows_at_point (n : ℕ) (hn : n < (cfgA 0).N) (q : Fin 4) (r : Fin 128) (k : Fin 512) :
    rowsAfter V c ⟨n, hn⟩ (ix3 q r k) = spread (ctAt V c ⟨n, hn⟩) q r k := by
  induction n with
  | zero => exact rows_new V c _ (show colOf 0 = 0 by decide) q r k
  | succ n ih =>
    by_cases h : colOf (n + 1) = 0
    · exact rows_new V c _ h q r k
    · have s := (same_block ⟨n + 1, hn⟩ h).2
      rw [rows_old V c ⟨n + 1, hn⟩ h (by simp)]
      refine (ih (by omega)).trans ?_
      have e : ctAt V c ⟨n, by omega⟩ = ctAt V c ⟨n + 1, hn⟩ := by
        funext y
        have ey : y = ix2 (y 0) (y 1) := funext fun a => by fin_cases a <;> rfl
        rw [ey]
        refine (ctAt_at V c _ (y 0) (y 1)).trans (Eq.trans ?_ (ctAt_at V c _ (y 0) (y 1)).symm)
        refine congrArg (fun a : Fin 4096 => (V c main_arg3 : S4096x512.Idx → EReal) (ix2 a (y 1))) (Fin.ext ?_)
        show 256 * rowOf n + (y 0).val = 256 * rowOf (n + 1) + (y 0).val
        rw [← s]; rfl
      rw [e]

/-- What one pair of heads adds when the rows are the two heads' halves: each feature meets its own head's tile. -/
theorem added_spread (d : S4x128x512.Idx → EReal) (o : S256x512.Idx → EReal) (a : S1x1x8x256x256.Idx → EReal)
    (hd : ∀ q r k, d (ix3 q r k) = spread o q r k) (p : Fin 4) (r : Fin 128) (y : Fin 256) :
    added d a p r y = ∑ k : Fin 256, o (ix2 k (⟨128 * p.val + r.val, by omega⟩ : Fin 512)) * a (ix5 0 0 (⟨2 * p.val + r.val / 64, by omega⟩ : Fin 8) k y) := by
  unfold added
  simp only [hd]
  rw [show (∑ c : Fin 512, spread o p r c * stacked a p c y) = ∑ c : Fin (256 + 256), spread o p r c * stacked a p c y from rfl, Fin.sum_univ_add]
  have l : ∀ k : Fin 256, spread o p r (Fin.castAdd 256 k : Fin (256 + 256)) * stacked a p (Fin.castAdd 256 k : Fin (256 + 256)) y
      = if r.val < 64 then o (ix2 k (⟨128 * p.val + r.val, by omega⟩ : Fin 512)) * a (ix5 0 0 (⟨2 * p.val, by omega⟩ : Fin 8) k y) else 0 := by
    intro k
    unfold spread stacked
    rw [dif_pos (show (Fin.castAdd 256 k : Fin (256 + 256)).val < 256 from k.isLt), dif_pos (show (Fin.castAdd 256 k : Fin (256 + 256)).val < 256 from k.isLt)]
    split
    · rfl
    · exact zero_mul _
  have h : ∀ k : Fin 256, spread o p r (Fin.natAdd 256 k : Fin (256 + 256)) * stacked a p (Fin.natAdd 256 k : Fin (256 + 256)) y
      = if r.val < 64 then 0 else o (ix2 k (⟨128 * p.val + r.val, by omega⟩ : Fin 512)) * a (ix5 0 0 (⟨2 * p.val + 1, by omega⟩ : Fin 8) k y) := by
    intro k
    have e : (⟨(Fin.natAdd 256 k : Fin (256 + 256)).val - 256, by omega⟩ : Fin 256) = k := Fin.ext (by show 256 + k.val - 256 = k.val; omega)
    unfold spread stacked
    rw [dif_neg (show ¬ (Fin.natAdd 256 k : Fin (256 + 256)).val < 256 by show ¬ 256 + k.val < 256; omega), dif_neg (show ¬ (Fin.natAdd 256 k : Fin (256 + 256)).val < 256 by show ¬ 256 + k.val < 256; omega), e]
    split
    · exact zero_mul _
    · rfl
  rw [Finset.sum_congr rfl fun k _ => l k, Finset.sum_congr rfl fun k _ => h k]
  by_cases r64 : r.val < 64
  · simp only [if_pos r64, Finset.sum_const_zero, add_zero]
    refine Finset.sum_congr rfl fun k _ => ?_
    refine congrArg (fun z : Fin 8 => o _ * a (ix5 0 0 z k y)) (Fin.ext ?_)
    show 2 * p.val = 2 * p.val + r.val / 64
    omega
  · simp only [if_neg r64, Finset.sum_const_zero, zero_add]
    refine Finset.sum_congr rfl fun k _ => ?_
    refine congrArg (fun z : Fin 8 => o _ * a (ix5 0 0 z k y)) (Fin.ext ?_)
    show 2 * p.val + 1 = 2 * p.val + r.val / 64
    omega

/-- What block of rows `i` gives to block of columns `j`: per feature and column, the cotangent against the feature's head's weights, summed over the block's rows. -/
def given (ct : S4096x512.Idx → EReal) (a : S16x16x8x256x256.Idx → EReal) (i j : Fin 16) (f : Fin 512) (y : Fin 256) : EReal :=
  ∑ k : Fin 256, ct (ix2 (⟨256 * i.val + k.val, by omega⟩ : Fin 4096) f) * a (ix5 i j (⟨f.val / 64, by omega⟩ : Fin 8) k y)

/-- What a grid point adds. -/
theorem added_point (t : Fin (cfgA 0).N) (f : Fin 512) (y : Fin 256) :
    added (rowsAfter V c t) (tilesAt V c t) ⟨f.val / 128, by omega⟩ ⟨f.val % 128, Nat.mod_lt _ (by decide)⟩ y
      = given (V c main_arg3) (V c main_v27) ⟨rowOf t.val, row_lt t⟩ ⟨colOf t.val, col_lt t⟩ f y := by
  rw [added_spread _ (ctAt V c t) _ (fun q r k => rows_at_point V c t.val t.isLt q r k)]
  unfold given
  refine Finset.sum_congr rfl fun k _ => ?_
  have ef : (⟨128 * (f.val / 128) + f.val % 128, by omega⟩ : Fin 512) = f := Fin.ext (by show 128 * (f.val / 128) + f.val % 128 = f.val; omega)
  have eh : (⟨2 * (f.val / 128) + f.val % 128 / 64, by omega⟩ : Fin 8) = ⟨f.val / 64, by omega⟩ := Fin.ext (by show 2 * (f.val / 128) + f.val % 128 / 64 = f.val / 64; omega)
  refine congrArg₂ (· * ·) ?_ ?_
  · exact (congrArg (fun z => ctAt V c t (ix2 k z)) ef).trans (ctAt_at V c t k f)
  · exact (congrArg (fun z => tilesAt V c t (ix5 0 0 z k y)) eh).trans (tilesAt_at V c t _ k y)

/-- The sums after a grid point: what the points so far have given. -/
theorem sums_so_far (n : ℕ) (hn : n < (cfgA 0).N) (x : S16x512x256.Idx) :
    sumsAfter V c ⟨n, hn⟩ x = ∑ k : Fin (n + 1), if (x 0).val = colOf k.val then
      given (V c main_arg3) (V c main_v27) ⟨rowOf k.val, row_lt ⟨k.val, by omega⟩⟩ (x 0) (x 1) (x 2) else 0 := by
  have g : ∀ t : Fin (cfgA 0).N, sumsAfter V c t x = sumsBefore V c t x + if (x 0).val = colOf t.val then
      given (V c main_arg3) (V c main_v27) ⟨rowOf t.val, row_lt t⟩ (x 0) (x 1) (x 2) else 0 := by
    intro t
    rw [sums_step]
    by_cases h : (x 0).val = colOf t.val
    · rw [if_pos h, if_pos h]
      refine congrArg (sumsBefore V c t x + ·) ((added_point V c t (x 1) (x 2)).trans ?_)
      exact congrArg (fun z => given (V c main_arg3) (V c main_v27) _ z (x 1) (x 2)) (Fin.ext h.symm)
    · rw [if_neg h, if_neg h, add_zero]
  induction n with
  | zero =>
    rw [g, sumsBefore, dif_pos rfl, zero_add, Fin.sum_univ_one]; rfl
  | succ n ih =>
    rw [g, Fin.sum_univ_castSucc]
    refine congrArg₂ (· + ·) ?_ rfl
    unfold sumsBefore
    rw [dif_neg (show ¬ (n + 1 = 0) by omega)]
    exact ih (by omega)

end Cert.Stick

end
-- ==== Proof.StickOut.lean ====
/- The result array: the sums after the last grid point, block by block. -/
module

public import proofs.«01_k».proof.Proof.StickSum
public import proofs.«01_k».proof.Proof.Gen.Kernel11Ideal.Skeleton
public import Idealize.ShloMosaic.Lib.Pipeline.ValueKit
public import Idealize.ShloMosaic.Lib.StableHlo.ReadAt
public import Idealize.ShloMosaic.Lib.Pointwise
public import Idealize.ShloMosaic.Lib.WordCmp
public import Idealize.ShloMosaic.Lib.Pipeline.Regions
public import proofs.«01_k».proof.Proof.Gen.Kernel11Ideal.Launch
public import Idealize.ShloMosaic.Lib.Pipeline.Frame
public import Idealize.ShloMosaic.Lib.StableHlo.ReadAt
public import proofs.«01_k».proof.Proof.StickRun
public import Idealize.ShloMosaic.Adequacy
public import Idealize.ShloMosaic.Init
public import Idealize.ShloMosaic.Lib.Affine
public import Idealize.ShloMosaic.Lib.Claim
public import Idealize.ShloMosaic.Lib.Exec
public import Idealize.ShloMosaic.Lib.Pipeline.FrameBody
public import Idealize.ShloMosaic.Lib.Pipeline.Kit
public import Idealize.ShloMosaic.Lib.Pipeline.Quiescent
public import Idealize.ShloMosaic.Lib.Pipeline.TableIdle
public import Idealize.ShloMosaic.Lib.Ring
public import Idealize.ShloMosaic.Lib.Tactic
public import Idealize.ShloMosaic.Lib.Writes
public import Idealize.ShloMosaic.PureOps.Ideal

@[expose] public section

set_option maxRecDepth 16384
set_option Elab.async false

noncomputable section

namespace Cert.Stick

open Cert.Kernel11Ideal Cert.Kernel11Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

set_option maxHeartbeats 1000000 in
theorem pay7 (v : FVec Ideal S1x512x256 .f32) (x : S256x512.Idx) : k0_pay7 (F := Ideal) v x = v (ix3 0 (x 1) (x 0)) := by
  pointwise [k0_pay7]

/-- A block of rows of the result lies inside it. -/
theorem out_row (k : ℕ) (hk : k < 16) : ∀ a, (![256 * k, 0] : Fin 2 → ℕ) a + S256x512.size a ≤ S4096x512.size a := by
  intro a; fin_cases a
  · show 256 * k + 256 ≤ 4096; omega
  · show 0 + 512 ≤ 512; omega

/-- One column block of the sums lies inside them. -/
theorem sum_row (k : ℕ) (hk : k < 16) : ∀ a, (![k, 0, 0] : Fin 3 → ℕ) a + S1x512x256.size a ≤ S16x512x256.size a := by
  intro a; fin_cases a
  · show k + 1 ≤ 16; omega
  · show 0 + 512 ≤ 512; omega
  · show 0 + 256 ≤ 256; omega

/-- The store of one block of the result: the block's sums, transposed. -/
def outPiece (S : Sums) (k : ℕ) (hk : k < 16) : View.Piece (Elt Ideal) S4096x512 .bf16 :=
  ⟨Rect.unit (s := S4096x512) ![256 * k, 0] S256x512.size (out_row k hk),
    k0_pay7 (F := Ideal) (View.readAt (Elt Ideal) scM0_3.view (Rect.unit (s := S16x512x256) ![k, 0, 0] S1x512x256.size (sum_row k hk)).toLoadRect S)⟩

/-- The stores of the first blocks, the last first. -/
def outs (S : Sums) : (n : ℕ) → n ≤ 16 → List (View.Piece (Elt Ideal) S4096x512 .bf16)
  | 0, _ => []
  | n + 1, h => outPiece S n h :: outs S n (Nat.le_of_succ_le h)

/-- What the store of one block of the result stores at an index. -/
theorem piece_at (S : Sums) (k : ℕ) (hk : k < 16) (y : S256x512.Idx) : (outPiece S k hk).2 y = S (ix3 (⟨k, hk⟩ : Fin 16) (y 1) (y 0)) := by
  refine (pay7 _ y).trans (congrArg S (funext fun a => Fin.ext ?_))
  fin_cases a
  · show k + 1 * 0 = k; omega
  · show 0 + 1 * (y 1).val = (y 1).val; omega
  · show 0 + 1 * (y 0).val = (y 0).val; omega

/-- After the stores of the first blocks an index of them reads the sums. -/
theorem outs_at {κ : Kind} {sp : Space} (v : View sig κ sp S4096x512 .bf16) (f : v.ty.Contents (Elt Ideal)) (S : Sums) (n : ℕ) (hn : n ≤ 16) (a : Fin 4096) (b : Fin 512) (ha : a.val < 256 * n) :
    v.read (Elt Ideal) (v.writes (Elt Ideal) f (outs S n hn)) (ix2 a b) = S (ix3 (⟨a.val / 256, by omega⟩ : Fin 16) b (⟨a.val % 256, Nat.mod_lt _ (by decide)⟩ : Fin 256)) := by
  induction n with
  | zero => omega
  | succ n ih =>
    by_cases h : a.val < 256 * n
    · refine Eq.trans ?_ (ih (by omega) h)
      exact View.read_writes_cons_miss_of_axis v f _ _ (ix2 a b) (0 : Fin 2) (256 * n) 256 rfl rfl rfl (by show a.val < 256 * n ∨ 256 * n + 256 ≤ a.val; omega)
    · have e : a.val / 256 = n := by omega
      refine (View.read_writes_cons_hit_of_coords v f (Rect.unit (s := S4096x512) ![256 * n, 0] S256x512.size (out_row n hn)) (outPiece S n hn).2 (outs S n (Nat.le_of_succ_le hn))
        (ix2 (⟨a.val % 256, Nat.mod_lt _ (by decide)⟩ : Fin 256) b) (ix2 a b) fun ax => ?_).trans ((piece_at S n hn _).trans ?_)
      · fin_cases ax
        · show a.val = 256 * n + 1 * (a.val % 256); omega
        · show b.val = 0 + 1 * b.val; omega
      · exact congrArg (fun z : Fin 16 => S (ix3 z b _)) (Fin.ext e.symm)

/-- The last grid point. -/
abbrev lastPt : Fin (cfgA 0).N := ⟨135, by decide⟩

/-- The last grid point takes the path that stores the results. -/
theorem last_path : ¬P0_0 0 lastPt ∧ ¬P0_1 0 lastPt ∧ P0_2 0 lastPt ∧ P0_3 0 lastPt := by decide +kernel

variable (V : (c : Dev nD) → (b : Ref sig .tc) → Buf (Elt Ideal) ((c : Thread nD τ).loc b)) (c : Dev nD)

/-- The result's block after the last point is what its sixteen stores leave. -/
theorem last_stores (t : Fin (cfgA 0).N) (q0 : ¬P0_0 0 t) (q1 : ¬P0_1 0 t) (q2 : P0_2 0 t) (q3 : P0_3 0 t) :
    @Eq (S4096x512.Idx → EReal) (traj0 0 V c t.val t.isLt).2.2.1 (VO0_8.read (Elt Ideal) (VO0_8.writes (Elt Ideal) VO0_8.junk (outs (sumsAfter V c t) 16 (le_refl 16)))) := by
  unfold sumsAfter
  rw [traj0_eq, step0_E 0 V c t _ q0 q1 q2 q3]
  chain_rfl

/-- Only the last grid point writes the result back. -/
theorem only_last : ∀ t : Fin (cfgA 0).N, ((cfgA 0).win (8 : Fin 9)).flush t = true → t = lastPt := by decide +kernel

/-- The last grid point writes the result back. -/
theorem last_writes : ((cfgA 0).win (8 : Fin 9)).flush lastPt = true := by decide +kernel

/-- The array of the result ends as the sums after the last grid point, block by block, transposed. -/
theorem result_sums (a : Fin 4096) (b : Fin 512) :
    @Eq EReal ((dats 0 V 0 c).arrAt (8 : Fin 9) (cfgA 0).N (ix2 a b : S4096x512.Idx))
      (sumsAfter V c lastPt (ix3 (⟨a.val / 256, by omega⟩ : Fin 16) b (⟨a.val % 256, Nat.mod_lt _ (by decide)⟩ : Fin 256))) := by
  have h := (dats 0 V 0 c).arrAt_emb_eq_flushed (8 : Fin 9) (fun t t' hf hf' ne => absurd ((only_last t hf).trans (only_last t' hf').symm) ne) lastPt last_writes (ix2 a b : S4096x512.Idx)
  have e : (((cfgA 0).win (8 : Fin 9)).blk lastPt).view.emb (ix2 a b : S4096x512.Idx) = (ix2 a b : S4096x512.Idx) := by
    refine funext fun ax => Fin.ext ?_
    fin_cases ax
    · show 0 * 4096 + 1 * a.val = a.val; omega
    · show 0 * 512 + 1 * b.val = b.val; omega
  have l := congrFun (last_stores V c lastPt last_path.1 last_path.2.1 last_path.2.2.1 last_path.2.2.2) (ix2 a b)
  rw [e] at h
  have r := outs_at VO0_8 VO0_8.junk (sumsAfter V c lastPt) 16 (le_refl 16) a b (by have := a.isLt; omega)
  have m : @Eq EReal ((dats 0 V 0 c).flushed (8 : Fin 9) lastPt (ix2 a b : S4096x512.Idx)) ((traj0 0 V c lastPt.val lastPt.isLt).2.2.1 (ix2 a b)) := by chain_rfl
  refine Eq.trans (b := (dats 0 V 0 c).flushed (8 : Fin 9) lastPt (ix2 a b : S4096x512.Idx)) h ?_
  refine Eq.trans m ?_
  refine Eq.trans l ?_
  exact r

end Cert.Stick

end
-- ==== Proof.StickWeights.lean ====
/- The tiles that the kernel is handed are the blocks of the reference's attention weights. -/
module

public import proofs.«01_k».proof.Proof.StickOut
public import proofs.«01_k».proof.Proof.Gen.Reference11Ideal.Read
public import Idealize.ShloMosaic.Lib.StableHlo.Run
public import proofs.«01_k».proof.Proof.Gen.Kernel11Ideal.Skeleton
public import Idealize.ShloMosaic.Lib.Pipeline.ValueKit
public import Idealize.ShloMosaic.Lib.StableHlo.ReadAt
public import Idealize.ShloMosaic.Lib.Pointwise
public import Idealize.ShloMosaic.Lib.WordCmp
public import Idealize.ShloMosaic.Lib.Pipeline.Regions
public import proofs.«01_k».proof.Proof.Gen.Kernel11Ideal.Launch
public import Idealize.ShloMosaic.Lib.Pipeline.Frame
public import Idealize.ShloMosaic.Lib.StableHlo.ReadAt
public import proofs.«01_k».proof.Proof.StickRun
public import Idealize.ShloMosaic.Adequacy
public import Idealize.ShloMosaic.Init
public import Idealize.ShloMosaic.Lib.Affine
public import Idealize.ShloMosaic.Lib.Claim
public import Idealize.ShloMosaic.Lib.Exec
public import Idealize.ShloMosaic.Lib.Pipeline.FrameBody
public import Idealize.ShloMosaic.Lib.Pipeline.Kit
public import Idealize.ShloMosaic.Lib.Pipeline.Quiescent
public import Idealize.ShloMosaic.Lib.Pipeline.TableIdle
public import Idealize.ShloMosaic.Lib.Ring
public import Idealize.ShloMosaic.Lib.Tactic
public import Idealize.ShloMosaic.Lib.Writes
public import Idealize.ShloMosaic.PureOps.Ideal

@[expose] public section

set_option maxRecDepth 16384
set_option Elab.async false

noncomputable section

namespace Cert.Stick

open Cert.Kernel11Ideal Cert.Kernel11Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (c : Dev nD)

/-- The attention weights that the reference computes of the queries and the keys. -/
abbrev weights (q k : S4096x512.Idx → EReal) : S8x4096x4096.Idx → EReal := Cert.Reference11Ideal.Read.val_main_v22 (F := Ideal) q k

set_option maxHeartbeats 1000000 in
/-- The kernel's host part cuts the reference's weights into tiles. -/
theorem found_weights : found m c main_v27 = truncf (F := Ideal) .bf16 (transpose S16x16x8x256x256 [1, 3, 0, 2, 4]
      (shapeCast S8x16x256x16x256 (weights (m ((c : Thread nD τ).loc main_arg0)) (m ((c : Thread nD τ).loc main_arg1))) shapeCasts_S8x4096x4096_S8x16x256x16x256)
      transposes_S8x16x256x16x256_S16x16x8x256x256_1_3_0_2_4) bitsLt_bf16_f32 := by
  unfold found stretches
  after_reads_simp
  simp only [StableHlo.TRef.toBuf, StableHlo.TRef.ofBuf, cast_eq]
  rfl

end Cert.Stick

end
-- ==== Proof.StickPairs.lean ====
/- The grid points are the pairs of a row block and a column block that is not later. -/
module

public import proofs.«01_k».proof.Proof.StickOut
public import proofs.«01_k».proof.Proof.Gen.Kernel11Ideal.Skeleton
public import Idealize.ShloMosaic.Lib.Pipeline.ValueKit
public import Idealize.ShloMosaic.Lib.StableHlo.ReadAt
public import Idealize.ShloMosaic.Lib.Pointwise
public import Idealize.ShloMosaic.Lib.WordCmp
public import Idealize.ShloMosaic.Lib.Pipeline.Regions
public import proofs.«01_k».proof.Proof.Gen.Kernel11Ideal.Launch
public import Idealize.ShloMosaic.Lib.Pipeline.Frame
public import Idealize.ShloMosaic.Lib.StableHlo.ReadAt
public import proofs.«01_k».proof.Proof.StickRun
public import Idealize.ShloMosaic.Adequacy
public import Idealize.ShloMosaic.Init
public import Idealize.ShloMosaic.Lib.Affine
public import Idealize.ShloMosaic.Lib.Claim
public import Idealize.ShloMosaic.Lib.Exec
public import Idealize.ShloMosaic.Lib.Pipeline.FrameBody
public import Idealize.ShloMosaic.Lib.Pipeline.Kit
public import Idealize.ShloMosaic.Lib.Pipeline.Quiescent
public import Idealize.ShloMosaic.Lib.Pipeline.TableIdle
public import Idealize.ShloMosaic.Lib.Ring
public import Idealize.ShloMosaic.Lib.Tactic
public import Idealize.ShloMosaic.Lib.Writes
public import Idealize.ShloMosaic.PureOps.Ideal

@[expose] public section

set_option maxRecDepth 16384
set_option Elab.async false

noncomputable section

namespace Cert.Stick

open Cert.Kernel11Ideal Cert.Kernel11Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The grid point of the pair of a row block and a column block. -/
def pairPt (i j : ℕ) : ℕ := i * (i + 1) / 2 + j

/-- The point of a pair is one of the 136. -/
theorem pair_lt : ∀ i j : Fin 16, j ≤ i → pairPt i.val j.val < 136 := by decide +kernel
/-- The row block of a pair's point. -/
theorem pair_row : ∀ i j : Fin 16, j ≤ i → rowOf (pairPt i.val j.val) = i.val := by decide +kernel
/-- The column block of a pair's point. -/
theorem pair_col : ∀ i j : Fin 16, j ≤ i → colOf (pairPt i.val j.val) = j.val := by decide +kernel
/-- Every point is its pair's. -/
theorem pair_of : ∀ k : Fin 136, pairPt (rowOf k.val) (colOf k.val) = k.val := by decide +kernel
/-- There are sixteen row blocks. -/
theorem row_lt' : ∀ k : Fin 136, rowOf k.val < 16 := by decide +kernel
/-- A point's column block is not later than its row block. -/
theorem col_le' : ∀ k : Fin 136, colOf k.val ≤ rowOf k.val := by decide +kernel

/-- The sum over the grid points of one column block is the sum over the row blocks from that one on. -/
theorem sum_pairs (g : Fin 16 → EReal) (j : Fin 16) :
    (∑ k : Fin 136, if j.val = colOf k.val then g ⟨rowOf k.val, row_lt' k⟩ else 0) = ∑ i : Fin 16, if j ≤ i then g i else 0 := by
  rw [← Finset.sum_filter, ← Finset.sum_filter]
  refine Finset.sum_bij' (fun k _ => (⟨rowOf k.val, row_lt' k⟩ : Fin 16)) (fun i hi => (⟨pairPt i.val j.val, pair_lt i j (Finset.mem_filter.1 hi).2⟩ : Fin 136)) ?_ ?_ ?_ ?_ ?_
  · intro k hk
    have h := (Finset.mem_filter.1 hk).2
    refine Finset.mem_filter.2 ⟨Finset.mem_univ _, ?_⟩
    show j.val ≤ rowOf k.val
    rw [h]; exact col_le' k
  · intro i hi
    exact Finset.mem_filter.2 ⟨Finset.mem_univ _, (pair_col i j (Finset.mem_filter.1 hi).2).symm⟩
  · intro k hk
    have h := (Finset.mem_filter.1 hk).2
    refine Fin.ext ?_
    show pairPt (rowOf k.val) j.val = k.val
    rw [h]; exact pair_of k
  · intro i hi
    exact Fin.ext (pair_row i j (Finset.mem_filter.1 hi).2)
  · intro k _; rfl

/-- A sum over 4096 tokens, block by block. -/
theorem sum_blocks (g : Fin 4096 → EReal) : (∑ i : Fin 16, ∑ k : Fin 256, g ⟨256 * i.val + k.val, by omega⟩) = ∑ t : Fin 4096, g t := by
  rw [← Finset.sum_product', Finset.univ_product_univ]
  refine Fintype.sum_equiv (finProdFinEquiv (m := 16) (n := 256)) _ (fun t : Fin 4096 => g t) fun x => congrArg g (Fin.ext ?_)
  show 256 * x.1.val + x.2.val = x.2.val + 256 * x.1.val
  omega

end Cert.Stick

end
-- ==== Proof.StickValue.lean ====
/- The gradient of the values that the kernel computes is the reference's. -/
module

public import proofs.«01_k».proof.Proof.StickWeights
public import proofs.«01_k».proof.Proof.StickPairs
public import proofs.«01_k».proof.Proof.Gen.Kernel11Ideal.Skeleton
public import Idealize.ShloMosaic.Lib.Pipeline.ValueKit
public import Idealize.ShloMosaic.Lib.StableHlo.ReadAt
public import Idealize.ShloMosaic.Lib.Pointwise
public import Idealize.ShloMosaic.Lib.WordCmp
public import Idealize.ShloMosaic.Lib.Pipeline.Regions
public import proofs.«01_k».proof.Proof.Gen.Kernel11Ideal.Launch
public import Idealize.ShloMosaic.Lib.Pipeline.Frame
public import Idealize.ShloMosaic.Lib.StableHlo.ReadAt
public import proofs.«01_k».proof.Proof.StickRun
public import Idealize.ShloMosaic.Adequacy
public import Idealize.ShloMosaic.Init
public import Idealize.ShloMosaic.Lib.Affine
public import Idealize.ShloMosaic.Lib.Claim
public import Idealize.ShloMosaic.Lib.Exec
public import Idealize.ShloMosaic.Lib.Pipeline.FrameBody
public import Idealize.ShloMosaic.Lib.Pipeline.Kit
public import Idealize.ShloMosaic.Lib.Pipeline.Quiescent
public import Idealize.ShloMosaic.Lib.Pipeline.TableIdle
public import Idealize.ShloMosaic.Lib.Ring
public import Idealize.ShloMosaic.Lib.Tactic
public import Idealize.ShloMosaic.Lib.Writes
public import Idealize.ShloMosaic.PureOps.Ideal

@[expose] public section

set_option maxRecDepth 16384
set_option Elab.async false

noncomputable section

namespace Cert.Stick

open Cert.Kernel11Ideal Cert.Kernel11Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- A tile of the cut-up array is the array's block. -/
theorem cut_at (w : S8x4096x4096.Idx → EReal) (i j : Fin 16) (h : Fin 8) (r s : Fin 256) :
    @Eq EReal (truncf (F := Ideal) .bf16 (transpose S16x16x8x256x256 [1, 3, 0, 2, 4] (shapeCast S8x16x256x16x256 w shapeCasts_S8x4096x4096_S8x16x256x16x256)
      transposes_S8x16x256x16x256_S16x16x8x256x256_1_3_0_2_4) bitsLt_bf16_f32 (ix5 i j h r s)) (w (ix3 h (⟨256 * i.val + r.val, by omega⟩ : Fin 4096) (⟨256 * j.val + s.val, by omega⟩ : Fin 4096))) := by
  pointwise []
  exact congrArg w (congrArg₂ (fun (x y : Fin 4096) => (ix3 h x y : S8x4096x4096.Idx)) (Fin.ext (by show i.val * 256 + r.val = 256 * i.val + r.val; omega)) (Fin.ext (by show j.val * 256 + s.val = 256 * j.val + s.val; omega)))

open Cert.Reference11Ideal.Read in
/-- A weight of a token for itself or for a later one is zero. -/
theorem weights_zero (q k : S4096x512.Idx → EReal) (h : Fin 8) (t s : Fin 4096) (le : t.val ≤ s.val) : weights q k (ix3 h t s) = 0 := by
  have e : val_main_call4_v1 (F := Ideal) (ix3 h t s) = 0#1 := by
    rw [val_main_call4_v1_apply, val_main_v13_apply, val_main_v11_apply, val_main_v12_apply, val_main_v8_apply, val_main_v10_apply]
    show IntOp.cmpi .slt (BitVec.ofNat 32 s.val) (BitVec.ofNat 32 t.val) = 0#1
    rw [WordCmp.cmpi_slt_eq, WordCmp.toInt_ofNat_of_lt (by have := s.isLt; omega), WordCmp.toInt_ofNat_of_lt (by have := t.isLt; omega), WordCmp.ofBool_decide_eq_zero_iff]
    omega
  unfold weights
  rw [val_main_v22_apply, e, val_main_call4_v2_apply]
  pointwise [val_main_call4_v0, val_main_cst_1]
  exact Ideal.ofBits_zero .f32

open Cert.Reference11Ideal.Read in
/-- The reference's result: the sums over the tokens of the cotangents times the weights. -/
theorem reference_at (q k ct : S4096x512.Idx → EReal) (s : Fin 4096) (f : Fin 512) :
    @Eq EReal (val_main_v35 (F := Ideal) q k ct (ix2 s f)) (∑ t : Fin 4096, ct (ix2 t f) * weights q k (ix3 (⟨f.val / 64, by omega⟩ : Fin 8) t s)) := by
  rw [val_main_v35_apply, val_main_v34_apply, val_main_v33_apply, val_main_v32_apply]
  show @Eq EReal (Finset.sum _ _) (Finset.sum _ _)
  refine Finset.sum_congr rfl fun t _ => ?_
  rw [val_main_v31_apply, val_main_v30_apply, val_main_v29_apply]
  refine congrArg₂ (fun x y : EReal => x * y) (congrArg ct (funext fun ax => Fin.ext ?_)) (congrArg (weights q k) (funext fun ax => Fin.ext ?_))
  · fin_cases ax
    · show ((t.val * 8 + (s.val * 512 + f.val) / 64 % 8) * 64 + (s.val * 512 + f.val) % 64) / 512 = t.val; omega
    · show ((t.val * 8 + (s.val * 512 + f.val) / 64 % 8) * 64 + (s.val * 512 + f.val) % 64) % 512 = f.val; omega
  · fin_cases ax
    · show (s.val * 512 + f.val) / 64 % 8 = f.val / 64; omega
    · rfl
    · show (s.val * 512 + f.val) / 512 = s.val; omega

variable (m : (ℓ : Loc nD τ sig) → Buf (Elt Ideal) ℓ) (c : Dev nD)

/-- A tile of the weights that the region finds. -/
theorem found_tile (i j : Fin 16) (h : Fin 8) (r s : Fin 256) :
    @Eq EReal (found m c main_v27 (ix5 i j h r s)) (weights (m ((c : Thread nD τ).loc main_arg0)) (m ((c : Thread nD τ).loc main_arg1)) (ix3 h (⟨256 * i.val + r.val, by omega⟩ : Fin 4096) (⟨256 * j.val + s.val, by omega⟩ : Fin 4096))) :=
  (congrFun (found_weights m c) (ix5 i j h r s)).trans (cut_at _ i j h r s)

/-- The result of the kernel is the reference's. -/
theorem result_eq : @Eq (S4096x512.Idx → EReal) ((dats 0 (found m) 0 c).arrAt (8 : Fin 9) (cfgA 0).N)
    (Cert.Reference11Ideal.Read.val_main_v35 (F := Ideal) (m ((c : Thread nD τ).loc main_arg0)) (m ((c : Thread nD τ).loc main_arg1)) (m ((c : Thread nD τ).loc main_arg3))) := by
  funext x
  obtain ⟨a, b, rfl⟩ : ∃ (a : Fin 4096) (b : Fin 512), x = ix2 a b := ⟨x 0, x 1, funext fun ax => by fin_cases ax <;> rfl⟩
  refine (result_sums (found m) c a b).trans (Eq.trans ?_ (reference_at _ _ _ a b).symm)
  refine (sums_so_far (found m) c 135 (by decide) _).trans ?_
  refine (sum_pairs (fun i => given (found m c main_arg3) (found m c main_v27) i (⟨a.val / 256, by omega⟩ : Fin 16) b (⟨a.val % 256, Nat.mod_lt _ (by decide)⟩ : Fin 256)) (⟨a.val / 256, by omega⟩ : Fin 16)).trans ?_
  rw [← sum_blocks]
  refine Finset.sum_congr rfl fun i _ => ?_
  have tile (r : Fin 256) := found_tile m c i (⟨a.val / 256, by omega⟩ : Fin 16) (⟨b.val / 64, by omega⟩ : Fin 8) r (⟨a.val % 256, Nat.mod_lt _ (by decide)⟩ : Fin 256)
  have whole : (⟨256 * (a.val / 256) + a.val % 256, by omega⟩ : Fin 4096) = a := Fin.ext (by show 256 * (a.val / 256) + a.val % 256 = a.val; omega)
  split
  · unfold given
    refine Finset.sum_congr rfl fun r _ => ?_
    refine congrArg₂ (fun x y : EReal => x * y) (congrFun (found_arg3 m c) _) ((tile r).trans ?_)
    exact congrArg (fun s : Fin 4096 => weights _ _ (ix3 _ _ s)) whole
  · rename_i lt
    refine (Finset.sum_eq_zero fun r _ => ?_).symm
    rw [weights_zero _ _ _ _ _ (by show 256 * i.val + r.val ≤ a.val; have h : ¬ a.val / 256 ≤ i.val := lt; omega), mul_zero]

end Cert.Stick

end
-- ==== Proof.StickClaims.lean ====
module

public import proofs.«01_k».proof.Defs
public import proofs.«01_k».proof.Proof.StickValue
public import proofs.«01_k».proof.Proof.Gen.Kernel11.Skeleton
public import Idealize.ShloMosaic.Adequacy
public import Idealize.ShloMosaic.Init

/-! The claims about the backward kernel of the stick-breaking attention: its frames, its reference's frame, and that the
    gradient of the values is the reference's over the extended reals. -/

@[expose] public section

noncomputable section

namespace Cert.Stick

open Idealize.ShloMosaic Idealize.ShloMosaic.TcCoe Idealize.SL Idealize.SL.Sem

/-- The idealized kernel terminates without a fault, its arguments unchanged and its semaphores at zero. -/
theorem frame_ideal : Cert.quiescent_Kernel11Ideal := fun m ρ _ =>
  (θ_run Cert.Kernel11Ideal.defs _ _).mono (fun _ h => h.1) (run_all (F := Ideal) m ρ)

/-- The frame of the kernel at machine words, stated of the same text. -/
def FrameBits : Prop :=
  ∀ (m : (ℓ : Loc Cert.Kernel11Ideal.nD Cert.Kernel11Ideal.τ Cert.Kernel11Ideal.sig) → Buf (Elt Bits) ℓ) (g : Dev Cert.Kernel11Ideal.nD → PrngReg), True →
    θ_run (Cert.Kernel11Ideal.defs (F := Bits)) (onTc (τ := Cert.Kernel11Ideal.τ) (Cert.Kernel11Ideal.main (F := Bits))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

/-- The two statements are the same text under two names. -/
theorem same : FrameBits = Cert.quiescent_Kernel11 := by chain_rfl

/-- The printed kernel terminates without a fault, its arguments unchanged and its semaphores at zero. -/
theorem frame_kernel : Cert.quiescent_Kernel11 := same ▸ fun m ρ _ =>
  (θ_run Cert.Kernel11Ideal.defs _ _).mono (fun _ h => h.1) (run_all (F := Bits) m ρ)

/-- The reference terminates without a fault, its arguments unchanged; it declares no semaphore. -/
theorem frame_reference : Cert.quiescent_Reference11Ideal (hReference11Ideal := Cert.Reference11Ideal.Gen.facts) := fun m ρ _ =>
  (θ_run Cert.Reference11Ideal.defs _ _).mono
    (fun r h => ⟨fun c => (h c).2, sem_eq_zero_of_no_sems (by decide) r.2⟩)
    (Cert.Reference11Ideal.Value.run (F := Ideal) m ρ)

/-- The idealized kernel and the reference end with the same gradient of the values. -/
theorem algebraic : Cert.algebraic_Kernel11Ideal_Reference11Ideal (hKernel11Ideal := Cert.Kernel11Ideal.Gen.facts)
    (hReference11Ideal := Cert.Reference11Ideal.Gen.facts) := by
  intro m ρ m' ρ' _ ha
  refine ⟨fun c => (dats 0 (found m) 0 c).arrAt (8 : Fin 9) (cfgA 0).N, ?_, ?_⟩
  · exact (θ_run Cert.Kernel11Ideal.defs _ _).mono (fun r h c => ⟨h.2 c, h.1.1 c⟩) (run_all (F := Ideal) m ρ)
  · refine (θ_run Cert.Reference11Ideal.defs _ _).mono (fun r h c => ?_) (Cert.Reference11Ideal.Value.run (F := Ideal) m' ρ')
    obtain ⟨a0, a1, a2, a3⟩ := ha c
    obtain ⟨h0, hr⟩ := h c
    refine ⟨h0.trans ((Cert.Reference11Ideal.Read.val_main_v35_eq m' c).trans ?_), hr⟩
    rw [a0, a1, a3]
    exact (result_eq m c).symm

end Cert.Stick

end
-- ==== Proof.LayerNormSpec.lean ====
module

public import proofs.«01_k».proof.Proof.GateSpec

/-! A row's layer norm over the extended reals. -/

@[expose] public section

noncomputable section

namespace Cert.LayerNorm

open Idealize.ShloMosaic

/-- The mean of a row of 1024 entries. -/
def mean (f : Fin 1024 → EReal) : EReal := Ideal.div (∑ k, f k) (Ideal.ofBits .f32 0x44800000#32)

/-- The row less its mean. -/
def centred (f : Fin 1024 → EReal) (k : Fin 1024) : EReal := f k - mean f

/-- The reciprocal of the row's standard deviation, the variance raised by the norm's small constant. -/
def invStd (f : Fin 1024 → EReal) : EReal := Ideal.rsqrt (mean (fun k => centred f k * centred f k) + Ideal.ofBits .f32 0x3727C5AC#32)

/-- The normalised row. -/
def normed (f : Fin 1024 → EReal) (k : Fin 1024) : EReal := centred f k * invStd f

end Cert.LayerNorm

end
-- ==== Proof.MixFwdSpec.lean ====
module

public import proofs.«01_k».proof.Proof.LayerNormSpec

/-! The gated sum of the attention branches, its residual and the layer norm, entry by entry over the extended reals. -/

@[expose] public section

noncomputable section

namespace Cert.MixFwd

open Idealize.ShloMosaic Cert.GateGrad

/-- The factor of the residual. -/
abbrev alpha : EReal := Ideal.ofBits .f32 0x3F9837F0#32

/-- The gated sum of the branches' projections. -/
def mixed (ya yb : Arr 4096 512) (gl : Arr 4096 2048) (wa wb : Arr 512 1024) (b : Arr 1 2048) (r : Fin 4096) (k : Fin 1024) : EReal :=
  gate gl b r (lo k) * branch ya wa r k + gate gl b r (hi k) * branch yb wb r k

/-- The sum with the residual, after the output projection. -/
def summed (ya yb : Arr 4096 512) (gl : Arr 4096 2048) (x : Arr 4096 1024) (wa wb : Arr 512 1024) (wo : Arr 1024 1024) (b : Arr 1 2048)
    (r : Fin 4096) (k : Fin 1024) : EReal :=
  alpha * x (ix2 r k) + ∑ z : Fin 1024, mixed ya yb gl wa wb b r z * wo (ix2 z k)

/-- The sum with the residual, normalised, scaled and shifted. -/
def out (ya yb : Arr 4096 512) (gl : Arr 4096 2048) (x : Arr 4096 1024) (wa wb : Arr 512 1024) (wo : Arr 1024 1024) (b : Arr 1 2048)
    (lg lb : Arr 1 1024) (r : Fin 4096) (k : Fin 1024) : EReal :=
  LayerNorm.normed (summed ya yb gl x wa wb wo b r) k * lg (ix2 0 k) + lb (ix2 0 k)

end Cert.MixFwd

end
-- ==== Proof.MixFwdBlocks.lean ====
module

public import proofs.«01_k».proof.Defs
public import proofs.«01_k».proof.Proof.MixFwdSpec
public import proofs.«01_k».proof.Proof.Gen.Kernel12Ideal.Value
public import Idealize.ShloMosaic.Lib.Pipeline.ValueKit

/-! What the result arrays of the gated sum's forward kernel hold after its run. -/

@[expose] public section

set_option maxRecDepth 16384

noncomputable section

namespace Cert.MixFwd

open Idealize.ShloMosaic Idealize.ShloMosaic.TcCoe Idealize.SL.Sem Cert.GateGrad
open Cert.Kernel12Ideal Cert.Kernel12Ideal.Gen
open Idealize.ShloMosaic.Pipeline (Dat)

variable (m : (ℓ : Loc nD τ sig) → Buf (Elt Ideal) ℓ)

/-- Which block each window holds at a grid point: the rows' windows block `t`, the weights' the only one. -/
theorem idx : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![t.val, 0] ∧ win0_11.index t = ![t.val, 0]
    ∧ win0_12.index t = ![t.val, 0] := by decide +kernel

section Arguments
variable (c : Dev nD)
abbrev Ya : Arr 4096 512 := m ((c : Thread nD τ).loc main_arg0)
abbrev Yb : Arr 4096 512 := m ((c : Thread nD τ).loc main_arg1)
abbrev Gl : Arr 4096 2048 := m ((c : Thread nD τ).loc main_arg2)
abbrev X : Arr 4096 1024 := m ((c : Thread nD τ).loc main_arg3)
abbrev Wa : Arr 512 1024 := m ((c : Thread nD τ).loc main_arg4)
abbrev Wb : Arr 512 1024 := m ((c : Thread nD τ).loc main_arg5)
abbrev Wo : Arr 1024 1024 := m ((c : Thread nD τ).loc main_arg6)
abbrev Bg : Arr 1 2048 := m ((c : Thread nD τ).loc main_arg7)
abbrev Ln : Arr 1 1024 := m ((c : Thread nD τ).loc main_arg8)
abbrev Lb : Arr 1 1024 := m ((c : Thread nD τ).loc main_arg9)
end Arguments

/-- The gated sum. -/
theorem final10 (c : Dev nD) : (dats (F := Ideal) m 0 c).arrAt 10 cfg0.N =
    fun i : S4096x1024.Idx => mixed (Ya m c) (Yb m c) (Gl m c) (Wa m c) (Wb m c) (Bg m c) (i 0) (i 1) := by
  refine (dats m 0 c).arrAt_eq_of_covers 10 _ (by decide +kernel) fun t hf y => ?_
  blk_simp
  rw [after0_10]
  frame_out
  pointwise [k0_pay2, mixed, branch, gate]
  blk_point [iblk, V, idx t]
  all_goals blk_simp [idx t]

/-- The sum with the residual. -/
theorem final11 (c : Dev nD) : (dats (F := Ideal) m 0 c).arrAt 11 cfg0.N =
    fun i : S4096x1024.Idx => summed (Ya m c) (Yb m c) (Gl m c) (X m c) (Wa m c) (Wb m c) (Wo m c) (Bg m c) (i 0) (i 1) := by
  refine (dats m 0 c).arrAt_eq_of_covers 11 _ (by decide +kernel) fun t hf y => ?_
  blk_simp
  rw [after0_11]
  frame_out
  pointwise [k0_pay3, k0_pay2, summed, mixed, branch, gate]
  blk_point [iblk, V, idx t]
  all_goals blk_simp [idx t]

/-- The layer norm of a block. -/
theorem norm_block (w : FVec Ideal S512x1024 .f32) (g b : Vec Ideal S1x1024 .f32) (r : Fin 512) (k : Fin 1024) :
    k0_pay1 (F := Ideal) w g b (ix2 r k) = LayerNorm.normed (fun z => w (ix2 r z)) k * g (ix2 0 k) + b (ix2 0 k) := by
  pointwise [k0_pay1, LayerNorm.normed, LayerNorm.centred, LayerNorm.invStd, LayerNorm.mean]

/-- The sum with the residual, normalised. -/
theorem final12 (c : Dev nD) : (dats (F := Ideal) m 0 c).arrAt 12 cfg0.N =
    fun i : S4096x1024.Idx => out (Ya m c) (Yb m c) (Gl m c) (X m c) (Wa m c) (Wb m c) (Wo m c) (Bg m c) (Ln m c) (Lb m c) (i 0) (i 1) := by
  refine (dats m 0 c).arrAt_eq_of_covers 12 _ (by decide +kernel) fun t hf y => ?_
  blk_simp
  rw [after0_12]
  frame_out
  pointwise [k0_pay1, k0_pay3, k0_pay2, out, LayerNorm.normed, LayerNorm.centred, LayerNorm.invStd, LayerNorm.mean, summed, mixed, branch, gate]
  blk_point [iblk, V, idx t]
  all_goals blk_simp [idx t]

end Cert.MixFwd

end
-- ==== Proof.MixFwdReference.lean ====
module

public import proofs.«01_k».proof.Defs
public import proofs.«01_k».proof.Proof.MixFwdSpec
public import proofs.«01_k».proof.Proof.Gen.Reference12Ideal.Run
public import proofs.«01_k».proof.Proof.Gen.Reference12Ideal.Read

/-! What the reference of the gated sum computes: each of its three results, entry by entry. -/

@[expose] public section

set_option maxRecDepth 16384

noncomputable section

namespace Cert.MixFwd

open Idealize.ShloMosaic Idealize.ShloMosaic.TcCoe Cert.GateGrad
open Cert.Reference12Ideal Cert.Reference12Ideal.Read

variable (ya yb : Arr 4096 512) (gl : Arr 4096 2048) (x : Arr 4096 1024) (wa wb : Arr 512 1024) (wo : Arr 1024 1024) (b : Arr 1 2048)
  (lg lb : Arr 1 1024)

/-- The gates. -/
theorem ref_gate (i : S4096x2048.Idx) : val_main_v7 (F := Ideal) gl b i = gate gl b (i 0) (i 1) := by
  pointwise [val_main_v7, val_main_v6, val_main_v5, val_main_v4, val_main_v3, val_main_v2, val_main_v1, val_main_v0, val_main_cst, val_main_cst_0, gate]
  idx_vars i
  rfl

/-- The gated sum. -/
theorem ref_mixed : val_main_v22 (F := Ideal) ya yb gl wa wb b = fun i : S4096x1024.Idx => mixed ya yb gl wa wb b (i 0) (i 1) := by
  funext i
  pointwise [val_main_v22, val_main_v21, val_main_v20, val_main_v19, val_main_v18, val_main_v17, val_main_v16, val_main_v15, val_main_v14, val_main_v13,
    val_main_v12, val_main_v11, val_main_v10, val_main_v9, val_main_v8, mixed, branch]
  rw [ref_gate, ref_gate]
  rfl

/-- The sum with the residual. -/
theorem ref_summed : val_main_v28 (F := Ideal) ya yb gl x wa wb wo b = fun i : S4096x1024.Idx => summed ya yb gl x wa wb wo b (i 0) (i 1) := by
  funext i
  pointwise [val_main_v28, val_main_v27, val_main_v26, val_main_v25, val_main_v24, val_main_v23, val_main_cst_1, summed]
  rw [ref_mixed]
  idx_vars i

/-- The sum with the residual, normalised. -/
theorem ref_out : val_main_v49 (F := Ideal) ya yb gl x wa wb wo b lg lb =
    fun i : S4096x1024.Idx => out ya yb gl x wa wb wo b lg lb (i 0) (i 1) := by
  funext i
  pointwise [val_main_v49, val_main_v48, val_main_v47, val_main_v46, val_main_v45, val_main_v44, val_main_v43, val_main_v42, val_main_v41, val_main_v40,
    val_main_v39, val_main_v38, val_main_v37, val_main_v36, val_main_v35, val_main_v34, val_main_v33, val_main_v32, val_main_v31, val_main_v30, val_main_v29,
    val_main_cst_2, val_main_cst_3, val_main_cst_4, val_main_cst_5, val_main_cst_6, out, LayerNorm.normed, LayerNorm.centred, LayerNorm.invStd, LayerNorm.mean]
  rw [ref_summed]
  idx_vars i

end Cert.MixFwd

end
-- ==== Proof.MixFwdClaims.lean ====
module

public import proofs.«01_k».proof.Defs
public import proofs.«01_k».proof.Proof.MixFwdBlocks
public import proofs.«01_k».proof.Proof.MixFwdReference
public import Idealize.ShloMosaic.Adequacy
public import Idealize.ShloMosaic.Init

/-! The claims about the gated sum: its reference's frame, and that kernel and reference compute the same
    three arrays over the extended reals. -/

@[expose] public section

noncomputable section

namespace Cert.MixFwd

open Idealize.ShloMosaic Idealize.ShloMosaic.TcCoe Idealize.SL.Sem

/-- The reference terminates without a fault, its arguments unchanged; it declares no semaphore. -/
theorem frame_reference : Cert.quiescent_Reference12Ideal (hReference12Ideal := Cert.Reference12Ideal.Gen.facts) := fun m ρ _ =>
  (θ_run Cert.Reference12Ideal.defs _ _).mono
    (fun r h => ⟨fun c => (h c).2.2.2, sem_eq_zero_of_no_sems (by decide) r.2⟩)
    (Cert.Reference12Ideal.Value.run (F := Ideal) m ρ)

/-- The idealized kernel and the reference end with the same three arrays. -/
theorem algebraic : Cert.algebraic_Kernel12Ideal_Reference12Ideal (hKernel12Ideal := Cert.Kernel12Ideal.Gen.facts)
    (hReference12Ideal := Cert.Reference12Ideal.Gen.facts) := by
  intro m ρ m' ρ' _ ha
  refine ⟨_, _, _, Cert.Kernel12Ideal.Value.run_blocks (F := Ideal) m ρ, ?_⟩
  refine (θ_run Cert.Reference12Ideal.defs _ _).mono (fun r h c => ?_) (Cert.Reference12Ideal.Value.run (F := Ideal) m' ρ')
  obtain ⟨a0, a1, a2, a3, a4, a5, a6, a7, a8, a9⟩ := ha c
  obtain ⟨h0, h1, h2, hr⟩ := h c
  refine ⟨h0.trans ?_, h1.trans ?_, h2.trans ?_, hr⟩
  · rw [final10, a0, a1, a2, a4, a5, a7]
    exact ref_mixed _ _ _ _ _ _
  · rw [final11, a0, a1, a2, a3, a4, a5, a6, a7]
    exact ref_summed _ _ _ _ _ _ _ _
  · unfold Cert.Reference12Ideal.Value.res_main_v49
    rw [final12, a0, a1, a2, a3, a4, a5, a6, a7, a8, a9]
    exact ref_out _ _ _ _ _ _ _ _ _ _

end Cert.MixFwd

end
-- ==== Proof.FiniteWords.lean ====
module

public import Idealize.ShloMosaic.PureOps.Ideal
public import Idealize.ShloMosaic.Lib.IdealHost

/-! The comparison by which an argument is said to be finite. -/

@[expose] public section

noncomputable section

namespace Cert.Finite

open Idealize.ShloMosaic

/-- An extended real other than the two infinities. -/
abbrev IsFinite (x : EReal) : Prop := x ≠ ⊤ ∧ x ≠ ⊥

/-- The comparison of the absolute value with infinity, when it holds, says that the value is finite. -/
theorem of_word32 (x : EReal) (h : Ideal.cmp .olt (max x (-x)) (Ideal.ofBits .f32 0x7F800000#32) = 1#1) : IsFinite x := by
  have top : Ideal.ofBits .f32 0x7F800000#32 = ⊤ := by simp [Ideal.ofBits, Ideal.ieee]
  rw [top] at h
  constructor
  · rintro rfl
    simp [Ideal.cmp] at h
  · rintro rfl
    simp [Ideal.cmp] at h

/-- The same against bf16's infinity. -/
theorem of_word16 (x : EReal) (h : Ideal.cmp .olt (max x (-x)) (Ideal.ofBits .bf16 0x7F80#16) = 1#1) : IsFinite x := by
  have top : Ideal.ofBits .bf16 0x7F80#16 = ⊤ := by simp [Ideal.ofBits, Ideal.ieee]
  rw [top] at h
  constructor
  · rintro rfl
    simp [Ideal.cmp] at h
  · rintro rfl
    simp [Ideal.cmp] at h

theorem mul {x y : EReal} (hx : IsFinite x) (hy : IsFinite y) : IsFinite (x * y) := by
  rw [← EReal.coe_toReal hx.1 hx.2, ← EReal.coe_toReal hy.1 hy.2, ← EReal.coe_mul]
  exact ⟨EReal.coe_ne_top _, EReal.coe_ne_bot _⟩

theorem add {x y : EReal} (hx : IsFinite x) (hy : IsFinite y) : IsFinite (x + y) := by
  rw [← EReal.coe_toReal hx.1 hx.2, ← EReal.coe_toReal hy.1 hy.2, ← EReal.coe_add]
  exact ⟨EReal.coe_ne_top _, EReal.coe_ne_bot _⟩

theorem sub {x y : EReal} (hx : IsFinite x) (hy : IsFinite y) : IsFinite (x - y) := by
  rw [← EReal.coe_toReal hx.1 hx.2, ← EReal.coe_toReal hy.1 hy.2, ← EReal.coe_sub]
  exact ⟨EReal.coe_ne_top _, EReal.coe_ne_bot _⟩

theorem coe (x : ℝ) : IsFinite (x : EReal) := ⟨EReal.coe_ne_top _, EReal.coe_ne_bot _⟩

/-- A sum of finite terms. -/
theorem sum {ι : Type} (s : Finset ι) (f : ι → EReal) (h : ∀ k, IsFinite (f k)) : IsFinite (∑ k ∈ s, f k) := by
  classical
  induction s using Finset.induction_on with
  | empty => exact coe 0
  | insert k s hk ih =>
    rw [Finset.sum_insert hk]
    exact add (h k) ih

/-- The residual's factor is finite. -/
theorem alpha : IsFinite (Ideal.ofBits .f32 0x3F9837F0#32) := by
  have e : ∃ x : ℝ, Ideal.ofBits .f32 0x3F9837F0#32 = (x : EReal) := ⟨_, by simp [Ideal.ofBits, Ideal.ieee, -EReal.coe_mul]; rfl⟩
  obtain ⟨x, e⟩ := e
  rw [e]
  exact coe x

end Cert.Finite

end
-- ==== Proof.LayerNormGrad.lean ====
module

public import proofs.«01_k».proof.Proof.LayerNormSpec

/-! The gradient of a row's layer norm in two forms, and that they agree where the cotangent is finite. -/

@[expose] public section

noncomputable section

namespace Cert.LayerNorm

open Idealize.ShloMosaic

/-- The small constant that raises the variance. -/
abbrev small : EReal := Ideal.ofBits .f32 0x3727C5AC#32

/-- The row's variance, raised by the small constant. -/
def raised (f : Fin 1024 → EReal) : EReal := mean (fun k => centred f k * centred f k) + small

/-- The gradient in closed form: of the cotangent `a` of the normalised row, its mean and its part along the row are taken away. -/
def grad (a f : Fin 1024 → EReal) (k : Fin 1024) : EReal :=
  invStd f * (a k - mean a - normed f k * mean (fun z => a z * normed f z))

/-- The cotangent of each square in the variance, as differentiation by the chain rule gives it. -/
def slope (a f : Fin 1024 → EReal) : EReal :=
  Ideal.div ((∑ k, centred f k * a k) * (Ideal.ofBits .f32 0xBF000000#32 * Ideal.div (invStd f) (raised f))) (Ideal.ofBits .f32 0x44800000#32)

/-- The cotangent of the centred row. -/
def inner (a f : Fin 1024 → EReal) (k : Fin 1024) : EReal := a k * invStd f + centred f k * slope a f + slope a f * centred f k

/-- The gradient as differentiation by the chain rule gives it. -/
def chain (a f : Fin 1024 → EReal) (k : Fin 1024) : EReal := inner a f k + mean (fun z => -inner a f z)

theorem width_eq : Ideal.ofBits .f32 0x44800000#32 = ((1024 : ℝ) : EReal) := by
  simp [Ideal.ofBits, Ideal.ieee, -EReal.coe_mul]; norm_num

theorem half_eq : Ideal.ofBits .f32 0xBF000000#32 = ((-(1 / 2) : ℝ) : EReal) := by
  simp [Ideal.ofBits, Ideal.ieee, -EReal.coe_mul, -EReal.coe_neg]; norm_num

theorem small_eq : ∃ e : ℝ, 0 < e ∧ small = (e : EReal) := by
  refine ⟨_, ?_, by simp [small, Ideal.ofBits, Ideal.ieee, -EReal.coe_mul]; rfl⟩
  norm_num

/-- The mean as a product. -/
theorem mean_eq (f : Fin 1024 → EReal) : mean f = (∑ k, f k) * ((1 / 1024 : ℝ) : EReal) := by
  rw [mean, width_eq, Ideal.div_coe (by norm_num)]

/-- A sum of reals. -/
theorem sum_coe {ι : Type} (s : Finset ι) (x : ι → ℝ) : ∑ k ∈ s, (x k : EReal) = ((∑ k ∈ s, x k : ℝ) : EReal) := by
  classical
  induction s using Finset.induction_on with
  | empty => simp
  | insert k s hk ih => rw [Finset.sum_insert hk, Finset.sum_insert hk, ih, EReal.coe_add]

/-- The mean of a row of reals. -/
theorem mean_coe (x : Fin 1024 → ℝ) : mean (fun k => (x k : EReal)) = (((∑ k, x k) * (1 / 1024) : ℝ) : EReal) := by
  rw [mean_eq, EReal.coe_mul, sum_coe]

/-- A sum with an infinite term is infinite. -/
theorem sum_infinite {ι : Type} (s : Finset ι) (f : ι → EReal) (k : ι) (hk : k ∈ s) (h : f k = ⊤ ∨ f k = ⊥) :
    ∑ z ∈ s, f z = ⊤ ∨ ∑ z ∈ s, f z = ⊥ := by
  classical
  rw [← Finset.add_sum_erase s f hk]
  rcases h with h | h
  · rw [h]
    by_cases hb : ∑ z ∈ s.erase k, f z = ⊥
    · exact .inr (by rw [hb, EReal.add_bot])
    · exact .inl (EReal.top_add_of_ne_bot hb)
  · exact .inr (by rw [h, EReal.bot_add])

/-- The mean of a row with an infinite entry is infinite. -/
theorem mean_infinite (f : Fin 1024 → EReal) (k : Fin 1024) (h : f k = ⊤ ∨ f k = ⊥) : mean f = ⊤ ∨ mean f = ⊥ := by
  rw [mean_eq]
  rcases sum_infinite Finset.univ f k (Finset.mem_univ k) h with h | h <;> rw [h]
  · exact .inl (EReal.top_mul_coe_of_pos (by norm_num))
  · exact .inr (EReal.bot_mul_coe_of_pos (by norm_num))

/-- The squares of a centred row with an infinite entry are all infinite. -/
theorem square_infinite (f : Fin 1024 → EReal) (k z : Fin 1024) (h : f k = ⊤ ∨ f k = ⊥) : centred f z * centred f z = ⊤ := by
  have e : centred f z = ⊤ ∨ centred f z = ⊥ := by
    unfold centred
    rcases mean_infinite f k h with h | h <;> rw [h, sub_eq_add_neg]
    · exact .inr (by rw [EReal.neg_top, EReal.add_bot])
    · rw [EReal.neg_bot]
      by_cases hb : f z = ⊥
      · exact .inr (by rw [hb, EReal.bot_add])
      · exact .inl (EReal.add_top_of_ne_bot hb)
  rcases e with e | e <;> rw [e] <;> simp

/-- The raised variance of a row with an infinite entry. -/
theorem raised_infinite (f : Fin 1024 → EReal) (k : Fin 1024) (h : f k = ⊤ ∨ f k = ⊥) : raised f = ⊤ := by
  have e : (fun z => centred f z * centred f z) = fun _ => (⊤ : EReal) := funext fun z => square_infinite f k z h
  obtain ⟨d, hd, hs⟩ := small_eq
  rw [raised, e, hs, mean_eq]
  have : ∑ _z : Fin 1024, (⊤ : EReal) = ⊤ := by
    rw [← Finset.add_sum_erase _ _ (Finset.mem_univ (0 : Fin 1024))]
    refine EReal.top_add_of_ne_bot ?_
    exact ne_of_gt (lt_of_lt_of_le EReal.bot_lt_zero (Finset.sum_nonneg fun _ _ => le_top))
  rw [this, EReal.top_mul_coe_of_pos (by norm_num)]
  exact EReal.top_add_coe d

theorem invStd_infinite (f : Fin 1024 → EReal) (k : Fin 1024) (h : f k = ⊤ ∨ f k = ⊥) : invStd f = 0 := by
  show Ideal.rsqrt (raised f) = 0
  rw [raised_infinite f k h, Ideal.rsqrt_top]

/-- The mean of zeros. -/
theorem mean_zero : mean (fun _ => 0) = 0 := by simp [mean_eq]

/-- The two forms agree on a row with an infinite entry: both are zero. -/
theorem chain_eq_grad_infinite (a f : Fin 1024 → EReal) (j : Fin 1024) (h : f j = ⊤ ∨ f j = ⊥) (k : Fin 1024) : chain a f k = grad a f k := by
  have s : slope a f = 0 := by
    rw [slope, invStd_infinite f j h, raised_infinite f j h, width_eq, Ideal.div_coe (by norm_num)]
    have : Ideal.div 0 ⊤ = 0 := by simp [Ideal.div]
    rw [this, mul_zero, mul_zero, zero_mul]
  have i : ∀ z, inner a f z = 0 := fun z => by rw [inner, s, invStd_infinite f j h, mul_zero, mul_zero, zero_mul, add_zero, add_zero]
  have e : (fun z => -inner a f z) = fun _ => 0 := funext fun z => by rw [i, neg_zero]
  rw [chain, e, i, mean_zero, grad, invStd_infinite f j h, zero_mul, add_zero]

/-- The two forms agree on reals. -/
theorem chain_eq_grad_coe (a x : Fin 1024 → ℝ) (k : Fin 1024) :
    chain (fun z => (a z : EReal)) (fun z => (x z : EReal)) k = grad (fun z => (a z : EReal)) (fun z => (x z : EReal)) k := by
  obtain ⟨d, hd, hs⟩ := small_eq
  obtain ⟨u, hu⟩ : ∃ u : ℝ, u = (∑ z, x z) * (1 / 1024) := ⟨_, rfl⟩
  obtain ⟨c, hc⟩ : ∃ c : Fin 1024 → ℝ, c = fun z => x z - u := ⟨_, rfl⟩
  have hsum : ∑ z, c z = 0 := by
    simp only [hc, Finset.sum_sub_distrib, Finset.sum_const, Finset.card_univ, Fintype.card_fin, nsmul_eq_mul, hu]
    push_cast
    ring
  have ec : centred (fun z => (x z : EReal)) = fun z => (c z : EReal) := by
    funext z
    rw [centred, mean_coe, hc, ← hu, EReal.coe_sub]
  obtain ⟨v, hv⟩ : ∃ v : ℝ, v = (∑ z, c z * c z) * (1 / 1024) + d := ⟨_, rfl⟩
  have v0 : 0 < v := by
    rw [hv]
    exact add_pos_of_nonneg_of_pos (mul_nonneg (Finset.sum_nonneg fun z _ => mul_self_nonneg _) (by norm_num)) hd
  have er : raised (fun z => (x z : EReal)) = (v : EReal) := by
    rw [raised, ec, hs, hv, EReal.coe_add, ← mean_coe]
    simp only [EReal.coe_mul]
  obtain ⟨r, hr⟩ : ∃ r : ℝ, r = (Real.sqrt v)⁻¹ := ⟨_, rfl⟩
  have ei : invStd (fun z => (x z : EReal)) = (r : EReal) := by
    show Ideal.rsqrt (raised _) = _
    rw [er, Ideal.rsqrt_coe, if_neg (not_lt.mpr v0.le), if_neg v0.ne', hr]
  have rr : 1 / v = r * r := by
    rw [hr, ← mul_inv, Real.mul_self_sqrt v0.le, one_div]
  obtain ⟨q, hq⟩ : ∃ q : ℝ, q = ∑ z, c z * a z := ⟨_, rfl⟩
  obtain ⟨p, hp⟩ : ∃ p : ℝ, p = q * (-(1 / 2) * (r * (r * r))) * (1 / 1024) := ⟨_, rfl⟩
  have es : slope (fun z => (a z : EReal)) (fun z => (x z : EReal)) = (p : EReal) := by
    rw [slope, ec, ei, er, width_eq, half_eq, Ideal.div_coe (by norm_num), Ideal.div_coe v0.ne', rr, hp, hq]
    simp only [EReal.coe_mul, ← sum_coe]
  have en : inner (fun z => (a z : EReal)) (fun z => (x z : EReal)) = fun z => ((a z * r + c z * p + p * c z : ℝ) : EReal) := by
    funext z
    rw [inner, ec, ei, es]
    simp only [EReal.coe_mul, EReal.coe_add]
  have el : chain (fun z => (a z : EReal)) (fun z => (x z : EReal)) k =
      ((a k * r + c k * p + p * c k + (∑ z, -(a z * r + c z * p + p * c z)) * (1 / 1024) : ℝ) : EReal) := by
    rw [chain, en, EReal.coe_add, ← mean_coe]
    simp only [EReal.coe_neg]
  have eg : grad (fun z => (a z : EReal)) (fun z => (x z : EReal)) k =
      ((r * (a k - (∑ z, a z) * (1 / 1024) - c k * r * ((∑ z, a z * (c z * r)) * (1 / 1024))) : ℝ) : EReal) := by
    unfold grad normed
    rw [ec, ei, mean_coe]
    simp only [EReal.coe_mul, EReal.coe_sub, mean_eq, ← sum_coe]
  rw [el, eg]
  congr 1
  have e1 : ∑ z, -(a z * r + c z * p + p * c z) = -((∑ z, a z) * r) := by
    rw [Finset.sum_neg_distrib, Finset.sum_add_distrib, Finset.sum_add_distrib, ← Finset.sum_mul, ← Finset.sum_mul, ← Finset.mul_sum, hsum]
    ring
  have e2 : ∑ z, a z * (c z * r) = q * r := by
    rw [hq, Finset.sum_mul]
    exact Finset.sum_congr rfl fun z _ => by ring
  rw [e1, e2, hp]
  ring

/-- The two forms of the gradient agree where the cotangent is finite. -/
theorem chain_eq_grad (a f : Fin 1024 → EReal) (ha : ∀ z, a z ≠ ⊤ ∧ a z ≠ ⊥) (k : Fin 1024) : chain a f k = grad a f k := by
  by_cases h : ∃ j, f j = ⊤ ∨ f j = ⊥
  · obtain ⟨j, h⟩ := h
    exact chain_eq_grad_infinite a f j h k
  · have h' : ∀ j, f j ≠ ⊤ ∧ f j ≠ ⊥ := fun j => not_or.mp fun e => h ⟨j, e⟩
    have ea : a = fun z => ((a z).toReal : EReal) := funext fun z => (EReal.coe_toReal (ha z).1 (ha z).2).symm
    have ef : f = fun z => ((f z).toReal : EReal) := funext fun z => (EReal.coe_toReal (h' z).1 (h' z).2).symm
    rw [ea, ef]
    exact chain_eq_grad_coe _ _ k

/-- The normalised row is finite, whatever the row: with an infinite entry it is zero. -/
theorem normed_finite (f : Fin 1024 → EReal) (k : Fin 1024) : normed f k ≠ ⊤ ∧ normed f k ≠ ⊥ := by
  by_cases h : ∃ j, f j = ⊤ ∨ f j = ⊥
  · obtain ⟨j, h⟩ := h
    rw [normed, invStd_infinite f j h, mul_zero]
    exact ⟨EReal.zero_ne_top, EReal.zero_ne_bot⟩
  · have h' : ∀ j, f j ≠ ⊤ ∧ f j ≠ ⊥ := fun j => not_or.mp fun e => h ⟨j, e⟩
    have ef : f = fun z => ((f z).toReal : EReal) := funext fun z => (EReal.coe_toReal (h' z).1 (h' z).2).symm
    obtain ⟨d, hd, hs⟩ := small_eq
    rw [ef, normed, invStd]
    have ec : centred (fun z => ((f z).toReal : EReal)) = fun z => (((f z).toReal - (∑ z, (f z).toReal) * (1 / 1024) : ℝ) : EReal) := by
      funext z
      rw [centred, mean_coe, EReal.coe_sub]
    have v0 : 0 < (∑ z, ((f z).toReal - (∑ z, (f z).toReal) * (1 / 1024)) * ((f z).toReal - (∑ z, (f z).toReal) * (1 / 1024))) * (1 / 1024) + d :=
      add_pos_of_nonneg_of_pos (mul_nonneg (Finset.sum_nonneg fun z _ => mul_self_nonneg _) (by norm_num)) hd
    rw [ec, show Ideal.ofBits .f32 0x3727C5AC#32 = (d : EReal) from hs]
    simp only [← EReal.coe_mul, mean_coe, ← EReal.coe_add]
    rw [Ideal.rsqrt_coe, if_neg (not_lt.mpr v0.le), if_neg v0.ne', ← EReal.coe_mul]
    exact ⟨EReal.coe_ne_top _, EReal.coe_ne_bot _⟩

end Cert.LayerNorm

end
-- ==== Proof.UpLnSpec.lean ====
module

public import proofs.«01_k».proof.Proof.LayerNormGrad

/-! The gradient of the first layer norm behind the feed-forward net's up projection, entry by entry over the extended reals. -/

@[expose] public section

noncomputable section

namespace Cert.UpLn

open Idealize.ShloMosaic Cert.GateGrad

/-- A stack of two arrays. -/
abbrev Pair (a b : Nat) : Type := Shape.Idx ⟨3, ![2, a, b]⟩ → EReal

/-- The cotangent of the norm's output: both halves' products with the up projection, and the residual's share. -/
def dout (dp : Pair 4096 2816) (w : Arr 5632 1024) (du2 : Arr 4096 1024) (r : Fin 4096) (k : Fin 1024) : EReal :=
  (∑ z : Fin 2816, dp (ix3 0 r z) * w (ix2 ⟨z.val, by omega⟩ k)) + (∑ z : Fin 2816, dp (ix3 1 r z) * w (ix2 ⟨2816 + z.val, by omega⟩ k))
    + Ideal.ofBits .f32 0x3F9837F0#32 * du2 (ix2 r k)

/-- A row of the residual stream before the norm. -/
def row (u : Arr 4096 1024) (r : Fin 4096) (k : Fin 1024) : EReal := u (ix2 r k)

/-- The cotangent of the normalised row. -/
def scaled (dp : Pair 4096 2816) (w : Arr 5632 1024) (du2 : Arr 4096 1024) (g : Arr 1 1024) (r : Fin 4096) (k : Fin 1024) : EReal :=
  dout dp w du2 r k * g (ix2 0 k)

/-- The cotangent of the residual stream before the norm. -/
def du (dp : Pair 4096 2816) (w : Arr 5632 1024) (du2 u : Arr 4096 1024) (g : Arr 1 1024) (r : Fin 4096) (k : Fin 1024) : EReal :=
  LayerNorm.grad (scaled dp w du2 g r) (row u r) k

/-- The cotangent of the norm's scale. -/
def dg (dp : Pair 4096 2816) (w : Arr 5632 1024) (du2 u : Arr 4096 1024) (k : Fin 1024) : EReal :=
  ∑ r : Fin 4096, dout dp w du2 r k * LayerNorm.normed (row u r) k

/-- The cotangent of the norm's shift. -/
def db (dp : Pair 4096 2816) (w : Arr 5632 1024) (du2 : Arr 4096 1024) (k : Fin 1024) : EReal := ∑ r : Fin 4096, dout dp w du2 r k

end Cert.UpLn

end
-- ==== Proof.UpLnBlocks.lean ====
module

public import proofs.«01_k».proof.Defs
public import proofs.«01_k».proof.Proof.UpLnSpec
public import proofs.«01_k».proof.Proof.Gen.Kernel13Ideal.Value
public import Idealize.ShloMosaic.Lib.Pipeline.ValueKit

/-! What the result arrays of the first norm's backward kernel hold after its run. -/

@[expose] public section

set_option maxRecDepth 16384

noncomputable section

namespace Cert.UpLn

open Idealize.ShloMosaic Idealize.ShloMosaic.TcCoe Idealize.SL.Sem Cert.GateGrad
open Cert.Kernel13Ideal Cert.Kernel13Ideal.Gen
open Idealize.ShloMosaic.Pipeline (Dat)

variable (m : (ℓ : Loc nD τ sig) → Buf (Elt Ideal) ℓ)

/-- Which block each window holds at a grid point: the rows' windows block `t`, the weight's, the scale's and the accumulators' the only one. -/
theorem idx : ∀ t : Fin grid0.N, win0_0.index t = ![0, t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] := by decide +kernel

section Arguments
variable (c : Dev nD)
abbrev Dp : Pair 4096 2816 := m ((c : Thread nD τ).loc main_arg0)
abbrev W : Arr 5632 1024 := m ((c : Thread nD τ).loc main_arg1)
abbrev Du2 : Arr 4096 1024 := m ((c : Thread nD τ).loc main_arg2)
abbrev U : Arr 4096 1024 := m ((c : Thread nD τ).loc main_arg3)
abbrev Ln : Arr 1 1024 := m ((c : Thread nD τ).loc main_arg4)
end Arguments

/-- What a point computes of the cotangent of the norm's output: the rows of its block. -/
theorem block_dout (c : Dev nD) (t : Fin grid0.N) (r : Fin 512) (k : Fin 1024) (R : Fin 4096) (hR : R.val = t.val * 512 + r.val) :
    k0_pay7 (View.ld (iblk m c 0 t) (Rect.unit ![0, 0, 0] ![1, 512, 2816] inb_S2x512x2816_S1x512x2816_0_0_0))
        (View.ld (iblk m c 1 t) (Rect.unit ![0, 0] ![2816, 1024] inb_S5632x1024_S2816x1024_0_0))
        (View.ld (iblk m c 0 t) (Rect.unit ![1, 0, 0] ![1, 512, 2816] inb_S2x512x2816_S1x512x2816_1_0_0))
        (View.ld (iblk m c 1 t) (Rect.unit ![2816, 0] ![2816, 1024] inb_S5632x1024_S2816x1024_2816_0)) (iblk m c 2 t) (ix2 r k)
      = dout (Dp m c) (W m c) (Du2 m c) R k := by
  pointwise [k0_pay7, dout]
  blk_point [iblk, V, idx t]

/-- The rows a point reads of the residual stream, centred. -/
theorem block_centred (c : Dev nD) (t : Fin grid0.N) (r : Fin 512) (k : Fin 1024) (R : Fin 4096) (hR : R.val = t.val * 512 + r.val) :
    k0_pay8 (iblk m c 3 t) (ix2 r k) = LayerNorm.centred (row (U m c) R) k := by
  pointwise [k0_pay8, LayerNorm.centred, LayerNorm.mean, row]
  blk_point [iblk, V, idx t]

/-- The reciprocals of their standard deviations. -/
theorem block_invStd (c : Dev nD) (t : Fin grid0.N) (r : Fin 512) (R : Fin 4096) (hR : R.val = t.val * 512 + r.val) :
    k0_pay9 (iblk m c 3 t) (ix2 r 0) = LayerNorm.invStd (row (U m c) R) := by
  pointwise [k0_pay9, LayerNorm.invStd]
  simp only [block_centred m c t r _ R hR]
  rfl

/-- The rows normalised. -/
theorem block_normed (c : Dev nD) (t : Fin grid0.N) (r : Fin 512) (k : Fin 1024) (R : Fin 4096) (hR : R.val = t.val * 512 + r.val) :
    k0_pay10 (iblk m c 3 t) (ix2 r k) = LayerNorm.normed (row (U m c) R) k := by
  pointwise [k0_pay10, LayerNorm.normed]
  rw [block_centred m c t r k R hR, block_invStd m c t r R hR]

/-- What a point computes of the cotangent of the residual stream, over what it computes of the norm's output and statistics. -/
theorem block_du (c : Dev nD) (t : Fin grid0.N) (d : FVec Ideal S512x1024 .f32) (r : Fin 512) (k : Fin 1024) (R : Fin 4096)
    (hR : R.val = t.val * 512 + r.val) (hd : ∀ k, d (ix2 r k) = dout (Dp m c) (W m c) (Du2 m c) R k) :
    k0_pay3 d (k0_pay9 (iblk m c 3 t)) (k0_pay10 (iblk m c 3 t)) (iblk m c 4 t) (ix2 r k)
      = du (Dp m c) (W m c) (Du2 m c) (U m c) (Ln m c) R k := by
  pointwise [k0_pay3, du, LayerNorm.grad, scaled, LayerNorm.mean]
  simp only [block_normed m c t r _ R hR, block_invStd m c t r R hR, hd]
  blk_point [iblk, V, idx t]

/-- Row `r` of block `n`. -/
abbrev rowOf (n : Nat) (r : Fin 512) : Fin 4096 := ⟨(n * 512 + r.val) % 4096, Nat.mod_lt _ (by norm_num)⟩

theorem rowOf_val (t : Fin grid0.N) (r : Fin 512) : (rowOf t.val r).val = t.val * 512 + r.val :=
  Nat.mod_eq_of_lt (by have := t.isLt; simp only [N_0] at this; omega)

/-- The cotangent of the residual stream before the norm. -/
theorem final5 (c : Dev nD) : (dats (F := Ideal) m 0 c).arrAt 5 cfg0.N =
    fun i : S4096x1024.Idx => du (Dp m c) (W m c) (Du2 m c) (U m c) (Ln m c) (i 0) (i 1) := by
  refine (dats m 0 c).arrAt_eq_of_covers 5 _ (by decide +kernel) fun t hf y => ?_
  blk_simp
  rw [after0_5]
  by_cases h0 : t.val % 8 = 0
  · rw [outsAt0_A m c t h0]
    frame_out
    idx_vars y
    refine (block_du m c t _ _ _ (rowOf t.val y0) (rowOf_val t y0) fun k => block_dout m c t _ k _ (rowOf_val t y0)).trans ?_
    refine congrArg₂ (du (Dp m c) (W m c) (Du2 m c) (U m c) (Ln m c)) (Fin.ext ((rowOf_val t y0).trans ?_)) (Fin.ext ?_) <;> blk_simp [idx t]
  · rw [outsAt0_B m c t h0]
    frame_out
    idx_vars y
    refine (block_du m c t _ _ _ (rowOf t.val y0) (rowOf_val t y0) fun k => block_dout m c t _ k _ (rowOf_val t y0)).trans ?_
    refine congrArg₂ (du (Dp m c) (W m c) (Du2 m c) (U m c) (Ln m c)) (Fin.ext ((rowOf_val t y0).trans ?_)) (Fin.ext ?_) <;> blk_simp [idx t]

/-- The same, cast to bf16: over the extended reals the same array. -/
theorem final6 (c : Dev nD) : (dats (F := Ideal) m 0 c).arrAt 6 cfg0.N =
    fun i : S4096x1024.Idx => du (Dp m c) (W m c) (Du2 m c) (U m c) (Ln m c) (i 0) (i 1) := by
  refine (dats m 0 c).arrAt_eq_of_covers 6 _ (by decide +kernel) fun t hf y => ?_
  blk_simp
  rw [after0_6]
  by_cases h0 : t.val % 8 = 0
  · rw [outsAt0_A m c t h0]
    frame_out
    idx_vars y
    refine (block_du m c t _ _ _ (rowOf t.val y0) (rowOf_val t y0) fun k => block_dout m c t _ k _ (rowOf_val t y0)).trans ?_
    refine congrArg₂ (du (Dp m c) (W m c) (Du2 m c) (U m c) (Ln m c)) (Fin.ext ((rowOf_val t y0).trans ?_)) (Fin.ext ?_) <;> blk_simp [idx t]
  · rw [outsAt0_B m c t h0]
    frame_out
    idx_vars y
    refine (block_du m c t _ _ _ (rowOf t.val y0) (rowOf_val t y0) fun k => block_dout m c t _ k _ (rowOf_val t y0)).trans ?_
    refine congrArg₂ (du (Dp m c) (W m c) (Du2 m c) (U m c) (Ln m c)) (Fin.ext ((rowOf_val t y0).trans ?_)) (Fin.ext ?_) <;> blk_simp [idx t]

/-- A sum over the rows, block by block. -/
theorem sum_rowOf (f : Fin 4096 → EReal) : ∑ n : Fin 8, ∑ r : Fin 512, f (rowOf n.val r) = ∑ r : Fin 4096, f r := by
  refine (Finset.sum_congr rfl fun t _ => Finset.sum_congr rfl fun r _ => ?_).trans (Fin.sum_mul_add_fin 8 512 f rfl)
  congr 1
  exact Fin.ext (by simp; omega)

/-- One row's part of the scale's cotangent. -/
abbrev part7 (c : Dev nD) (k : Fin 1024) (R : Fin 4096) : EReal :=
  dout (Dp m c) (W m c) (Du2 m c) R k * LayerNorm.normed (row (U m c) R) k

/-- The scale's cotangent over the first point's block. -/
theorem first7 (c : Dev nD) (t : Fin grid0.N) (h0 : t.val % 8 = 0) (j : S1x1024.Idx) :
    (outsAt0 m c t.val t.isLt).2.2.1 j = 0 + ∑ r : Fin 512, part7 m c (j 1) (rowOf t.val r) := by
  rw [outsAt0_A m c t h0]
  frame_out
  idx_vars j
  pointwise [k0_pay1, k0_pay5]
  exact Finset.sum_congr rfl fun r _ => congrArg₂ (· * ·) (block_dout m c t r _ _ (rowOf_val t r)) (block_normed m c t r _ _ (rowOf_val t r))

/-- At every later point it gains that point's block. -/
theorem next7 (c : Dev nD) (t : Fin grid0.N) (h0 : ¬t.val % 8 = 0) (j : S1x1024.Idx) :
    (outsAt0 m c t.val t.isLt).2.2.1 j = (outsAt0 m c (t.val - 1) (Nat.lt_of_le_of_lt (Nat.sub_le _ _) t.isLt)).2.2.1 j
      + ∑ r : Fin 512, part7 m c (j 1) (rowOf t.val r) := by
  rw [outsAt0_B m c t h0]
  frame_out
  idx_vars j
  pointwise [k0_pay1]
  exact congrArg (_ + ·) (Finset.sum_congr rfl fun r _ =>
    congrArg₂ (· * ·) (block_dout m c t r _ _ (rowOf_val t r)) (block_normed m c t r _ _ (rowOf_val t r)))

/-- The cotangent of the norm's scale. -/
theorem final7 (c : Dev nD) : (dats (F := Ideal) m 0 c).arrAt 7 cfg0.N =
    fun i : S1x1024.Idx => dg (Dp m c) (W m c) (Du2 m c) (U m c) (i 1) := by
  refine (dats m 0 c).arrAt_eq_of_after_last 7 t0_7 (by decide +kernel) _ fun j => ?_
  blk_simp
  rw [after0_7, Pipeline.eq_sum_of_reset_step_apply (fun n h => (outsAt0 m c n h).2.2.1) 8 (fun _ => 0)
    (fun n j => ∑ r : Fin 512, part7 m c (j 1) (rowOf n r)) (first7 m c) (next7 m c) t0_7 j]
  show 0 + ∑ k ∈ Finset.range 8, ∑ r : Fin 512, part7 m c (j 1) (rowOf (0 + k) r) = _
  simp only [zero_add]
  rw [← Fin.sum_univ_eq_sum_range (fun n => ∑ r : Fin 512, part7 m c (j 1) (rowOf n r))]
  exact sum_rowOf (part7 m c (j 1))

/-- One row's part of the shift's cotangent. -/
abbrev part8 (c : Dev nD) (k : Fin 1024) (R : Fin 4096) : EReal := dout (Dp m c) (W m c) (Du2 m c) R k

/-- The shift's cotangent over the first point's block. -/
theorem first8 (c : Dev nD) (t : Fin grid0.N) (h0 : t.val % 8 = 0) (j : S1x1024.Idx) :
    (outsAt0 m c t.val t.isLt).2.2.2 j = 0 + ∑ r : Fin 512, part8 m c (j 1) (rowOf t.val r) := by
  rw [outsAt0_A m c t h0]
  frame_out
  idx_vars j
  pointwise [k0_pay2, k0_pay6]
  exact Finset.sum_congr rfl fun r _ => block_dout m c t r _ _ (rowOf_val t r)

/-- At every later point it gains that point's block. -/
theorem next8 (c : Dev nD) (t : Fin grid0.N) (h0 : ¬t.val % 8 = 0) (j : S1x1024.Idx) :
    (outsAt0 m c t.val t.isLt).2.2.2 j = (outsAt0 m c (t.val - 1) (Nat.lt_of_le_of_lt (Nat.sub_le _ _) t.isLt)).2.2.2 j
      + ∑ r : Fin 512, part8 m c (j 1) (rowOf t.val r) := by
  rw [outsAt0_B m c t h0]
  frame_out
  idx_vars j
  pointwise [k0_pay2]
  exact congrArg (_ + ·) (Finset.sum_congr rfl fun r _ => block_dout m c t r _ _ (rowOf_val t r))

/-- The cotangent of the norm's shift. -/
theorem final8 (c : Dev nD) : (dats (F := Ideal) m 0 c).arrAt 8 cfg0.N =
    fun i : S1x1024.Idx => db (Dp m c) (W m c) (Du2 m c) (i 1) := by
  refine (dats m 0 c).arrAt_eq_of_after_last 8 t0_7 (by decide +kernel) _ fun j => ?_
  blk_simp
  rw [after0_8, Pipeline.eq_sum_of_reset_step_apply (fun n h => (outsAt0 m c n h).2.2.2) 8 (fun _ => 0)
    (fun n j => ∑ r : Fin 512, part8 m c (j 1) (rowOf n r)) (first8 m c) (next8 m c) t0_7 j]
  show 0 + ∑ k ∈ Finset.range 8, ∑ r : Fin 512, part8 m c (j 1) (rowOf (0 + k) r) = _
  simp only [zero_add]
  rw [← Fin.sum_univ_eq_sum_range (fun n => ∑ r : Fin 512, part8 m c (j 1) (rowOf n r))]
  exact sum_rowOf (part8 m c (j 1))

end Cert.UpLn

end
-- ==== Proof.UpLnReference.lean ====
module

public import proofs.«01_k».proof.Defs
public import proofs.«01_k».proof.Proof.UpLnSpec
public import proofs.«01_k».proof.Proof.Gen.Reference13Ideal.Run
public import proofs.«01_k».proof.Proof.Gen.Reference13Ideal.Read

/-! What the reference of the first norm's gradient computes: each of its four results, entry by entry. -/

@[expose] public section

set_option maxRecDepth 16384

noncomputable section

namespace Cert.UpLn

open Idealize.ShloMosaic Idealize.ShloMosaic.TcCoe Cert.GateGrad
open Cert.Reference13Ideal Cert.Reference13Ideal.Read

variable (dp : Pair 4096 2816) (w : Arr 5632 1024) (du2 u : Arr 4096 1024) (g : Arr 1 1024)

/-- The cotangent of the norm's output. -/
theorem ref_dout (i : S4096x1024.Idx) : val_main_v47 (F := Ideal) dp w du2 i = dout dp w du2 (i 0) (i 1) := by
  pointwise [val_main_v47, val_main_v46, val_main_v45, val_main_v44, val_main_v43, val_main_v42, val_main_v41, val_main_v40, val_main_v39, val_main_v38,
    val_main_v37, val_main_cst_7, val_main_v30, val_main_v29, val_main_v28, val_main_v26, val_main_v25, val_main_v24, dout]
  rw [add_comm, add_comm (Ideal.ofBits .f32 0x3F9837F0#32 * _), ← add_assoc]

/-- The rows, centred. -/
theorem ref_centred (i : S4096x1024.Idx) : val_main_v6 (F := Ideal) u i = LayerNorm.centred (row u (i 0)) (i 1) := by
  pointwise [val_main_v6, val_main_v5, val_main_v4, val_main_v3, val_main_v2, val_main_v1, val_main_cst_0, val_main_cst_1, LayerNorm.centred, LayerNorm.mean, row]

/-- Their raised variances. -/
theorem ref_raised (i : S4096x1.Idx) : val_main_v13 (F := Ideal) u i = LayerNorm.raised (row u (i 0)) := by
  pointwise [val_main_v13, val_main_v12, val_main_v11, val_main_v10, val_main_v9, val_main_v8, val_main_v7, val_main_cst_2, val_main_cst_3, val_main_cst_4]
  simp only [ref_centred]
  rfl

/-- The reciprocals of their standard deviations. -/
theorem ref_invStd (i : S4096x1.Idx) : val_main_v14 (F := Ideal) u i = LayerNorm.invStd (row u (i 0)) := by
  pointwise [val_main_v14]
  rw [ref_raised]
  rfl

/-- The cotangent of the normalised rows. -/
theorem ref_scaled (i : S4096x1024.Idx) : val_main_v54 (F := Ideal) dp w du2 g i = scaled dp w du2 g (i 0) (i 1) := by
  pointwise [val_main_v54, val_main_v53]
  rw [ref_dout]
  rfl

/-- The cotangent of the norm's scale. -/
theorem ref_dg : val_main_v52 (F := Ideal) dp w du2 u = fun i : S1x1024.Idx => dg dp w du2 u (i 1) := by
  funext i
  pointwise [val_main_v52, val_main_v51, val_main_v50, val_main_v19, val_main_v18, val_main_cst_9, dg, LayerNorm.normed]
  simp only [ref_dout, ref_centred, ref_invStd]
  exact Finset.sum_congr rfl fun r _ => mul_comm _ _

/-- The cotangent of the norm's shift. -/
theorem ref_db : val_main_v49 (F := Ideal) dp w du2 = fun i : S1x1024.Idx => db dp w du2 (i 1) := by
  funext i
  pointwise [val_main_v49, val_main_v48, val_main_cst_8, db]
  simp only [ref_dout]
  rfl

/-- The cotangent of each square in the variance. -/
theorem ref_slope (i : S4096x1.Idx) : val_main_v62 (F := Ideal) dp w du2 u g i = LayerNorm.slope (scaled dp w du2 g (i 0)) (row u (i 0)) := by
  pointwise [val_main_v62, val_main_v61, val_main_v60, val_main_v57, val_main_v56, val_main_v55, val_main_v17, val_main_v16, val_main_v15,
    val_main_cst_5, val_main_cst_10, val_main_cst_11, LayerNorm.slope]
  simp only [ref_centred, ref_scaled, ref_invStd, ref_raised]
  rfl

/-- The cotangent of the centred rows. -/
theorem ref_inner (i : S4096x1024.Idx) : val_main_v68 (F := Ideal) dp w du2 u g i = LayerNorm.inner (scaled dp w du2 g (i 0)) (row u (i 0)) (i 1) := by
  pointwise [val_main_v68, val_main_v67, val_main_v66, val_main_v65, val_main_v64, val_main_v63, val_main_v59, val_main_v58, val_main_cst_12, LayerNorm.inner]
  simp only [ref_centred, ref_scaled, ref_invStd, ref_slope, Fin.sum_univ_one]
  rfl

/-- The gradient as differentiation by the chain rule gives it. -/
theorem ref_chain (i : S4096x1024.Idx) : val_main_v76 (F := Ideal) dp w du2 u g i = LayerNorm.chain (scaled dp w du2 g (i 0)) (row u (i 0)) (i 1) := by
  pointwise [val_main_v76, val_main_v75, val_main_v74, val_main_v73, val_main_v72, val_main_v71, val_main_v70, val_main_v69,
    val_main_cst_13, val_main_cst_14, val_main_cst_15, LayerNorm.chain, LayerNorm.mean]
  simp only [ref_inner, Fin.sum_univ_one]
  rfl

/-- The gradient, where the arguments it passes through are finite. -/
theorem ref_du (h : ∀ r k, scaled dp w du2 g r k ≠ ⊤ ∧ scaled dp w du2 g r k ≠ ⊥) :
    val_main_v76 (F := Ideal) dp w du2 u g = fun i : S4096x1024.Idx => du dp w du2 u g (i 0) (i 1) := by
  funext i
  rw [ref_chain]
  exact LayerNorm.chain_eq_grad _ _ (h (i 0)) (i 1)

end Cert.UpLn

end
-- ==== Proof.UpLnClaims.lean ====
module

public import proofs.«01_k».proof.Defs
public import proofs.«01_k».proof.Proof.FiniteWords
public import proofs.«01_k».proof.Proof.UpLnBlocks
public import proofs.«01_k».proof.Proof.UpLnReference
public import Idealize.ShloMosaic.Adequacy
public import Idealize.ShloMosaic.Init

/-! The claims about the first norm's gradient: its reference's frame, what the precondition says, and that
    kernel and reference compute the same four arrays over the extended reals under it. -/

@[expose] public section

noncomputable section

namespace Cert.UpLn

open Idealize.ShloMosaic Idealize.ShloMosaic.TcCoe Idealize.SL.Sem Cert.Finite

/-- The side conditions of the precondition's own operations. -/
theorem pre_facts : Cert.Pre_finite13.Facts := by constructor <;> decide

/-- The reference terminates without a fault, its arguments unchanged; it declares no semaphore. -/
theorem frame_reference : Cert.quiescent_Reference13Ideal (hReference13Ideal := Cert.Reference13Ideal.Gen.facts) := fun m ρ _ =>
  (θ_run Cert.Reference13Ideal.defs _ _).mono
    (fun r h => ⟨fun c => (h c).2.2.2.2, sem_eq_zero_of_no_sems (by decide) r.2⟩)
    (Cert.Reference13Ideal.Value.run (F := Ideal) m ρ)

/-- Under the precondition the cotangent of the normalised rows is finite. -/
theorem scaled_finite (m : (ℓ : Loc Cert.Kernel13Ideal.nD Cert.Kernel13Ideal.τ Cert.Kernel13Ideal.sig) → Buf (Elt Ideal) ℓ)
    (h : Cert.Pre_Kernel13Ideal_finite13 (hPre_finite13 := pre_facts) m) (c : Dev Cert.Kernel13Ideal.nD) (r : Fin 4096) (k : Fin 1024) :
    IsFinite (scaled (Dp m c) (W m c) (Du2 m c) (Ln m c) r k) := by
  obtain ⟨h0, h1, h2, h3⟩ := h c
  have f0 : ∀ i, IsFinite (Dp m c i) := fun i => of_word16 _ (congrFun h0 i)
  have f1 : ∀ i, IsFinite (W m c i) := fun i => of_word16 _ (congrFun h1 i)
  have f2 : ∀ i, IsFinite (Du2 m c i) := fun i => of_word32 _ (congrFun h2 i)
  have f3 : ∀ i, IsFinite (Ln m c i) := fun i => of_word32 _ (congrFun h3 i)
  exact mul (add (add (sum _ _ fun z => mul (f0 _) (f1 _)) (sum _ _ fun z => mul (f0 _) (f1 _))) (mul alpha (f2 _))) (f3 _)

/-- Under the precondition the idealized kernel and the reference end with the same four arrays. -/
theorem algebraic : Cert.algebraic_Kernel13Ideal_Reference13Ideal_pre_finite13 (hKernel13Ideal := Cert.Kernel13Ideal.Gen.facts)
    (hReference13Ideal := Cert.Reference13Ideal.Gen.facts) (hPre_finite13 := pre_facts) := by
  intro m ρ m' ρ' hp ha
  refine ⟨_, _, _, _, Cert.Kernel13Ideal.Value.run_blocks (F := Ideal) m ρ, ?_⟩
  refine (θ_run Cert.Reference13Ideal.defs _ _).mono (fun r h c => ?_) (Cert.Reference13Ideal.Value.run (F := Ideal) m' ρ')
  obtain ⟨a0, a1, a2, a3, a4⟩ := ha c
  obtain ⟨h0, h1, h2, h3, hr⟩ := h c
  have hf := scaled_finite m hp c
  refine ⟨h0.trans ?_, h1.trans ?_, h2.trans ?_, h3.trans ?_, hr⟩
  · unfold Cert.Reference13Ideal.Value.res_main_v76
    rw [final5, a0, a1, a2, a3, a4]
    exact ref_du _ _ _ _ _ hf
  · unfold Cert.Reference13Ideal.Value.res_main_v77
    rw [final6, a0, a1, a2, a3, a4]
    exact ref_du _ _ _ _ _ hf
  · rw [final7, a0, a1, a2, a3]
    exact ref_dg _ _ _ _
  · rw [final8, a0, a1, a2]
    exact ref_db _ _ _

end Cert.UpLn

end
-- ==== Proof.DownLossSpec.lean ====
module

public import proofs.«01_k».proof.Proof.LayerNormGrad

/-! The feed-forward net's down projection, the second layer norm, the loss, and the loss's gradient, entry by entry
    over the extended reals. -/

@[expose] public section

noncomputable section

namespace Cert.DownLoss

open Idealize.ShloMosaic Cert.GateGrad

/-- The arrays it is computed from: the hidden units, the down projection's weight, the residual stream before the
    first norm, both norms' scales and shifts, and the target. -/
structure Args where
  s : Arr 4096 2816
  w : Arr 2816 1024
  u : Arr 4096 1024
  g1 : Arr 1 1024
  b1 : Arr 1 1024
  g2 : Arr 1 1024
  b2 : Arr 1 1024
  y : Arr 4096 1024

variable (a : Args)

/-- A row of the residual stream before the second norm: the first norm's output and the down projection. -/
def row (r : Fin 4096) (k : Fin 1024) : EReal :=
  Ideal.ofBits .f32 0x3F9837F0#32 * (LayerNorm.normed (fun z => a.u (ix2 r z)) k * a.g1 (ix2 0 k) + a.b1 (ix2 0 k))
    + ∑ z : Fin 2816, a.s (ix2 r z) * a.w (ix2 z k)

/-- The layer's output less the target. -/
def err (r : Fin 4096) (k : Fin 1024) : EReal := LayerNorm.normed (row a r) k * a.g2 (ix2 0 k) + a.b2 (ix2 0 k) - a.y (ix2 r k)

/-- The cotangent of the layer's output. -/
def dout (r : Fin 4096) (k : Fin 1024) : EReal := err a r k * Ideal.ofBits .f32 0x3A800000#32

/-- The cotangent of the normalised row. -/
def scaled (r : Fin 4096) (k : Fin 1024) : EReal := dout a r k * a.g2 (ix2 0 k)

/-- The cotangent of the residual stream before the second norm. -/
def du (r : Fin 4096) (k : Fin 1024) : EReal := LayerNorm.grad (scaled a r) (row a r) k

/-- The cotangent of the second norm's scale. -/
def dg (k : Fin 1024) : EReal := ∑ r : Fin 4096, dout a r k * LayerNorm.normed (row a r) k

/-- The cotangent of the second norm's shift. -/
def db (k : Fin 1024) : EReal := ∑ r : Fin 4096, dout a r k

/-- A row's mean square error. -/
def square (r : Fin 4096) : EReal := LayerNorm.mean fun k => err a r k * err a r k

/-- Half the sum of the rows' mean square errors. -/
def loss : EReal := Ideal.ofBits .f32 0x3F000000#32 * ∑ r : Fin 4096, square a r

theorem half_eq : Ideal.ofBits .f32 0x3F000000#32 = ((1 / 2 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem part_eq : Ideal.ofBits .f32 0x3A800000#32 = ((1 / 1024 : ℝ) : EReal) := by
  simp [Ideal.ofBits, Ideal.ieee, -EReal.coe_mul]; norm_num

/-- Halving a sum halves its terms. -/
theorem half_sum {ι : Type} (t : Finset ι) (f : ι → EReal) :
    Ideal.ofBits .f32 0x3F000000#32 * ∑ k ∈ t, f k = ∑ k ∈ t, Ideal.ofBits .f32 0x3F000000#32 * f k := by
  classical
  rw [half_eq]
  induction t using Finset.induction_on with
  | empty => simp
  | insert k t hk ih =>
    rw [Finset.sum_insert hk, Finset.sum_insert hk, ← ih]
    exact EReal.left_distrib_of_nonneg_of_ne_top (by exact_mod_cast (by norm_num : (0 : ℝ) ≤ 1 / 2)) (EReal.coe_ne_top _) _ _

/-- A square's derivative, halved and averaged, is the 1024th part of what is squared. -/
theorem slope_eq (x : EReal) :
    Ideal.div (Ideal.ofBits .f32 0x3F000000#32) (Ideal.ofBits .f32 0x44800000#32) * (Ideal.ofBits .f32 0x40000000#32 * x)
      = x * Ideal.ofBits .f32 0x3A800000#32 := by
  rw [half_eq, two_eq, part_eq, LayerNorm.width_eq, Ideal.div_coe (by norm_num), ← mul_assoc, ← EReal.coe_mul, ← EReal.coe_mul, mul_comm]
  norm_num

end Cert.DownLoss

end
-- ==== Proof.DownLossBlocks.lean ====
module

public import proofs.«01_k».proof.Defs
public import proofs.«01_k».proof.Proof.DownLossSpec
public import proofs.«01_k».proof.Proof.Gen.Kernel14Ideal.Value
public import Idealize.ShloMosaic.Lib.Pipeline.ValueKit

/-! What the result arrays of the loss kernel hold after its run. -/

@[expose] public section

set_option maxRecDepth 16384

noncomputable section

namespace Cert.DownLoss

open Idealize.ShloMosaic Idealize.ShloMosaic.TcCoe Idealize.SL.Sem Cert.GateGrad
open Cert.Kernel14Ideal Cert.Kernel14Ideal.Gen
open Idealize.ShloMosaic.Pipeline (Dat)

variable (m : (ℓ : Loc nD τ sig) → Buf (Elt Ideal) ℓ)

/-- Which block each window holds at a grid point: the rows' windows block `t`, all others the only one. -/
theorem idx : ∀ t : Fin grid0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_10.index t = ![0, 0] ∧ win0_11.index t = ![0, 0] ∧ win0_12.index t = ![0, 0] := by decide +kernel

/-- The arguments on a device. -/
abbrev args (c : Dev nD) : Args where
  s := m ((c : Thread nD τ).loc main_arg0)
  w := m ((c : Thread nD τ).loc main_arg1)
  u := m ((c : Thread nD τ).loc main_arg2)
  g1 := m ((c : Thread nD τ).loc main_arg3)
  b1 := m ((c : Thread nD τ).loc main_arg4)
  g2 := m ((c : Thread nD τ).loc main_arg5)
  b2 := m ((c : Thread nD τ).loc main_arg6)
  y := m ((c : Thread nD τ).loc main_arg7)

/-- The rows a point computes of the residual stream. -/
abbrev rows (c : Dev nD) (t : Fin grid0.N) : FVec Ideal S512x1024 .f32 :=
  k0_pay8 (iblk m c 2 t) (iblk m c 3 t) (iblk m c 4 t) (iblk m c 0 t) (iblk m c 1 t)

/-- Their means, along each row. -/
abbrev means (c : Dev nD) (t : Fin grid0.N) : FVec Ideal S512x1024 .f32 :=
  k0_pay9 (iblk m c 2 t) (iblk m c 3 t) (iblk m c 4 t) (iblk m c 0 t) (iblk m c 1 t)

theorem block_row (c : Dev nD) (t : Fin grid0.N) (r : Fin 512) (k : Fin 1024) (R : Fin 4096) (hR : R.val = t.val * 512 + r.val) :
    rows m c t (ix2 r k) = row (args m c) R k := by
  pointwise [k0_pay8, row, LayerNorm.normed, LayerNorm.invStd, LayerNorm.centred, LayerNorm.mean]
  blk_point [iblk, V, idx t]

theorem block_mean (c : Dev nD) (t : Fin grid0.N) (r : Fin 512) (k : Fin 1024) (R : Fin 4096) (hR : R.val = t.val * 512 + r.val) :
    means m c t (ix2 r k) = LayerNorm.mean (row (args m c) R) := by
  pointwise [k0_pay9, LayerNorm.mean]
  simp only [block_row m c t r _ R hR]

/-- The rows, centred. -/
theorem block_centred (c : Dev nD) (t : Fin grid0.N) (r : Fin 512) (k : Fin 1024) (R : Fin 4096) (hR : R.val = t.val * 512 + r.val) :
    k0_pay10 (rows m c t) (means m c t) (ix2 r k) = LayerNorm.centred (row (args m c) R) k := by
  pointwise [k0_pay10, LayerNorm.centred]
  rw [block_row m c t r k R hR, block_mean m c t r k R hR]

/-- The reciprocals of their standard deviations. -/
theorem block_invStd (c : Dev nD) (t : Fin grid0.N) (r : Fin 512) (R : Fin 4096) (hR : R.val = t.val * 512 + r.val) :
    k0_pay11 (rows m c t) (means m c t) (ix2 r 0) = LayerNorm.invStd (row (args m c) R) := by
  pointwise [k0_pay11, LayerNorm.invStd]
  simp only [block_centred m c t r _ R hR]
  rfl

/-- The rows normalised. -/
theorem block_normed (c : Dev nD) (t : Fin grid0.N) (r : Fin 512) (k : Fin 1024) (R : Fin 4096) (hR : R.val = t.val * 512 + r.val) :
    k0_pay12 (rows m c t) (means m c t) (ix2 r k) = LayerNorm.normed (row (args m c) R) k := by
  pointwise [k0_pay12, LayerNorm.normed]
  rw [block_centred m c t r k R hR, block_invStd m c t r R hR]

/-- What a point computes of the error. -/
theorem block_err (c : Dev nD) (t : Fin grid0.N) (r : Fin 512) (k : Fin 1024) (R : Fin 4096) (hR : R.val = t.val * 512 + r.val) :
    k0_pay13 (rows m c t) (means m c t) (iblk m c 5 t) (iblk m c 6 t) (iblk m c 7 t) (ix2 r k) = err (args m c) R k := by
  pointwise [k0_pay13, err]
  rw [block_normed m c t r k R hR]
  blk_point [iblk, V, idx t]

/-- What a point computes of the cotangent of the layer's output. -/
theorem block_dout (c : Dev nD) (t : Fin grid0.N) (r : Fin 512) (k : Fin 1024) (R : Fin 4096) (hR : R.val = t.val * 512 + r.val) :
    k0_pay15 (rows m c t) (means m c t) (iblk m c 5 t) (iblk m c 6 t) (iblk m c 7 t) (ix2 r k) = dout (args m c) R k := by
  pointwise [k0_pay15, dout]
  rw [block_err m c t r k R hR]

/-- What a point computes of the cotangent of the residual stream. -/
theorem block_du (c : Dev nD) (t : Fin grid0.N) (r : Fin 512) (k : Fin 1024) (R : Fin 4096) (hR : R.val = t.val * 512 + r.val) :
    k0_pay3 (k0_pay11 (rows m c t) (means m c t)) (k0_pay12 (rows m c t) (means m c t))
        (k0_pay15 (rows m c t) (means m c t) (iblk m c 5 t) (iblk m c 6 t) (iblk m c 7 t)) (iblk m c 5 t) (ix2 r k)
      = du (args m c) R k := by
  pointwise [k0_pay3, du, LayerNorm.grad, scaled, LayerNorm.mean]
  simp only [block_normed m c t r _ R hR, block_invStd m c t r R hR, block_dout m c t r _ R hR]
  blk_point [iblk, V, idx t]

/-- Row `r` of block `n`. -/
abbrev rowOf (n : Nat) (r : Fin 512) : Fin 4096 := ⟨(n * 512 + r.val) % 4096, Nat.mod_lt _ (by norm_num)⟩

theorem rowOf_val (t : Fin grid0.N) (r : Fin 512) : (rowOf t.val r).val = t.val * 512 + r.val :=
  Nat.mod_eq_of_lt (by have := t.isLt; simp only [N_0] at this; omega)

/-- The cotangent of the residual stream before the norm. -/
theorem final8 (c : Dev nD) : (dats (F := Ideal) m 0 c).arrAt 8 cfg0.N = fun i : S4096x1024.Idx => du (args m c) (i 0) (i 1) := by
  refine (dats m 0 c).arrAt_eq_of_covers 8 _ (by decide +kernel) fun t hf y => ?_
  blk_simp
  rw [after0_8]
  by_cases h0 : t.val % 8 = 0
  · rw [outsAt0_A m c t h0]
    frame_out
    idx_vars y
    refine (block_du m c t _ _ (rowOf t.val y0) (rowOf_val t y0)).trans ?_
    refine congrArg₂ (du (args m c)) (Fin.ext ((rowOf_val t y0).trans ?_)) (Fin.ext ?_) <;> blk_simp [idx t]
  · rw [outsAt0_B m c t h0]
    frame_out
    idx_vars y
    refine (block_du m c t _ _ (rowOf t.val y0) (rowOf_val t y0)).trans ?_
    refine congrArg₂ (du (args m c)) (Fin.ext ((rowOf_val t y0).trans ?_)) (Fin.ext ?_) <;> blk_simp [idx t]

/-- The same, cast to bf16: over the extended reals the same array. -/
theorem final9 (c : Dev nD) : (dats (F := Ideal) m 0 c).arrAt 9 cfg0.N = fun i : S4096x1024.Idx => du (args m c) (i 0) (i 1) := by
  refine (dats m 0 c).arrAt_eq_of_covers 9 _ (by decide +kernel) fun t hf y => ?_
  blk_simp
  rw [after0_9]
  by_cases h0 : t.val % 8 = 0
  · rw [outsAt0_A m c t h0]
    frame_out
    idx_vars y
    refine (block_du m c t _ _ (rowOf t.val y0) (rowOf_val t y0)).trans ?_
    refine congrArg₂ (du (args m c)) (Fin.ext ((rowOf_val t y0).trans ?_)) (Fin.ext ?_) <;> blk_simp [idx t]
  · rw [outsAt0_B m c t h0]
    frame_out
    idx_vars y
    refine (block_du m c t _ _ (rowOf t.val y0) (rowOf_val t y0)).trans ?_
    refine congrArg₂ (du (args m c)) (Fin.ext ((rowOf_val t y0).trans ?_)) (Fin.ext ?_) <;> blk_simp [idx t]

/-- A sum over the rows, block by block. -/
theorem sum_rowOf (f : Fin 4096 → EReal) : ∑ n : Fin 8, ∑ r : Fin 512, f (rowOf n.val r) = ∑ r : Fin 4096, f r := by
  refine (Finset.sum_congr rfl fun t _ => Finset.sum_congr rfl fun r _ => ?_).trans (Fin.sum_mul_add_fin 8 512 f rfl)
  congr 1
  exact Fin.ext (by simp; omega)

/-- The same of a running sum over the blocks, from zero. -/
theorem total (f : Fin 4096 → EReal) : 0 + ∑ k ∈ Finset.range 8, ∑ r : Fin 512, f (rowOf (0 + k) r) = ∑ r : Fin 4096, f r := by
  simp only [zero_add]
  rw [← Fin.sum_univ_eq_sum_range (fun n => ∑ r : Fin 512, f (rowOf n r))]
  exact sum_rowOf f

/-- One row's part of the scale's cotangent. -/
abbrev part10 (c : Dev nD) (k : Fin 1024) (R : Fin 4096) : EReal := dout (args m c) R k * LayerNorm.normed (row (args m c) R) k

/-- The scale's cotangent over the first point's block. -/
theorem first10 (c : Dev nD) (t : Fin grid0.N) (h0 : t.val % 8 = 0) (j : S1x1024.Idx) :
    (outsAt0 m c t.val t.isLt).2.2.1 j = 0 + ∑ r : Fin 512, part10 m c (j 1) (rowOf t.val r) := by
  rw [outsAt0_A m c t h0]
  frame_out
  idx_vars j
  pointwise [k0_pay1, k0_pay16, k0_pay5, k0_pay17]
  exact Finset.sum_congr rfl fun r _ => congrArg₂ (· * ·) (block_dout m c t r _ _ (rowOf_val t r)) (block_normed m c t r _ _ (rowOf_val t r))

/-- At every later point it gains that point's block. -/
theorem next10 (c : Dev nD) (t : Fin grid0.N) (h0 : ¬t.val % 8 = 0) (j : S1x1024.Idx) :
    (outsAt0 m c t.val t.isLt).2.2.1 j = (outsAt0 m c (t.val - 1) (Nat.lt_of_le_of_lt (Nat.sub_le _ _) t.isLt)).2.2.1 j
      + ∑ r : Fin 512, part10 m c (j 1) (rowOf t.val r) := by
  rw [outsAt0_B m c t h0]
  frame_out
  idx_vars j
  pointwise [k0_pay1, k0_pay16, k0_pay17]
  exact congrArg (_ + ·) (Finset.sum_congr rfl fun r _ =>
    congrArg₂ (· * ·) (block_dout m c t r _ _ (rowOf_val t r)) (block_normed m c t r _ _ (rowOf_val t r)))

/-- The cotangent of the norm's scale. -/
theorem final10 (c : Dev nD) : (dats (F := Ideal) m 0 c).arrAt 10 cfg0.N = fun i : S1x1024.Idx => dg (args m c) (i 1) := by
  refine (dats m 0 c).arrAt_eq_of_after_last 10 t0_7 (by decide +kernel) _ fun j => ?_
  blk_simp
  rw [after0_10, Pipeline.eq_sum_of_reset_step_apply (fun n h => (outsAt0 m c n h).2.2.1) 8 (fun _ => 0)
    (fun n j => ∑ r : Fin 512, part10 m c (j 1) (rowOf n r)) (first10 m c) (next10 m c) t0_7 j]
  exact total (part10 m c (j 1))

/-- The shift's cotangent over the first point's block. -/
theorem first11 (c : Dev nD) (t : Fin grid0.N) (h0 : t.val % 8 = 0) (j : S1x1024.Idx) :
    (outsAt0 m c t.val t.isLt).2.2.2.1 j = 0 + ∑ r : Fin 512, dout (args m c) (rowOf t.val r) (j 1) := by
  rw [outsAt0_A m c t h0]
  frame_out
  idx_vars j
  pointwise [k0_pay2, k0_pay6]
  exact Finset.sum_congr rfl fun r _ => block_dout m c t r _ _ (rowOf_val t r)

/-- At every later point it gains that point's block. -/
theorem next11 (c : Dev nD) (t : Fin grid0.N) (h0 : ¬t.val % 8 = 0) (j : S1x1024.Idx) :
    (outsAt0 m c t.val t.isLt).2.2.2.1 j = (outsAt0 m c (t.val - 1) (Nat.lt_of_le_of_lt (Nat.sub_le _ _) t.isLt)).2.2.2.1 j
      + ∑ r : Fin 512, dout (args m c) (rowOf t.val r) (j 1) := by
  rw [outsAt0_B m c t h0]
  frame_out
  idx_vars j
  pointwise [k0_pay2]
  exact congrArg (_ + ·) (Finset.sum_congr rfl fun r _ => block_dout m c t r _ _ (rowOf_val t r))

/-- The cotangent of the norm's shift. -/
theorem final11 (c : Dev nD) : (dats (F := Ideal) m 0 c).arrAt 11 cfg0.N = fun i : S1x1024.Idx => db (args m c) (i 1) := by
  refine (dats m 0 c).arrAt_eq_of_after_last 11 t0_7 (by decide +kernel) _ fun j => ?_
  blk_simp
  rw [after0_11, Pipeline.eq_sum_of_reset_step_apply (fun n h => (outsAt0 m c n h).2.2.2.1) 8 (fun _ => 0)
    (fun n j => ∑ r : Fin 512, dout (args m c) (rowOf n r) (j 1)) (first11 m c) (next11 m c) t0_7 j]
  exact total fun R => dout (args m c) R (j 1)

/-- A point's part of the loss. -/
theorem block_loss (c : Dev nD) (t : Fin grid0.N) (v : FVec Ideal S1x128 .f32) (j0 : Fin 1) (j1 : Fin 128) :
    k0_pay14 (rows m c t) (means m c t) (iblk m c 5 t) (iblk m c 6 t) (iblk m c 7 t) v (ix2 j0 j1)
      = v (ix2 j0 j1) + ∑ r : Fin 512, Ideal.ofBits .f32 0x3F000000#32 * square (args m c) (rowOf t.val r) := by
  pointwise [k0_pay14, square, LayerNorm.mean]
  simp only [block_err m c t _ _ _ (rowOf_val t _)]
  rw [half_sum]

/-- The loss over the first point's block. -/
theorem first12 (c : Dev nD) (t : Fin grid0.N) (h0 : t.val % 8 = 0) (j : S1x128.Idx) :
    (outsAt0 m c t.val t.isLt).2.2.2.2 j
      = 0 + ∑ r : Fin 512, Ideal.ofBits .f32 0x3F000000#32 * square (args m c) (rowOf t.val r) := by
  rw [outsAt0_A m c t h0]
  frame_out
  idx_vars j
  refine (block_loss m c t _ _ _).trans ?_
  pointwise [k0_pay7]

/-- At every later point it gains that point's block. -/
theorem next12 (c : Dev nD) (t : Fin grid0.N) (h0 : ¬t.val % 8 = 0) (j : S1x128.Idx) :
    (outsAt0 m c t.val t.isLt).2.2.2.2 j = (outsAt0 m c (t.val - 1) (Nat.lt_of_le_of_lt (Nat.sub_le _ _) t.isLt)).2.2.2.2 j
      + ∑ r : Fin 512, Ideal.ofBits .f32 0x3F000000#32 * square (args m c) (rowOf t.val r) := by
  rw [outsAt0_B m c t h0]
  frame_out
  idx_vars j
  exact block_loss m c t _ _ _

/-- The loss, in every entry. -/
theorem final12 (c : Dev nD) : (dats (F := Ideal) m 0 c).arrAt 12 cfg0.N = fun _ : S1x128.Idx => loss (args m c) := by
  refine (dats m 0 c).arrAt_eq_of_after_last 12 t0_7 (by decide +kernel) _ fun j => ?_
  blk_simp
  rw [after0_12, Pipeline.eq_sum_of_reset_step_apply (fun n h => (outsAt0 m c n h).2.2.2.2) 8 (fun _ => 0)
    (fun n _ => ∑ r : Fin 512, Ideal.ofBits .f32 0x3F000000#32 * square (args m c) (rowOf n r)) (first12 m c) (next12 m c) t0_7 j]
  exact (total fun R => Ideal.ofBits .f32 0x3F000000#32 * square (args m c) R).trans (half_sum _ _).symm

end Cert.DownLoss

end
-- ==== Proof.DownLossReference.lean ====
module

public import proofs.«01_k».proof.Defs
public import proofs.«01_k».proof.Proof.DownLossSpec
public import proofs.«01_k».proof.Proof.Gen.Reference14Ideal.Run
public import proofs.«01_k».proof.Proof.Gen.Reference14Ideal.Read

/-! What the reference of the loss computes: each of its five results, entry by entry. -/

@[expose] public section

set_option maxRecDepth 16384

noncomputable section

namespace Cert.DownLoss

open Idealize.ShloMosaic Idealize.ShloMosaic.TcCoe Cert.GateGrad
open Cert.Reference14Ideal Cert.Reference14Ideal.Read

variable (a : Args)

/-- The first norm's rows, centred. -/
theorem ref_centred1 (i : S4096x1024.Idx) : val_main_v5 (F := Ideal) a.u i = LayerNorm.centred (fun z => a.u (ix2 (i 0) z)) (i 1) := by
  pointwise [val_main_v5, val_main_v4, val_main_v3, val_main_v2, val_main_v1, val_main_v0, val_main_cst, val_main_cst_0, LayerNorm.centred, LayerNorm.mean]

/-- The reciprocals of their standard deviations. -/
theorem ref_invStd1 (i : S4096x1.Idx) : val_main_v13 (F := Ideal) a.u i = LayerNorm.invStd (fun z => a.u (ix2 (i 0) z)) := by
  pointwise [val_main_v13, val_main_v12, val_main_v11, val_main_v10, val_main_v9, val_main_v8, val_main_v7, val_main_v6, val_main_cst_1, val_main_cst_2, val_main_cst_3]
  simp only [ref_centred1]
  rfl

/-- The residual stream before the second norm. -/
theorem ref_row (i : S4096x1024.Idx) : val_main_v25 (F := Ideal) a.s a.w a.u a.g1 a.b1 i = row a (i 0) (i 1) := by
  pointwise [val_main_v25, val_main_v24, val_main_v23, val_main_v22, val_main_v21, val_main_v20, val_main_v19, val_main_v18, val_main_v17, val_main_v16,
    val_main_v15, val_main_v14, val_main_cst_4, row, LayerNorm.normed]
  simp only [ref_centred1, ref_invStd1]
  rfl

/-- Its rows, centred. -/
theorem ref_centred (i : S4096x1024.Idx) : val_main_v31 (F := Ideal) a.s a.w a.u a.g1 a.b1 i = LayerNorm.centred (row a (i 0)) (i 1) := by
  pointwise [val_main_v31, val_main_v30, val_main_v29, val_main_v28, val_main_v27, val_main_v26, val_main_cst_5, val_main_cst_6, LayerNorm.centred, LayerNorm.mean]
  simp only [ref_row]
  rfl

/-- Their raised variances. -/
theorem ref_raised (i : S4096x1.Idx) : val_main_v38 (F := Ideal) a.s a.w a.u a.g1 a.b1 i = LayerNorm.raised (row a (i 0)) := by
  pointwise [val_main_v38, val_main_v37, val_main_v36, val_main_v35, val_main_v34, val_main_v33, val_main_v32, val_main_cst_7, val_main_cst_8, val_main_cst_9]
  simp only [ref_centred]
  rfl

/-- The reciprocals of their standard deviations. -/
theorem ref_invStd (i : S4096x1.Idx) : val_main_v39 (F := Ideal) a.s a.w a.u a.g1 a.b1 i = LayerNorm.invStd (row a (i 0)) := by
  pointwise [val_main_v39]
  rw [ref_raised]
  rfl

/-- The rows normalised. -/
theorem ref_normed (i : S4096x1024.Idx) : val_main_v44 (F := Ideal) a.s a.w a.u a.g1 a.b1 i = LayerNorm.normed (row a (i 0)) (i 1) := by
  pointwise [val_main_v44, val_main_v43, LayerNorm.normed]
  rw [ref_centred, ref_invStd]
  rfl

/-- The layer's output less the target. -/
theorem ref_err (i : S4096x1024.Idx) : val_main_v49 (F := Ideal) a.s a.w a.u a.g1 a.b1 a.g2 a.b2 a.y i = err a (i 0) (i 1) := by
  pointwise [val_main_v49, val_main_v48, val_main_v47, val_main_v46, val_main_v45, err]
  rw [ref_normed]

/-- The cotangent of the layer's output. -/
theorem ref_dout (i : S4096x1024.Idx) : val_main_v63 (F := Ideal) a.s a.w a.u a.g1 a.b1 a.g2 a.b2 a.y i = dout a (i 0) (i 1) := by
  pointwise [val_main_v63, val_main_v62, val_main_v61, val_main_v60, val_main_v59, val_main_v58, val_main_v52, val_main_v51, val_main_cst_11, val_main_cst_16,
    val_main_cst_17, val_main_cst_18, dout]
  rw [ref_err]
  exact slope_eq _

/-- The cotangent of the normalised rows. -/
theorem ref_scaled (i : S4096x1024.Idx) : val_main_v70 (F := Ideal) a.s a.w a.u a.g1 a.b1 a.g2 a.b2 a.y i = scaled a (i 0) (i 1) := by
  pointwise [val_main_v70, val_main_v69]
  rw [ref_dout]
  rfl

/-- The cotangent of the norm's scale. -/
theorem ref_dg : val_main_v68 (F := Ideal) a.s a.w a.u a.g1 a.b1 a.g2 a.b2 a.y = fun i : S1x1024.Idx => dg a (i 1) := by
  funext i
  pointwise [val_main_v68, val_main_v67, val_main_v66, val_main_cst_20, dg]
  simp only [ref_dout, ref_normed]
  exact Finset.sum_congr rfl fun r _ => mul_comm _ _

/-- The cotangent of the norm's shift. -/
theorem ref_db : val_main_v65 (F := Ideal) a.s a.w a.u a.g1 a.b1 a.g2 a.b2 a.y = fun i : S1x1024.Idx => db a (i 1) := by
  funext i
  pointwise [val_main_v65, val_main_v64, val_main_cst_19, db]
  simp only [ref_dout]
  rfl

/-- The rows' mean square errors. -/
theorem ref_square (i : S4096.Idx) : val_main_v55 (F := Ideal) a.s a.w a.u a.g1 a.b1 a.g2 a.b2 a.y i = square a (i 0) := by
  pointwise [val_main_v55, val_main_v54, val_main_v53, val_main_v50, val_main_cst_12, val_main_cst_13, square, LayerNorm.mean]
  simp only [ref_err]
  rfl

/-- The loss. -/
theorem ref_loss : val_main_v94 (F := Ideal) a.s a.w a.u a.g1 a.b1 a.g2 a.b2 a.y = fun _ : S1x128.Idx => loss a := by
  funext i
  pointwise [val_main_v94, val_main_v57, val_main_v56, val_main_cst_14, val_main_cst_15, loss]
  simp only [ref_square]
  rfl

/-- The cotangent of each square in the variance. -/
theorem ref_slope (i : S4096x1.Idx) : val_main_v78 (F := Ideal) a.s a.w a.u a.g1 a.b1 a.g2 a.b2 a.y i = LayerNorm.slope (scaled a (i 0)) (row a (i 0)) := by
  pointwise [val_main_v78, val_main_v77, val_main_v76, val_main_v73, val_main_v72, val_main_v71, val_main_v42, val_main_v41, val_main_v40,
    val_main_cst_10, val_main_cst_21, val_main_cst_22, LayerNorm.slope]
  simp only [ref_centred, ref_scaled, ref_invStd, ref_raised]
  rfl

/-- The cotangent of the centred rows. -/
theorem ref_inner (i : S4096x1024.Idx) :
    val_main_v84 (F := Ideal) a.s a.w a.u a.g1 a.b1 a.g2 a.b2 a.y i = LayerNorm.inner (scaled a (i 0)) (row a (i 0)) (i 1) := by
  pointwise [val_main_v84, val_main_v83, val_main_v82, val_main_v81, val_main_v80, val_main_v79, val_main_v75, val_main_v74, val_main_cst_23, LayerNorm.inner]
  simp only [ref_centred, ref_scaled, ref_invStd, ref_slope, Fin.sum_univ_one]
  rfl

/-- The gradient as differentiation by the chain rule gives it. -/
theorem ref_chain (i : S4096x1024.Idx) :
    val_main_v92 (F := Ideal) a.s a.w a.u a.g1 a.b1 a.g2 a.b2 a.y i = LayerNorm.chain (scaled a (i 0)) (row a (i 0)) (i 1) := by
  pointwise [val_main_v92, val_main_v91, val_main_v90, val_main_v89, val_main_v88, val_main_v87, val_main_v86, val_main_v85,
    val_main_cst_24, val_main_cst_25, val_main_cst_26, LayerNorm.chain, LayerNorm.mean]
  simp only [ref_inner, Fin.sum_univ_one]
  rfl

/-- The gradient, where the arguments it passes through are finite. -/
theorem ref_du (h : ∀ r k, scaled a r k ≠ ⊤ ∧ scaled a r k ≠ ⊥) :
    val_main_v92 (F := Ideal) a.s a.w a.u a.g1 a.b1 a.g2 a.b2 a.y = fun i : S4096x1024.Idx => du a (i 0) (i 1) := by
  funext i
  rw [ref_chain]
  exact LayerNorm.chain_eq_grad _ _ (h (i 0)) (i 1)

end Cert.DownLoss

end
-- ==== Proof.DownLossClaims.lean ====
module

public import proofs.«01_k».proof.Defs
public import proofs.«01_k».proof.Proof.FiniteWords
public import proofs.«01_k».proof.Proof.DownLossBlocks
public import proofs.«01_k».proof.Proof.DownLossReference
public import Idealize.ShloMosaic.Adequacy
public import Idealize.ShloMosaic.Init

/-! The claims about the loss and its gradient: its reference's frame, what the precondition says, and that kernel
    and reference compute the same five arrays over the extended reals under it. -/

@[expose] public section

noncomputable section

namespace Cert.DownLoss

open Idealize.ShloMosaic Idealize.ShloMosaic.TcCoe Idealize.SL.Sem Cert.Finite
open Cert.Reference14Ideal.Read

/-- The side conditions of the precondition's own operations. -/
theorem pre_facts : Cert.Pre_finite14.Facts := by constructor <;> decide

/-- The reference terminates without a fault, its arguments unchanged; it declares no semaphore. -/
theorem frame_reference : Cert.quiescent_Reference14Ideal (hReference14Ideal := Cert.Reference14Ideal.Gen.facts) := fun m ρ _ =>
  (θ_run Cert.Reference14Ideal.defs _ _).mono
    (fun r h => ⟨fun c => (h c).2.2.2.2.2, sem_eq_zero_of_no_sems (by decide) r.2⟩)
    (Cert.Reference14Ideal.Value.run (F := Ideal) m ρ)

/-- Under the precondition the cotangent of the normalised rows is finite, whatever the rows: normalised they are finite. -/
theorem scaled_finite (m : (ℓ : Loc Cert.Kernel14Ideal.nD Cert.Kernel14Ideal.τ Cert.Kernel14Ideal.sig) → Buf (Elt Ideal) ℓ)
    (h : Cert.Pre_Kernel14Ideal_finite14 (hPre_finite14 := pre_facts) m) (c : Dev Cert.Kernel14Ideal.nD) (r : Fin 4096) (k : Fin 1024) :
    IsFinite (scaled (args m c) r k) := by
  obtain ⟨h0, h1, h2⟩ := h c
  have f0 : ∀ i, IsFinite ((args m c).g2 i) := fun i => of_word32 _ (congrFun h0 i)
  have f1 : ∀ i, IsFinite ((args m c).b2 i) := fun i => of_word32 _ (congrFun h1 i)
  have f2 : ∀ i, IsFinite ((args m c).y i) := fun i => of_word32 _ (congrFun h2 i)
  have f3 : IsFinite (Ideal.ofBits .f32 0x3A800000#32) := part_eq ▸ coe _
  exact mul (mul (sub (add (mul (LayerNorm.normed_finite _ _) (f0 _)) (f1 _)) (f2 _)) f3) (f0 _)

/-- Under the precondition the idealized kernel and the reference end with the same five arrays. -/
theorem algebraic : Cert.algebraic_Kernel14Ideal_Reference14Ideal_pre_finite14 (hKernel14Ideal := Cert.Kernel14Ideal.Gen.facts)
    (hReference14Ideal := Cert.Reference14Ideal.Gen.facts) (hPre_finite14 := pre_facts) := by
  intro m ρ m' ρ' hp ha
  refine ⟨_, _, _, _, _, Cert.Kernel14Ideal.Value.run_blocks (F := Ideal) m ρ, ?_⟩
  refine (θ_run Cert.Reference14Ideal.defs _ _).mono (fun r h c => ?_) (Cert.Reference14Ideal.Value.run (F := Ideal) m' ρ')
  obtain ⟨a0, a1, a2, a3, a4, a5, a6, a7⟩ := ha c
  obtain ⟨h0, h1, h2, h3, h4, hr⟩ := h c
  have hf := scaled_finite m hp c
  have e0 : StableHlo.launchContents m' c (Proc.devRef .tc Cert.Reference14Ideal.main_arg0) = (args m c).s := a0
  have e1 : StableHlo.launchContents m' c (Proc.devRef .tc Cert.Reference14Ideal.main_arg1) = (args m c).w := a1
  have e2 : StableHlo.launchContents m' c (Proc.devRef .tc Cert.Reference14Ideal.main_arg2) = (args m c).u := a2
  have e3 : StableHlo.launchContents m' c (Proc.devRef .tc Cert.Reference14Ideal.main_arg3) = (args m c).g1 := a3
  have e4 : StableHlo.launchContents m' c (Proc.devRef .tc Cert.Reference14Ideal.main_arg4) = (args m c).b1 := a4
  have e5 : StableHlo.launchContents m' c (Proc.devRef .tc Cert.Reference14Ideal.main_arg5) = (args m c).g2 := a5
  have e6 : StableHlo.launchContents m' c (Proc.devRef .tc Cert.Reference14Ideal.main_arg6) = (args m c).b2 := a6
  have e7 : StableHlo.launchContents m' c (Proc.devRef .tc Cert.Reference14Ideal.main_arg7) = (args m c).y := a7
  refine ⟨h0.trans ((val_main_v92_eq _).trans ?_), h1.trans ((val_main_v93_eq _).trans ?_), h2.trans ((val_main_v68_eq _).trans ?_),
    h3.trans ((val_main_v65_eq _).trans ?_), h4.trans ((val_main_v94_eq _).trans ?_), hr⟩
  · rw [final8, e0, e1, e2, e3, e4, e5, e6, e7]
    exact ref_du _ hf
  · rw [final9, e0, e1, e2, e3, e4, e5, e6, e7]
    exact ref_du _ hf
  · rw [final10, e0, e1, e2, e3, e4, e5, e6, e7]
    exact ref_dg _
  · rw [final11, e0, e1, e2, e3, e4, e5, e6, e7]
    exact ref_db _
  · rw [final12, e0, e1, e2, e3, e4, e5, e6, e7]
    exact ref_loss _

end Cert.DownLoss

end
-- ==== Proof.lean ====
/- The claims about the calls of the training step, assembled from the modules beside this file. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.GateClaims
public import proofs.«01_k».proof.Proof.FfnDownClaims
public import proofs.«01_k».proof.Proof.FfnUpClaims
public import proofs.«01_k».proof.Proof.BranchClaims
public import proofs.«01_k».proof.Proof.InputClaims
public import proofs.«01_k».proof.Proof.StickClaims
public import proofs.«01_k».proof.Proof.MixFwdClaims
public import proofs.«01_k».proof.Proof.UpLnClaims
public import proofs.«01_k».proof.Proof.DownLossClaims

/-! The certificate: the side conditions of every program, its frames, and the equation of each kernel with its
    reference. -/

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.UpLn.pre_facts, Cert.DownLoss.pre_facts,
  Cert.GateGrad.frame_kernel, Cert.GateGrad.frame_ideal, Cert.GateGrad.frame_reference,
  fun m ρ _ => Cert.Kernel2.Gen.frame m ρ, fun m ρ _ => Cert.Kernel2Ideal.Gen.frame m ρ, Cert.FfnDownBwd.frame_reference,
  fun m ρ _ => Cert.Kernel3.Gen.frame m ρ, fun m ρ _ => Cert.Kernel3Ideal.Gen.frame m ρ, Cert.DwDown.frame_reference,
  fun m ρ _ => Cert.Kernel4.Gen.frame m ρ, fun m ρ _ => Cert.Kernel4Ideal.Gen.frame m ρ, Cert.DwUp.frame_reference,
  fun m ρ _ => Cert.Kernel5.Gen.frame m ρ, fun m ρ _ => Cert.Kernel5Ideal.Gen.frame m ρ, Cert.DwBranch.frame_reference,
  fun m ρ _ => Cert.Kernel6.Gen.frame m ρ, fun m ρ _ => Cert.Kernel6Ideal.Gen.frame m ρ, Cert.DwOut.frame_reference,
  fun m ρ _ => Cert.Kernel7.Gen.frame m ρ, fun m ρ _ => Cert.Kernel7Ideal.Gen.frame m ρ, Cert.DwIn.frame_reference,
  fun m ρ _ => Cert.Kernel8.Gen.frame m ρ, fun m ρ _ => Cert.Kernel8Ideal.Gen.frame m ρ, Cert.GradX.frame_reference,
  fun m ρ _ => Cert.Kernel9.Gen.frame m ρ, fun m ρ _ => Cert.Kernel9Ideal.Gen.frame m ρ, Cert.FfnUp.frame_reference,
  fun m ρ _ => Cert.Kernel10.Gen.frame m ρ, fun m ρ _ => Cert.Kernel10Ideal.Gen.frame m ρ, Cert.InProj.frame_reference,
  Cert.Stick.frame_kernel, Cert.Stick.frame_ideal, Cert.Stick.frame_reference,
  fun m ρ _ => Cert.Kernel12.Gen.frame m ρ, fun m ρ _ => Cert.Kernel12Ideal.Gen.frame m ρ, Cert.MixFwd.frame_reference,
  fun m ρ _ => Cert.Kernel13.Gen.frame m ρ, fun m ρ _ => Cert.Kernel13Ideal.Gen.frame m ρ, fun m ρ _ => Cert.Kernel13Ideal.Gen.frame m ρ,
  Cert.UpLn.frame_reference, fun m ρ _ => Cert.UpLn.frame_reference m ρ trivial,
  fun m ρ _ => Cert.Kernel14.Gen.frame m ρ, fun m ρ _ => Cert.Kernel14Ideal.Gen.frame m ρ, fun m ρ _ => Cert.Kernel14Ideal.Gen.frame m ρ,
  Cert.DownLoss.frame_reference, fun m ρ _ => Cert.DownLoss.frame_reference m ρ trivial,
  trivial, Cert.GateGrad.algebraic, trivial, Cert.FfnDownBwd.algebraic, trivial, Cert.DwDown.algebraic, trivial, Cert.DwUp.algebraic, trivial, Cert.DwBranch.algebraic, trivial, Cert.DwOut.algebraic, trivial, Cert.DwIn.algebraic, trivial, Cert.GradX.algebraic, trivial, Cert.FfnUp.algebraic, trivial, Cert.InProj.algebraic, trivial, Cert.Stick.algebraic,
  trivial, Cert.MixFwd.algebraic, trivial, Cert.UpLn.algebraic, trivial, Cert.DownLoss.algebraic⟩

end Cert.Proof

end
